-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_KernelInproj (m : (ℓ : Loc Cert.KernelInproj.nD Cert.KernelInproj.τ Cert.KernelInproj.sig) → Buf (Elt Bits) ℓ) : Prop :=
  True

def Pre_KernelInprojIdeal (m : (ℓ : Loc Cert.KernelInprojIdeal.nD Cert.KernelInprojIdeal.τ Cert.KernelInprojIdeal.sig) → Buf (Elt Ideal) ℓ) : Prop :=
  True

def Pre_ReferenceInprojIdeal (m : (ℓ : Loc Cert.ReferenceInprojIdeal.nD Cert.ReferenceInprojIdeal.τ Cert.ReferenceInprojIdeal.sig) → Buf (Elt Ideal) ℓ) : Prop :=
  True

def Pre_KernelOutproj (m : (ℓ : Loc Cert.KernelOutproj.nD Cert.KernelOutproj.τ Cert.KernelOutproj.sig) → Buf (Elt Bits) ℓ) : Prop :=
  True

def Pre_KernelOutprojIdeal (m : (ℓ : Loc Cert.KernelOutprojIdeal.nD Cert.KernelOutprojIdeal.τ Cert.KernelOutprojIdeal.sig) → Buf (Elt Ideal) ℓ) : Prop :=
  True

def Pre_KernelOutprojIdeal_finite_router [hPre_finite_router : Cert.Pre_finite_router.Facts] (m : (ℓ : Loc Cert.KernelOutprojIdeal.nD Cert.KernelOutprojIdeal.τ Cert.KernelOutprojIdeal.sig) → Buf (Elt Ideal) ℓ) : Prop :=
  ∀ c : Dev Cert.KernelOutprojIdeal.nD,
    (Cert.Pre_finite_router.fn (F := Ideal) (m ((c.tc : Thread Cert.KernelOutprojIdeal.nD Cert.KernelOutprojIdeal.τ).loc Cert.KernelOutprojIdeal.main_arg0)) (m ((c.tc : Thread Cert.KernelOutprojIdeal.nD Cert.KernelOutprojIdeal.τ).loc Cert.KernelOutprojIdeal.main_arg1)) (m ((c.tc : Thread Cert.KernelOutprojIdeal.nD Cert.KernelOutprojIdeal.τ).loc Cert.KernelOutprojIdeal.main_arg2)) (m ((c.tc : Thread Cert.KernelOutprojIdeal.nD Cert.KernelOutprojIdeal.τ).loc Cert.KernelOutprojIdeal.main_arg3)) (m ((c.tc : Thread Cert.KernelOutprojIdeal.nD Cert.KernelOutprojIdeal.τ).loc Cert.KernelOutprojIdeal.main_arg4)) (m ((c.tc : Thread Cert.KernelOutprojIdeal.nD Cert.KernelOutprojIdeal.τ).loc Cert.KernelOutprojIdeal.main_arg5)) (m ((c.tc : Thread Cert.KernelOutprojIdeal.nD Cert.KernelOutprojIdeal.τ).loc Cert.KernelOutprojIdeal.main_arg6)) (m ((c.tc : Thread Cert.KernelOutprojIdeal.nD Cert.KernelOutprojIdeal.τ).loc Cert.KernelOutprojIdeal.main_arg7)) (m ((c.tc : Thread Cert.KernelOutprojIdeal.nD Cert.KernelOutprojIdeal.τ).loc Cert.KernelOutprojIdeal.main_arg8))) = (fun _ => 1#1)

def Pre_ReferenceOutprojIdeal (m : (ℓ : Loc Cert.ReferenceOutprojIdeal.nD Cert.ReferenceOutprojIdeal.τ Cert.ReferenceOutprojIdeal.sig) → Buf (Elt Ideal) ℓ) : Prop :=
  True

def Pre_ReferenceOutprojIdeal_finite_router [hPre_finite_router : Cert.Pre_finite_router.Facts] (m : (ℓ : Loc Cert.ReferenceOutprojIdeal.nD Cert.ReferenceOutprojIdeal.τ Cert.ReferenceOutprojIdeal.sig) → Buf (Elt Ideal) ℓ) : Prop :=
  ∀ c : Dev Cert.ReferenceOutprojIdeal.nD,
    (Cert.Pre_finite_router.fn (F := Ideal) (m ((c.tc : Thread Cert.ReferenceOutprojIdeal.nD Cert.ReferenceOutprojIdeal.τ).loc Cert.ReferenceOutprojIdeal.main_arg0)) (m ((c.tc : Thread Cert.ReferenceOutprojIdeal.nD Cert.ReferenceOutprojIdeal.τ).loc Cert.ReferenceOutprojIdeal.main_arg1)) (m ((c.tc : Thread Cert.ReferenceOutprojIdeal.nD Cert.ReferenceOutprojIdeal.τ).loc Cert.ReferenceOutprojIdeal.main_arg2)) (m ((c.tc : Thread Cert.ReferenceOutprojIdeal.nD Cert.ReferenceOutprojIdeal.τ).loc Cert.ReferenceOutprojIdeal.main_arg3)) (m ((c.tc : Thread Cert.ReferenceOutprojIdeal.nD Cert.ReferenceOutprojIdeal.τ).loc Cert.ReferenceOutprojIdeal.main_arg4)) (m ((c.tc : Thread Cert.ReferenceOutprojIdeal.nD Cert.ReferenceOutprojIdeal.τ).loc Cert.ReferenceOutprojIdeal.main_arg5)) (m ((c.tc : Thread Cert.ReferenceOutprojIdeal.nD Cert.ReferenceOutprojIdeal.τ).loc Cert.ReferenceOutprojIdeal.main_arg6)) (m ((c.tc : Thread Cert.ReferenceOutprojIdeal.nD Cert.ReferenceOutprojIdeal.τ).loc Cert.ReferenceOutprojIdeal.main_arg7)) (m ((c.tc : Thread Cert.ReferenceOutprojIdeal.nD Cert.ReferenceOutprojIdeal.τ).loc Cert.ReferenceOutprojIdeal.main_arg8))) = (fun _ => 1#1)

def Pre_KernelRglru (m : (ℓ : Loc Cert.KernelRglru.nD Cert.KernelRglru.τ Cert.KernelRglru.sig) → Buf (Elt Bits) ℓ) : Prop :=
  True

def Pre_KernelRglruIdeal (m : (ℓ : Loc Cert.KernelRglruIdeal.nD Cert.KernelRglruIdeal.τ Cert.KernelRglruIdeal.sig) → Buf (Elt Ideal) ℓ) : Prop :=
  True

def Pre_KernelRglruIdeal_finite_lru [hPre_finite_lru : Cert.Pre_finite_lru.Facts] (m : (ℓ : Loc Cert.KernelRglruIdeal.nD Cert.KernelRglruIdeal.τ Cert.KernelRglruIdeal.sig) → Buf (Elt Ideal) ℓ) : Prop :=
  ∀ c : Dev Cert.KernelRglruIdeal.nD,
    (Cert.Pre_finite_lru.fn (F := Ideal) (m ((c.tc : Thread Cert.KernelRglruIdeal.nD Cert.KernelRglruIdeal.τ).loc Cert.KernelRglruIdeal.main_arg0)) (m ((c.tc : Thread Cert.KernelRglruIdeal.nD Cert.KernelRglruIdeal.τ).loc Cert.KernelRglruIdeal.main_arg1)) (m ((c.tc : Thread Cert.KernelRglruIdeal.nD Cert.KernelRglruIdeal.τ).loc Cert.KernelRglruIdeal.main_arg2)) (m ((c.tc : Thread Cert.KernelRglruIdeal.nD Cert.KernelRglruIdeal.τ).loc Cert.KernelRglruIdeal.main_arg3)) (m ((c.tc : Thread Cert.KernelRglruIdeal.nD Cert.KernelRglruIdeal.τ).loc Cert.KernelRglruIdeal.main_arg4)) (m ((c.tc : Thread Cert.KernelRglruIdeal.nD Cert.KernelRglruIdeal.τ).loc Cert.KernelRglruIdeal.main_arg5)) (m ((c.tc : Thread Cert.KernelRglruIdeal.nD Cert.KernelRglruIdeal.τ).loc Cert.KernelRglruIdeal.main_arg6)) (m ((c.tc : Thread Cert.KernelRglruIdeal.nD Cert.KernelRglruIdeal.τ).loc Cert.KernelRglruIdeal.main_arg7)) (m ((c.tc : Thread Cert.KernelRglruIdeal.nD Cert.KernelRglruIdeal.τ).loc Cert.KernelRglruIdeal.main_arg8)) (m ((c.tc : Thread Cert.KernelRglruIdeal.nD Cert.KernelRglruIdeal.τ).loc Cert.KernelRglruIdeal.main_arg9))) = (fun _ => 1#1)

def Pre_ReferenceRglruIdeal (m : (ℓ : Loc Cert.ReferenceRglruIdeal.nD Cert.ReferenceRglruIdeal.τ Cert.ReferenceRglruIdeal.sig) → Buf (Elt Ideal) ℓ) : Prop :=
  True

def Pre_ReferenceRglruIdeal_finite_lru [hPre_finite_lru : Cert.Pre_finite_lru.Facts] (m : (ℓ : Loc Cert.ReferenceRglruIdeal.nD Cert.ReferenceRglruIdeal.τ Cert.ReferenceRglruIdeal.sig) → Buf (Elt Ideal) ℓ) : Prop :=
  ∀ c : Dev Cert.ReferenceRglruIdeal.nD,
    (Cert.Pre_finite_lru.fn (F := Ideal) (m ((c.tc : Thread Cert.ReferenceRglruIdeal.nD Cert.ReferenceRglruIdeal.τ).loc Cert.ReferenceRglruIdeal.main_arg0)) (m ((c.tc : Thread Cert.ReferenceRglruIdeal.nD Cert.ReferenceRglruIdeal.τ).loc Cert.ReferenceRglruIdeal.main_arg1)) (m ((c.tc : Thread Cert.ReferenceRglruIdeal.nD Cert.ReferenceRglruIdeal.τ).loc Cert.ReferenceRglruIdeal.main_arg2)) (m ((c.tc : Thread Cert.ReferenceRglruIdeal.nD Cert.ReferenceRglruIdeal.τ).loc Cert.ReferenceRglruIdeal.main_arg3)) (m ((c.tc : Thread Cert.ReferenceRglruIdeal.nD Cert.ReferenceRglruIdeal.τ).loc Cert.ReferenceRglruIdeal.main_arg4)) (m ((c.tc : Thread Cert.ReferenceRglruIdeal.nD Cert.ReferenceRglruIdeal.τ).loc Cert.ReferenceRglruIdeal.main_arg5)) (m ((c.tc : Thread Cert.ReferenceRglruIdeal.nD Cert.ReferenceRglruIdeal.τ).loc Cert.ReferenceRglruIdeal.main_arg6)) (m ((c.tc : Thread Cert.ReferenceRglruIdeal.nD Cert.ReferenceRglruIdeal.τ).loc Cert.ReferenceRglruIdeal.main_arg7)) (m ((c.tc : Thread Cert.ReferenceRglruIdeal.nD Cert.ReferenceRglruIdeal.τ).loc Cert.ReferenceRglruIdeal.main_arg8)) (m ((c.tc : Thread Cert.ReferenceRglruIdeal.nD Cert.ReferenceRglruIdeal.τ).loc Cert.ReferenceRglruIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KernelInproj [hKernelInproj : Cert.KernelInproj.Facts] : Prop :=
  ∀ (m : (ℓ : Loc Cert.KernelInproj.nD Cert.KernelInproj.τ Cert.KernelInproj.sig) → Buf (Elt Bits) ℓ) (g : Dev Cert.KernelInproj.nD → PrngReg), Pre_KernelInproj m →
    θ_run (Cert.KernelInproj.defs (F := Bits)) (onTc (τ := Cert.KernelInproj.τ) (Cert.KernelInproj.main (F := Bits))) ⟨m, fun _ => 0, g⟩ (fun r => (∀ c : Dev Cert.KernelInproj.nD,
      r.2.mem ((c.tc : Thread Cert.KernelInproj.nD Cert.KernelInproj.τ).loc Cert.KernelInproj.main_arg0) = m ((c.tc : Thread Cert.KernelInproj.nD Cert.KernelInproj.τ).loc Cert.KernelInproj.main_arg0)
      ∧ r.2.mem ((c.tc : Thread Cert.KernelInproj.nD Cert.KernelInproj.τ).loc Cert.KernelInproj.main_arg1) = m ((c.tc : Thread Cert.KernelInproj.nD Cert.KernelInproj.τ).loc Cert.KernelInproj.main_arg1)
      ∧ r.2.mem ((c.tc : Thread Cert.KernelInproj.nD Cert.KernelInproj.τ).loc Cert.KernelInproj.main_arg2) = m ((c.tc : Thread Cert.KernelInproj.nD Cert.KernelInproj.τ).loc Cert.KernelInproj.main_arg2))
      ∧ r.2.sem = fun _ => 0)

def quiescent_KernelInprojIdeal [hKernelInprojIdeal : Cert.KernelInprojIdeal.Facts] : Prop :=
  ∀ (m : (ℓ : Loc Cert.KernelInprojIdeal.nD Cert.KernelInprojIdeal.τ Cert.KernelInprojIdeal.sig) → Buf (Elt Ideal) ℓ) (g : Dev Cert.KernelInprojIdeal.nD → PrngReg), Pre_KernelInprojIdeal m →
    θ_run (Cert.KernelInprojIdeal.defs (F := Ideal)) (onTc (τ := Cert.KernelInprojIdeal.τ) (Cert.KernelInprojIdeal.main (F := Ideal))) ⟨m, fun _ => 0, g⟩ (fun r => (∀ c : Dev Cert.KernelInprojIdeal.nD,
      r.2.mem ((c.tc : Thread Cert.KernelInprojIdeal.nD Cert.KernelInprojIdeal.τ).loc Cert.KernelInprojIdeal.main_arg0) = m ((c.tc : Thread Cert.KernelInprojIdeal.nD Cert.KernelInprojIdeal.τ).loc Cert.KernelInprojIdeal.main_arg0)
      ∧ r.2.mem ((c.tc : Thread Cert.KernelInprojIdeal.nD Cert.KernelInprojIdeal.τ).loc Cert.KernelInprojIdeal.main_arg1) = m ((c.tc : Thread Cert.KernelInprojIdeal.nD Cert.KernelInprojIdeal.τ).loc Cert.KernelInprojIdeal.main_arg1)
      ∧ r.2.mem ((c.tc : Thread Cert.KernelInprojIdeal.nD Cert.KernelInprojIdeal.τ).loc Cert.KernelInprojIdeal.main_arg2) = m ((c.tc : Thread Cert.KernelInprojIdeal.nD Cert.KernelInprojIdeal.τ).loc Cert.KernelInprojIdeal.main_arg2))
      ∧ r.2.sem = fun _ => 0)

def quiescent_ReferenceInprojIdeal [hReferenceInprojIdeal : Cert.ReferenceInprojIdeal.Facts] : Prop :=
  ∀ (m : (ℓ : Loc Cert.ReferenceInprojIdeal.nD Cert.ReferenceInprojIdeal.τ Cert.ReferenceInprojIdeal.sig) → Buf (Elt Ideal) ℓ) (g : Dev Cert.ReferenceInprojIdeal.nD → PrngReg), Pre_ReferenceInprojIdeal m →
    θ_run (Cert.ReferenceInprojIdeal.defs (F := Ideal)) (onTc (τ := Cert.ReferenceInprojIdeal.τ) (Cert.ReferenceInprojIdeal.main (F := Ideal))) ⟨m, fun _ => 0, g⟩ (fun r => (∀ c : Dev Cert.ReferenceInprojIdeal.nD,
      r.2.mem ((c.tc : Thread Cert.ReferenceInprojIdeal.nD Cert.ReferenceInprojIdeal.τ).loc Cert.ReferenceInprojIdeal.main_arg0) = m ((c.tc : Thread Cert.ReferenceInprojIdeal.nD Cert.ReferenceInprojIdeal.τ).loc Cert.ReferenceInprojIdeal.main_arg0)
      ∧ r.2.mem ((c.tc : Thread Cert.ReferenceInprojIdeal.nD Cert.ReferenceInprojIdeal.τ).loc Cert.ReferenceInprojIdeal.main_arg1) = m ((c.tc : Thread Cert.ReferenceInprojIdeal.nD Cert.ReferenceInprojIdeal.τ).loc Cert.ReferenceInprojIdeal.main_arg1)
      ∧ r.2.mem ((c.tc : Thread Cert.ReferenceInprojIdeal.nD Cert.ReferenceInprojIdeal.τ).loc Cert.ReferenceInprojIdeal.main_arg2) = m ((c.tc : Thread Cert.ReferenceInprojIdeal.nD Cert.ReferenceInprojIdeal.τ).loc Cert.ReferenceInprojIdeal.main_arg2))
      ∧ r.2.sem = fun _ => 0)

def quiescent_KernelOutproj [hKernelOutproj : Cert.KernelOutproj.Facts] : Prop :=
  ∀ (m : (ℓ : Loc Cert.KernelOutproj.nD Cert.KernelOutproj.τ Cert.KernelOutproj.sig) → Buf (Elt Bits) ℓ) (g : Dev Cert.KernelOutproj.nD → PrngReg), Pre_KernelOutproj m →
    θ_run (Cert.KernelOutproj.defs (F := Bits)) (onTc (τ := Cert.KernelOutproj.τ) (Cert.KernelOutproj.main (F := Bits))) ⟨m, fun _ => 0, g⟩ (fun r => (∀ c : Dev Cert.KernelOutproj.nD,
      r.2.mem ((c.tc : Thread Cert.KernelOutproj.nD Cert.KernelOutproj.τ).loc Cert.KernelOutproj.main_arg0) = m ((c.tc : Thread Cert.KernelOutproj.nD Cert.KernelOutproj.τ).loc Cert.KernelOutproj.main_arg0)
      ∧ r.2.mem ((c.tc : Thread Cert.KernelOutproj.nD Cert.KernelOutproj.τ).loc Cert.KernelOutproj.main_arg1) = m ((c.tc : Thread Cert.KernelOutproj.nD Cert.KernelOutproj.τ).loc Cert.KernelOutproj.main_arg1)
      ∧ r.2.mem ((c.tc : Thread Cert.KernelOutproj.nD Cert.KernelOutproj.τ).loc Cert.KernelOutproj.main_arg2) = m ((c.tc : Thread Cert.KernelOutproj.nD Cert.KernelOutproj.τ).loc Cert.KernelOutproj.main_arg2)
      ∧ r.2.mem ((c.tc : Thread Cert.KernelOutproj.nD Cert.KernelOutproj.τ).loc Cert.KernelOutproj.main_arg3) = m ((c.tc : Thread Cert.KernelOutproj.nD Cert.KernelOutproj.τ).loc Cert.KernelOutproj.main_arg3)
      ∧ r.2.mem ((c.tc : Thread Cert.KernelOutproj.nD Cert.KernelOutproj.τ).loc Cert.KernelOutproj.main_arg4) = m ((c.tc : Thread Cert.KernelOutproj.nD Cert.KernelOutproj.τ).loc Cert.KernelOutproj.main_arg4)
      ∧ r.2.mem ((c.tc : Thread Cert.KernelOutproj.nD Cert.KernelOutproj.τ).loc Cert.KernelOutproj.main_arg5) = m ((c.tc : Thread Cert.KernelOutproj.nD Cert.KernelOutproj.τ).loc Cert.KernelOutproj.main_arg5)
      ∧ r.2.mem ((c.tc : Thread Cert.KernelOutproj.nD Cert.KernelOutproj.τ).loc Cert.KernelOutproj.main_arg6) = m ((c.tc : Thread Cert.KernelOutproj.nD Cert.KernelOutproj.τ).loc Cert.KernelOutproj.main_arg6)
      ∧ r.2.mem ((c.tc : Thread Cert.KernelOutproj.nD Cert.KernelOutproj.τ).loc Cert.KernelOutproj.main_arg7) = m ((c.tc : Thread Cert.KernelOutproj.nD Cert.KernelOutproj.τ).loc Cert.KernelOutproj.main_arg7)
      ∧ r.2.mem ((c.tc : Thread Cert.KernelOutproj.nD Cert.KernelOutproj.τ).loc Cert.KernelOutproj.main_arg8) = m ((c.tc : Thread Cert.KernelOutproj.nD Cert.KernelOutproj.τ).loc Cert.KernelOutproj.main_arg8))
      ∧ r.2.sem = fun _ => 0)

def quiescent_KernelOutprojIdeal [hKernelOutprojIdeal : Cert.KernelOutprojIdeal.Facts] : Prop :=
  ∀ (m : (ℓ : Loc Cert.KernelOutprojIdeal.nD Cert.KernelOutprojIdeal.τ Cert.KernelOutprojIdeal.sig) → Buf (Elt Ideal) ℓ) (g : Dev Cert.KernelOutprojIdeal.nD → PrngReg), Pre_KernelOutprojIdeal m →
    θ_run (Cert.KernelOutprojIdeal.defs (F := Ideal)) (onTc (τ := Cert.KernelOutprojIdeal.τ) (Cert.KernelOutprojIdeal.main (F := Ideal))) ⟨m, fun _ => 0, g⟩ (fun r => (∀ c : Dev Cert.KernelOutprojIdeal.nD,
      r.2.mem ((c.tc : Thread Cert.KernelOutprojIdeal.nD Cert.KernelOutprojIdeal.τ).loc Cert.KernelOutprojIdeal.main_arg0) = m ((c.tc : Thread Cert.KernelOutprojIdeal.nD Cert.KernelOutprojIdeal.τ).loc Cert.KernelOutprojIdeal.main_arg0)
      ∧ r.2.mem ((c.tc : Thread Cert.KernelOutprojIdeal.nD Cert.KernelOutprojIdeal.τ).loc Cert.KernelOutprojIdeal.main_arg1) = m ((c.tc : Thread Cert.KernelOutprojIdeal.nD Cert.KernelOutprojIdeal.τ).loc Cert.KernelOutprojIdeal.main_arg1)
      ∧ r.2.mem ((c.tc : Thread Cert.KernelOutprojIdeal.nD Cert.KernelOutprojIdeal.τ).loc Cert.KernelOutprojIdeal.main_arg2) = m ((c.tc : Thread Cert.KernelOutprojIdeal.nD Cert.KernelOutprojIdeal.τ).loc Cert.KernelOutprojIdeal.main_arg2)
      ∧ r.2.mem ((c.tc : Thread Cert.KernelOutprojIdeal.nD Cert.KernelOutprojIdeal.τ).loc Cert.KernelOutprojIdeal.main_arg3) = m ((c.tc : Thread Cert.KernelOutprojIdeal.nD Cert.KernelOutprojIdeal.τ).loc Cert.KernelOutprojIdeal.main_arg3)
      ∧ r.2.mem ((c.tc : Thread Cert.KernelOutprojIdeal.nD Cert.KernelOutprojIdeal.τ).loc Cert.KernelOutprojIdeal.main_arg4) = m ((c.tc : Thread Cert.KernelOutprojIdeal.nD Cert.KernelOutprojIdeal.τ).loc Cert.KernelOutprojIdeal.main_arg4)
      ∧ r.2.mem ((c.tc : Thread Cert.KernelOutprojIdeal.nD Cert.KernelOutprojIdeal.τ).loc Cert.KernelOutprojIdeal.main_arg5) = m ((c.tc : Thread Cert.KernelOutprojIdeal.nD Cert.KernelOutprojIdeal.τ).loc Cert.KernelOutprojIdeal.main_arg5)
      ∧ r.2.mem ((c.tc : Thread Cert.KernelOutprojIdeal.nD Cert.KernelOutprojIdeal.τ).loc Cert.KernelOutprojIdeal.main_arg6) = m ((c.tc : Thread Cert.KernelOutprojIdeal.nD Cert.KernelOutprojIdeal.τ).loc Cert.KernelOutprojIdeal.main_arg6)
      ∧ r.2.mem ((c.tc : Thread Cert.KernelOutprojIdeal.nD Cert.KernelOutprojIdeal.τ).loc Cert.KernelOutprojIdeal.main_arg7) = m ((c.tc : Thread Cert.KernelOutprojIdeal.nD Cert.KernelOutprojIdeal.τ).loc Cert.KernelOutprojIdeal.main_arg7)
      ∧ r.2.mem ((c.tc : Thread Cert.KernelOutprojIdeal.nD Cert.KernelOutprojIdeal.τ).loc Cert.KernelOutprojIdeal.main_arg8) = m ((c.tc : Thread Cert.KernelOutprojIdeal.nD Cert.KernelOutprojIdeal.τ).loc Cert.KernelOutprojIdeal.main_arg8))
      ∧ r.2.sem = fun _ => 0)

def quiescent_KernelOutprojIdeal_pre_finite_router [hKernelOutprojIdeal : Cert.KernelOutprojIdeal.Facts] [hPre_finite_router : Cert.Pre_finite_router.Facts] : Prop :=
  ∀ (m : (ℓ : Loc Cert.KernelOutprojIdeal.nD Cert.KernelOutprojIdeal.τ Cert.KernelOutprojIdeal.sig) → Buf (Elt Ideal) ℓ) (g : Dev Cert.KernelOutprojIdeal.nD → PrngReg), Pre_KernelOutprojIdeal_finite_router m →
    θ_run (Cert.KernelOutprojIdeal.defs (F := Ideal)) (onTc (τ := Cert.KernelOutprojIdeal.τ) (Cert.KernelOutprojIdeal.main (F := Ideal))) ⟨m, fun _ => 0, g⟩ (fun r => (∀ c : Dev Cert.KernelOutprojIdeal.nD,
      r.2.mem ((c.tc : Thread Cert.KernelOutprojIdeal.nD Cert.KernelOutprojIdeal.τ).loc Cert.KernelOutprojIdeal.main_arg0) = m ((c.tc : Thread Cert.KernelOutprojIdeal.nD Cert.KernelOutprojIdeal.τ).loc Cert.KernelOutprojIdeal.main_arg0)
      ∧ r.2.mem ((c.tc : Thread Cert.KernelOutprojIdeal.nD Cert.KernelOutprojIdeal.τ).loc Cert.KernelOutprojIdeal.main_arg1) = m ((c.tc : Thread Cert.KernelOutprojIdeal.nD Cert.KernelOutprojIdeal.τ).loc Cert.KernelOutprojIdeal.main_arg1)
      ∧ r.2.mem ((c.tc : Thread Cert.KernelOutprojIdeal.nD Cert.KernelOutprojIdeal.τ).loc Cert.KernelOutprojIdeal.main_arg2) = m ((c.tc : Thread Cert.KernelOutprojIdeal.nD Cert.KernelOutprojIdeal.τ).loc Cert.KernelOutprojIdeal.main_arg2)
      ∧ r.2.mem ((c.tc : Thread Cert.KernelOutprojIdeal.nD Cert.KernelOutprojIdeal.τ).loc Cert.KernelOutprojIdeal.main_arg3) = m ((c.tc : Thread Cert.KernelOutprojIdeal.nD Cert.KernelOutprojIdeal.τ).loc Cert.KernelOutprojIdeal.main_arg3)
      ∧ r.2.mem ((c.tc : Thread Cert.KernelOutprojIdeal.nD Cert.KernelOutprojIdeal.τ).loc Cert.KernelOutprojIdeal.main_arg4) = m ((c.tc : Thread Cert.KernelOutprojIdeal.nD Cert.KernelOutprojIdeal.τ).loc Cert.KernelOutprojIdeal.main_arg4)
      ∧ r.2.mem ((c.tc : Thread Cert.KernelOutprojIdeal.nD Cert.KernelOutprojIdeal.τ).loc Cert.KernelOutprojIdeal.main_arg5) = m ((c.tc : Thread Cert.KernelOutprojIdeal.nD Cert.KernelOutprojIdeal.τ).loc Cert.KernelOutprojIdeal.main_arg5)
      ∧ r.2.mem ((c.tc : Thread Cert.KernelOutprojIdeal.nD Cert.KernelOutprojIdeal.τ).loc Cert.KernelOutprojIdeal.main_arg6) = m ((c.tc : Thread Cert.KernelOutprojIdeal.nD Cert.KernelOutprojIdeal.τ).loc Cert.KernelOutprojIdeal.main_arg6)
      ∧ r.2.mem ((c.tc : Thread Cert.KernelOutprojIdeal.nD Cert.KernelOutprojIdeal.τ).loc Cert.KernelOutprojIdeal.main_arg7) = m ((c.tc : Thread Cert.KernelOutprojIdeal.nD Cert.KernelOutprojIdeal.τ).loc Cert.KernelOutprojIdeal.main_arg7)
      ∧ r.2.mem ((c.tc : Thread Cert.KernelOutprojIdeal.nD Cert.KernelOutprojIdeal.τ).loc Cert.KernelOutprojIdeal.main_arg8) = m ((c.tc : Thread Cert.KernelOutprojIdeal.nD Cert.KernelOutprojIdeal.τ).loc Cert.KernelOutprojIdeal.main_arg8))
      ∧ r.2.sem = fun _ => 0)

def quiescent_ReferenceOutprojIdeal [hReferenceOutprojIdeal : Cert.ReferenceOutprojIdeal.Facts] : Prop :=
  ∀ (m : (ℓ : Loc Cert.ReferenceOutprojIdeal.nD Cert.ReferenceOutprojIdeal.τ Cert.ReferenceOutprojIdeal.sig) → Buf (Elt Ideal) ℓ) (g : Dev Cert.ReferenceOutprojIdeal.nD → PrngReg), Pre_ReferenceOutprojIdeal m →
    θ_run (Cert.ReferenceOutprojIdeal.defs (F := Ideal)) (onTc (τ := Cert.ReferenceOutprojIdeal.τ) (Cert.ReferenceOutprojIdeal.main (F := Ideal))) ⟨m, fun _ => 0, g⟩ (fun r => (∀ c : Dev Cert.ReferenceOutprojIdeal.nD,
      r.2.mem ((c.tc : Thread Cert.ReferenceOutprojIdeal.nD Cert.ReferenceOutprojIdeal.τ).loc Cert.ReferenceOutprojIdeal.main_arg0) = m ((c.tc : Thread Cert.ReferenceOutprojIdeal.nD Cert.ReferenceOutprojIdeal.τ).loc Cert.ReferenceOutprojIdeal.main_arg0)
      ∧ r.2.mem ((c.tc : Thread Cert.ReferenceOutprojIdeal.nD Cert.ReferenceOutprojIdeal.τ).loc Cert.ReferenceOutprojIdeal.main_arg1) = m ((c.tc : Thread Cert.ReferenceOutprojIdeal.nD Cert.ReferenceOutprojIdeal.τ).loc Cert.ReferenceOutprojIdeal.main_arg1)
      ∧ r.2.mem ((c.tc : Thread Cert.ReferenceOutprojIdeal.nD Cert.ReferenceOutprojIdeal.τ).loc Cert.ReferenceOutprojIdeal.main_arg2) = m ((c.tc : Thread Cert.ReferenceOutprojIdeal.nD Cert.ReferenceOutprojIdeal.τ).loc Cert.ReferenceOutprojIdeal.main_arg2)
      ∧ r.2.mem ((c.tc : Thread Cert.ReferenceOutprojIdeal.nD Cert.ReferenceOutprojIdeal.τ).loc Cert.ReferenceOutprojIdeal.main_arg3) = m ((c.tc : Thread Cert.ReferenceOutprojIdeal.nD Cert.ReferenceOutprojIdeal.τ).loc Cert.ReferenceOutprojIdeal.main_arg3)
      ∧ r.2.mem ((c.tc : Thread Cert.ReferenceOutprojIdeal.nD Cert.ReferenceOutprojIdeal.τ).loc Cert.ReferenceOutprojIdeal.main_arg4) = m ((c.tc : Thread Cert.ReferenceOutprojIdeal.nD Cert.ReferenceOutprojIdeal.τ).loc Cert.ReferenceOutprojIdeal.main_arg4)
      ∧ r.2.mem ((c.tc : Thread Cert.ReferenceOutprojIdeal.nD Cert.ReferenceOutprojIdeal.τ).loc Cert.ReferenceOutprojIdeal.main_arg5) = m ((c.tc : Thread Cert.ReferenceOutprojIdeal.nD Cert.ReferenceOutprojIdeal.τ).loc Cert.ReferenceOutprojIdeal.main_arg5)
      ∧ r.2.mem ((c.tc : Thread Cert.ReferenceOutprojIdeal.nD Cert.ReferenceOutprojIdeal.τ).loc Cert.ReferenceOutprojIdeal.main_arg6) = m ((c.tc : Thread Cert.ReferenceOutprojIdeal.nD Cert.ReferenceOutprojIdeal.τ).loc Cert.ReferenceOutprojIdeal.main_arg6)
      ∧ r.2.mem ((c.tc : Thread Cert.ReferenceOutprojIdeal.nD Cert.ReferenceOutprojIdeal.τ).loc Cert.ReferenceOutprojIdeal.main_arg7) = m ((c.tc : Thread Cert.ReferenceOutprojIdeal.nD Cert.ReferenceOutprojIdeal.τ).loc Cert.ReferenceOutprojIdeal.main_arg7)
      ∧ r.2.mem ((c.tc : Thread Cert.ReferenceOutprojIdeal.nD Cert.ReferenceOutprojIdeal.τ).loc Cert.ReferenceOutprojIdeal.main_arg8) = m ((c.tc : Thread Cert.ReferenceOutprojIdeal.nD Cert.ReferenceOutprojIdeal.τ).loc Cert.ReferenceOutprojIdeal.main_arg8))
      ∧ r.2.sem = fun _ => 0)

def quiescent_ReferenceOutprojIdeal_pre_finite_router [hReferenceOutprojIdeal : Cert.ReferenceOutprojIdeal.Facts] [hPre_finite_router : Cert.Pre_finite_router.Facts] : Prop :=
  ∀ (m : (ℓ : Loc Cert.ReferenceOutprojIdeal.nD Cert.ReferenceOutprojIdeal.τ Cert.ReferenceOutprojIdeal.sig) → Buf (Elt Ideal) ℓ) (g : Dev Cert.ReferenceOutprojIdeal.nD → PrngReg), Pre_ReferenceOutprojIdeal_finite_router m →
    θ_run (Cert.ReferenceOutprojIdeal.defs (F := Ideal)) (onTc (τ := Cert.ReferenceOutprojIdeal.τ) (Cert.ReferenceOutprojIdeal.main (F := Ideal))) ⟨m, fun _ => 0, g⟩ (fun r => (∀ c : Dev Cert.ReferenceOutprojIdeal.nD,
      r.2.mem ((c.tc : Thread Cert.ReferenceOutprojIdeal.nD Cert.ReferenceOutprojIdeal.τ).loc Cert.ReferenceOutprojIdeal.main_arg0) = m ((c.tc : Thread Cert.ReferenceOutprojIdeal.nD Cert.ReferenceOutprojIdeal.τ).loc Cert.ReferenceOutprojIdeal.main_arg0)
      ∧ r.2.mem ((c.tc : Thread Cert.ReferenceOutprojIdeal.nD Cert.ReferenceOutprojIdeal.τ).loc Cert.ReferenceOutprojIdeal.main_arg1) = m ((c.tc : Thread Cert.ReferenceOutprojIdeal.nD Cert.ReferenceOutprojIdeal.τ).loc Cert.ReferenceOutprojIdeal.main_arg1)
      ∧ r.2.mem ((c.tc : Thread Cert.ReferenceOutprojIdeal.nD Cert.ReferenceOutprojIdeal.τ).loc Cert.ReferenceOutprojIdeal.main_arg2) = m ((c.tc : Thread Cert.ReferenceOutprojIdeal.nD Cert.ReferenceOutprojIdeal.τ).loc Cert.ReferenceOutprojIdeal.main_arg2)
      ∧ r.2.mem ((c.tc : Thread Cert.ReferenceOutprojIdeal.nD Cert.ReferenceOutprojIdeal.τ).loc Cert.ReferenceOutprojIdeal.main_arg3) = m ((c.tc : Thread Cert.ReferenceOutprojIdeal.nD Cert.ReferenceOutprojIdeal.τ).loc Cert.ReferenceOutprojIdeal.main_arg3)
      ∧ r.2.mem ((c.tc : Thread Cert.ReferenceOutprojIdeal.nD Cert.ReferenceOutprojIdeal.τ).loc Cert.ReferenceOutprojIdeal.main_arg4) = m ((c.tc : Thread Cert.ReferenceOutprojIdeal.nD Cert.ReferenceOutprojIdeal.τ).loc Cert.ReferenceOutprojIdeal.main_arg4)
      ∧ r.2.mem ((c.tc : Thread Cert.ReferenceOutprojIdeal.nD Cert.ReferenceOutprojIdeal.τ).loc Cert.ReferenceOutprojIdeal.main_arg5) = m ((c.tc : Thread Cert.ReferenceOutprojIdeal.nD Cert.ReferenceOutprojIdeal.τ).loc Cert.ReferenceOutprojIdeal.main_arg5)
      ∧ r.2.mem ((c.tc : Thread Cert.ReferenceOutprojIdeal.nD Cert.ReferenceOutprojIdeal.τ).loc Cert.ReferenceOutprojIdeal.main_arg6) = m ((c.tc : Thread Cert.ReferenceOutprojIdeal.nD Cert.ReferenceOutprojIdeal.τ).loc Cert.ReferenceOutprojIdeal.main_arg6)
      ∧ r.2.mem ((c.tc : Thread Cert.ReferenceOutprojIdeal.nD Cert.ReferenceOutprojIdeal.τ).loc Cert.ReferenceOutprojIdeal.main_arg7) = m ((c.tc : Thread Cert.ReferenceOutprojIdeal.nD Cert.ReferenceOutprojIdeal.τ).loc Cert.ReferenceOutprojIdeal.main_arg7)
      ∧ r.2.mem ((c.tc : Thread Cert.ReferenceOutprojIdeal.nD Cert.ReferenceOutprojIdeal.τ).loc Cert.ReferenceOutprojIdeal.main_arg8) = m ((c.tc : Thread Cert.ReferenceOutprojIdeal.nD Cert.ReferenceOutprojIdeal.τ).loc Cert.ReferenceOutprojIdeal.main_arg8))
      ∧ r.2.sem = fun _ => 0)

def quiescent_KernelRglru [hKernelRglru : Cert.KernelRglru.Facts] : Prop :=
  ∀ (m : (ℓ : Loc Cert.KernelRglru.nD Cert.KernelRglru.τ Cert.KernelRglru.sig) → Buf (Elt Bits) ℓ) (g : Dev Cert.KernelRglru.nD → PrngReg), Pre_KernelRglru m →
    θ_run (Cert.KernelRglru.defs (F := Bits)) (onTc (τ := Cert.KernelRglru.τ) (Cert.KernelRglru.main (F := Bits))) ⟨m, fun _ => 0, g⟩ (fun r => (∀ c : Dev Cert.KernelRglru.nD,
      r.2.mem ((c.tc : Thread Cert.KernelRglru.nD Cert.KernelRglru.τ).loc Cert.KernelRglru.main_arg0) = m ((c.tc : Thread Cert.KernelRglru.nD Cert.KernelRglru.τ).loc Cert.KernelRglru.main_arg0)
      ∧ r.2.mem ((c.tc : Thread Cert.KernelRglru.nD Cert.KernelRglru.τ).loc Cert.KernelRglru.main_arg1) = m ((c.tc : Thread Cert.KernelRglru.nD Cert.KernelRglru.τ).loc Cert.KernelRglru.main_arg1)
      ∧ r.2.mem ((c.tc : Thread Cert.KernelRglru.nD Cert.KernelRglru.τ).loc Cert.KernelRglru.main_arg2) = m ((c.tc : Thread Cert.KernelRglru.nD Cert.KernelRglru.τ).loc Cert.KernelRglru.main_arg2)
      ∧ r.2.mem ((c.tc : Thread Cert.KernelRglru.nD Cert.KernelRglru.τ).loc Cert.KernelRglru.main_arg3) = m ((c.tc : Thread Cert.KernelRglru.nD Cert.KernelRglru.τ).loc Cert.KernelRglru.main_arg3)
      ∧ r.2.mem ((c.tc : Thread Cert.KernelRglru.nD Cert.KernelRglru.τ).loc Cert.KernelRglru.main_arg4) = m ((c.tc : Thread Cert.KernelRglru.nD Cert.KernelRglru.τ).loc Cert.KernelRglru.main_arg4)
      ∧ r.2.mem ((c.tc : Thread Cert.KernelRglru.nD Cert.KernelRglru.τ).loc Cert.KernelRglru.main_arg5) = m ((c.tc : Thread Cert.KernelRglru.nD Cert.KernelRglru.τ).loc Cert.KernelRglru.main_arg5)
      ∧ r.2.mem ((c.tc : Thread Cert.KernelRglru.nD Cert.KernelRglru.τ).loc Cert.KernelRglru.main_arg6) = m ((c.tc : Thread Cert.KernelRglru.nD Cert.KernelRglru.τ).loc Cert.KernelRglru.main_arg6)
      ∧ r.2.mem ((c.tc : Thread Cert.KernelRglru.nD Cert.KernelRglru.τ).loc Cert.KernelRglru.main_arg7) = m ((c.tc : Thread Cert.KernelRglru.nD Cert.KernelRglru.τ).loc Cert.KernelRglru.main_arg7)
      ∧ r.2.mem ((c.tc : Thread Cert.KernelRglru.nD Cert.KernelRglru.τ).loc Cert.KernelRglru.main_arg8) = m ((c.tc : Thread Cert.KernelRglru.nD Cert.KernelRglru.τ).loc Cert.KernelRglru.main_arg8)
      ∧ r.2.mem ((c.tc : Thread Cert.KernelRglru.nD Cert.KernelRglru.τ).loc Cert.KernelRglru.main_arg9) = m ((c.tc : Thread Cert.KernelRglru.nD Cert.KernelRglru.τ).loc Cert.KernelRglru.main_arg9))
      ∧ r.2.sem = fun _ => 0)

def quiescent_KernelRglruIdeal [hKernelRglruIdeal : Cert.KernelRglruIdeal.Facts] : Prop :=
  ∀ (m : (ℓ : Loc Cert.KernelRglruIdeal.nD Cert.KernelRglruIdeal.τ Cert.KernelRglruIdeal.sig) → Buf (Elt Ideal) ℓ) (g : Dev Cert.KernelRglruIdeal.nD → PrngReg), Pre_KernelRglruIdeal m →
    θ_run (Cert.KernelRglruIdeal.defs (F := Ideal)) (onTc (τ := Cert.KernelRglruIdeal.τ) (Cert.KernelRglruIdeal.main (F := Ideal))) ⟨m, fun _ => 0, g⟩ (fun r => (∀ c : Dev Cert.KernelRglruIdeal.nD,
      r.2.mem ((c.tc : Thread Cert.KernelRglruIdeal.nD Cert.KernelRglruIdeal.τ).loc Cert.KernelRglruIdeal.main_arg0) = m ((c.tc : Thread Cert.KernelRglruIdeal.nD Cert.KernelRglruIdeal.τ).loc Cert.KernelRglruIdeal.main_arg0)
      ∧ r.2.mem ((c.tc : Thread Cert.KernelRglruIdeal.nD Cert.KernelRglruIdeal.τ).loc Cert.KernelRglruIdeal.main_arg1) = m ((c.tc : Thread Cert.KernelRglruIdeal.nD Cert.KernelRglruIdeal.τ).loc Cert.KernelRglruIdeal.main_arg1)
      ∧ r.2.mem ((c.tc : Thread Cert.KernelRglruIdeal.nD Cert.KernelRglruIdeal.τ).loc Cert.KernelRglruIdeal.main_arg2) = m ((c.tc : Thread Cert.KernelRglruIdeal.nD Cert.KernelRglruIdeal.τ).loc Cert.KernelRglruIdeal.main_arg2)
      ∧ r.2.mem ((c.tc : Thread Cert.KernelRglruIdeal.nD Cert.KernelRglruIdeal.τ).loc Cert.KernelRglruIdeal.main_arg3) = m ((c.tc : Thread Cert.KernelRglruIdeal.nD Cert.KernelRglruIdeal.τ).loc Cert.KernelRglruIdeal.main_arg3)
      ∧ r.2.mem ((c.tc : Thread Cert.KernelRglruIdeal.nD Cert.KernelRglruIdeal.τ).loc Cert.KernelRglruIdeal.main_arg4) = m ((c.tc : Thread Cert.KernelRglruIdeal.nD Cert.KernelRglruIdeal.τ).loc Cert.KernelRglruIdeal.main_arg4)
      ∧ r.2.mem ((c.tc : Thread Cert.KernelRglruIdeal.nD Cert.KernelRglruIdeal.τ).loc Cert.KernelRglruIdeal.main_arg5) = m ((c.tc : Thread Cert.KernelRglruIdeal.nD Cert.KernelRglruIdeal.τ).loc Cert.KernelRglruIdeal.main_arg5)
      ∧ r.2.mem ((c.tc : Thread Cert.KernelRglruIdeal.nD Cert.KernelRglruIdeal.τ).loc Cert.KernelRglruIdeal.main_arg6) = m ((c.tc : Thread Cert.KernelRglruIdeal.nD Cert.KernelRglruIdeal.τ).loc Cert.KernelRglruIdeal.main_arg6)
      ∧ r.2.mem ((c.tc : Thread Cert.KernelRglruIdeal.nD Cert.KernelRglruIdeal.τ).loc Cert.KernelRglruIdeal.main_arg7) = m ((c.tc : Thread Cert.KernelRglruIdeal.nD Cert.KernelRglruIdeal.τ).loc Cert.KernelRglruIdeal.main_arg7)
      ∧ r.2.mem ((c.tc : Thread Cert.KernelRglruIdeal.nD Cert.KernelRglruIdeal.τ).loc Cert.KernelRglruIdeal.main_arg8) = m ((c.tc : Thread Cert.KernelRglruIdeal.nD Cert.KernelRglruIdeal.τ).loc Cert.KernelRglruIdeal.main_arg8)
      ∧ r.2.mem ((c.tc : Thread Cert.KernelRglruIdeal.nD Cert.KernelRglruIdeal.τ).loc Cert.KernelRglruIdeal.main_arg9) = m ((c.tc : Thread Cert.KernelRglruIdeal.nD Cert.KernelRglruIdeal.τ).loc Cert.KernelRglruIdeal.main_arg9))
      ∧ r.2.sem = fun _ => 0)

def quiescent_KernelRglruIdeal_pre_finite_lru [hKernelRglruIdeal : Cert.KernelRglruIdeal.Facts] [hPre_finite_lru : Cert.Pre_finite_lru.Facts] : Prop :=
  ∀ (m : (ℓ : Loc Cert.KernelRglruIdeal.nD Cert.KernelRglruIdeal.τ Cert.KernelRglruIdeal.sig) → Buf (Elt Ideal) ℓ) (g : Dev Cert.KernelRglruIdeal.nD → PrngReg), Pre_KernelRglruIdeal_finite_lru m →
    θ_run (Cert.KernelRglruIdeal.defs (F := Ideal)) (onTc (τ := Cert.KernelRglruIdeal.τ) (Cert.KernelRglruIdeal.main (F := Ideal))) ⟨m, fun _ => 0, g⟩ (fun r => (∀ c : Dev Cert.KernelRglruIdeal.nD,
      r.2.mem ((c.tc : Thread Cert.KernelRglruIdeal.nD Cert.KernelRglruIdeal.τ).loc Cert.KernelRglruIdeal.main_arg0) = m ((c.tc : Thread Cert.KernelRglruIdeal.nD Cert.KernelRglruIdeal.τ).loc Cert.KernelRglruIdeal.main_arg0)
      ∧ r.2.mem ((c.tc : Thread Cert.KernelRglruIdeal.nD Cert.KernelRglruIdeal.τ).loc Cert.KernelRglruIdeal.main_arg1) = m ((c.tc : Thread Cert.KernelRglruIdeal.nD Cert.KernelRglruIdeal.τ).loc Cert.KernelRglruIdeal.main_arg1)
      ∧ r.2.mem ((c.tc : Thread Cert.KernelRglruIdeal.nD Cert.KernelRglruIdeal.τ).loc Cert.KernelRglruIdeal.main_arg2) = m ((c.tc : Thread Cert.KernelRglruIdeal.nD Cert.KernelRglruIdeal.τ).loc Cert.KernelRglruIdeal.main_arg2)
      ∧ r.2.mem ((c.tc : Thread Cert.KernelRglruIdeal.nD Cert.KernelRglruIdeal.τ).loc Cert.KernelRglruIdeal.main_arg3) = m ((c.tc : Thread Cert.KernelRglruIdeal.nD Cert.KernelRglruIdeal.τ).loc Cert.KernelRglruIdeal.main_arg3)
      ∧ r.2.mem ((c.tc : Thread Cert.KernelRglruIdeal.nD Cert.KernelRglruIdeal.τ).loc Cert.KernelRglruIdeal.main_arg4) = m ((c.tc : Thread Cert.KernelRglruIdeal.nD Cert.KernelRglruIdeal.τ).loc Cert.KernelRglruIdeal.main_arg4)
      ∧ r.2.mem ((c.tc : Thread Cert.KernelRglruIdeal.nD Cert.KernelRglruIdeal.τ).loc Cert.KernelRglruIdeal.main_arg5) = m ((c.tc : Thread Cert.KernelRglruIdeal.nD Cert.KernelRglruIdeal.τ).loc Cert.KernelRglruIdeal.main_arg5)
      ∧ r.2.mem ((c.tc : Thread Cert.KernelRglruIdeal.nD Cert.KernelRglruIdeal.τ).loc Cert.KernelRglruIdeal.main_arg6) = m ((c.tc : Thread Cert.KernelRglruIdeal.nD Cert.KernelRglruIdeal.τ).loc Cert.KernelRglruIdeal.main_arg6)
      ∧ r.2.mem ((c.tc : Thread Cert.KernelRglruIdeal.nD Cert.KernelRglruIdeal.τ).loc Cert.KernelRglruIdeal.main_arg7) = m ((c.tc : Thread Cert.KernelRglruIdeal.nD Cert.KernelRglruIdeal.τ).loc Cert.KernelRglruIdeal.main_arg7)
      ∧ r.2.mem ((c.tc : Thread Cert.KernelRglruIdeal.nD Cert.KernelRglruIdeal.τ).loc Cert.KernelRglruIdeal.main_arg8) = m ((c.tc : Thread Cert.KernelRglruIdeal.nD Cert.KernelRglruIdeal.τ).loc Cert.KernelRglruIdeal.main_arg8)
      ∧ r.2.mem ((c.tc : Thread Cert.KernelRglruIdeal.nD Cert.KernelRglruIdeal.τ).loc Cert.KernelRglruIdeal.main_arg9) = m ((c.tc : Thread Cert.KernelRglruIdeal.nD Cert.KernelRglruIdeal.τ).loc Cert.KernelRglruIdeal.main_arg9))
      ∧ r.2.sem = fun _ => 0)

def quiescent_ReferenceRglruIdeal [hReferenceRglruIdeal : Cert.ReferenceRglruIdeal.Facts] : Prop :=
  ∀ (m : (ℓ : Loc Cert.ReferenceRglruIdeal.nD Cert.ReferenceRglruIdeal.τ Cert.ReferenceRglruIdeal.sig) → Buf (Elt Ideal) ℓ) (g : Dev Cert.ReferenceRglruIdeal.nD → PrngReg), Pre_ReferenceRglruIdeal m →
    θ_run (Cert.ReferenceRglruIdeal.defs (F := Ideal)) (onTc (τ := Cert.ReferenceRglruIdeal.τ) (Cert.ReferenceRglruIdeal.main (F := Ideal))) ⟨m, fun _ => 0, g⟩ (fun r => (∀ c : Dev Cert.ReferenceRglruIdeal.nD,
      r.2.mem ((c.tc : Thread Cert.ReferenceRglruIdeal.nD Cert.ReferenceRglruIdeal.τ).loc Cert.ReferenceRglruIdeal.main_arg0) = m ((c.tc : Thread Cert.ReferenceRglruIdeal.nD Cert.ReferenceRglruIdeal.τ).loc Cert.ReferenceRglruIdeal.main_arg0)
      ∧ r.2.mem ((c.tc : Thread Cert.ReferenceRglruIdeal.nD Cert.ReferenceRglruIdeal.τ).loc Cert.ReferenceRglruIdeal.main_arg1) = m ((c.tc : Thread Cert.ReferenceRglruIdeal.nD Cert.ReferenceRglruIdeal.τ).loc Cert.ReferenceRglruIdeal.main_arg1)
      ∧ r.2.mem ((c.tc : Thread Cert.ReferenceRglruIdeal.nD Cert.ReferenceRglruIdeal.τ).loc Cert.ReferenceRglruIdeal.main_arg2) = m ((c.tc : Thread Cert.ReferenceRglruIdeal.nD Cert.ReferenceRglruIdeal.τ).loc Cert.ReferenceRglruIdeal.main_arg2)
      ∧ r.2.mem ((c.tc : Thread Cert.ReferenceRglruIdeal.nD Cert.ReferenceRglruIdeal.τ).loc Cert.ReferenceRglruIdeal.main_arg3) = m ((c.tc : Thread Cert.ReferenceRglruIdeal.nD Cert.ReferenceRglruIdeal.τ).loc Cert.ReferenceRglruIdeal.main_arg3)
      ∧ r.2.mem ((c.tc : Thread Cert.ReferenceRglruIdeal.nD Cert.ReferenceRglruIdeal.τ).loc Cert.ReferenceRglruIdeal.main_arg4) = m ((c.tc : Thread Cert.ReferenceRglruIdeal.nD Cert.ReferenceRglruIdeal.τ).loc Cert.ReferenceRglruIdeal.main_arg4)
      ∧ r.2.mem ((c.tc : Thread Cert.ReferenceRglruIdeal.nD Cert.ReferenceRglruIdeal.τ).loc Cert.ReferenceRglruIdeal.main_arg5) = m ((c.tc : Thread Cert.ReferenceRglruIdeal.nD Cert.ReferenceRglruIdeal.τ).loc Cert.ReferenceRglruIdeal.main_arg5)
      ∧ r.2.mem ((c.tc : Thread Cert.ReferenceRglruIdeal.nD Cert.ReferenceRglruIdeal.τ).loc Cert.ReferenceRglruIdeal.main_arg6) = m ((c.tc : Thread Cert.ReferenceRglruIdeal.nD Cert.ReferenceRglruIdeal.τ).loc Cert.ReferenceRglruIdeal.main_arg6)
      ∧ r.2.mem ((c.tc : Thread Cert.ReferenceRglruIdeal.nD Cert.ReferenceRglruIdeal.τ).loc Cert.ReferenceRglruIdeal.main_arg7) = m ((c.tc : Thread Cert.ReferenceRglruIdeal.nD Cert.ReferenceRglruIdeal.τ).loc Cert.ReferenceRglruIdeal.main_arg7)
      ∧ r.2.mem ((c.tc : Thread Cert.ReferenceRglruIdeal.nD Cert.ReferenceRglruIdeal.τ).loc Cert.ReferenceRglruIdeal.main_arg8) = m ((c.tc : Thread Cert.ReferenceRglruIdeal.nD Cert.ReferenceRglruIdeal.τ).loc Cert.ReferenceRglruIdeal.main_arg8)
      ∧ r.2.mem ((c.tc : Thread Cert.ReferenceRglruIdeal.nD Cert.ReferenceRglruIdeal.τ).loc Cert.ReferenceRglruIdeal.main_arg9) = m ((c.tc : Thread Cert.ReferenceRglruIdeal.nD Cert.ReferenceRglruIdeal.τ).loc Cert.ReferenceRglruIdeal.main_arg9))
      ∧ r.2.sem = fun _ => 0)

def quiescent_ReferenceRglruIdeal_pre_finite_lru [hReferenceRglruIdeal : Cert.ReferenceRglruIdeal.Facts] [hPre_finite_lru : Cert.Pre_finite_lru.Facts] : Prop :=
  ∀ (m : (ℓ : Loc Cert.ReferenceRglruIdeal.nD Cert.ReferenceRglruIdeal.τ Cert.ReferenceRglruIdeal.sig) → Buf (Elt Ideal) ℓ) (g : Dev Cert.ReferenceRglruIdeal.nD → PrngReg), Pre_ReferenceRglruIdeal_finite_lru m →
    θ_run (Cert.ReferenceRglruIdeal.defs (F := Ideal)) (onTc (τ := Cert.ReferenceRglruIdeal.τ) (Cert.ReferenceRglruIdeal.main (F := Ideal))) ⟨m, fun _ => 0, g⟩ (fun r => (∀ c : Dev Cert.ReferenceRglruIdeal.nD,
      r.2.mem ((c.tc : Thread Cert.ReferenceRglruIdeal.nD Cert.ReferenceRglruIdeal.τ).loc Cert.ReferenceRglruIdeal.main_arg0) = m ((c.tc : Thread Cert.ReferenceRglruIdeal.nD Cert.ReferenceRglruIdeal.τ).loc Cert.ReferenceRglruIdeal.main_arg0)
      ∧ r.2.mem ((c.tc : Thread Cert.ReferenceRglruIdeal.nD Cert.ReferenceRglruIdeal.τ).loc Cert.ReferenceRglruIdeal.main_arg1) = m ((c.tc : Thread Cert.ReferenceRglruIdeal.nD Cert.ReferenceRglruIdeal.τ).loc Cert.ReferenceRglruIdeal.main_arg1)
      ∧ r.2.mem ((c.tc : Thread Cert.ReferenceRglruIdeal.nD Cert.ReferenceRglruIdeal.τ).loc Cert.ReferenceRglruIdeal.main_arg2) = m ((c.tc : Thread Cert.ReferenceRglruIdeal.nD Cert.ReferenceRglruIdeal.τ).loc Cert.ReferenceRglruIdeal.main_arg2)
      ∧ r.2.mem ((c.tc : Thread Cert.ReferenceRglruIdeal.nD Cert.ReferenceRglruIdeal.τ).loc Cert.ReferenceRglruIdeal.main_arg3) = m ((c.tc : Thread Cert.ReferenceRglruIdeal.nD Cert.ReferenceRglruIdeal.τ).loc Cert.ReferenceRglruIdeal.main_arg3)
      ∧ r.2.mem ((c.tc : Thread Cert.ReferenceRglruIdeal.nD Cert.ReferenceRglruIdeal.τ).loc Cert.ReferenceRglruIdeal.main_arg4) = m ((c.tc : Thread Cert.ReferenceRglruIdeal.nD Cert.ReferenceRglruIdeal.τ).loc Cert.ReferenceRglruIdeal.main_arg4)
      ∧ r.2.mem ((c.tc : Thread Cert.ReferenceRglruIdeal.nD Cert.ReferenceRglruIdeal.τ).loc Cert.ReferenceRglruIdeal.main_arg5) = m ((c.tc : Thread Cert.ReferenceRglruIdeal.nD Cert.ReferenceRglruIdeal.τ).loc Cert.ReferenceRglruIdeal.main_arg5)
      ∧ r.2.mem ((c.tc : Thread Cert.ReferenceRglruIdeal.nD Cert.ReferenceRglruIdeal.τ).loc Cert.ReferenceRglruIdeal.main_arg6) = m ((c.tc : Thread Cert.ReferenceRglruIdeal.nD Cert.ReferenceRglruIdeal.τ).loc Cert.ReferenceRglruIdeal.main_arg6)
      ∧ r.2.mem ((c.tc : Thread Cert.ReferenceRglruIdeal.nD Cert.ReferenceRglruIdeal.τ).loc Cert.ReferenceRglruIdeal.main_arg7) = m ((c.tc : Thread Cert.ReferenceRglruIdeal.nD Cert.ReferenceRglruIdeal.τ).loc Cert.ReferenceRglruIdeal.main_arg7)
      ∧ r.2.mem ((c.tc : Thread Cert.ReferenceRglruIdeal.nD Cert.ReferenceRglruIdeal.τ).loc Cert.ReferenceRglruIdeal.main_arg8) = m ((c.tc : Thread Cert.ReferenceRglruIdeal.nD Cert.ReferenceRglruIdeal.τ).loc Cert.ReferenceRglruIdeal.main_arg8)
      ∧ r.2.mem ((c.tc : Thread Cert.ReferenceRglruIdeal.nD Cert.ReferenceRglruIdeal.τ).loc Cert.ReferenceRglruIdeal.main_arg9) = m ((c.tc : Thread Cert.ReferenceRglruIdeal.nD Cert.ReferenceRglruIdeal.τ).loc Cert.ReferenceRglruIdeal.main_arg9))
      ∧ r.2.sem = fun _ => 0)

def preserves_Kernel_KernelIdeal : Prop :=
  IdealRules.named_const.Statement Cert.KernelIdeal.κ "neg_log2_e" .f32 0xBFB8AA3B#32 ((-((Real.log 2)⁻¹) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v29_0)) (v1 : (c : Dev Cert.KernelIdeal.nD) → Buf (Elt Ideal) ((c.tc : Thread Cert.KernelIdeal.nD Cert.KernelIdeal.τ).loc Cert.KernelIdeal.main_v29_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29_0) = v0 c
          ∧ r.2.mem ((c.tc : Thread Cert.KernelIdeal.nD Cert.KernelIdeal.τ).loc Cert.KernelIdeal.main_v29_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_v165) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_KernelInproj_KernelInprojIdeal : Prop :=
  True

def algebraic_KernelInprojIdeal_ReferenceInprojIdeal [hKernelInprojIdeal : Cert.KernelInprojIdeal.Facts] [hReferenceInprojIdeal : Cert.ReferenceInprojIdeal.Facts] : Prop :=
  ∀ (m : (ℓ : Loc Cert.KernelInprojIdeal.nD Cert.KernelInprojIdeal.τ Cert.KernelInprojIdeal.sig) → Buf (Elt Ideal) ℓ) (g : Dev Cert.KernelInprojIdeal.nD → PrngReg)
    (m' : (ℓ : Loc Cert.ReferenceInprojIdeal.nD Cert.ReferenceInprojIdeal.τ Cert.ReferenceInprojIdeal.sig) → Buf (Elt Ideal) ℓ) (g' : Dev Cert.ReferenceInprojIdeal.nD → PrngReg), Pre_KernelInprojIdeal m →
    (∀ c : Dev Cert.KernelInprojIdeal.nD,
      m' ((c.tc : Thread Cert.ReferenceInprojIdeal.nD Cert.ReferenceInprojIdeal.τ).loc Cert.ReferenceInprojIdeal.main_arg0) = m ((c.tc : Thread Cert.KernelInprojIdeal.nD Cert.KernelInprojIdeal.τ).loc Cert.KernelInprojIdeal.main_arg0)
      ∧ m' ((c.tc : Thread Cert.ReferenceInprojIdeal.nD Cert.ReferenceInprojIdeal.τ).loc Cert.ReferenceInprojIdeal.main_arg1) = m ((c.tc : Thread Cert.KernelInprojIdeal.nD Cert.KernelInprojIdeal.τ).loc Cert.KernelInprojIdeal.main_arg1)
      ∧ m' ((c.tc : Thread Cert.ReferenceInprojIdeal.nD Cert.ReferenceInprojIdeal.τ).loc Cert.ReferenceInprojIdeal.main_arg2) = m ((c.tc : Thread Cert.KernelInprojIdeal.nD Cert.KernelInprojIdeal.τ).loc Cert.KernelInprojIdeal.main_arg2)) →
    ∃ (v0 : (c : Dev Cert.KernelInprojIdeal.nD) → Buf (Elt Ideal) ((c.tc : Thread Cert.KernelInprojIdeal.nD Cert.KernelInprojIdeal.τ).loc Cert.KernelInprojIdeal.main_v5)),
      θ_run (Cert.KernelInprojIdeal.defs (F := Ideal)) (onTc (τ := Cert.KernelInprojIdeal.τ) (Cert.KernelInprojIdeal.main (F := Ideal))) ⟨m, fun _ => 0, g⟩ (fun r => ∀ c : Dev Cert.KernelInprojIdeal.nD,
          r.2.mem ((c.tc : Thread Cert.KernelInprojIdeal.nD Cert.KernelInprojIdeal.τ).loc Cert.KernelInprojIdeal.main_v5) = v0 c
          ∧ r.2.mem ((c.tc : Thread Cert.KernelInprojIdeal.nD Cert.KernelInprojIdeal.τ).loc Cert.KernelInprojIdeal.main_arg0) = m ((c.tc : Thread Cert.KernelInprojIdeal.nD Cert.KernelInprojIdeal.τ).loc Cert.KernelInprojIdeal.main_arg0)
          ∧ r.2.mem ((c.tc : Thread Cert.KernelInprojIdeal.nD Cert.KernelInprojIdeal.τ).loc Cert.KernelInprojIdeal.main_arg1) = m ((c.tc : Thread Cert.KernelInprojIdeal.nD Cert.KernelInprojIdeal.τ).loc Cert.KernelInprojIdeal.main_arg1)
          ∧ r.2.mem ((c.tc : Thread Cert.KernelInprojIdeal.nD Cert.KernelInprojIdeal.τ).loc Cert.KernelInprojIdeal.main_arg2) = m ((c.tc : Thread Cert.KernelInprojIdeal.nD Cert.KernelInprojIdeal.τ).loc Cert.KernelInprojIdeal.main_arg2))
      ∧ θ_run (Cert.ReferenceInprojIdeal.defs (F := Ideal)) (onTc (τ := Cert.ReferenceInprojIdeal.τ) (Cert.ReferenceInprojIdeal.main (F := Ideal))) ⟨m', fun _ => 0, g'⟩ (fun r => ∀ c : Dev Cert.ReferenceInprojIdeal.nD,
          r.2.mem ((c.tc : Thread Cert.ReferenceInprojIdeal.nD Cert.ReferenceInprojIdeal.τ).loc Cert.ReferenceInprojIdeal.main_v17) = v0 c
          ∧ r.2.mem ((c.tc : Thread Cert.ReferenceInprojIdeal.nD Cert.ReferenceInprojIdeal.τ).loc Cert.ReferenceInprojIdeal.main_arg0) = m' ((c.tc : Thread Cert.ReferenceInprojIdeal.nD Cert.ReferenceInprojIdeal.τ).loc Cert.ReferenceInprojIdeal.main_arg0)
          ∧ r.2.mem ((c.tc : Thread Cert.ReferenceInprojIdeal.nD Cert.ReferenceInprojIdeal.τ).loc Cert.ReferenceInprojIdeal.main_arg1) = m' ((c.tc : Thread Cert.ReferenceInprojIdeal.nD Cert.ReferenceInprojIdeal.τ).loc Cert.ReferenceInprojIdeal.main_arg1)
          ∧ r.2.mem ((c.tc : Thread Cert.ReferenceInprojIdeal.nD Cert.ReferenceInprojIdeal.τ).loc Cert.ReferenceInprojIdeal.main_arg2) = m' ((c.tc : Thread Cert.ReferenceInprojIdeal.nD Cert.ReferenceInprojIdeal.τ).loc Cert.ReferenceInprojIdeal.main_arg2))

def preserves_KernelOutproj_KernelOutprojIdeal : Prop :=
  True

def algebraic_KernelOutprojIdeal_ReferenceOutprojIdeal_pre_finite_router [hKernelOutprojIdeal : Cert.KernelOutprojIdeal.Facts] [hReferenceOutprojIdeal : Cert.ReferenceOutprojIdeal.Facts] [hPre_finite_router : Cert.Pre_finite_router.Facts] : Prop :=
  ∀ (m : (ℓ : Loc Cert.KernelOutprojIdeal.nD Cert.KernelOutprojIdeal.τ Cert.KernelOutprojIdeal.sig) → Buf (Elt Ideal) ℓ) (g : Dev Cert.KernelOutprojIdeal.nD → PrngReg)
    (m' : (ℓ : Loc Cert.ReferenceOutprojIdeal.nD Cert.ReferenceOutprojIdeal.τ Cert.ReferenceOutprojIdeal.sig) → Buf (Elt Ideal) ℓ) (g' : Dev Cert.ReferenceOutprojIdeal.nD → PrngReg), Pre_KernelOutprojIdeal_finite_router m →
    (∀ c : Dev Cert.KernelOutprojIdeal.nD,
      m' ((c.tc : Thread Cert.ReferenceOutprojIdeal.nD Cert.ReferenceOutprojIdeal.τ).loc Cert.ReferenceOutprojIdeal.main_arg0) = m ((c.tc : Thread Cert.KernelOutprojIdeal.nD Cert.KernelOutprojIdeal.τ).loc Cert.KernelOutprojIdeal.main_arg0)
      ∧ m' ((c.tc : Thread Cert.ReferenceOutprojIdeal.nD Cert.ReferenceOutprojIdeal.τ).loc Cert.ReferenceOutprojIdeal.main_arg1) = m ((c.tc : Thread Cert.KernelOutprojIdeal.nD Cert.KernelOutprojIdeal.τ).loc Cert.KernelOutprojIdeal.main_arg1)
      ∧ m' ((c.tc : Thread Cert.ReferenceOutprojIdeal.nD Cert.ReferenceOutprojIdeal.τ).loc Cert.ReferenceOutprojIdeal.main_arg2) = m ((c.tc : Thread Cert.KernelOutprojIdeal.nD Cert.KernelOutprojIdeal.τ).loc Cert.KernelOutprojIdeal.main_arg2)
      ∧ m' ((c.tc : Thread Cert.ReferenceOutprojIdeal.nD Cert.ReferenceOutprojIdeal.τ).loc Cert.ReferenceOutprojIdeal.main_arg3) = m ((c.tc : Thread Cert.KernelOutprojIdeal.nD Cert.KernelOutprojIdeal.τ).loc Cert.KernelOutprojIdeal.main_arg3)
      ∧ m' ((c.tc : Thread Cert.ReferenceOutprojIdeal.nD Cert.ReferenceOutprojIdeal.τ).loc Cert.ReferenceOutprojIdeal.main_arg4) = m ((c.tc : Thread Cert.KernelOutprojIdeal.nD Cert.KernelOutprojIdeal.τ).loc Cert.KernelOutprojIdeal.main_arg4)
      ∧ m' ((c.tc : Thread Cert.ReferenceOutprojIdeal.nD Cert.ReferenceOutprojIdeal.τ).loc Cert.ReferenceOutprojIdeal.main_arg5) = m ((c.tc : Thread Cert.KernelOutprojIdeal.nD Cert.KernelOutprojIdeal.τ).loc Cert.KernelOutprojIdeal.main_arg5)
      ∧ m' ((c.tc : Thread Cert.ReferenceOutprojIdeal.nD Cert.ReferenceOutprojIdeal.τ).loc Cert.ReferenceOutprojIdeal.main_arg6) = m ((c.tc : Thread Cert.KernelOutprojIdeal.nD Cert.KernelOutprojIdeal.τ).loc Cert.KernelOutprojIdeal.main_arg6)
      ∧ m' ((c.tc : Thread Cert.ReferenceOutprojIdeal.nD Cert.ReferenceOutprojIdeal.τ).loc Cert.ReferenceOutprojIdeal.main_arg7) = m ((c.tc : Thread Cert.KernelOutprojIdeal.nD Cert.KernelOutprojIdeal.τ).loc Cert.KernelOutprojIdeal.main_arg7)
      ∧ m' ((c.tc : Thread Cert.ReferenceOutprojIdeal.nD Cert.ReferenceOutprojIdeal.τ).loc Cert.ReferenceOutprojIdeal.main_arg8) = m ((c.tc : Thread Cert.KernelOutprojIdeal.nD Cert.KernelOutprojIdeal.τ).loc Cert.KernelOutprojIdeal.main_arg8)) →
    ∃ (v0 : (c : Dev Cert.KernelOutprojIdeal.nD) → Buf (Elt Ideal) ((c.tc : Thread Cert.KernelOutprojIdeal.nD Cert.KernelOutprojIdeal.τ).loc Cert.KernelOutprojIdeal.main_v21_0)) (v1 : (c : Dev Cert.KernelOutprojIdeal.nD) → Buf (Elt Ideal) ((c.tc : Thread Cert.KernelOutprojIdeal.nD Cert.KernelOutprojIdeal.τ).loc Cert.KernelOutprojIdeal.main_v21_1)) (v2 : (c : Dev Cert.KernelOutprojIdeal.nD) → Buf (Elt Ideal) ((c.tc : Thread Cert.KernelOutprojIdeal.nD Cert.KernelOutprojIdeal.τ).loc Cert.KernelOutprojIdeal.main_v21_2)),
      θ_run (Cert.KernelOutprojIdeal.defs (F := Ideal)) (onTc (τ := Cert.KernelOutprojIdeal.τ) (Cert.KernelOutprojIdeal.main (F := Ideal))) ⟨m, fun _ => 0, g⟩ (fun r => ∀ c : Dev Cert.KernelOutprojIdeal.nD,
          r.2.mem ((c.tc : Thread Cert.KernelOutprojIdeal.nD Cert.KernelOutprojIdeal.τ).loc Cert.KernelOutprojIdeal.main_v21_0) = v0 c
          ∧ r.2.mem ((c.tc : Thread Cert.KernelOutprojIdeal.nD Cert.KernelOutprojIdeal.τ).loc Cert.KernelOutprojIdeal.main_v21_1) = v1 c
          ∧ r.2.mem ((c.tc : Thread Cert.KernelOutprojIdeal.nD Cert.KernelOutprojIdeal.τ).loc Cert.KernelOutprojIdeal.main_v21_2) = v2 c
          ∧ r.2.mem ((c.tc : Thread Cert.KernelOutprojIdeal.nD Cert.KernelOutprojIdeal.τ).loc Cert.KernelOutprojIdeal.main_arg0) = m ((c.tc : Thread Cert.KernelOutprojIdeal.nD Cert.KernelOutprojIdeal.τ).loc Cert.KernelOutprojIdeal.main_arg0)
          ∧ r.2.mem ((c.tc : Thread Cert.KernelOutprojIdeal.nD Cert.KernelOutprojIdeal.τ).loc Cert.KernelOutprojIdeal.main_arg1) = m ((c.tc : Thread Cert.KernelOutprojIdeal.nD Cert.KernelOutprojIdeal.τ).loc Cert.KernelOutprojIdeal.main_arg1)
          ∧ r.2.mem ((c.tc : Thread Cert.KernelOutprojIdeal.nD Cert.KernelOutprojIdeal.τ).loc Cert.KernelOutprojIdeal.main_arg2) = m ((c.tc : Thread Cert.KernelOutprojIdeal.nD Cert.KernelOutprojIdeal.τ).loc Cert.KernelOutprojIdeal.main_arg2)
          ∧ r.2.mem ((c.tc : Thread Cert.KernelOutprojIdeal.nD Cert.KernelOutprojIdeal.τ).loc Cert.KernelOutprojIdeal.main_arg3) = m ((c.tc : Thread Cert.KernelOutprojIdeal.nD Cert.KernelOutprojIdeal.τ).loc Cert.KernelOutprojIdeal.main_arg3)
          ∧ r.2.mem ((c.tc : Thread Cert.KernelOutprojIdeal.nD Cert.KernelOutprojIdeal.τ).loc Cert.KernelOutprojIdeal.main_arg4) = m ((c.tc : Thread Cert.KernelOutprojIdeal.nD Cert.KernelOutprojIdeal.τ).loc Cert.KernelOutprojIdeal.main_arg4)
          ∧ r.2.mem ((c.tc : Thread Cert.KernelOutprojIdeal.nD Cert.KernelOutprojIdeal.τ).loc Cert.KernelOutprojIdeal.main_arg5) = m ((c.tc : Thread Cert.KernelOutprojIdeal.nD Cert.KernelOutprojIdeal.τ).loc Cert.KernelOutprojIdeal.main_arg5)
          ∧ r.2.mem ((c.tc : Thread Cert.KernelOutprojIdeal.nD Cert.KernelOutprojIdeal.τ).loc Cert.KernelOutprojIdeal.main_arg6) = m ((c.tc : Thread Cert.KernelOutprojIdeal.nD Cert.KernelOutprojIdeal.τ).loc Cert.KernelOutprojIdeal.main_arg6)
          ∧ r.2.mem ((c.tc : Thread Cert.KernelOutprojIdeal.nD Cert.KernelOutprojIdeal.τ).loc Cert.KernelOutprojIdeal.main_arg7) = m ((c.tc : Thread Cert.KernelOutprojIdeal.nD Cert.KernelOutprojIdeal.τ).loc Cert.KernelOutprojIdeal.main_arg7)
          ∧ r.2.mem ((c.tc : Thread Cert.KernelOutprojIdeal.nD Cert.KernelOutprojIdeal.τ).loc Cert.KernelOutprojIdeal.main_arg8) = m ((c.tc : Thread Cert.KernelOutprojIdeal.nD Cert.KernelOutprojIdeal.τ).loc Cert.KernelOutprojIdeal.main_arg8))
      ∧ θ_run (Cert.ReferenceOutprojIdeal.defs (F := Ideal)) (onTc (τ := Cert.ReferenceOutprojIdeal.τ) (Cert.ReferenceOutprojIdeal.main (F := Ideal))) ⟨m', fun _ => 0, g'⟩ (fun r => ∀ c : Dev Cert.ReferenceOutprojIdeal.nD,
          r.2.mem ((c.tc : Thread Cert.ReferenceOutprojIdeal.nD Cert.ReferenceOutprojIdeal.τ).loc Cert.ReferenceOutprojIdeal.main_v34) = v0 c
          ∧ r.2.mem ((c.tc : Thread Cert.ReferenceOutprojIdeal.nD Cert.ReferenceOutprojIdeal.τ).loc Cert.ReferenceOutprojIdeal.main_v36) = v1 c
          ∧ r.2.mem ((c.tc : Thread Cert.ReferenceOutprojIdeal.nD Cert.ReferenceOutprojIdeal.τ).loc Cert.ReferenceOutprojIdeal.main_v37) = v2 c
          ∧ r.2.mem ((c.tc : Thread Cert.ReferenceOutprojIdeal.nD Cert.ReferenceOutprojIdeal.τ).loc Cert.ReferenceOutprojIdeal.main_arg0) = m' ((c.tc : Thread Cert.ReferenceOutprojIdeal.nD Cert.ReferenceOutprojIdeal.τ).loc Cert.ReferenceOutprojIdeal.main_arg0)
          ∧ r.2.mem ((c.tc : Thread Cert.ReferenceOutprojIdeal.nD Cert.ReferenceOutprojIdeal.τ).loc Cert.ReferenceOutprojIdeal.main_arg1) = m' ((c.tc : Thread Cert.ReferenceOutprojIdeal.nD Cert.ReferenceOutprojIdeal.τ).loc Cert.ReferenceOutprojIdeal.main_arg1)
          ∧ r.2.mem ((c.tc : Thread Cert.ReferenceOutprojIdeal.nD Cert.ReferenceOutprojIdeal.τ).loc Cert.ReferenceOutprojIdeal.main_arg2) = m' ((c.tc : Thread Cert.ReferenceOutprojIdeal.nD Cert.ReferenceOutprojIdeal.τ).loc Cert.ReferenceOutprojIdeal.main_arg2)
          ∧ r.2.mem ((c.tc : Thread Cert.ReferenceOutprojIdeal.nD Cert.ReferenceOutprojIdeal.τ).loc Cert.ReferenceOutprojIdeal.main_arg3) = m' ((c.tc : Thread Cert.ReferenceOutprojIdeal.nD Cert.ReferenceOutprojIdeal.τ).loc Cert.ReferenceOutprojIdeal.main_arg3)
          ∧ r.2.mem ((c.tc : Thread Cert.ReferenceOutprojIdeal.nD Cert.ReferenceOutprojIdeal.τ).loc Cert.ReferenceOutprojIdeal.main_arg4) = m' ((c.tc : Thread Cert.ReferenceOutprojIdeal.nD Cert.ReferenceOutprojIdeal.τ).loc Cert.ReferenceOutprojIdeal.main_arg4)
          ∧ r.2.mem ((c.tc : Thread Cert.ReferenceOutprojIdeal.nD Cert.ReferenceOutprojIdeal.τ).loc Cert.ReferenceOutprojIdeal.main_arg5) = m' ((c.tc : Thread Cert.ReferenceOutprojIdeal.nD Cert.ReferenceOutprojIdeal.τ).loc Cert.ReferenceOutprojIdeal.main_arg5)
          ∧ r.2.mem ((c.tc : Thread Cert.ReferenceOutprojIdeal.nD Cert.ReferenceOutprojIdeal.τ).loc Cert.ReferenceOutprojIdeal.main_arg6) = m' ((c.tc : Thread Cert.ReferenceOutprojIdeal.nD Cert.ReferenceOutprojIdeal.τ).loc Cert.ReferenceOutprojIdeal.main_arg6)
          ∧ r.2.mem ((c.tc : Thread Cert.ReferenceOutprojIdeal.nD Cert.ReferenceOutprojIdeal.τ).loc Cert.ReferenceOutprojIdeal.main_arg7) = m' ((c.tc : Thread Cert.ReferenceOutprojIdeal.nD Cert.ReferenceOutprojIdeal.τ).loc Cert.ReferenceOutprojIdeal.main_arg7)
          ∧ r.2.mem ((c.tc : Thread Cert.ReferenceOutprojIdeal.nD Cert.ReferenceOutprojIdeal.τ).loc Cert.ReferenceOutprojIdeal.main_arg8) = m' ((c.tc : Thread Cert.ReferenceOutprojIdeal.nD Cert.ReferenceOutprojIdeal.τ).loc Cert.ReferenceOutprojIdeal.main_arg8))

def preserves_KernelRglru_KernelRglruIdeal : Prop :=
  IdealRules.named_const.Statement Cert.KernelRglruIdeal.κ "neg_8_log2_e" .f32 0xC138AA3B#32 ((8 * (-((Real.log 2)⁻¹)) : ℝ) : EReal)
  ∧ IdealRules.named_const.Statement Cert.KernelRglruIdeal.κ "neg_log2_e" .f32 0xBFB8AA3B#32 ((-((Real.log 2)⁻¹) : ℝ) : EReal)
  ∧ IdealRules.named_const.Statement Cert.KernelRglruIdeal.κ "gelu_cubic" .f32 0x3D122279#32 (((6693141 / 8388608) * (12003091 / 268435456) : ℝ) : EReal)

def algebraic_KernelRglruIdeal_ReferenceRglruIdeal_pre_finite_lru [hKernelRglruIdeal : Cert.KernelRglruIdeal.Facts] [hReferenceRglruIdeal : Cert.ReferenceRglruIdeal.Facts] [hPre_finite_lru : Cert.Pre_finite_lru.Facts] : Prop :=
  ∀ (m : (ℓ : Loc Cert.KernelRglruIdeal.nD Cert.KernelRglruIdeal.τ Cert.KernelRglruIdeal.sig) → Buf (Elt Ideal) ℓ) (g : Dev Cert.KernelRglruIdeal.nD → PrngReg)
    (m' : (ℓ : Loc Cert.ReferenceRglruIdeal.nD Cert.ReferenceRglruIdeal.τ Cert.ReferenceRglruIdeal.sig) → Buf (Elt Ideal) ℓ) (g' : Dev Cert.ReferenceRglruIdeal.nD → PrngReg), Pre_KernelRglruIdeal_finite_lru m →
    (∀ c : Dev Cert.KernelRglruIdeal.nD,
      m' ((c.tc : Thread Cert.ReferenceRglruIdeal.nD Cert.ReferenceRglruIdeal.τ).loc Cert.ReferenceRglruIdeal.main_arg0) = m ((c.tc : Thread Cert.KernelRglruIdeal.nD Cert.KernelRglruIdeal.τ).loc Cert.KernelRglruIdeal.main_arg0)
      ∧ m' ((c.tc : Thread Cert.ReferenceRglruIdeal.nD Cert.ReferenceRglruIdeal.τ).loc Cert.ReferenceRglruIdeal.main_arg1) = m ((c.tc : Thread Cert.KernelRglruIdeal.nD Cert.KernelRglruIdeal.τ).loc Cert.KernelRglruIdeal.main_arg1)
      ∧ m' ((c.tc : Thread Cert.ReferenceRglruIdeal.nD Cert.ReferenceRglruIdeal.τ).loc Cert.ReferenceRglruIdeal.main_arg2) = m ((c.tc : Thread Cert.KernelRglruIdeal.nD Cert.KernelRglruIdeal.τ).loc Cert.KernelRglruIdeal.main_arg2)
      ∧ m' ((c.tc : Thread Cert.ReferenceRglruIdeal.nD Cert.ReferenceRglruIdeal.τ).loc Cert.ReferenceRglruIdeal.main_arg3) = m ((c.tc : Thread Cert.KernelRglruIdeal.nD Cert.KernelRglruIdeal.τ).loc Cert.KernelRglruIdeal.main_arg3)
      ∧ m' ((c.tc : Thread Cert.ReferenceRglruIdeal.nD Cert.ReferenceRglruIdeal.τ).loc Cert.ReferenceRglruIdeal.main_arg4) = m ((c.tc : Thread Cert.KernelRglruIdeal.nD Cert.KernelRglruIdeal.τ).loc Cert.KernelRglruIdeal.main_arg4)
      ∧ m' ((c.tc : Thread Cert.ReferenceRglruIdeal.nD Cert.ReferenceRglruIdeal.τ).loc Cert.ReferenceRglruIdeal.main_arg5) = m ((c.tc : Thread Cert.KernelRglruIdeal.nD Cert.KernelRglruIdeal.τ).loc Cert.KernelRglruIdeal.main_arg5)
      ∧ m' ((c.tc : Thread Cert.ReferenceRglruIdeal.nD Cert.ReferenceRglruIdeal.τ).loc Cert.ReferenceRglruIdeal.main_arg6) = m ((c.tc : Thread Cert.KernelRglruIdeal.nD Cert.KernelRglruIdeal.τ).loc Cert.KernelRglruIdeal.main_arg6)
      ∧ m' ((c.tc : Thread Cert.ReferenceRglruIdeal.nD Cert.ReferenceRglruIdeal.τ).loc Cert.ReferenceRglruIdeal.main_arg7) = m ((c.tc : Thread Cert.KernelRglruIdeal.nD Cert.KernelRglruIdeal.τ).loc Cert.KernelRglruIdeal.main_arg7)
      ∧ m' ((c.tc : Thread Cert.ReferenceRglruIdeal.nD Cert.ReferenceRglruIdeal.τ).loc Cert.ReferenceRglruIdeal.main_arg8) = m ((c.tc : Thread Cert.KernelRglruIdeal.nD Cert.KernelRglruIdeal.τ).loc Cert.KernelRglruIdeal.main_arg8)
      ∧ m' ((c.tc : Thread Cert.ReferenceRglruIdeal.nD Cert.ReferenceRglruIdeal.τ).loc Cert.ReferenceRglruIdeal.main_arg9) = m ((c.tc : Thread Cert.KernelRglruIdeal.nD Cert.KernelRglruIdeal.τ).loc Cert.KernelRglruIdeal.main_arg9)) →
    ∃ (v0 : (c : Dev Cert.KernelRglruIdeal.nD) → Buf (Elt Ideal) ((c.tc : Thread Cert.KernelRglruIdeal.nD Cert.KernelRglruIdeal.τ).loc Cert.KernelRglruIdeal.main_v15_0)) (v1 : (c : Dev Cert.KernelRglruIdeal.nD) → Buf (Elt Ideal) ((c.tc : Thread Cert.KernelRglruIdeal.nD Cert.KernelRglruIdeal.τ).loc Cert.KernelRglruIdeal.main_v15_1)),
      θ_run (Cert.KernelRglruIdeal.defs (F := Ideal)) (onTc (τ := Cert.KernelRglruIdeal.τ) (Cert.KernelRglruIdeal.main (F := Ideal))) ⟨m, fun _ => 0, g⟩ (fun r => ∀ c : Dev Cert.KernelRglruIdeal.nD,
          r.2.mem ((c.tc : Thread Cert.KernelRglruIdeal.nD Cert.KernelRglruIdeal.τ).loc Cert.KernelRglruIdeal.main_v15_0) = v0 c
          ∧ r.2.mem ((c.tc : Thread Cert.KernelRglruIdeal.nD Cert.KernelRglruIdeal.τ).loc Cert.KernelRglruIdeal.main_v15_1) = v1 c
          ∧ r.2.mem ((c.tc : Thread Cert.KernelRglruIdeal.nD Cert.KernelRglruIdeal.τ).loc Cert.KernelRglruIdeal.main_arg0) = m ((c.tc : Thread Cert.KernelRglruIdeal.nD Cert.KernelRglruIdeal.τ).loc Cert.KernelRglruIdeal.main_arg0)
          ∧ r.2.mem ((c.tc : Thread Cert.KernelRglruIdeal.nD Cert.KernelRglruIdeal.τ).loc Cert.KernelRglruIdeal.main_arg1) = m ((c.tc : Thread Cert.KernelRglruIdeal.nD Cert.KernelRglruIdeal.τ).loc Cert.KernelRglruIdeal.main_arg1)
          ∧ r.2.mem ((c.tc : Thread Cert.KernelRglruIdeal.nD Cert.KernelRglruIdeal.τ).loc Cert.KernelRglruIdeal.main_arg2) = m ((c.tc : Thread Cert.KernelRglruIdeal.nD Cert.KernelRglruIdeal.τ).loc Cert.KernelRglruIdeal.main_arg2)
          ∧ r.2.mem ((c.tc : Thread Cert.KernelRglruIdeal.nD Cert.KernelRglruIdeal.τ).loc Cert.KernelRglruIdeal.main_arg3) = m ((c.tc : Thread Cert.KernelRglruIdeal.nD Cert.KernelRglruIdeal.τ).loc Cert.KernelRglruIdeal.main_arg3)
          ∧ r.2.mem ((c.tc : Thread Cert.KernelRglruIdeal.nD Cert.KernelRglruIdeal.τ).loc Cert.KernelRglruIdeal.main_arg4) = m ((c.tc : Thread Cert.KernelRglruIdeal.nD Cert.KernelRglruIdeal.τ).loc Cert.KernelRglruIdeal.main_arg4)
          ∧ r.2.mem ((c.tc : Thread Cert.KernelRglruIdeal.nD Cert.KernelRglruIdeal.τ).loc Cert.KernelRglruIdeal.main_arg5) = m ((c.tc : Thread Cert.KernelRglruIdeal.nD Cert.KernelRglruIdeal.τ).loc Cert.KernelRglruIdeal.main_arg5)
          ∧ r.2.mem ((c.tc : Thread Cert.KernelRglruIdeal.nD Cert.KernelRglruIdeal.τ).loc Cert.KernelRglruIdeal.main_arg6) = m ((c.tc : Thread Cert.KernelRglruIdeal.nD Cert.KernelRglruIdeal.τ).loc Cert.KernelRglruIdeal.main_arg6)
          ∧ r.2.mem ((c.tc : Thread Cert.KernelRglruIdeal.nD Cert.KernelRglruIdeal.τ).loc Cert.KernelRglruIdeal.main_arg7) = m ((c.tc : Thread Cert.KernelRglruIdeal.nD Cert.KernelRglruIdeal.τ).loc Cert.KernelRglruIdeal.main_arg7)
          ∧ r.2.mem ((c.tc : Thread Cert.KernelRglruIdeal.nD Cert.KernelRglruIdeal.τ).loc Cert.KernelRglruIdeal.main_arg8) = m ((c.tc : Thread Cert.KernelRglruIdeal.nD Cert.KernelRglruIdeal.τ).loc Cert.KernelRglruIdeal.main_arg8)
          ∧ r.2.mem ((c.tc : Thread Cert.KernelRglruIdeal.nD Cert.KernelRglruIdeal.τ).loc Cert.KernelRglruIdeal.main_arg9) = m ((c.tc : Thread Cert.KernelRglruIdeal.nD Cert.KernelRglruIdeal.τ).loc Cert.KernelRglruIdeal.main_arg9))
      ∧ θ_run (Cert.ReferenceRglruIdeal.defs (F := Ideal)) (onTc (τ := Cert.ReferenceRglruIdeal.τ) (Cert.ReferenceRglruIdeal.main (F := Ideal))) ⟨m', fun _ => 0, g'⟩ (fun r => ∀ c : Dev Cert.ReferenceRglruIdeal.nD,
          r.2.mem ((c.tc : Thread Cert.ReferenceRglruIdeal.nD Cert.ReferenceRglruIdeal.τ).loc Cert.ReferenceRglruIdeal.main_v117) = v0 c
          ∧ r.2.mem ((c.tc : Thread Cert.ReferenceRglruIdeal.nD Cert.ReferenceRglruIdeal.τ).loc Cert.ReferenceRglruIdeal.main_v119) = v1 c
          ∧ r.2.mem ((c.tc : Thread Cert.ReferenceRglruIdeal.nD Cert.ReferenceRglruIdeal.τ).loc Cert.ReferenceRglruIdeal.main_arg0) = m' ((c.tc : Thread Cert.ReferenceRglruIdeal.nD Cert.ReferenceRglruIdeal.τ).loc Cert.ReferenceRglruIdeal.main_arg0)
          ∧ r.2.mem ((c.tc : Thread Cert.ReferenceRglruIdeal.nD Cert.ReferenceRglruIdeal.τ).loc Cert.ReferenceRglruIdeal.main_arg1) = m' ((c.tc : Thread Cert.ReferenceRglruIdeal.nD Cert.ReferenceRglruIdeal.τ).loc Cert.ReferenceRglruIdeal.main_arg1)
          ∧ r.2.mem ((c.tc : Thread Cert.ReferenceRglruIdeal.nD Cert.ReferenceRglruIdeal.τ).loc Cert.ReferenceRglruIdeal.main_arg2) = m' ((c.tc : Thread Cert.ReferenceRglruIdeal.nD Cert.ReferenceRglruIdeal.τ).loc Cert.ReferenceRglruIdeal.main_arg2)
          ∧ r.2.mem ((c.tc : Thread Cert.ReferenceRglruIdeal.nD Cert.ReferenceRglruIdeal.τ).loc Cert.ReferenceRglruIdeal.main_arg3) = m' ((c.tc : Thread Cert.ReferenceRglruIdeal.nD Cert.ReferenceRglruIdeal.τ).loc Cert.ReferenceRglruIdeal.main_arg3)
          ∧ r.2.mem ((c.tc : Thread Cert.ReferenceRglruIdeal.nD Cert.ReferenceRglruIdeal.τ).loc Cert.ReferenceRglruIdeal.main_arg4) = m' ((c.tc : Thread Cert.ReferenceRglruIdeal.nD Cert.ReferenceRglruIdeal.τ).loc Cert.ReferenceRglruIdeal.main_arg4)
          ∧ r.2.mem ((c.tc : Thread Cert.ReferenceRglruIdeal.nD Cert.ReferenceRglruIdeal.τ).loc Cert.ReferenceRglruIdeal.main_arg5) = m' ((c.tc : Thread Cert.ReferenceRglruIdeal.nD Cert.ReferenceRglruIdeal.τ).loc Cert.ReferenceRglruIdeal.main_arg5)
          ∧ r.2.mem ((c.tc : Thread Cert.ReferenceRglruIdeal.nD Cert.ReferenceRglruIdeal.τ).loc Cert.ReferenceRglruIdeal.main_arg6) = m' ((c.tc : Thread Cert.ReferenceRglruIdeal.nD Cert.ReferenceRglruIdeal.τ).loc Cert.ReferenceRglruIdeal.main_arg6)
          ∧ r.2.mem ((c.tc : Thread Cert.ReferenceRglruIdeal.nD Cert.ReferenceRglruIdeal.τ).loc Cert.ReferenceRglruIdeal.main_arg7) = m' ((c.tc : Thread Cert.ReferenceRglruIdeal.nD Cert.ReferenceRglruIdeal.τ).loc Cert.ReferenceRglruIdeal.main_arg7)
          ∧ r.2.mem ((c.tc : Thread Cert.ReferenceRglruIdeal.nD Cert.ReferenceRglruIdeal.τ).loc Cert.ReferenceRglruIdeal.main_arg8) = m' ((c.tc : Thread Cert.ReferenceRglruIdeal.nD Cert.ReferenceRglruIdeal.τ).loc Cert.ReferenceRglruIdeal.main_arg8)
          ∧ r.2.mem ((c.tc : Thread Cert.ReferenceRglruIdeal.nD Cert.ReferenceRglruIdeal.τ).loc Cert.ReferenceRglruIdeal.main_arg9) = m' ((c.tc : Thread Cert.ReferenceRglruIdeal.nD Cert.ReferenceRglruIdeal.τ).loc Cert.ReferenceRglruIdeal.main_arg9))

def Claim : Prop :=
  ∃ (hKernel : Cert.Kernel.Facts) (hKernelIdeal : Cert.KernelIdeal.Facts) (hReferenceIdeal : Cert.ReferenceIdeal.Facts) (hKernelInproj : Cert.KernelInproj.Facts) (hKernelInprojIdeal : Cert.KernelInprojIdeal.Facts) (hReferenceInprojIdeal : Cert.ReferenceInprojIdeal.Facts) (hKernelOutproj : Cert.KernelOutproj.Facts) (hKernelOutprojIdeal : Cert.KernelOutprojIdeal.Facts) (hReferenceOutprojIdeal : Cert.ReferenceOutprojIdeal.Facts) (hKernelRglru : Cert.KernelRglru.Facts) (hKernelRglruIdeal : Cert.KernelRglruIdeal.Facts) (hReferenceRglruIdeal : Cert.ReferenceRglruIdeal.Facts) (hPre_finite : Cert.Pre_finite.Facts) (hPre_finite_router : Cert.Pre_finite_router.Facts) (hPre_finite_lru : Cert.Pre_finite_lru.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelInproj (hKernelInproj := hKernelInproj)
    ∧ quiescent_KernelInprojIdeal (hKernelInprojIdeal := hKernelInprojIdeal)
    ∧ quiescent_ReferenceInprojIdeal (hReferenceInprojIdeal := hReferenceInprojIdeal)
    ∧ quiescent_KernelOutproj (hKernelOutproj := hKernelOutproj)
    ∧ quiescent_KernelOutprojIdeal (hKernelOutprojIdeal := hKernelOutprojIdeal)
    ∧ quiescent_KernelOutprojIdeal_pre_finite_router (hKernelOutprojIdeal := hKernelOutprojIdeal) (hPre_finite_router := hPre_finite_router)
    ∧ quiescent_ReferenceOutprojIdeal (hReferenceOutprojIdeal := hReferenceOutprojIdeal)
    ∧ quiescent_ReferenceOutprojIdeal_pre_finite_router (hReferenceOutprojIdeal := hReferenceOutprojIdeal) (hPre_finite_router := hPre_finite_router)
    ∧ quiescent_KernelRglru (hKernelRglru := hKernelRglru)
    ∧ quiescent_KernelRglruIdeal (hKernelRglruIdeal := hKernelRglruIdeal)
    ∧ quiescent_KernelRglruIdeal_pre_finite_lru (hKernelRglruIdeal := hKernelRglruIdeal) (hPre_finite_lru := hPre_finite_lru)
    ∧ quiescent_ReferenceRglruIdeal (hReferenceRglruIdeal := hReferenceRglruIdeal)
    ∧ quiescent_ReferenceRglruIdeal_pre_finite_lru (hReferenceRglruIdeal := hReferenceRglruIdeal) (hPre_finite_lru := hPre_finite_lru)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelInproj_KernelInprojIdeal
    ∧ algebraic_KernelInprojIdeal_ReferenceInprojIdeal (hKernelInprojIdeal := hKernelInprojIdeal) (hReferenceInprojIdeal := hReferenceInprojIdeal)
    ∧ preserves_KernelOutproj_KernelOutprojIdeal
    ∧ algebraic_KernelOutprojIdeal_ReferenceOutprojIdeal_pre_finite_router (hKernelOutprojIdeal := hKernelOutprojIdeal) (hReferenceOutprojIdeal := hReferenceOutprojIdeal) (hPre_finite_router := hPre_finite_router)
    ∧ preserves_KernelRglru_KernelRglruIdeal
    ∧ algebraic_KernelRglruIdeal_ReferenceRglruIdeal_pre_finite_lru (hKernelRglruIdeal := hKernelRglruIdeal) (hReferenceRglruIdeal := hReferenceRglruIdeal) (hPre_finite_lru := hPre_finite_lru)
-- ==== Pre_finite.lean ====
abbrev S16x2048x6144 : Shape := ⟨3, ![16, 2048, 6144]⟩
abbrev S1x1024 : Shape := ⟨2, ![1, 1024]⟩
abbrev S1x32x2048x1024 : Shape := ⟨4, ![1, 32, 2048, 1024]⟩
abbrev S_ : Shape := ⟨0, ![]⟩

class Facts : Prop where
  bitsLt_bf16_f32 : FTy.bits .bf16 < FTy.bits .f32
  bcast_S_S16x2048x6144 : S_.BroadcastsInDim S16x2048x6144 (![] : Fin 0 → Fin S16x2048x6144.rank)

variable [Facts]

def fn {F : FTy → Type} [FloatOps F] (main_arg0 : FVec F S16x2048x6144 .bf16) (main_arg1 : FVec F S1x1024 .f32) (main_arg2 : FVec F S1x32x2048x1024 .f32) : IVec S16x2048x6144 1 :=
  let main_v0 : FVec F S16x2048x6144 .f32 := (extf .f32 · bitsLt_bf16_f32) main_arg0
  let main_v1 : FVec F S16x2048x6144 .f32 := Host.absf main_v0
  let main_cst : FVec F S_ .f32 := constant S_ .f32 0x7F800000#32
  let main_v2 : FVec F S16x2048x6144 .f32 := broadcastInDim S16x2048x6144 ![] bcast_S_S16x2048x6144 main_cst
  let main_v3 : IVec S16x2048x6144 1 := cmpf .olt main_v1 main_v2
  main_v3
-- ==== Pre_finite_lru.lean ====
abbrev S16x2048x6144 : Shape := ⟨3, ![16, 2048, 6144]⟩
abbrev S1x4x1024 : Shape := ⟨3, ![1, 4, 1024]⟩
abbrev S1x1024 : Shape := ⟨2, ![1, 1024]⟩
abbrev S1x8x128x128 : Shape := ⟨4, ![1, 8, 128, 128]⟩
abbrev S1x32x2048x1024 : Shape := ⟨4, ![1, 32, 2048, 1024]⟩
abbrev S16x2048x1024 : Shape := ⟨3, ![16, 2048, 1024]⟩
abbrev S1024x128 : Shape := ⟨2, ![1024, 128]⟩
abbrev S8x128 : Shape := ⟨2, ![8, 128]⟩
abbrev S32x128 : Shape := ⟨2, ![32, 128]⟩
abbrev S262144x128 : Shape := ⟨2, ![262144, 128]⟩
abbrev S264232x128 : Shape := ⟨2, ![264232, 128]⟩
abbrev S_ : Shape := ⟨0, ![]⟩

class Facts : Prop where
  bitsLt_bf16_f32 : FTy.bits .bf16 < FTy.bits .f32
  slices_S16x2048x6144_S16x2048x1024_0_0_4096 : S16x2048x6144.Slices ![0, 0, 4096] S16x2048x1024
  shapeCasts_S1x8x128x128_S1024x128 : S1x8x128x128.ShapeCasts S1024x128
  shapeCasts_S1x1024_S8x128 : S1x1024.ShapeCasts S8x128
  shapeCasts_S1x4x1024_S32x128 : S1x4x1024.ShapeCasts S32x128
  shapeCasts_S16x2048x1024_S262144x128 : S16x2048x1024.ShapeCasts S262144x128
  concatenates_S1024x128_S1024x128_S8x128_S32x128_S262144x128_S264232x128_d0 : Shape.Concatenates [S1024x128, S1024x128, S8x128, S32x128, S262144x128] S264232x128 0
  bcast_S_S264232x128 : S_.BroadcastsInDim S264232x128 (![] : Fin 0 → Fin S264232x128.rank)

variable [Facts]

def fn {F : FTy → Type} [FloatOps F] (main_arg0 : FVec F S16x2048x6144 .bf16) (main_arg1 : FVec F S1x4x1024 .f32) (main_arg2 : FVec F S1x1024 .f32) (main_arg3 : FVec F S1x8x128x128 .f32) (main_arg4 : FVec F S1x1024 .f32) (main_arg5 : FVec F S1x8x128x128 .f32) (main_arg6 : FVec F S1x1024 .f32) (main_arg7 : FVec F S1x1024 .f32) (main_arg8 : FVec F S1x1024 .f32) (main_arg9 : FVec F S1x32x2048x1024 .f32) : IVec S264232x128 1 :=
  let main_v0 : FVec F S16x2048x6144 .f32 := (extf .f32 · bitsLt_bf16_f32) main_arg0
  let main_v1 : FVec F S16x2048x1024 .f32 := (extractStridedSlice S16x2048x1024 ![0, 0, 4096] · slices_S16x2048x6144_S16x2048x1024_0_0_4096) main_v0
  let main_v2 : FVec F S1024x128 .f32 := shapeCast S1024x128 main_arg3 shapeCasts_S1x8x128x128_S1024x128
  let main_v3 : FVec F S1024x128 .f32 := shapeCast S1024x128 main_arg5 shapeCasts_S1x8x128x128_S1024x128
  let main_v4 : FVec F S8x128 .f32 := shapeCast S8x128 main_arg2 shapeCasts_S1x1024_S8x128
  let main_v5 : FVec F S32x128 .f32 := shapeCast S32x128 main_arg1 shapeCasts_S1x4x1024_S32x128
  let main_v6 : FVec F S262144x128 .f32 := shapeCast S262144x128 main_v1 shapeCasts_S16x2048x1024_S262144x128
  let main_v7 : FVec F S264232x128 .f32 := concatenate S264232x128 0 [⟨S1024x128, main_v2⟩, ⟨S1024x128, main_v3⟩, ⟨S8x128, main_v4⟩, ⟨S32x128, main_v5⟩, ⟨S262144x128, main_v6⟩] concatenates_S1024x128_S1024x128_S8x128_S32x128_S262144x128_S264232x128_d0
  let main_v8 : FVec F S264232x128 .f32 := Host.absf main_v7
  let main_cst : FVec F S_ .f32 := constant S_ .f32 0x7F800000#32
  let main_v9 : FVec F S264232x128 .f32 := broadcastInDim S264232x128 ![] bcast_S_S264232x128 main_cst
  let main_v10 : IVec S264232x128 1 := cmpf .olt main_v8 main_v9
  main_v10
-- ==== Pre_finite_router.lean ====
abbrev S16x2048x1024 : Shape := ⟨3, ![16, 2048, 1024]⟩
abbrev S16x2048x2048 : Shape := ⟨3, ![16, 2048, 2048]⟩
abbrev S1x2048x2048 : Shape := ⟨3, ![1, 2048, 2048]⟩
abbrev S1x2048 : Shape := ⟨2, ![1, 2048]⟩
abbrev S1x2048x4 : Shape := ⟨3, ![1, 2048, 4]⟩
abbrev S1x4 : Shape := ⟨2, ![1, 4]⟩
abbrev S1x2048x32 : Shape := ⟨3, ![1, 2048, 32]⟩
abbrev S1x32 : Shape := ⟨2, ![1, 32]⟩
abbrev S2048 : Shape := ⟨1, ![2048]⟩
abbrev S2048x1 : Shape := ⟨2, ![2048, 1]⟩
abbrev S2048x4 : Shape := ⟨2, ![2048, 4]⟩
abbrev S2048x32 : Shape := ⟨2, ![2048, 32]⟩
abbrev S2048x37 : Shape := ⟨2, ![2048, 37]⟩
abbrev S_ : Shape := ⟨0, ![]⟩

class Facts : Prop where
  shapeCasts_S1x2048_S2048 : S1x2048.ShapeCasts S2048
  bcast_S2048_S2048x1_0 : S2048.BroadcastsInDim S2048x1 (![0] : Fin 1 → Fin S2048x1.rank)
  shapeCasts_S1x2048x4_S2048x4 : S1x2048x4.ShapeCasts S2048x4
  shapeCasts_S1x2048x32_S2048x32 : S1x2048x32.ShapeCasts S2048x32
  concatenates_S2048x1_S2048x4_S2048x32_S2048x37_d1 : Shape.Concatenates [S2048x1, S2048x4, S2048x32] S2048x37 1
  bcast_S_S2048x37 : S_.BroadcastsInDim S2048x37 (![] : Fin 0 → Fin S2048x37.rank)

variable [Facts]

def fn {F : FTy → Type} [FloatOps F] (main_arg0 : FVec F S16x2048x1024 .bf16) (main_arg1 : FVec F S16x2048x1024 .bf16) (main_arg2 : FVec F S16x2048x2048 .f32) (main_arg3 : FVec F S1x2048x2048 .f32) (main_arg4 : FVec F S1x2048 .f32) (main_arg5 : FVec F S1x2048x4 .f32) (main_arg6 : FVec F S1x4 .f32) (main_arg7 : FVec F S1x2048x32 .f32) (main_arg8 : FVec F S1x32 .f32) : IVec S2048x37 1 :=
  let main_v0 : FVec F S2048 .f32 := shapeCast S2048 main_arg4 shapeCasts_S1x2048_S2048
  let main_v1 : FVec F S2048x1 .f32 := broadcastInDim S2048x1 ![0] bcast_S2048_S2048x1_0 main_v0
  let main_v2 : FVec F S2048x4 .f32 := shapeCast S2048x4 main_arg5 shapeCasts_S1x2048x4_S2048x4
  let main_v3 : FVec F S2048x32 .f32 := shapeCast S2048x32 main_arg7 shapeCasts_S1x2048x32_S2048x32
  let main_v4 : FVec F S2048x37 .f32 := concatenate S2048x37 1 [⟨S2048x1, main_v1⟩, ⟨S2048x4, main_v2⟩, ⟨S2048x32, main_v3⟩] concatenates_S2048x1_S2048x4_S2048x32_S2048x37_d1
  let main_v5 : FVec F S2048x37 .f32 := Host.absf main_v4
  let main_cst : FVec F S_ .f32 := constant S_ .f32 0x7F800000#32
  let main_v6 : FVec F S2048x37 .f32 := broadcastInDim S2048x37 ![] bcast_S_S2048x37 main_cst
  let main_v7 : IVec S2048x37 1 := cmpf .olt main_v5 main_v6
  main_v7
-- ==== Kernel.lean ====
abbrev S16x2048x6144 : Shape := ⟨3, ![16, 2048, 6144]⟩
abbrev S1x1024 : Shape := ⟨2, ![1, 1024]⟩
abbrev S1x32x2048x1024 : Shape := ⟨4, ![1, 32, 2048, 1024]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S8 : Shape := ⟨1, ![8]⟩
abbrev S1024 : Shape := ⟨1, ![1024]⟩
abbrev S32x2048x1024 : Shape := ⟨3, ![32, 2048, 1024]⟩
abbrev S16x2048x1024 : Shape := ⟨3, ![16, 2048, 1024]⟩
abbrev S1x2048x512 : Shape := ⟨3, ![1, 2048, 512]⟩
abbrev S1x512 : Shape := ⟨2, ![1, 512]⟩
abbrev S1x2048x1024 : Shape := ⟨3, ![1, 2048, 1024]⟩
abbrev S128x128 : Shape := ⟨2, ![128, 128]⟩
abbrev S16x128x128 : Shape := ⟨3, ![16, 128, 128]⟩
abbrev S2048x1024 : Shape := ⟨2, ![2048, 1024]⟩
abbrev S1 : Shape := ⟨1, ![1]⟩
abbrev S1x128 : Shape := ⟨2, ![1, 128]⟩
abbrev S1x128x128 : Shape := ⟨3, ![1, 128, 128]⟩
abbrev S128 : Shape := ⟨1, ![128]⟩
abbrev S128x1 : Shape := ⟨2, ![128, 1]⟩

abbrev nBuf : Space → Nat
  | .hbm => 38
  | .vmem => 26
  | .smem => 1
  | _ => 0

abbrev bufTy : (tb : Table) → Fin (tcTables nBuf tb) → BufTy
  | .hbm, ⟨0, _⟩ => ⟨S16x2048x6144, .bf16⟩
  | .hbm, ⟨1, _⟩ => ⟨S1x1024, .f32⟩
  | .hbm, ⟨2, _⟩ => ⟨S1x32x2048x1024, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S2048, .f32⟩
  | .hbm, ⟨12, _⟩ => ⟨S2048x1, .f32⟩
  | .hbm, ⟨13, _⟩ => ⟨S1x64, .f32⟩
  | .hbm, ⟨14, _⟩ => ⟨S2048x64, .f32⟩
  | .hbm, ⟨15, _⟩ => ⟨S2048x64, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S2048x128, .f32⟩
  | .hbm, ⟨20, _⟩ => ⟨S2048x64, .f32⟩
  | .hbm, ⟨21, _⟩ => ⟨S2048x64, .f32⟩
  | .hbm, ⟨22, _⟩ => ⟨S2048x64, .f32⟩
  | .hbm, ⟨23, _⟩ => ⟨S2048x128, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S8, .f32⟩
  | .hbm, ⟨32, _⟩ => ⟨S8, .f32⟩
  | .hbm, ⟨33, _⟩ => ⟨S1024, .f32⟩
  | .hbm, ⟨34, _⟩ => ⟨S1x1024, .f32⟩
  | .hbm, ⟨35, _⟩ => ⟨S32x2048x1024, .f32⟩
  | .hbm, ⟨36, _⟩ => ⟨S16x2048x1024, .bf16⟩
  | .hbm, ⟨37, _⟩ => ⟨S32x2048x1024, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S2048x128, .f32⟩
  | .local _ .vmem, ⟨9, _⟩ => ⟨S2048x128, .f32⟩
  | .local _ .vmem, ⟨10, _⟩ => ⟨S1x512, .f32⟩
  | .local _ .vmem, ⟨11, _⟩ => ⟨S1x512, .f32⟩
  | .local _ .vmem, ⟨12, _⟩ => ⟨S1x2048x1024, .f32⟩
  | .local _ .vmem, ⟨13, _⟩ => ⟨S1x2048x1024, .f32⟩
  | .local _ .vmem, ⟨14, _⟩ => ⟨S1x2048x512, .bf16⟩
  | .local _ .vmem, ⟨15, _⟩ => ⟨S1x2048x512, .bf16⟩
  | .local _ .vmem, ⟨16, _⟩ => ⟨S1x2048x1024, .bf16⟩
  | .local _ .vmem, ⟨17, _⟩ => ⟨S1x2048x1024, .bf16⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S2048x128, .bf16⟩
  | .local _ .vmem, ⟨22, _⟩ => ⟨S2048x128, .bf16⟩
  | .local _ .vmem, ⟨23, _⟩ => ⟨S2048x128, .bf16⟩
  | .local _ .vmem, ⟨24, _⟩ => ⟨S16x128x128, .f32⟩
  | .local _ .vmem, ⟨25, _⟩ => ⟨S16x128x128, .bf16⟩
  | .local _ .smem, ⟨0, _⟩ => ⟨S8, .f32⟩
  | _, _ => ⟨S16x2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29_0 : Ref sig .tc := ⟨.hbm, 36, rfl⟩
abbrev main_v29_1 : Ref sig .tc := ⟨.hbm, 37, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![16, 2], ![false, false]⟩

def k0_off1 (i : grid0.Coords) (c0_i32 : BitVec 32) : Fin 1 → Nat :=
  let arg1 : BitVec 32 := BitVec.ofNat 32 (i 1).val
  let c4_i32 : BitVec 32 := 4#32
  let v11 : BitVec 32 := Scalar.muli arg1 c4_i32
  let v12 : BitVec 32 := Scalar.addi v11 c0_i32
  let v13 : Index := Scalar.indexCast v12
  ![v13.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![arg0.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v18.toNat, v28.toNat, c0_i32_11.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v18.toNat, v28.toNat, c0_i32_11.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x2048x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2048x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "neg_log2_e" => some ((-((Real.log 2)⁻¹) : ℝ) : EReal)
  | _ => none
-- ==== ReferenceIdeal.lean ====
abbrev S16x2048x6144 : Shape := ⟨3, ![16, 2048, 6144]⟩
abbrev S1x1024 : Shape := ⟨2, ![1, 1024]⟩
abbrev S1x32x2048x1024 : Shape := ⟨4, ![1, 32, 2048, 1024]⟩
abbrev S2048 : Shape := ⟨1, ![2048]⟩
abbrev S16x2048x1024 : Shape := ⟨3, ![16, 2048, 1024]⟩
abbrev S16x2048x8x128 : Shape := ⟨4, ![16, 2048, 8, 128]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S16x2048x8x64 : Shape := ⟨4, ![16, 2048, 8, 64]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S8x1 : Shape := ⟨2, ![8, 1]⟩
abbrev S8x128 : Shape := ⟨2, ![8, 128]⟩
abbrev S16x16x128x8x128 : Shape := ⟨5, ![16, 16, 128, 8, 128]⟩
abbrev S16x16x8x128x128 : Shape := ⟨5, ![16, 16, 8, 128, 128]⟩
abbrev S1x1x8x128x128 : Shape := ⟨5, ![1, 1, 8, 128, 128]⟩
abbrev S128x8 : Shape := ⟨2, ![128, 8]⟩
abbrev S1x1x128x8x1 : Shape := ⟨5, ![1, 1, 128, 8, 1]⟩
abbrev S16x8x128x128 : Shape := ⟨4, ![16, 8, 128, 128]⟩
abbrev S1x16x8x128x128 : Shape := ⟨5, ![1, 16, 8, 128, 128]⟩
abbrev S1x8x1x1 : Shape := ⟨4, ![1, 8, 1, 1]⟩
abbrev S16x2048x8 : Shape := ⟨3, ![16, 2048, 8]⟩
abbrev S16x2048x8x1 : Shape := ⟨4, ![16, 2048, 8, 1]⟩
abbrev S1024 : Shape := ⟨1, ![1024]⟩
abbrev S1x1x1024 : Shape := ⟨3, ![1, 1, 1024]⟩
abbrev S32x2048x1024 : Shape := ⟨3, ![32, 2048, 1024]⟩

abbrev nBuf : Space → Nat
  | .hbm => 225
  | .vmem => 0
  | .smem => 0
  | _ => 0

abbrev hbmTy0_0 (i : Nat) : BufTy := match i % 128 with
  | 0 => ⟨S16x2048x6144, .bf16⟩
  | 1 => ⟨S1x1024, .f32⟩
  | 2 => ⟨S1x32x2048x1024, .f32⟩
  | 3 => ⟨S2048, .i32⟩
  | 4 => ⟨S16x2048x6144, .f32⟩
  | 5 => ⟨S16x2048x1024, .f32⟩
  | 6 => ⟨S16x2048x1024, .f32⟩
  | 7 => ⟨S16x2048x1024, .f32⟩
  | 8 => ⟨S16x2048x1024, .f32⟩
  | 9 => ⟨S16x2048x8x128, .f32⟩
  | 10 => ⟨S64, .f32⟩
  | 11 => ⟨S64, .f32⟩
  | 12 => ⟨S_, .f32⟩
  | 13 => ⟨S64, .f32⟩
  | 14 => ⟨S64, .f32⟩
  | 15 => ⟨S_, .f32⟩
  | 16 => ⟨S64, .f32⟩
  | 17 => ⟨S64, .f32⟩
  | 18 => ⟨S2048, .f32⟩
  | 19 => ⟨S2048x1, .f32⟩
  | 20 => ⟨S1x64, .f32⟩
  | 21 => ⟨S2048x64, .f32⟩
  | 22 => ⟨S2048x64, .f32⟩
  | 23 => ⟨S2048x64, .f32⟩
  | 24 => ⟨S2048x64, .f32⟩
  | 25 => ⟨S1x2048x1x64, .f32⟩
  | 26 => ⟨S2048x64, .f32⟩
  | 27 => ⟨S1x2048x1x64, .f32⟩
  | 28 => ⟨S16x2048x8x64, .f32⟩
  | 29 => ⟨S16x2048x8x64, .f32⟩
  | 30 => ⟨S16x2048x8x64, .f32⟩
  | 31 => ⟨S16x2048x8x64, .f32⟩
  | 32 => ⟨S16x2048x8x64, .f32⟩
  | 33 => ⟨S16x2048x8x64, .f32⟩
  | 34 => ⟨S16x2048x8x64, .f32⟩
  | 35 => ⟨S16x2048x8x64, .f32⟩
  | 36 => ⟨S16x2048x8x64, .f32⟩
  | 37 => ⟨S16x2048x8x64, .f32⟩
  | 38 => ⟨S16x2048x8x64, .f32⟩
  | 39 => ⟨S16x2048x8x64, .f32⟩
  | 40 => ⟨S16x2048x8x128, .f32⟩
  | 41 => ⟨S_, .f32⟩
  | 42 => ⟨S16x2048x8x128, .f32⟩
  | 43 => ⟨S16x2048x8x128, .f32⟩
  | 44 => ⟨S16x2048x8x128, .f32⟩
  | 45 => ⟨S64, .f32⟩
  | 46 => ⟨S64, .f32⟩
  | 47 => ⟨S_, .f32⟩
  | 48 => ⟨S64, .f32⟩
  | 49 => ⟨S64, .f32⟩
  | 50 => ⟨S_, .f32⟩
  | 51 => ⟨S64, .f32⟩
  | 52 => ⟨S64, .f32⟩
  | 53 => ⟨S2048, .f32⟩
  | 54 => ⟨S2048x1, .f32⟩
  | 55 => ⟨S1x64, .f32⟩
  | 56 => ⟨S2048x64, .f32⟩
  | 57 => ⟨S2048x64, .f32⟩
  | 58 => ⟨S2048x64, .f32⟩
  | 59 => ⟨S2048x64, .f32⟩
  | 60 => ⟨S1x2048x1x64, .f32⟩
  | 61 => ⟨S2048x64, .f32⟩
  | 62 => ⟨S1x2048x1x64, .f32⟩
  | 63 => ⟨S16x2048x8x64, .f32⟩
  | 64 => ⟨S16x2048x8x64, .f32⟩
  | 65 => ⟨S16x2048x8x64, .f32⟩
  | 66 => ⟨S16x2048x8x64, .f32⟩
  | 67 => ⟨S16x2048x8x64, .f32⟩
  | 68 => ⟨S16x2048x8x64, .f32⟩
  | 69 => ⟨S16x2048x8x64, .f32⟩
  | 70 => ⟨S16x2048x8x64, .f32⟩
  | 71 => ⟨S16x2048x8x64, .f32⟩
  | 72 => ⟨S16x2048x8x64, .f32⟩
  | 73 => ⟨S16x2048x8x64, .f32⟩
  | 74 => ⟨S16x2048x8x64, .f32⟩
  | 75 => ⟨S16x2048x8x128, .f32⟩
  | 76 => ⟨S16x2048x8x128, .f32⟩
  | 77 => ⟨S8, .f32⟩
  | 78 => ⟨S_, .f32⟩
  | 79 => ⟨S8, .f32⟩
  | 80 => ⟨S8, .f32⟩
  | 81 => ⟨S_, .f32⟩
  | 82 => ⟨S8, .f32⟩
  | 83 => ⟨S8, .f32⟩
  | 84 => ⟨S8, .f32⟩
  | 85 => ⟨S8, .f32⟩
  | 86 => ⟨S128, .f32⟩
  | 87 => ⟨S128x1, .f32⟩
  | 88 => ⟨S1x128, .f32⟩
  | 89 => ⟨S128x128, .f32⟩
  | 90 => ⟨S128x128, .f32⟩
  | 91 => ⟨S128x128, .f32⟩
  | 92 => ⟨S1x128x128, .f32⟩
  | 93 => ⟨S_, .f32⟩
  | 94 => ⟨S1x128x128, .f32⟩
  | 95 => ⟨S1x128x128, .i1⟩
  | 96 => ⟨S_, .f32⟩
  | 97 => ⟨S128x128, .f32⟩
  | 98 => ⟨S128x128, .f32⟩
  | 99 => ⟨S1x128x128, .f32⟩
  | 100 => ⟨S8x1x1, .f32⟩
  | 101 => ⟨S8x128x128, .f32⟩
  | 102 => ⟨S8x128x128, .f32⟩
  | 103 => ⟨S8x128x128, .f32⟩
  | 104 => ⟨S8x128x128, .f32⟩
  | 105 => ⟨S_, .f32⟩
  | 106 => ⟨S_, .f32⟩
  | 107 => ⟨S8x128x128, .i1⟩
  | 108 => ⟨S8x128x128, .f32⟩
  | 109 => ⟨S8x128x128, .f32⟩
  | 110 => ⟨S_, .f32⟩
  | 111 => ⟨S128, .f32⟩
  | 112 => ⟨S128, .f32⟩
  | 113 => ⟨S1x128, .f32⟩
  | 114 => ⟨S8x1, .f32⟩
  | 115 => ⟨S8x128, .f32⟩
  | 116 => ⟨S8x128, .f32⟩
  | 117 => ⟨S8x128, .f32⟩
  | 118 => ⟨S8x128, .f32⟩
  | 119 => ⟨S_, .f32⟩
  | 120 => ⟨S128, .f32⟩
  | 121 => ⟨S128, .f32⟩
  | 122 => ⟨S1x128, .f32⟩
  | 123 => ⟨S8x1, .f32⟩
  | 124 => ⟨S8x128, .f32⟩
  | 125 => ⟨S8x128, .f32⟩
  | 126 => ⟨S8x128, .f32⟩
  | 127 => ⟨S8x128, .f32⟩
  | _ => ⟨S16x2048x6144, .bf16⟩

abbrev hbmTy0_1 (i : Nat) : BufTy := match i % 128 with
  | 0 => ⟨S_, .f32⟩
  | 1 => ⟨S8, .f32⟩
  | 2 => ⟨S8, .f32⟩
  | 3 => ⟨S8, .f32⟩
  | 4 => ⟨S16x16x128x8x128, .f32⟩
  | 5 => ⟨S16x16x128x8x128, .f32⟩
  | 6 => ⟨S16x16x128x8x128, .f32⟩
  | 7 => ⟨S16x16x8x128x128, .f32⟩
  | 8 => ⟨S1x1x8x128x128, .f32⟩
  | 9 => ⟨S16x16x8x128x128, .f32⟩
  | 10 => ⟨S16x16x8x128x128, .f32⟩
  | 11 => ⟨S16x16x8x128x128, .f32⟩
  | 12 => ⟨S16x16x128x8x128, .f32⟩
  | 13 => ⟨S128x8, .f32⟩
  | 14 => ⟨S1x1x128x8x1, .f32⟩
  | 15 => ⟨S16x16x128x8x128, .f32⟩
  | 16 => ⟨S16x16x128x8x128, .f32⟩
  | 17 => ⟨S16x16x8x128x128, .f32⟩
  | 18 => ⟨S_, .f32⟩
  | 19 => ⟨S16x8x128x128, .f32⟩
  | 20 => ⟨S_, .f32⟩
  | 21 => ⟨S16x16x8x128x128, .f32⟩
  | 22 => ⟨S_, .i32⟩
  | 23 => ⟨S16x16x8x128x128, .f32⟩
  | 24 => ⟨S8, .f32⟩
  | 25 => ⟨S_, .i32⟩
  | 26 => ⟨S16x8x128x128, .f32⟩
  | 27 => ⟨S16x16x8x128x128, .f32⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S1x16x8x128x128, .f32⟩
  | 35 => ⟨S16x8x128x128, .f32⟩
  | 36 => ⟨S1x8x1x1, .f32⟩
  | 37 => ⟨S16x8x128x128, .f32⟩
  | 38 => ⟨S16x8x128x128, .f32⟩
  | 39 => ⟨S16x8x128x128, .f32⟩
  | 40 => ⟨S1x16x8x128x128, .f32⟩
  | 41 => ⟨S_, .i32⟩
  | 42 => ⟨S_, .i32⟩
  | 43 => ⟨S_, .i32⟩
  | 44 => ⟨S_, .i32⟩
  | 45 => ⟨S16x16x8x128x128, .f32⟩
  | 46 => ⟨S_, .i32⟩
  | 47 => ⟨S_, .i32⟩
  | 48 => ⟨S128x8, .f32⟩
  | 49 => ⟨S1x1x128x8x1, .f32⟩
  | 50 => ⟨S16x16x128x8x128, .f32⟩
  | 51 => ⟨S16x16x128x8x128, .f32⟩
  | 52 => ⟨S16x16x8x128x128, .f32⟩
  | 53 => ⟨S16x16x128x8x128, .f32⟩
  | 54 => ⟨S16x16x128x8x128, .f32⟩
  | 55 => ⟨S16x2048x8x128, .f32⟩
  | 56 => ⟨S_, .f32⟩
  | 57 => ⟨S16x2048x8, .f32⟩
  | 58 => ⟨S16x2048x8x1, .f32⟩
  | 59 => ⟨S_, .f32⟩
  | 60 => ⟨S16x2048x8x1, .f32⟩
  | 61 => ⟨S16x2048x8x1, .f32⟩
  | 62 => ⟨S16x2048x8x128, .f32⟩
  | 63 => ⟨S16x2048x8x128, .f32⟩
  | 64 => ⟨S16x2048x8x128, .f32⟩
  | 65 => ⟨S_, .f32⟩
  | 66 => ⟨S16x2048x8, .f32⟩
  | 67 => ⟨S16x2048x8x1, .f32⟩
  | 68 => ⟨S_, .f32⟩
  | 69 => ⟨S16x2048x8x1, .f32⟩
  | 70 => ⟨S16x2048x8x1, .f32⟩
  | 71 => ⟨S16x2048x8x128, .f32⟩
  | 72 => ⟨S16x2048x8x128, .f32⟩
  | 73 => ⟨S_, .f32⟩
  | 74 => ⟨S16x2048x8x1, .f32⟩
  | 75 => ⟨S16x2048x8x1, .f32⟩
  | 76 => ⟨S16x2048x8x1, .f32⟩
  | 77 => ⟨S16x2048x8x128, .f32⟩
  | 78 => ⟨S16x2048x8x128, .f32⟩
  | 79 => ⟨S16x2048x1024, .f32⟩
  | 80 => ⟨S1024, .f32⟩
  | 81 => ⟨S1x1x1024, .f32⟩
  | 82 => ⟨S16x2048x1024, .f32⟩
  | 83 => ⟨S16x2048x1024, .f32⟩
  | 84 => ⟨S16x2048x1024, .f32⟩
  | 85 => ⟨S16x2048x1024, .f32⟩
  | 86 => ⟨S_, .f32⟩
  | 87 => ⟨S16x2048x1024, .f32⟩
  | 88 => ⟨S16x2048x1024, .f32⟩
  | 89 => ⟨S_, .f32⟩
  | 90 => ⟨S16x2048x1024, .f32⟩
  | 91 => ⟨S16x2048x1024, .f32⟩
  | 92 => ⟨S16x2048x1024, .f32⟩
  | 93 => ⟨S16x2048x1024, .f32⟩
  | 94 => ⟨S16x2048x1024, .bf16⟩
  | 95 => ⟨S32x2048x1024, .f32⟩
  | 96 => ⟨S32x2048x1024, .bf16⟩
  | _ => ⟨S16x2048x6144, .bf16⟩

abbrev hbmTy (i : Nat) : BufTy := match i / 128 with
  | 0 => hbmTy0_0 i
  | 1 => hbmTy0_1 i
  | _ => ⟨S16x2048x6144, .bf16⟩

abbrev bufTy : (tb : Table) → Fin (tcTables nBuf tb) → BufTy
  | .hbm, ⟨i, _⟩ => hbmTy i
  | _, _ => ⟨S16x2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_cst_1 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst_2 : Ref sig .tc := ⟨.hbm, 47, rfl⟩
abbrev main_v41 : Ref sig .tc := ⟨.hbm, 48, rfl⟩
abbrev main_v42 : Ref sig .tc := ⟨.hbm, 49, rfl⟩
abbrev main_cst_3 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_cst_4 : Ref sig .tc := ⟨.hbm, 78, rfl⟩
abbrev main_v70 : Ref sig .tc := ⟨.hbm, 79, rfl⟩
abbrev main_v71 : Ref sig .tc := ⟨.hbm, 80, rfl⟩
abbrev main_cst_5 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_cst_6 : Ref sig .tc := ⟨.hbm, 93, rfl⟩
abbrev main_v83 : Ref sig .tc := ⟨.hbm, 94, rfl⟩
abbrev main_v84 : Ref sig .tc := ⟨.hbm, 95, rfl⟩
abbrev main_cst_7 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_cst_8 : Ref sig .tc := ⟨.hbm, 105, rfl⟩
abbrev main_call0_v0 : Ref sig .tc := ⟨.hbm, 106, rfl⟩
abbrev main_call0_v1 : Ref sig .tc := ⟨.hbm, 107, rfl⟩
abbrev main_call0_v2 : Ref sig .tc := ⟨.hbm, 108, rfl⟩
abbrev main_v93 : Ref sig .tc := ⟨.hbm, 109, rfl⟩
abbrev main_cst_9 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_cst_10 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_cst_11 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_cst_12 : Ref sig .tc := ⟨.hbm, 146, rfl⟩
abbrev main_v127 : Ref sig .tc := ⟨.hbm, 147, rfl⟩
abbrev main_cst_13 : Ref sig .tc := ⟨.hbm, 148, rfl⟩
abbrev main_v128 : Ref sig .tc := ⟨.hbm, 149, rfl⟩
abbrev main_c : Ref sig .tc := ⟨.hbm, 150, rfl⟩
abbrev main_v129_0 : Ref sig .tc := ⟨.hbm, 151, rfl⟩
abbrev main_v129_1 : Ref sig .tc := ⟨.hbm, 152, rfl⟩
abbrev main_v129_2 : Ref sig .tc := ⟨.hbm, 153, rfl⟩
abbrev main_v129_3 : Ref sig .tc := ⟨.hbm, 154, rfl⟩
abbrev main_v129_4 : Ref sig .tc := ⟨.hbm, 155, rfl⟩
abbrev main_while0c_c_23 : Ref sig .tc := ⟨.hbm, 156, rfl⟩
abbrev main_while0c_v166 : Ref sig .tc := ⟨.hbm, 157, rfl⟩
abbrev main_while0b_call1_c : Ref sig .tc := ⟨.hbm, 158, rfl⟩
abbrev main_while0b_call1_c_0 : Ref sig .tc := ⟨.hbm, 159, rfl⟩
abbrev main_while0b_call1_c_1 : Ref sig .tc := ⟨.hbm, 160, rfl⟩
abbrev main_while0b_call1_c_2 : Ref sig .tc := ⟨.hbm, 161, rfl⟩
abbrev main_while0b_call1_v0 : Ref sig .tc := ⟨.hbm, 162, rfl⟩
abbrev main_while0b_v166 : Ref sig .tc := ⟨.hbm, 163, rfl⟩
abbrev main_while0b_v167 : Ref sig .tc := ⟨.hbm, 164, rfl⟩
abbrev main_while0b_v168 : Ref sig .tc := ⟨.hbm, 165, rfl⟩
abbrev main_while0b_v169 : Ref sig .tc := ⟨.hbm, 166, rfl⟩
abbrev main_while0b_v170 : Ref sig .tc := ⟨.hbm, 167, rfl⟩
abbrev main_while0b_call2_v0 : Ref sig .tc := ⟨.hbm, 168, rfl⟩
abbrev main_while0b_call2_c : Ref sig .tc := ⟨.hbm, 169, rfl⟩
abbrev main_while0b_call2_c_0 : Ref sig .tc := ⟨.hbm, 170, rfl⟩
abbrev main_while0b_call2_c_1 : Ref sig .tc := ⟨.hbm, 171, rfl⟩
abbrev main_while0b_call2_c_2 : Ref sig .tc := ⟨.hbm, 172, rfl⟩
abbrev main_while0b_v171 : Ref sig .tc := ⟨.hbm, 173, rfl⟩
abbrev main_while0b_c_23 : Ref sig .tc := ⟨.hbm, 174, rfl⟩
abbrev main_while0b_v172 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_cst_14 : Ref sig .tc := ⟨.hbm, 184, rfl⟩
abbrev main_v138 : Ref sig .tc := ⟨.hbm, 185, rfl⟩
abbrev main_v139 : Ref sig .tc := ⟨.hbm, 186, rfl⟩
abbrev main_cst_15 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_cst_16 : Ref sig .tc := ⟨.hbm, 193, rfl⟩
abbrev main_v145 : Ref sig .tc := ⟨.hbm, 194, rfl⟩
abbrev main_v146 : Ref sig .tc := ⟨.hbm, 195, rfl⟩
abbrev main_cst_17 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_cst_18 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_call3_v0 : Ref sig .tc := ⟨.hbm, 212, rfl⟩
abbrev main_call3_v1 : Ref sig .tc := ⟨.hbm, 213, rfl⟩
abbrev main_call3_cst : Ref sig .tc := ⟨.hbm, 214, rfl⟩
abbrev main_call3_v2 : Ref sig .tc := ⟨.hbm, 215, rfl⟩
abbrev main_call3_v3 : Ref sig .tc := ⟨.hbm, 216, rfl⟩
abbrev main_call3_cst_0 : Ref sig .tc := ⟨.hbm, 217, rfl⟩
abbrev main_call3_v4 : Ref sig .tc := ⟨.hbm, 218, rfl⟩
abbrev main_call3_v5 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩

abbrev nD : Nat := 1
abbrev τ : Topo := Topo.v7x

variable {F : FTy → Type} [FloatOps F]

abbrev main_while0_count : Scf.Loop 32 := ⟨0#32, 16#32, 1#32⟩
-- ==== KernelInproj.lean ====
abbrev S16x2048x2048 : Shape := ⟨3, ![16, 2048, 2048]⟩
abbrev S1x2048 : Shape := ⟨2, ![1, 2048]⟩
abbrev S1x2048x6144 : Shape := ⟨3, ![1, 2048, 6144]⟩
abbrev S32768x2048 : Shape := ⟨2, ![32768, 2048]⟩
abbrev S2048 : Shape := ⟨1, ![2048]⟩
abbrev S2048x6144 : Shape := ⟨2, ![2048, 6144]⟩
abbrev S32768x6144 : Shape := ⟨2, ![32768, 6144]⟩
abbrev S1024x2048 : Shape := ⟨2, ![1024, 2048]⟩
abbrev S2048x2048 : Shape := ⟨2, ![2048, 2048]⟩
abbrev S1024 : Shape := ⟨1, ![1024]⟩
abbrev S1024x1 : Shape := ⟨2, ![1024, 1]⟩

abbrev nBuf : Space → Nat
  | .hbm => 9
  | .vmem => 8
  | .smem => 0
  | _ => 0

abbrev bufTy : (tb : Table) → Fin (tcTables nBuf tb) → BufTy
  | .hbm, ⟨0, _⟩ => ⟨S16x2048x2048, .f32⟩
  | .hbm, ⟨1, _⟩ => ⟨S1x2048, .f32⟩
  | .hbm, ⟨2, _⟩ => ⟨S1x2048x6144, .f32⟩
  | .hbm, ⟨3, _⟩ => ⟨S32768x2048, .f32⟩
  | .hbm, ⟨4, _⟩ => ⟨S2048, .f32⟩
  | .hbm, ⟨5, _⟩ => ⟨S1x2048, .f32⟩
  | .hbm, ⟨6, _⟩ => ⟨S2048x6144, .f32⟩
  | .hbm, ⟨7, _⟩ => ⟨S2048x6144, .bf16⟩
  | .hbm, ⟨8, _⟩ => ⟨S32768x6144, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceInprojIdeal.lean ====
abbrev S16x2048x2048 : Shape := ⟨3, ![16, 2048, 2048]⟩
abbrev S1x2048 : Shape := ⟨2, ![1, 2048]⟩
abbrev S1x2048x6144 : Shape := ⟨3, ![1, 2048, 6144]⟩
abbrev S2048 : Shape := ⟨1, ![2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S2048x6144 : Shape := ⟨2, ![2048, 6144]⟩
abbrev S16x2048x6144 : Shape := ⟨3, ![16, 2048, 6144]⟩
abbrev S32768x6144 : Shape := ⟨2, ![32768, 6144]⟩

abbrev nBuf : Space → Nat
  | .hbm => 24
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S1x2048, .f32⟩
  | .hbm, ⟨2, _⟩ => ⟨S1x2048x6144, .f32⟩
  | .hbm, ⟨3, _⟩ => ⟨S2048, .f32⟩
  | .hbm, ⟨4, _⟩ => ⟨S16x2048x2048, .f32⟩
  | .hbm, ⟨5, _⟩ => ⟨S_, .f32⟩
  | .hbm, ⟨6, _⟩ => ⟨S16x2048, .f32⟩
  | .hbm, ⟨7, _⟩ => ⟨S16x2048x1, .f32⟩
  | .hbm, ⟨8, _⟩ => ⟨S_, .f32⟩
  | .hbm, ⟨9, _⟩ => ⟨S16x2048x1, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S16x2048x1, .f32⟩
  | .hbm, ⟨15, _⟩ => ⟨S16x2048x2048, .f32⟩
  | .hbm, ⟨16, _⟩ => ⟨S16x2048x2048, .f32⟩
  | .hbm, ⟨17, _⟩ => ⟨S1x1x2048, .f32⟩
  | .hbm, ⟨18, _⟩ => ⟨S16x2048x2048, .f32⟩
  | .hbm, ⟨19, _⟩ => ⟨S16x2048x2048, .f32⟩
  | .hbm, ⟨20, _⟩ => ⟨S2048x6144, .f32⟩
  | .hbm, ⟨21, _⟩ => ⟨S16x2048x6144, .f32⟩
  | .hbm, ⟨22, _⟩ => ⟨S32768x6144, .f32⟩
  | .hbm, ⟨23, _⟩ => ⟨S32768x6144, .bf16⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== KernelOutproj.lean ====
abbrev S16x2048x1024 : Shape := ⟨3, ![16, 2048, 1024]⟩
abbrev S16x2048x2048 : Shape := ⟨3, ![16, 2048, 2048]⟩
abbrev S1x2048x2048 : Shape := ⟨3, ![1, 2048, 2048]⟩
abbrev S1x2048 : Shape := ⟨2, ![1, 2048]⟩
abbrev S1x2048x4 : Shape := ⟨3, ![1, 2048, 4]⟩
abbrev S1x4 : Shape := ⟨2, ![1, 4]⟩
abbrev S1x2048x32 : Shape := ⟨3, ![1, 2048, 32]⟩
abbrev S1x32 : Shape := ⟨2, ![1, 32]⟩
abbrev S2048x4 : Shape := ⟨2, ![2048, 4]⟩
abbrev S2048x32 : Shape := ⟨2, ![2048, 32]⟩
abbrev S_ : Shape := ⟨0, ![]⟩
abbrev S2048x92 : Shape := ⟨2, ![2048, 92]⟩
abbrev S2048x128 : Shape := ⟨2, ![2048, 128]⟩
abbrev S4 : Shape := ⟨1, ![4]⟩
abbrev S32 : Shape := ⟨1, ![32]⟩
abbrev S92 : Shape := ⟨1, ![92]⟩
abbrev S128 : Shape := ⟨1, ![128]⟩
abbrev S1x128 : Shape := ⟨2, ![1, 128]⟩
abbrev S32768x1024 : Shape := ⟨2, ![32768, 1024]⟩
abbrev S32768x2048 : Shape := ⟨2, ![32768, 2048]⟩
abbrev S2048x2048 : Shape := ⟨2, ![2048, 2048]⟩
abbrev S2048 : Shape := ⟨1, ![2048]⟩
abbrev S2048x256 : Shape := ⟨2, ![2048, 256]⟩
abbrev S32768x16x128 : Shape := ⟨3, ![32768, 16, 128]⟩
abbrev S128x32768 : Shape := ⟨2, ![128, 32768]⟩
abbrev S512x1024 : Shape := ⟨2, ![512, 1024]⟩
abbrev S512x2048 : Shape := ⟨2, ![512, 2048]⟩
abbrev S512x16x128 : Shape := ⟨3, ![512, 16, 128]⟩
abbrev S128x512 : Shape := ⟨2, ![128, 512]⟩
abbrev S1024x2048 : Shape := ⟨2, ![1024, 2048]⟩
abbrev S512 : Shape := ⟨1, ![512]⟩
abbrev S512x1 : Shape := ⟨2, ![512, 1]⟩
abbrev S512x128 : Shape := ⟨2, ![512, 128]⟩
abbrev S1x512x128 : Shape := ⟨3, ![1, 512, 128]⟩
abbrev S16x512x128 : Shape := ⟨3, ![16, 512, 128]⟩
abbrev S512x256 : Shape := ⟨2, ![512, 256]⟩

abbrev nBuf : Space → Nat
  | .hbm => 35
  | .vmem => 16
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x1024, .bf16⟩
  | .hbm, ⟨2, _⟩ => ⟨S16x2048x2048, .f32⟩
  | .hbm, ⟨3, _⟩ => ⟨S1x2048x2048, .f32⟩
  | .hbm, ⟨4, _⟩ => ⟨S1x2048, .f32⟩
  | .hbm, ⟨5, _⟩ => ⟨S1x2048x4, .f32⟩
  | .hbm, ⟨6, _⟩ => ⟨S1x4, .f32⟩
  | .hbm, ⟨7, _⟩ => ⟨S1x2048x32, .f32⟩
  | .hbm, ⟨8, _⟩ => ⟨S1x32, .f32⟩
  | .hbm, ⟨9, _⟩ => ⟨S2048x4, .f32⟩
  | .hbm, ⟨10, _⟩ => ⟨S2048x32, .f32⟩
  | .hbm, ⟨11, _⟩ => ⟨S_, .f32⟩
  | .hbm, ⟨12, _⟩ => ⟨S2048x92, .f32⟩
  | .hbm, ⟨13, _⟩ => ⟨S2048x128, .f32⟩
  | .hbm, ⟨14, _⟩ => ⟨S4, .f32⟩
  | .hbm, ⟨15, _⟩ => ⟨S32, .f32⟩
  | .hbm, ⟨16, _⟩ => ⟨S_, .f32⟩
  | .hbm, ⟨17, _⟩ => ⟨S92, .f32⟩
  | .hbm, ⟨18, _⟩ => ⟨S128, .f32⟩
  | .hbm, ⟨19, _⟩ => ⟨S1x128, .f32⟩
  | .hbm, ⟨20, _⟩ => ⟨S2048x128, .bf16⟩
  | .hbm, ⟨21, _⟩ => ⟨S2048x128, .f32⟩
  | .hbm, ⟨22, _⟩ => ⟨S2048x128, .f32⟩
  | .hbm, ⟨23, _⟩ => ⟨S2048x128, .bf16⟩
  | .hbm, ⟨24, _⟩ => ⟨S32768x1024, .bf16⟩
  | .hbm, ⟨25, _⟩ => ⟨S32768x1024, .bf16⟩
  | .hbm, ⟨26, _⟩ => ⟨S32768x2048, .f32⟩
  | .hbm, ⟨27, _⟩ => ⟨S2048x2048, .f32⟩
  | .hbm, ⟨28, _⟩ => ⟨S2048x2048, .bf16⟩
  | .hbm, ⟨29, _⟩ => ⟨S2048, .f32⟩
  | .hbm, ⟨30, _⟩ => ⟨S1x2048, .f32⟩
  | .hbm, ⟨31, _⟩ => ⟨S2048x256, .bf16⟩
  | .hbm, ⟨32, _⟩ => ⟨S32768x2048, .f32⟩
  | .hbm, ⟨33, _⟩ => ⟨S32768x16x128, .bf16⟩
  | .hbm, ⟨34, _⟩ => ⟨S128x32768, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S2048x2048, .bf16⟩
  | .local _ .vmem, ⟨7, _⟩ => ⟨S1x2048, .f32⟩
  | .local _ .vmem, ⟨8, _⟩ => ⟨S2048x256, .bf16⟩
  | .local _ .vmem, ⟨9, _⟩ => ⟨S1x128, .f32⟩
  | .local _ .vmem, ⟨10, _⟩ => ⟨S512x2048, .f32⟩
  | .local _ .vmem, ⟨11, _⟩ => ⟨S512x2048, .f32⟩
  | .local _ .vmem, ⟨12, _⟩ => ⟨S512x16x128, .bf16⟩
  | .local _ .vmem, ⟨13, _⟩ => ⟨S512x16x128, .bf16⟩
  | .local _ .vmem, ⟨14, _⟩ => ⟨S128x512, .f32⟩
  | .local _ .vmem, ⟨15, _⟩ => ⟨S128x512, .f32⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21_0 : Ref sig .tc := ⟨.hbm, 32, rfl⟩
abbrev main_v21_1 : Ref sig .tc := ⟨.hbm, 33, rfl⟩
abbrev main_v21_2 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x16x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceOutprojIdeal.lean ====
abbrev S16x2048x1024 : Shape := ⟨3, ![16, 2048, 1024]⟩
abbrev S16x2048x2048 : Shape := ⟨3, ![16, 2048, 2048]⟩
abbrev S1x2048x2048 : Shape := ⟨3, ![1, 2048, 2048]⟩
abbrev S1x2048 : Shape := ⟨2, ![1, 2048]⟩
abbrev S1x2048x4 : Shape := ⟨3, ![1, 2048, 4]⟩
abbrev S1x4 : Shape := ⟨2, ![1, 4]⟩
abbrev S1x2048x32 : Shape := ⟨3, ![1, 2048, 32]⟩
abbrev S1x32 : Shape := ⟨2, ![1, 32]⟩
abbrev S2048x2048 : Shape := ⟨2, ![2048, 2048]⟩
abbrev S2048 : Shape := ⟨1, ![2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S32768x2048 : Shape := ⟨2, ![32768, 2048]⟩
abbrev S32768x92 : Shape := ⟨2, ![32768, 92]⟩
abbrev S2048x4 : Shape := ⟨2, ![2048, 4]⟩
abbrev S32768x4 : Shape := ⟨2, ![32768, 4]⟩
abbrev S4 : Shape := ⟨1, ![4]⟩
abbrev S2048x32 : Shape := ⟨2, ![2048, 32]⟩
abbrev S32768x32 : Shape := ⟨2, ![32768, 32]⟩
abbrev S32 : Shape := ⟨1, ![32]⟩
abbrev S32768x128 : Shape := ⟨2, ![32768, 128]⟩
abbrev S32768x16x128 : Shape := ⟨3, ![32768, 16, 128]⟩
abbrev S128x32768 : Shape := ⟨2, ![128, 32768]⟩

abbrev nBuf : Space → Nat
  | .hbm => 51
  | .vmem => 0
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x1024, .bf16⟩
  | .hbm, ⟨2, _⟩ => ⟨S16x2048x2048, .f32⟩
  | .hbm, ⟨3, _⟩ => ⟨S1x2048x2048, .f32⟩
  | .hbm, ⟨4, _⟩ => ⟨S1x2048, .f32⟩
  | .hbm, ⟨5, _⟩ => ⟨S1x2048x4, .f32⟩
  | .hbm, ⟨6, _⟩ => ⟨S1x4, .f32⟩
  | .hbm, ⟨7, _⟩ => ⟨S1x2048x32, .f32⟩
  | .hbm, ⟨8, _⟩ => ⟨S1x32, .f32⟩
  | .hbm, ⟨9, _⟩ => ⟨S16x2048x2048, .bf16⟩
  | .hbm, ⟨10, _⟩ => ⟨S16x2048x2048, .f32⟩
  | .hbm, ⟨11, _⟩ => ⟨S2048x2048, .f32⟩
  | .hbm, ⟨12, _⟩ => ⟨S16x2048x2048, .f32⟩
  | .hbm, ⟨13, _⟩ => ⟨S16x2048x2048, .f32⟩
  | .hbm, ⟨14, _⟩ => ⟨S2048, .f32⟩
  | .hbm, ⟨15, _⟩ => ⟨S16x2048x2048, .f32⟩
  | .hbm, ⟨16, _⟩ => ⟨S_, .f32⟩
  | .hbm, ⟨17, _⟩ => ⟨S16x2048, .f32⟩
  | .hbm, ⟨18, _⟩ => ⟨S16x2048x1, .f32⟩
  | .hbm, ⟨19, _⟩ => ⟨S_, .f32⟩
  | .hbm, ⟨20, _⟩ => ⟨S16x2048x1, .f32⟩
  | .hbm, ⟨21, _⟩ => ⟨S16x2048x1, .f32⟩
  | .hbm, ⟨22, _⟩ => ⟨S_, .f32⟩
  | .hbm, ⟨23, _⟩ => ⟨S16x2048x1, .f32⟩
  | .hbm, ⟨24, _⟩ => ⟨S16x2048x1, .f32⟩
  | .hbm, ⟨25, _⟩ => ⟨S16x2048x1, .f32⟩
  | .hbm, ⟨26, _⟩ => ⟨S16x2048x2048, .f32⟩
  | .hbm, ⟨27, _⟩ => ⟨S16x2048x2048, .f32⟩
  | .hbm, ⟨28, _⟩ => ⟨S1x1x2048, .f32⟩
  | .hbm, ⟨29, _⟩ => ⟨S16x2048x2048, .f32⟩
  | .hbm, ⟨30, _⟩ => ⟨S16x2048x2048, .f32⟩
  | .hbm, ⟨31, _⟩ => ⟨S32768x2048, .f32⟩
  | .hbm, ⟨32, _⟩ => ⟨S_, .f32⟩
  | .hbm, ⟨33, _⟩ => ⟨S32768x92, .f32⟩
  | .hbm, ⟨34, _⟩ => ⟨S2048x4, .f32⟩
  | .hbm, ⟨35, _⟩ => ⟨S32768x4, .f32⟩
  | .hbm, ⟨36, _⟩ => ⟨S4, .f32⟩
  | .hbm, ⟨37, _⟩ => ⟨S1x4, .f32⟩
  | .hbm, ⟨38, _⟩ => ⟨S32768x4, .f32⟩
  | .hbm, ⟨39, _⟩ => ⟨S32768x4, .f32⟩
  | .hbm, ⟨40, _⟩ => ⟨S2048x32, .f32⟩
  | .hbm, ⟨41, _⟩ => ⟨S32768x32, .f32⟩
  | .hbm, ⟨42, _⟩ => ⟨S32, .f32⟩
  | .hbm, ⟨43, _⟩ => ⟨S1x32, .f32⟩
  | .hbm, ⟨44, _⟩ => ⟨S32768x32, .f32⟩
  | .hbm, ⟨45, _⟩ => ⟨S32768x32, .f32⟩
  | .hbm, ⟨46, _⟩ => ⟨S32768x128, .f32⟩
  | .hbm, ⟨47, _⟩ => ⟨S32768x2048, .f32⟩
  | .hbm, ⟨48, _⟩ => ⟨S32768x16x128, .f32⟩
  | .hbm, ⟨49, _⟩ => ⟨S32768x16x128, .bf16⟩
  | .hbm, ⟨50, _⟩ => ⟨S128x32768, .f32⟩
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== KernelRglru.lean ====
abbrev S16x2048x6144 : Shape := ⟨3, ![16, 2048, 6144]⟩
abbrev S1x4x1024 : Shape := ⟨3, ![1, 4, 1024]⟩
abbrev S1x1024 : Shape := ⟨2, ![1, 1024]⟩
abbrev S1x8x128x128 : Shape := ⟨4, ![1, 8, 128, 128]⟩
abbrev S1x32x2048x1024 : Shape := ⟨4, ![1, 32, 2048, 1024]⟩
abbrev S8x128x128 : Shape := ⟨3, ![8, 128, 128]⟩
abbrev S8x128x256 : Shape := ⟨3, ![8, 128, 256]⟩
abbrev S4x1024 : Shape := ⟨2, ![4, 1024]⟩
abbrev S1024 : Shape := ⟨1, ![1024]⟩
abbrev S32x2048x1024 : Shape := ⟨3, ![32, 2048, 1024]⟩
abbrev S16x2048x1024 : Shape := ⟨3, ![16, 2048, 1024]⟩
abbrev S1x2048x256 : Shape := ⟨3, ![1, 2048, 256]⟩
abbrev S4x256 : Shape := ⟨2, ![4, 256]⟩
abbrev S1x256 : Shape := ⟨2, ![1, 256]⟩
abbrev S2x128x256 : Shape := ⟨3, ![2, 128, 256]⟩
abbrev S1x1024x1024 : Shape := ⟨3, ![1, 1024, 1024]⟩
abbrev S2056x128 : Shape := ⟨2, ![2056, 128]⟩
abbrev S1024x1024 : Shape := ⟨2, ![1024, 1024]⟩
abbrev S128x128 : Shape := ⟨2, ![128, 128]⟩
abbrev S8x128 : Shape := ⟨2, ![8, 128]⟩
abbrev S1x128 : Shape := ⟨2, ![1, 128]⟩
abbrev S4x128 : Shape := ⟨2, ![4, 128]⟩
abbrev S1x128x256 : Shape := ⟨3, ![1, 128, 256]⟩
abbrev S128x256 : Shape := ⟨2, ![128, 256]⟩
abbrev S1x128x128 : Shape := ⟨3, ![1, 128, 128]⟩
abbrev S16x8x128 : Shape := ⟨3, ![16, 8, 128]⟩
abbrev S128 : Shape := ⟨1, ![128]⟩
abbrev S128x1 : Shape := ⟨2, ![128, 1]⟩

abbrev nBuf : Space → Nat
  | .hbm => 27
  | .vmem => 25
  | .smem => 0
  | _ => 0

abbrev bufTy : (tb : Table) → Fin (tcTables nBuf tb) → BufTy
  | .hbm, ⟨0, _⟩ => ⟨S16x2048x6144, .bf16⟩
  | .hbm, ⟨1, _⟩ => ⟨S1x4x1024, .f32⟩
  | .hbm, ⟨2, _⟩ => ⟨S1x1024, .f32⟩
  | .hbm, ⟨3, _⟩ => ⟨S1x8x128x128, .f32⟩
  | .hbm, ⟨4, _⟩ => ⟨S1x1024, .f32⟩
  | .hbm, ⟨5, _⟩ => ⟨S1x8x128x128, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x32x2048x1024, .f32⟩
  | .hbm, ⟨10, _⟩ => ⟨S8x128x128, .f32⟩
  | .hbm, ⟨11, _⟩ => ⟨S8x128x128, .f32⟩
  | .hbm, ⟨12, _⟩ => ⟨S8x128x256, .f32⟩
  | .hbm, ⟨13, _⟩ => ⟨S4x1024, .f32⟩
  | .hbm, ⟨14, _⟩ => ⟨S1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S32x2048x1024, .f32⟩
  | .hbm, ⟨25, _⟩ => ⟨S16x2048x1024, .bf16⟩
  | .hbm, ⟨26, _⟩ => ⟨S32x2048x1024, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S4x256, .f32⟩
  | .local _ .vmem, ⟨5, _⟩ => ⟨S4x256, .f32⟩
  | .local _ .vmem, ⟨6, _⟩ => ⟨S1x256, .f32⟩
  | .local _ .vmem, ⟨7, _⟩ => ⟨S1x256, .f32⟩
  | .local _ .vmem, ⟨8, _⟩ => ⟨S2x128x256, .f32⟩
  | .local _ .vmem, ⟨9, _⟩ => ⟨S2x128x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x1024x1024, .f32⟩
  | .local _ .vmem, ⟨19, _⟩ => ⟨S1x1024x1024, .f32⟩
  | .local _ .vmem, ⟨20, _⟩ => ⟨S1x2048x256, .bf16⟩
  | .local _ .vmem, ⟨21, _⟩ => ⟨S1x2048x256, .bf16⟩
  | .local _ .vmem, ⟨22, _⟩ => ⟨S1x1024x1024, .bf16⟩
  | .local _ .vmem, ⟨23, _⟩ => ⟨S1x1024x1024, .bf16⟩
  | .local _ .vmem, ⟨24, _⟩ => ⟨S2056x128, .f32⟩
  | _, _ => ⟨S16x2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let c0_i32_11 : BitVec 32 := 0#32
  ![v18.toNat, v28.toNat, c0_i32_10.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let c0_i32_11 : BitVec 32 := 0#32
  ![v18.toNat, v28.toNat, c0_i32_10.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelRglruIdeal.lean ====
variable {F : FTy → Type} [FloatOps F] [Named F]
def κ : String → Option EReal := fun
  | "gelu_cubic" => some (((6693141 / 8388608) * (12003091 / 268435456) : ℝ) : EReal)
  | "neg_8_log2_e" => some ((8 * (-((Real.log 2)⁻¹)) : ℝ) : EReal)
  | "neg_log2_e" => some ((-((Real.log 2)⁻¹) : ℝ) : EReal)
  | _ => none
-- ==== ReferenceRglruIdeal.lean ====
abbrev S16x2048x6144 : Shape := ⟨3, ![16, 2048, 6144]⟩
abbrev S1x4x1024 : Shape := ⟨3, ![1, 4, 1024]⟩
abbrev S1x1024 : Shape := ⟨2, ![1, 1024]⟩
abbrev S1x8x128x128 : Shape := ⟨4, ![1, 8, 128, 128]⟩
abbrev S1x32x2048x1024 : Shape := ⟨4, ![1, 32, 2048, 1024]⟩
abbrev S16x2048x1024 : Shape := ⟨3, ![16, 2048, 1024]⟩
abbrev S4x1024 : Shape := ⟨2, ![4, 1024]⟩
abbrev S1024 : Shape := ⟨1, ![1024]⟩
abbrev S_ : Shape := ⟨0, ![]⟩
abbrev S16x2051x1024 : Shape := ⟨3, ![16, 2051, 1024]⟩
abbrev S1x1x1024 : Shape := ⟨3, ![1, 1, 1024]⟩
abbrev S8x128x128 : Shape := ⟨3, ![8, 128, 128]⟩
abbrev S16x2048x8x128 : Shape := ⟨4, ![16, 2048, 8, 128]⟩
abbrev S8x128x16x2048 : Shape := ⟨4, ![8, 128, 16, 2048]⟩
abbrev S16x1024 : Shape := ⟨2, ![16, 1024]⟩
abbrev S2048x16x1024 : Shape := ⟨3, ![2048, 16, 1024]⟩
abbrev S1x16x1024 : Shape := ⟨3, ![1, 16, 1024]⟩
abbrev S16x2048x8 : Shape := ⟨3, ![16, 2048, 8]⟩
abbrev S16x2048x8x1 : Shape := ⟨4, ![16, 2048, 8, 1]⟩
abbrev S32x2048x1024 : Shape := ⟨3, ![32, 2048, 1024]⟩

abbrev nBuf : Space → Nat
  | .hbm => 183
  | .vmem => 0
  | .smem => 0
  | _ => 0

abbrev hbmTy0_0 (i : Nat) : BufTy := match i % 128 with
  | 0 => ⟨S16x2048x6144, .bf16⟩
  | 1 => ⟨S1x4x1024, .f32⟩
  | 2 => ⟨S1x1024, .f32⟩
  | 3 => ⟨S1x8x128x128, .f32⟩
  | 4 => ⟨S1x1024, .f32⟩
  | 5 => ⟨S1x8x128x128, .f32⟩
  | 6 => ⟨S1x1024, .f32⟩
  | 7 => ⟨S1x1024, .f32⟩
  | 8 => ⟨S1x1024, .f32⟩
  | 9 => ⟨S1x32x2048x1024, .f32⟩
  | 10 => ⟨S16x2048x6144, .f32⟩
  | 11 => ⟨S16x2048x1024, .f32⟩
  | 12 => ⟨S16x2048x1024, .f32⟩
  | 13 => ⟨S4x1024, .f32⟩
  | 14 => ⟨S1024, .f32⟩
  | 15 => ⟨S_, .i32⟩
  | 16 => ⟨S_, .f32⟩
  | 17 => ⟨S16x2051x1024, .f32⟩
  | 18 => ⟨S16x2048x1024, .f32⟩
  | 19 => ⟨S1x1024, .f32⟩
  | 20 => ⟨S1024, .f32⟩
  | 21 => ⟨S1x1x1024, .f32⟩
  | 22 => ⟨S16x2048x1024, .f32⟩
  | 23 => ⟨S16x2048x1024, .f32⟩
  | 24 => ⟨S1x1x1024, .f32⟩
  | 25 => ⟨S16x2048x1024, .f32⟩
  | 26 => ⟨S16x2048x1024, .f32⟩
  | 27 => ⟨S16x2048x1024, .f32⟩
  | 28 => ⟨S1x1024, .f32⟩
  | 29 => ⟨S1024, .f32⟩
  | 30 => ⟨S1x1x1024, .f32⟩
  | 31 => ⟨S16x2048x1024, .f32⟩
  | 32 => ⟨S16x2048x1024, .f32⟩
  | 33 => ⟨S16x2048x1024, .f32⟩
  | 34 => ⟨S16x2048x1024, .f32⟩
  | 35 => ⟨S1x1024, .f32⟩
  | 36 => ⟨S1024, .f32⟩
  | 37 => ⟨S1x1x1024, .f32⟩
  | 38 => ⟨S16x2048x1024, .f32⟩
  | 39 => ⟨S16x2048x1024, .f32⟩
  | 40 => ⟨S16x2048x1024, .f32⟩
  | 41 => ⟨S16x2048x1024, .f32⟩
  | 42 => ⟨S1x1024, .f32⟩
  | 43 => ⟨S1024, .f32⟩
  | 44 => ⟨S1x1x1024, .f32⟩
  | 45 => ⟨S16x2048x1024, .f32⟩
  | 46 => ⟨S16x2048x1024, .f32⟩
  | 47 => ⟨S16x2048x1024, .f32⟩
  | 48 => ⟨S8x128x128, .f32⟩
  | 49 => ⟨S1024, .f32⟩
  | 50 => ⟨S8x128x128, .f32⟩
  | 51 => ⟨S1024, .f32⟩
  | 52 => ⟨S1024, .f32⟩
  | 53 => ⟨S16x2048x8x128, .f32⟩
  | 54 => ⟨S8x128x16x2048, .f32⟩
  | 55 => ⟨S16x2048x8x128, .f32⟩
  | 56 => ⟨S16x2048x1024, .f32⟩
  | 57 => ⟨S1x1x1024, .f32⟩
  | 58 => ⟨S16x2048x1024, .f32⟩
  | 59 => ⟨S16x2048x1024, .f32⟩
  | 60 => ⟨S16x2048x1024, .f32⟩
  | 61 => ⟨S16x2048x1024, .f32⟩
  | 62 => ⟨S_, .f32⟩
  | 63 => ⟨S16x2048x1024, .f32⟩
  | 64 => ⟨S16x2048x1024, .f32⟩
  | 65 => ⟨S_, .f32⟩
  | 66 => ⟨S16x2048x1024, .f32⟩
  | 67 => ⟨S16x2048x1024, .f32⟩
  | 68 => ⟨S8x128x16x2048, .f32⟩
  | 69 => ⟨S16x2048x8x128, .f32⟩
  | 70 => ⟨S16x2048x1024, .f32⟩
  | 71 => ⟨S1x1x1024, .f32⟩
  | 72 => ⟨S16x2048x1024, .f32⟩
  | 73 => ⟨S16x2048x1024, .f32⟩
  | 74 => ⟨S16x2048x1024, .f32⟩
  | 75 => ⟨S16x2048x1024, .f32⟩
  | 76 => ⟨S_, .f32⟩
  | 77 => ⟨S16x2048x1024, .f32⟩
  | 78 => ⟨S16x2048x1024, .f32⟩
  | 79 => ⟨S_, .f32⟩
  | 80 => ⟨S16x2048x1024, .f32⟩
  | 81 => ⟨S16x2048x1024, .f32⟩
  | 82 => ⟨S_, .f32⟩
  | 83 => ⟨S16x2048x1024, .f32⟩
  | 84 => ⟨S16x2048x1024, .f32⟩
  | 85 => ⟨S1024, .f32⟩
  | 86 => ⟨S_, .f32⟩
  | 87 => ⟨S1024, .f32⟩
  | 88 => ⟨S1024, .f32⟩
  | 89 => ⟨S1024, .f32⟩
  | 90 => ⟨S1024, .f32⟩
  | 91 => ⟨S1024, .i1⟩
  | 92 => ⟨S1024, .f32⟩
  | 93 => ⟨S1024, .f32⟩
  | 94 => ⟨S1024, .f32⟩
  | 95 => ⟨S1024, .f32⟩
  | 96 => ⟨S1024, .f32⟩
  | 97 => ⟨S1024, .f32⟩
  | 98 => ⟨S1024, .f32⟩
  | 99 => ⟨S1024, .f32⟩
  | 100 => ⟨S1x1x1024, .f32⟩
  | 101 => ⟨S16x2048x1024, .f32⟩
  | 102 => ⟨S16x2048x1024, .f32⟩
  | 103 => ⟨S16x2048x1024, .f32⟩
  | 104 => ⟨S_, .f32⟩
  | 105 => ⟨S16x2048x1024, .f32⟩
  | 106 => ⟨S16x2048x1024, .f32⟩
  | 107 => ⟨S16x2048x1024, .f32⟩
  | 108 => ⟨S16x2048x1024, .f32⟩
  | 109 => ⟨S16x2048x1024, .f32⟩
  | 110 => ⟨S16x2048x1024, .f32⟩
  | 111 => ⟨S16x2048x1024, .f32⟩
  | 112 => ⟨S_, .f32⟩
  | 113 => ⟨S16x1024, .f32⟩
  | 114 => ⟨S2048x16x1024, .f32⟩
  | 115 => ⟨S2048x16x1024, .f32⟩
  | 116 => ⟨S_, .f32⟩
  | 117 => ⟨S2048x16x1024, .f32⟩
  | 118 => ⟨S_, .i32⟩
  | 119 => ⟨S2048x16x1024, .f32⟩
  | 120 => ⟨S2048x16x1024, .f32⟩
  | 121 => ⟨S_, .i32⟩
  | 122 => ⟨S16x1024, .f32⟩
  | 123 => ⟨S2048x16x1024, .f32⟩
  | 124 => ⟨S_, .i32⟩
  | 125 => ⟨S_, .i1⟩
  | 126 => ⟨S_, .i32⟩
  | 127 => ⟨S_, .i32⟩
  | _ => ⟨S16x2048x6144, .bf16⟩

abbrev hbmTy0_1 (i : Nat) : BufTy := match i % 128 with
  | 0 => ⟨S1x16x1024, .f32⟩
  | 1 => ⟨S16x1024, .f32⟩
  | 2 => ⟨S_, .i32⟩
  | 3 => ⟨S_, .i32⟩
  | 4 => ⟨S1x16x1024, .f32⟩
  | 5 => ⟨S16x1024, .f32⟩
  | 6 => ⟨S16x1024, .f32⟩
  | 7 => ⟨S16x1024, .f32⟩
  | 8 => ⟨S1x16x1024, .f32⟩
  | 9 => ⟨S_, .i32⟩
  | 10 => ⟨S_, .i32⟩
  | 11 => ⟨S2048x16x1024, .f32⟩
  | 12 => ⟨S_, .i32⟩
  | 13 => ⟨S_, .i32⟩
  | 14 => ⟨S16x2048x1024, .f32⟩
  | 15 => ⟨S16x2048x8x128, .f32⟩
  | 16 => ⟨S16x2048x8x128, .f32⟩
  | 17 => ⟨S_, .f32⟩
  | 18 => ⟨S16x2048x8, .f32⟩
  | 19 => ⟨S16x2048x8x1, .f32⟩
  | 20 => ⟨S_, .f32⟩
  | 21 => ⟨S16x2048x8x1, .f32⟩
  | 22 => ⟨S16x2048x8x1, .f32⟩
  | 23 => ⟨S_, .f32⟩
  | 24 => ⟨S16x2048x8x1, .f32⟩
  | 25 => ⟨S16x2048x8x1, .f32⟩
  | 26 => ⟨S16x2048x8x1, .f32⟩
  | 27 => ⟨S16x2048x8x128, .f32⟩
  | 28 => ⟨S16x2048x8x128, .f32⟩
  | 29 => ⟨S16x2048x1024, .f32⟩
  | 30 => ⟨S1024, .f32⟩
  | 31 => ⟨S1x1x1024, .f32⟩
  | 32 => ⟨S16x2048x1024, .f32⟩
  | 33 => ⟨S16x2048x1024, .f32⟩
  | 34 => ⟨S16x2048x1024, .f32⟩
  | 35 => ⟨S16x2048x1024, .f32⟩
  | 36 => ⟨S_, .f32⟩
  | 37 => ⟨S16x2048x1024, .f32⟩
  | 38 => ⟨S16x2048x1024, .f32⟩
  | 39 => ⟨S16x2048x1024, .f32⟩
  | 40 => ⟨S_, .f32⟩
  | 41 => ⟨S16x2048x1024, .f32⟩
  | 42 => ⟨S16x2048x1024, .f32⟩
  | 43 => ⟨S16x2048x1024, .f32⟩
  | 44 => ⟨S_, .f32⟩
  | 45 => ⟨S16x2048x1024, .f32⟩
  | 46 => ⟨S16x2048x1024, .f32⟩
  | 47 => ⟨S_, .f32⟩
  | 48 => ⟨S16x2048x1024, .f32⟩
  | 49 => ⟨S16x2048x1024, .f32⟩
  | 50 => ⟨S16x2048x1024, .f32⟩
  | 51 => ⟨S16x2048x1024, .f32⟩
  | 52 => ⟨S16x2048x1024, .bf16⟩
  | 53 => ⟨S32x2048x1024, .f32⟩
  | 54 => ⟨S32x2048x1024, .bf16⟩
  | _ => ⟨S16x2048x6144, .bf16⟩

abbrev hbmTy (i : Nat) : BufTy := match i / 128 with
  | 0 => hbmTy0_0 i
  | 1 => hbmTy0_1 i
  | _ => ⟨S16x2048x6144, .bf16⟩

abbrev bufTy : (tb : Table) → Fin (tcTables nBuf tb) → BufTy
  | .hbm, ⟨i, _⟩ => hbmTy i
  | _, _ => ⟨S16x2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst : Ref sig .tc := ⟨.hbm, 62, rfl⟩
abbrev main_v50 : Ref sig .tc := ⟨.hbm, 63, rfl⟩
abbrev main_v51 : Ref sig .tc := ⟨.hbm, 64, rfl⟩
abbrev main_cst_0 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_1 : Ref sig .tc := ⟨.hbm, 76, rfl⟩
abbrev main_v62 : Ref sig .tc := ⟨.hbm, 77, rfl⟩
abbrev main_v63 : Ref sig .tc := ⟨.hbm, 78, rfl⟩
abbrev main_cst_2 : Ref sig .tc := ⟨.hbm, 79, rfl⟩
abbrev main_v64 : Ref sig .tc := ⟨.hbm, 80, rfl⟩
abbrev main_v65 : Ref sig .tc := ⟨.hbm, 81, rfl⟩
abbrev main_cst_3 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_call1_cst : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_v6 : Ref sig .tc := ⟨.hbm, 93, rfl⟩
abbrev main_call1_v7 : Ref sig .tc := ⟨.hbm, 94, rfl⟩
abbrev main_call1_v8 : Ref sig .tc := ⟨.hbm, 95, rfl⟩
abbrev main_call1_v9 : Ref sig .tc := ⟨.hbm, 96, rfl⟩
abbrev main_call1_v10 : Ref sig .tc := ⟨.hbm, 97, rfl⟩
abbrev main_call1_v11 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_4 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_5 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_6 : Ref sig .tc := ⟨.hbm, 116, rfl⟩
abbrev main_v84 : Ref sig .tc := ⟨.hbm, 117, rfl⟩
abbrev main_c_7 : Ref sig .tc := ⟨.hbm, 118, rfl⟩
abbrev main_v85_0 : Ref sig .tc := ⟨.hbm, 119, rfl⟩
abbrev main_v85_1 : Ref sig .tc := ⟨.hbm, 120, rfl⟩
abbrev main_v85_2 : Ref sig .tc := ⟨.hbm, 121, rfl⟩
abbrev main_v85_3 : Ref sig .tc := ⟨.hbm, 122, rfl⟩
abbrev main_v85_4 : Ref sig .tc := ⟨.hbm, 123, rfl⟩
abbrev main_while0c_c_19 : Ref sig .tc := ⟨.hbm, 124, rfl⟩
abbrev main_while0c_v120 : Ref sig .tc := ⟨.hbm, 125, rfl⟩
abbrev main_while0b_call2_c : Ref sig .tc := ⟨.hbm, 126, rfl⟩
abbrev main_while0b_call2_c_0 : Ref sig .tc := ⟨.hbm, 127, rfl⟩
abbrev main_while0b_call2_v0 : Ref sig .tc := ⟨.hbm, 128, rfl⟩
abbrev main_while0b_v120 : Ref sig .tc := ⟨.hbm, 129, rfl⟩
abbrev main_while0b_call3_c : Ref sig .tc := ⟨.hbm, 130, rfl⟩
abbrev main_while0b_call3_c_0 : Ref sig .tc := ⟨.hbm, 131, rfl⟩
abbrev main_while0b_call3_v0 : Ref sig .tc := ⟨.hbm, 132, rfl⟩
abbrev main_while0b_v121 : Ref sig .tc := ⟨.hbm, 133, rfl⟩
abbrev main_while0b_v122 : Ref sig .tc := ⟨.hbm, 134, rfl⟩
abbrev main_while0b_v123 : Ref sig .tc := ⟨.hbm, 135, rfl⟩
abbrev main_while0b_call4_v0 : Ref sig .tc := ⟨.hbm, 136, rfl⟩
abbrev main_while0b_call4_c : Ref sig .tc := ⟨.hbm, 137, rfl⟩
abbrev main_while0b_call4_c_0 : Ref sig .tc := ⟨.hbm, 138, rfl⟩
abbrev main_while0b_v124 : Ref sig .tc := ⟨.hbm, 139, rfl⟩
abbrev main_while0b_c_19 : Ref sig .tc := ⟨.hbm, 140, rfl⟩
abbrev main_while0b_v125 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_cst_8 : Ref sig .tc := ⟨.hbm, 145, rfl⟩
abbrev main_v89 : Ref sig .tc := ⟨.hbm, 146, rfl⟩
abbrev main_v90 : Ref sig .tc := ⟨.hbm, 147, rfl⟩
abbrev main_cst_9 : Ref sig .tc := ⟨.hbm, 148, rfl⟩
abbrev main_v91 : Ref sig .tc := ⟨.hbm, 149, rfl⟩
abbrev main_v92 : Ref sig .tc := ⟨.hbm, 150, rfl⟩
abbrev main_cst_10 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_cst_11 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_cst_12 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_cst_13 : Ref sig .tc := ⟨.hbm, 172, rfl⟩
abbrev main_v111 : Ref sig .tc := ⟨.hbm, 173, rfl⟩
abbrev main_v112 : Ref sig .tc := ⟨.hbm, 174, rfl⟩
abbrev main_cst_14 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩

abbrev nD : Nat := 1
abbrev τ : Topo := Topo.v7x

variable {F : FTy → Type} [FloatOps F]

abbrev main_while0_count : Scf.Loop 32 := ⟨0#32, 2048#32, 1#32⟩
-- ==== Proof.Ret.Loop.lean ====
/- The body of the retention kernel as loops over chunks: the same memory operations in the same
   order, with the chunk and the head as variables. -/
module

public import proofs.«01_k».proof.Proof.Gen.KernelIdeal.Skeleton

@[expose] public section

set_option maxRecDepth 16384

noncomputable section

namespace Cert.KernelIdeal.Ret

open Idealize.ShloMosaic Idealize.SL.Sem
open Cert.KernelIdeal Cert.KernelIdeal.Gen

variable {F : FTy → Type} [FloatOps F] [Named F]

/-- The buffers of one grid step, each a whole buffer. -/
structure Mems where
  lg : Memref sig .tc .smem S8 .f32
  hlg : lg.IsWhole
  q : Memref sig .tc .vmem S1x2048x512 .bf16
  hq : q.IsWhole
  k : Memref sig .tc .vmem S1x2048x512 .bf16
  hk : k.IsWhole
  v : Memref sig .tc .vmem S1x2048x512 .bf16
  hv : v.IsWhole
  g : Memref sig .tc .vmem S1x2048x512 .bf16
  hg : g.IsWhole
  cos : Memref sig .tc .vmem S2048x128 .f32
  hcos : cos.IsWhole
  sin : Memref sig .tc .vmem S2048x128 .f32
  hsin : sin.IsWhole
  gn : Memref sig .tc .vmem S1x512 .f32
  hgn : gn.IsWhole
  wsrc : Memref sig .tc .vmem S1x2048x1024 .f32
  hwsrc : wsrc.IsWhole
  o : Memref sig .tc .vmem S1x2048x512 .bf16
  ho : o.IsWhole
  wdst : Memref sig .tc .vmem S1x2048x1024 .bf16
  hwdst : wdst.IsWhole
  mask : Memref sig .tc .vmem S128x128 .f32
  hmask : mask.IsWhole
  qdec : Memref sig .tc .vmem S128x128 .f32
  hqdec : qdec.IsWhole
  kdec : Memref sig .tc .vmem S128x128 .f32
  hkdec : kdec.IsWhole
  qb : Memref sig .tc .vmem S2048x128 .bf16
  hqb : qb.IsWhole
  kb : Memref sig .tc .vmem S2048x128 .bf16
  hkb : kb.IsWhole
  qd : Memref sig .tc .vmem S2048x128 .bf16
  hqd : qd.IsWhole
  kv : Memref sig .tc .vmem S16x128x128 .f32
  hkv : kv.IsWhole
  sb : Memref sig .tc .vmem S16x128x128 .bf16
  hsb : sb.IsWhole

/-! ## The windows of one chunk -/

/-- Offsets of chunk `n` in a buffer of all rows. -/
abbrev rowOff (n : Fin 16) : Fin 2 → ℕ := ![128 * n.val, 0]
/-- Offsets of chunk `n` of head `hh` in a block of four heads. -/
abbrev blkOff (hh : Fin 4) (n : Fin 16) : Fin 3 → ℕ := ![0, 128 * n.val, 128 * hh.val]
/-- Offsets of slab `n` in a buffer of sixteen slabs. -/
abbrev slabOff (n : Fin 16) : Fin 3 → ℕ := ![n.val, 0, 0]
/-- Offsets of head `hh` in the row of norm weights. -/
abbrev gnOff (hh : Fin 4) : Fin 2 → ℕ := ![0, 128 * hh.val]

theorem rowInb : ∀ (n : Fin 16) a, rowOff n a + S128x128.size a ≤ S2048x128.size a := by decide
theorem blkInb : ∀ (hh : Fin 4) (n : Fin 16) a, blkOff hh n a + S1x128x128.size a ≤ S1x2048x512.size a := by decide
theorem slabInb : ∀ (n : Fin 16) a, slabOff n a + S1x128x128.size a ≤ S16x128x128.size a := by decide
theorem gnInb : ∀ (hh : Fin 4) a, gnOff hh a + S1x128.size a ≤ S1x512.size a := by decide

/-- The rectangle of chunk `n` in a buffer of all rows. -/
abbrev rowR (n : Fin 16) : Rect S2048x128 := Rect.unit (s := S2048x128) (rowOff n) S128x128.size (rowInb n)
/-- The rectangle of chunk `n` of head `hh` in a block. -/
abbrev blkR (hh : Fin 4) (n : Fin 16) : Rect S1x2048x512 := Rect.unit (s := S1x2048x512) (blkOff hh n) S1x128x128.size (blkInb hh n)
/-- The rectangle of slab `n`. -/
abbrev slabR (n : Fin 16) : Rect S16x128x128 := Rect.unit (s := S16x128x128) (slabOff n) S1x128x128.size (slabInb n)
/-- The rectangle of head `hh` in the row of norm weights. -/
abbrev gnR (hh : Fin 4) : Rect S1x512 := Rect.unit (s := S1x512) (gnOff hh) S1x128.size (gnInb hh)
/-- The whole of a square buffer. -/
abbrev sqR : Rect S128x128 := Rect.unit (s := S128x128) ![0, 0] S128x128.size inb_S128x128_S128x128_0_0
/-- The whole of a weight block. -/
abbrev wR : Rect S1x2048x1024 := Rect.unit (s := S1x2048x1024) ![0, 0, 0] S1x2048x1024.size inb_S1x2048x1024_S1x2048x1024_0_0_0

theorem rowPacked : ∀ n : Fin 16, (rowR n).PackedRows (EltTy.packing .bf16) := by decide
theorem blkPacked : ∀ (hh : Fin 4) (n : Fin 16), (blkR hh n).PackedRows (EltTy.packing .bf16) := by decide
theorem slabPacked : ∀ n : Fin 16, (slabR n).PackedRows (EltTy.packing .bf16) := by decide

/-! ## The values one chunk computes -/

/-- The rotated queries, rounded. -/
def qbOf (cos sin : Vec F S128x128 .f32) (q : Vec F S1x128x128 .bf16) : FVec F S128x128 .bf16 := k0_pay15 cos sin q
/-- The rotated keys, rounded. -/
def kbOf (cos sin : Vec F S128x128 .f32) (k : Vec F S1x128x128 .bf16) : FVec F S128x128 .bf16 := k0_pay16 (k0_pay14 cos sin k)
/-- The rotated queries times their decay, rounded. -/
def qdOf (cos sin : Vec F S128x128 .f32) (q : Vec F S1x128x128 .bf16) (qdec : Vec F S128x128 .f32) : FVec F S128x128 .bf16 := k0_pay17 (k0_pay13 cos sin q) qdec
/-- The chunk's own contribution to the state. -/
def kvOf (cos sin : Vec F S128x128 .f32) (k : Vec F S1x128x128 .bf16) (kdec : Vec F S128x128 .f32) (v : Vec F S1x128x128 .bf16) : FVec F S1x128x128 .f32 := k0_pay18 (k0_pay14 cos sin k) kdec v
/-- The state before the first chunk. -/
def st0 : FVec F S128x128 .f32 := k0_pay163
/-- A state, rounded. -/
def sbOf (st : FVec F S128x128 .f32) : FVec F S1x128x128 .bf16 :=
  shapeCast S1x128x128 (truncf .bf16 st bitsLt_bf16_f32) shapeCasts_S128x128_S1x128x128
/-- The state after a chunk. -/
def stNext (cdec : FVec F S1x128 .f32) (st : FVec F S128x128 .f32) (kv : Vec F S1x128x128 .f32) : FVec F S128x128 .f32 :=
  addf (mulf (broadcastTo S128x128 cdec broadcasts_S1x128_S128x128) st) (shapeCast S128x128 kv shapeCasts_S1x128x128_S128x128)
/-- The chunk's result: both parts of the retention, normalised and gated. -/
def oOf (gn : FVec F S1x128 .f32) (v : Vec F S1x128x128 .bf16) (qb kb : Vec F S128x128 .bf16) (mask : Vec F S128x128 .f32)
    (qd : Vec F S128x128 .bf16) (sb : Vec F S1x128x128 .bf16) (g : Vec F S1x128x128 .bf16) : FVec F S1x128x128 .bf16 :=
  k0_pay210 gn (k0_pay209 v qb kb mask) qd sb g

/-! ## The program -/

/-- A program of the kernel's core. -/
abbrev P (F : FTy → Type) := Prog (TpuEff nD τ sig (Elt F) Λ₀ .tc) PUnit

/-- One chunk of the first loop. -/
def chunkA (M : Mems) (hh : Fin 4) (n : Fin 16) (K : P F) : P F :=
  .op (.load M.cos (rowR n).toLoadRect (View.loadsAt_vmem h_S128x128)) fun cos =>
  .op (.load M.sin (rowR n).toLoadRect (View.loadsAt_vmem h_S128x128)) fun sin =>
  .op (.load M.q (blkR hh n).toLoadRect (View.loadsAt_vmem h_S1x128x128)) fun q =>
  .op (.load M.k (blkR hh n).toLoadRect (View.loadsAt_vmem h_S1x128x128)) fun k =>
  .op (.load M.qb (rowR n).toLoadRect (View.loadsAt_vmem h_S128x128)) fun _ =>
  .op (.store M.qb (rowR n) (qbOf (F := F) cos sin q) Finset.univ (View.stores_vmem h_S128x128 (M.hqb.storeExact_slice rfl _ (rowPacked n)) (fun _ => rfl)) (.inl rfl)) fun _ =>
  .op (.load M.kb (rowR n).toLoadRect (View.loadsAt_vmem h_S128x128)) fun _ =>
  .op (.store M.kb (rowR n) (kbOf (F := F) cos sin k) Finset.univ (View.stores_vmem h_S128x128 (M.hkb.storeExact_slice rfl _ (rowPacked n)) (fun _ => rfl)) (.inl rfl)) fun _ =>
  .op (.load M.qdec sqR.toLoadRect (View.loadsAt_vmem h_S128x128)) fun qdec =>
  .op (.load M.qd (rowR n).toLoadRect (View.loadsAt_vmem h_S128x128)) fun _ =>
  .op (.store M.qd (rowR n) (qdOf (F := F) cos sin q qdec) Finset.univ (View.stores_vmem h_S128x128 (M.hqd.storeExact_slice rfl _ (rowPacked n)) (fun _ => rfl)) (.inl rfl)) fun _ =>
  .op (.load M.kdec sqR.toLoadRect (View.loadsAt_vmem h_S128x128)) fun kdec =>
  .op (.load M.v (blkR hh n).toLoadRect (View.loadsAt_vmem h_S1x128x128)) fun v =>
  .op (.load M.kv (slabR n).toLoadRect (View.loadsAt_vmem h_S1x128x128)) fun _ =>
  .op (.store M.kv (slabR n) (kvOf (F := F) cos sin k kdec v) Finset.univ (View.stores_vmem_bits_univ h_S1x128x128 rfl) (.inl rfl)) fun _ => K

/-- The start of the second loop: the first state is stored. -/
def chunkB0 (M : Mems) (K : P F) : P F :=
  .op (.load M.sb (slabR 0).toLoadRect (View.loadsAt_vmem h_S1x128x128)) fun _ =>
  .op (.store M.sb (slabR 0) (sbOf (F := F) st0) Finset.univ (View.stores_vmem h_S1x128x128 (M.hsb.storeExact_slice rfl _ (slabPacked 0)) (fun _ => rfl)) (.inl rfl)) fun _ => K

/-- One chunk of the second loop: the state moves past chunk `n`, and is stored for chunk `n'`, the next one. -/
def chunkB (M : Mems) (cdec : FVec F S1x128 .f32) (st : FVec F S128x128 .f32) (n n' : Fin 16) (K : FVec F S128x128 .f32 → P F) : P F :=
  .op (.load M.kv (slabR n).toLoadRect (View.loadsAt_vmem h_S1x128x128)) fun kv =>
  .op (.load M.sb (slabR n').toLoadRect (View.loadsAt_vmem h_S1x128x128)) fun _ =>
  .op (.store M.sb (slabR n') (sbOf (F := F) (stNext cdec st kv)) Finset.univ (View.stores_vmem h_S1x128x128 (M.hsb.storeExact_slice rfl _ (slabPacked n')) (fun _ => rfl)) (.inl rfl)) fun _ =>
  K (stNext cdec st kv)

/-- One chunk of the third loop. -/
def chunkC (M : Mems) (gn : FVec F S1x128 .f32) (hh : Fin 4) (n : Fin 16) (K : P F) : P F :=
  .op (.load M.v (blkR hh n).toLoadRect (View.loadsAt_vmem h_S1x128x128)) fun v =>
  .op (.load M.qb (rowR n).toLoadRect (View.loadsAt_vmem h_S128x128)) fun qb =>
  .op (.load M.kb (rowR n).toLoadRect (View.loadsAt_vmem h_S128x128)) fun kb =>
  .op (.load M.mask sqR.toLoadRect (View.loadsAt_vmem h_S128x128)) fun mask =>
  .op (.load M.qd (rowR n).toLoadRect (View.loadsAt_vmem h_S128x128)) fun qd =>
  .op (.load M.sb (slabR n).toLoadRect (View.loadsAt_vmem h_S1x128x128)) fun sb =>
  .op (.load M.g (blkR hh n).toLoadRect (View.loadsAt_vmem h_S1x128x128)) fun g =>
  .op (.load M.o (blkR hh n).toLoadRect (View.loadsAt_vmem h_S1x128x128)) fun _ =>
  .op (.store M.o (blkR hh n) (oOf (F := F) gn v qb kb mask qd sb g) Finset.univ (View.stores_vmem h_S1x128x128 (M.ho.storeExact_slice rfl _ (blkPacked hh n)) (fun _ => rfl)) (.inl rfl)) fun _ => K

/-- The last `r` chunks of the first loop. -/
def loopA (M : Mems) (hh : Fin 4) : ℕ → P F → P F
  | 0, K => K
  | r + 1, K => chunkA M hh ⟨15 - r, by omega⟩ (loopA M hh r K)

/-- The last `r` chunks of the second loop. -/
def loopB (M : Mems) (cdec : FVec F S1x128 .f32) : ℕ → FVec F S128x128 .f32 → P F → P F
  | 0, _, K => K
  | r + 1, st, K => chunkB M cdec st ⟨14 - r, by omega⟩ ⟨15 - r, by omega⟩ fun st' => loopB M cdec r st' K

/-- The last `r` chunks of the third loop. -/
def loopC (M : Mems) (gn : FVec F S1x128 .f32) (hh : Fin 4) : ℕ → P F → P F
  | 0, K => K
  | r + 1, K => chunkC M gn hh ⟨15 - r, by omega⟩ (loopC M gn hh r K)

/-- The start of a head: its decay is read, and the mask and the two decays stored. -/
def headStart (i : grid0.Coords) (M : Mems) (hh : Fin 4) (K : Elt F .f32 → FVec F S1x128 .f32 → P F) : P F :=
  smemLoadElt M.lg (Rect.unit (s := S8) (k0_off1 i (BitVec.ofNat 32 hh.val)) S1.size (k0_off1_inb i hh)) (View.loads_smem_one rfl numel1_S1) (Shape.Idx.first (numel1_S1.symm ▸ Nat.one_pos)) fun lg =>
  .op (.load M.mask sqR.toLoadRect (View.loadsAt_vmem h_S128x128)) fun _ =>
  .op (.store M.mask sqR (k0_pay5 (F := F) lg) Finset.univ (View.stores_vmem_bits_univ h_S128x128 rfl) (.inl rfl)) fun _ =>
  .op (.load M.qdec sqR.toLoadRect (View.loadsAt_vmem h_S128x128)) fun _ =>
  .op (.store M.qdec sqR (k0_pay7 (F := F) (k0_pay6 lg)) Finset.univ (View.stores_vmem_bits_univ h_S128x128 rfl) (.inl rfl)) fun _ =>
  .op (.load M.kdec sqR.toLoadRect (View.loadsAt_vmem h_S128x128)) fun _ =>
  .op (.store M.kdec sqR (k0_pay8 (F := F) k0_pay3 lg) Finset.univ (View.stores_vmem_bits_univ h_S128x128 rfl) (.inl rfl)) fun _ =>
  .op (.load M.gn (gnR hh).toLoadRect (View.loadsAt_vmem h_S1x128)) fun gn => K lg (k0_pay10 gn)

/-- One head. -/
def head (i : grid0.Coords) (M : Mems) (hh : Fin 4) (K : P F) : P F :=
  headStart i M hh fun lg gn =>
  loopA M hh 16 (chunkB0 M (loopB M (k0_pay9 lg) 15 st0 (loopC M gn hh 16 K)))

/-- The cast of the weights that rides along. -/
def castW (M : Mems) (K : P F) : P F :=
  .op (.load M.wsrc wR.toLoadRect (View.loadsAt_vmem h_S1x2048x1024)) fun w =>
  .op (.load M.wdst wR.toLoadRect (View.loadsAt_vmem h_S1x2048x1024)) fun _ =>
  .op (.store M.wdst wR (k0_pay2 (F := F) w) Finset.univ (View.stores_vmem h_S1x2048x1024 (M.hwdst.storeExact_slice rfl _ packedbf16_S1x2048x1024_S1x2048x1024_0_0_0) (fun _ => rfl)) (.inl rfl)) fun _ => K

/-- The kernel's body as loops. -/
def body (i : grid0.Coords) (M : Mems) : P F :=
  castW M (head i M 0 (head i M 1 (head i M 2 (head i M 3 (.ret ⟨⟩)))))

/-- The printed body at the buffers `M`. -/
def printed (i : grid0.Coords) (M : Mems) : P F :=
  cc0_retention i M.lg M.hlg M.q M.hq M.k M.hk M.v M.hv M.g M.hg M.cos M.hcos M.sin M.hsin M.gn M.hgn M.wsrc M.hwsrc M.o M.ho M.wdst M.hwdst
    M.mask M.hmask M.qdec M.hqdec M.kdec M.hkdec M.qb M.hqb M.kb M.hkb M.qd M.hqd M.kv M.hkv M.sb M.hsb

end Cert.KernelIdeal.Ret

end
-- ==== Proof.Ret.Steps.lean ====
/- What each chunk of the loops does to the contents of the buffers. -/
module

public import proofs.«01_k».proof.Proof.Ret.Loop
public import proofs.«01_k».proof.Proof.Gen.KernelIdeal.Frame.Runs
public import Idealize.ShloMosaic.Lib.VecWindow

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- The contents of the buffers of one grid step. -/
structure Vals (F : FTy → Type) where
  lg : Vec F S8 .f32
  q : Vec F S1x2048x512 .bf16
  k : Vec F S1x2048x512 .bf16
  v : Vec F S1x2048x512 .bf16
  g : Vec F S1x2048x512 .bf16
  cos : Vec F S2048x128 .f32
  sin : Vec F S2048x128 .f32
  gn : Vec F S1x512 .f32
  wsrc : Vec F S1x2048x1024 .f32
  o : Vec F S1x2048x512 .bf16
  wdst : Vec F S1x2048x1024 .bf16
  mask : Vec F S128x128 .f32
  qdec : Vec F S128x128 .f32
  kdec : Vec F S128x128 .f32
  qb : Vec F S2048x128 .bf16
  kb : Vec F S2048x128 .bf16
  qd : Vec F S2048x128 .bf16
  kv : Vec F S16x128x128 .f32
  sb : Vec F S16x128x128 .bf16

/-- The buffers `M` hold the contents `x`. -/
def St (c : Dev nD) (M : Mems) (x : Vals F) : sProp 𝕄 :=
  iprop(owns (c : Thread nD τ) M.lg fullShare x.lg ∗ owns (c : Thread nD τ) M.q fullShare x.q ∗ owns (c : Thread nD τ) M.k fullShare x.k ∗ owns (c : Thread nD τ) M.v fullShare x.v
    ∗ owns (c : Thread nD τ) M.g fullShare x.g ∗ owns (c : Thread nD τ) M.cos fullShare x.cos ∗ owns (c : Thread nD τ) M.sin fullShare x.sin ∗ owns (c : Thread nD τ) M.gn fullShare x.gn
    ∗ owns (c : Thread nD τ) M.wsrc fullShare x.wsrc ∗ owns (c : Thread nD τ) M.o fullShare x.o ∗ owns (c : Thread nD τ) M.wdst fullShare x.wdst ∗ owns (c : Thread nD τ) M.mask fullShare x.mask
    ∗ owns (c : Thread nD τ) M.qdec fullShare x.qdec ∗ owns (c : Thread nD τ) M.kdec fullShare x.kdec ∗ owns (c : Thread nD τ) M.qb fullShare x.qb ∗ owns (c : Thread nD τ) M.kb fullShare x.kb
    ∗ owns (c : Thread nD τ) M.qd fullShare x.qd ∗ owns (c : Thread nD τ) M.kv fullShare x.kv ∗ owns (c : Thread nD τ) M.sb fullShare x.sb)

/-- Chunk `n` of a buffer of all rows. -/
abbrev rowW {α : Type} (x : S2048x128.Idx → α) (n : Fin 16) : S128x128.Idx → α := VecWindow.window x (rowOff n) S128x128.size (rowInb n)
/-- Chunk `n` of head `hh` of a block. -/
abbrev blkW {α : Type} (x : S1x2048x512.Idx → α) (hh : Fin 4) (n : Fin 16) : S1x128x128.Idx → α := VecWindow.window x (blkOff hh n) S1x128x128.size (blkInb hh n)
/-- Slab `n`. -/
abbrev slabW {α : Type} (x : S16x128x128.Idx → α) (n : Fin 16) : S1x128x128.Idx → α := VecWindow.window x (slabOff n) S1x128x128.size (slabInb n)
/-- Chunk `n` of a buffer of all rows, put. -/
abbrev rowP {α : Type} (x : S2048x128.Idx → α) (n : Fin 16) (w : S128x128.Idx → α) : S2048x128.Idx → α := VecWindow.put x (rowOff n) S128x128.size w
/-- Chunk `n` of head `hh` of a block, put. -/
abbrev blkP {α : Type} (x : S1x2048x512.Idx → α) (hh : Fin 4) (n : Fin 16) (w : S1x128x128.Idx → α) : S1x2048x512.Idx → α := VecWindow.put x (blkOff hh n) S1x128x128.size w
/-- Slab `n`, put. -/
abbrev slabP {α : Type} (x : S16x128x128.Idx → α) (n : Fin 16) (w : S1x128x128.Idx → α) : S16x128x128.Idx → α := VecWindow.put x (slabOff n) S1x128x128.size w

/-- Contents after a chunk of the first loop. -/
def stepA (hh : Fin 4) (n : Fin 16) (x : Vals F) : Vals F :=
  { x with
    qb := rowP x.qb n (qbOf (F := F) (rowW x.cos n) (rowW x.sin n) (blkW x.q hh n))
    kb := rowP x.kb n (kbOf (F := F) (rowW x.cos n) (rowW x.sin n) (blkW x.k hh n))
    qd := rowP x.qd n (qdOf (F := F) (rowW x.cos n) (rowW x.sin n) (blkW x.q hh n) x.qdec)
    kv := slabP x.kv n (kvOf (F := F) (rowW x.cos n) (rowW x.sin n) (blkW x.k hh n) x.kdec (blkW x.v hh n)) }

theorem readRow {b : EltTy} {sp : Space} (m : Memref sig .tc sp S2048x128 b) (n : Fin 16) (f : m.view.ty.Contents (Elt F)) (y : S2048x128.Idx → Elt F b)
    (h : m.view.read (Elt F) f = y) : m.view.readAt (Elt F) (rowR n).toLoadRect f = rowW y n := by
  rw [← h]; exact View.readAt_unit _ _ _ rfl _
theorem readBlk {b : EltTy} {sp : Space} (m : Memref sig .tc sp S1x2048x512 b) (hh : Fin 4) (n : Fin 16) (f : m.view.ty.Contents (Elt F)) (y : S1x2048x512.Idx → Elt F b)
    (h : m.view.read (Elt F) f = y) : m.view.readAt (Elt F) (blkR hh n).toLoadRect f = blkW y hh n := by
  rw [← h]; exact View.readAt_unit _ _ _ rfl _
theorem readSlab {b : EltTy} {sp : Space} (m : Memref sig .tc sp S16x128x128 b) (n : Fin 16) (f : m.view.ty.Contents (Elt F)) (y : S16x128x128.Idx → Elt F b)
    (h : m.view.read (Elt F) f = y) : m.view.readAt (Elt F) (slabR n).toLoadRect f = slabW y n := by
  rw [← h]; exact View.readAt_unit _ _ _ rfl _
theorem readSq {b : EltTy} {sp : Space} (m : Memref sig .tc sp S128x128 b) (f : m.view.ty.Contents (Elt F)) (y : S128x128.Idx → Elt F b)
    (h : m.view.read (Elt F) f = y) : m.view.readAt (Elt F) sqR.toLoadRect f = y := by
  rw [← h]; exact View.readAt_full _ _ _
theorem writeRow {b : EltTy} {sp : Space} (m : Memref sig .tc sp S2048x128 b) (n : Fin 16) (f : m.view.ty.Contents (Elt F)) (y : S2048x128.Idx → Elt F b) (w w' : S128x128.Idx → Elt F b)
    (h : m.view.read (Elt F) f = y) (hw : w = w') : m.view.read (Elt F) (m.view.writes (Elt F) f [⟨rowR n, w⟩]) = rowP y n w' := by
  subst hw; rw [← h]; exact View.read_writes_cons_put _ _ _ _ [] rfl
theorem writeBlk {b : EltTy} {sp : Space} (m : Memref sig .tc sp S1x2048x512 b) (hh : Fin 4) (n : Fin 16) (f : m.view.ty.Contents (Elt F)) (y : S1x2048x512.Idx → Elt F b) (w w' : S1x128x128.Idx → Elt F b)
    (h : m.view.read (Elt F) f = y) (hw : w = w') : m.view.read (Elt F) (m.view.writes (Elt F) f [⟨blkR hh n, w⟩]) = blkP y hh n w' := by
  subst hw; rw [← h]; exact View.read_writes_cons_put _ _ _ _ [] rfl
theorem writeSlab {b : EltTy} {sp : Space} (m : Memref sig .tc sp S16x128x128 b) (n : Fin 16) (f : m.view.ty.Contents (Elt F)) (y : S16x128x128.Idx → Elt F b) (w w' : S1x128x128.Idx → Elt F b)
    (h : m.view.read (Elt F) f = y) (hw : w = w') : m.view.read (Elt F) (m.view.writes (Elt F) f [⟨slabR n, w⟩]) = slabP y n w' := by
  subst hw; rw [← h]; exact View.read_writes_cons_put _ _ _ _ [] rfl
theorem writeSq {b : EltTy} {sp : Space} (m : Memref sig .tc sp S128x128 b) (f : m.view.ty.Contents (Elt F)) (w w' : S128x128.Idx → Elt F b)
    (hw : w = w') : m.view.read (Elt F) (m.view.writes (Elt F) f [⟨sqR, w⟩]) = w' := by
  subst hw; exact View.read_writes_full _ _ _ _ []

/-- Contents after the start of the second loop. -/
def stepB0 (x : Vals F) : Vals F := { x with sb := slabP x.sb 0 (sbOf (F := F) st0) }

/-- The state after chunk `n`. -/
abbrev stOf (cdec : FVec F S1x128 .f32) (st : FVec F S128x128 .f32) (n : Fin 16) (x : Vals F) : FVec F S128x128 .f32 := stNext (F := F) cdec st (slabW x.kv n)

/-- Contents after a chunk of the second loop. -/
def stepB (cdec : FVec F S1x128 .f32) (st : FVec F S128x128 .f32) (n n' : Fin 16) (x : Vals F) : Vals F :=
  { x with sb := slabP x.sb n' (sbOf (F := F) (stOf cdec st n x)) }

/-- The result of chunk `n` of head `hh`. -/
abbrev oAt (gn : FVec F S1x128 .f32) (hh : Fin 4) (n : Fin 16) (x : Vals F) : Vec F S1x128x128 .bf16 :=
  oOf (F := F) gn (blkW x.v hh n) (rowW x.qb n) (rowW x.kb n) x.mask (rowW x.qd n) (slabW x.sb n) (blkW x.g hh n)

/-- Contents after a chunk of the third loop. -/
def stepC (gn : FVec F S1x128 .f32) (hh : Fin 4) (n : Fin 16) (x : Vals F) : Vals F := { x with o := blkP x.o hh n (oAt gn hh n x) }

/-- The decay of head `hh` at grid point `i`. -/
def lgOf (i : grid0.Coords) (hh : Fin 4) (x : Vec F S8 .f32) : Elt F .f32 :=
  VecWindow.window x (k0_off1 i (BitVec.ofNat 32 hh.val)) S1.size (k0_off1_inb i hh) (Shape.Idx.first (numel1_S1.symm ▸ Nat.one_pos))

/-- The norm weights of head `hh`. -/
def gnOf (hh : Fin 4) (x : Vec F S1x512 .f32) : FVec F S1x128 .f32 := k0_pay10 (VecWindow.window x (gnOff hh) S1x128.size (gnInb hh))

/-- Contents after the start of a head. -/
def stepH (i : grid0.Coords) (hh : Fin 4) (x : Vals F) : Vals F :=
  { x with
    mask := k0_pay5 (F := F) (lgOf i hh x.lg)
    qdec := k0_pay7 (F := F) (k0_pay6 (lgOf i hh x.lg))
    kdec := k0_pay8 (F := F) k0_pay3 (lgOf i hh x.lg) }

/-- Contents after the cast of the weights. -/
def stepW (x : Vals F) : Vals F := { x with wdst := k0_pay2 (F := F) x.wsrc }

theorem chunkA_run (c : Dev nD) (M : Mems) (hh : Fin 4) (n : Fin 16) (x : Vals F) (E : Set ℕ) (K : P F) (Q : PUnit → sProp 𝕄) :
    iprop(St c M x ∗ (St c M (stepA hh n x) -∗ wp frame (wpE (defs₀ (F := F)) Variants.none c none) E K Q))
      ⊢ wp frame (wpE (defs₀ (F := F)) Variants.none c none) E (chunkA M hh n K) Q := by
  unfold St owns chunkA
  iintro ⟨⟨H_lg, ⟨%f_q, %h_q, H_q⟩, ⟨%f_k, %h_k, H_k⟩, ⟨%f_v, %h_v, H_v⟩, H_g, ⟨%f_cos, %h_cos, H_cos⟩, ⟨%f_sin, %h_sin, H_sin⟩, H_gn, H_wsrc, H_o, H_wdst, H_mask, ⟨%f_qdec, %h_qdec, H_qdec⟩, ⟨%f_kdec, %h_kdec, H_kdec⟩, ⟨%f_qb, %h_qb, H_qb⟩, ⟨%f_kb, %h_kb, H_kb⟩, ⟨%f_qd, %h_qd, H_qd⟩, ⟨%f_kv, %h_kv, H_kv⟩, H_sb⟩, HK⟩
  sl_exec
  iapply HK
  isplitl [H_lg]
  · iexact H_lg
  isplitl [H_q]
  · iexists f_q; isplitr; · ipureintro; exact h_q
    iexact H_q
  isplitl [H_k]
  · iexists f_k; isplitr; · ipureintro; exact h_k
    iexact H_k
  isplitl [H_v]
  · iexists f_v; isplitr; · ipureintro; exact h_v
    iexact H_v
  isplitl [H_g]
  · iexact H_g
  isplitl [H_cos]
  · iexists f_cos; isplitr; · ipureintro; exact h_cos
    iexact H_cos
  isplitl [H_sin]
  · iexists f_sin; isplitr; · ipureintro; exact h_sin
    iexact H_sin
  isplitl [H_gn]
  · iexact H_gn
  isplitl [H_wsrc]
  · iexact H_wsrc
  isplitl [H_o]
  · iexact H_o
  isplitl [H_wdst]
  · iexact H_wdst
  isplitl [H_mask]
  · iexact H_mask
  isplitl [H_qdec]
  · iexists f_qdec; isplitr; · ipureintro; exact h_qdec
    iexact H_qdec
  isplitl [H_kdec]
  · iexists f_kdec; isplitr; · ipureintro; exact h_kdec
    iexact H_kdec
  isplitl [H_qb]
  · iexists _; isplitr [H_qb]; swap; iexact H_qb
    ipureintro; exact writeRow M.qb n _ _ _ _ h_qb (by rw [readRow _ _ _ _ h_cos, readRow _ _ _ _ h_sin, readBlk _ _ _ _ _ h_q])
  isplitl [H_kb]
  · iexists _; isplitr [H_kb]; swap; iexact H_kb
    ipureintro; exact writeRow M.kb n _ _ _ _ h_kb (by rw [readRow _ _ _ _ h_cos, readRow _ _ _ _ h_sin, readBlk _ _ _ _ _ h_k])
  isplitl [H_qd]
  · iexists _; isplitr [H_qd]; swap; iexact H_qd
    ipureintro; exact writeRow M.qd n _ _ _ _ h_qd (by rw [readRow _ _ _ _ h_cos, readRow _ _ _ _ h_sin, readBlk _ _ _ _ _ h_q, readSq _ _ _ h_qdec])
  isplitl [H_kv]
  · iexists _; isplitr [H_kv]; swap; iexact H_kv
    ipureintro; exact writeSlab M.kv n _ _ _ _ h_kv (by rw [readRow _ _ _ _ h_cos, readRow _ _ _ _ h_sin, readBlk _ _ _ _ _ h_k, readSq _ _ _ h_kdec, readBlk _ _ _ _ _ h_v])
  iexact H_sb

theorem chunkB0_run (c : Dev nD) (M : Mems)  (x : Vals F) (E : Set ℕ) (K : P F) (Q : PUnit → sProp 𝕄) :
    iprop(St c M x ∗ (St c M (stepB0 x) -∗ wp frame (wpE (defs₀ (F := F)) Variants.none c none) E K Q))
      ⊢ wp frame (wpE (defs₀ (F := F)) Variants.none c none) E (chunkB0 M K) Q := by
  unfold St owns chunkB0
  iintro ⟨⟨H_lg, H_q, H_k, H_v, H_g, H_cos, H_sin, H_gn, H_wsrc, H_o, H_wdst, H_mask, H_qdec, H_kdec, H_qb, H_kb, H_qd, H_kv, ⟨%f_sb, %h_sb, H_sb⟩⟩, HK⟩
  sl_exec
  iapply HK
  isplitl [H_lg]
  · iexact H_lg
  isplitl [H_q]
  · iexact H_q
  isplitl [H_k]
  · iexact H_k
  isplitl [H_v]
  · iexact H_v
  isplitl [H_g]
  · iexact H_g
  isplitl [H_cos]
  · iexact H_cos
  isplitl [H_sin]
  · iexact H_sin
  isplitl [H_gn]
  · iexact H_gn
  isplitl [H_wsrc]
  · iexact H_wsrc
  isplitl [H_o]
  · iexact H_o
  isplitl [H_wdst]
  · iexact H_wdst
  isplitl [H_mask]
  · iexact H_mask
  isplitl [H_qdec]
  · iexact H_qdec
  isplitl [H_kdec]
  · iexact H_kdec
  isplitl [H_qb]
  · iexact H_qb
  isplitl [H_kb]
  · iexact H_kb
  isplitl [H_qd]
  · iexact H_qd
  isplitl [H_kv]
  · iexact H_kv
  iexists _; isplitr [H_sb]; swap; iexact H_sb
  ipureintro; exact writeSlab M.sb 0 _ _ _ _ h_sb rfl

theorem chunkB_run (c : Dev nD) (M : Mems) (cdec : FVec F S1x128 .f32) (st : FVec F S128x128 .f32) (n n' : Fin 16) (x : Vals F) (E : Set ℕ) (K : FVec F S128x128 .f32 → P F) (Q : PUnit → sProp 𝕄) :
    iprop(St c M x ∗ (St c M (stepB cdec st n n' x) -∗ wp frame (wpE (defs₀ (F := F)) Variants.none c none) E (K (stOf cdec st n x)) Q))
      ⊢ wp frame (wpE (defs₀ (F := F)) Variants.none c none) E (chunkB M cdec st n n' K) Q := by
  unfold St owns chunkB
  iintro ⟨⟨H_lg, H_q, H_k, H_v, H_g, H_cos, H_sin, H_gn, H_wsrc, H_o, H_wdst, H_mask, H_qdec, H_kdec, H_qb, H_kb, H_qd, ⟨%f_kv, %h_kv, H_kv⟩, ⟨%f_sb, %h_sb, H_sb⟩⟩, HK⟩
  sl_exec
  rw [readSlab M.kv n _ _ h_kv]
  iapply HK
  isplitl [H_lg]
  · iexact H_lg
  isplitl [H_q]
  · iexact H_q
  isplitl [H_k]
  · iexact H_k
  isplitl [H_v]
  · iexact H_v
  isplitl [H_g]
  · iexact H_g
  isplitl [H_cos]
  · iexact H_cos
  isplitl [H_sin]
  · iexact H_sin
  isplitl [H_gn]
  · iexact H_gn
  isplitl [H_wsrc]
  · iexact H_wsrc
  isplitl [H_o]
  · iexact H_o
  isplitl [H_wdst]
  · iexact H_wdst
  isplitl [H_mask]
  · iexact H_mask
  isplitl [H_qdec]
  · iexact H_qdec
  isplitl [H_kdec]
  · iexact H_kdec
  isplitl [H_qb]
  · iexact H_qb
  isplitl [H_kb]
  · iexact H_kb
  isplitl [H_qd]
  · iexact H_qd
  isplitl [H_kv]
  · iexists f_kv; isplitr; · ipureintro; exact h_kv
    iexact H_kv
  iexists _; isplitr [H_sb]; swap; iexact H_sb
  ipureintro; exact writeSlab M.sb n' _ _ _ _ h_sb rfl

theorem chunkC_run (c : Dev nD) (M : Mems) (gn : FVec F S1x128 .f32) (hh : Fin 4) (n : Fin 16) (x : Vals F) (E : Set ℕ) (K : P F) (Q : PUnit → sProp 𝕄) :
    iprop(St c M x ∗ (St c M (stepC gn hh n x) -∗ wp frame (wpE (defs₀ (F := F)) Variants.none c none) E K Q))
      ⊢ wp frame (wpE (defs₀ (F := F)) Variants.none c none) E (chunkC M gn hh n K) Q := by
  unfold St owns chunkC
  iintro ⟨⟨H_lg, H_q, H_k, ⟨%f_v, %h_v, H_v⟩, ⟨%f_g, %h_g, H_g⟩, H_cos, H_sin, H_gn, H_wsrc, ⟨%f_o, %h_o, H_o⟩, H_wdst, ⟨%f_mask, %h_mask, H_mask⟩, H_qdec, H_kdec, ⟨%f_qb, %h_qb, H_qb⟩, ⟨%f_kb, %h_kb, H_kb⟩, ⟨%f_qd, %h_qd, H_qd⟩, H_kv, ⟨%f_sb, %h_sb, H_sb⟩⟩, HK⟩
  sl_exec
  iapply HK
  isplitl [H_lg]
  · iexact H_lg
  isplitl [H_q]
  · iexact H_q
  isplitl [H_k]
  · iexact H_k
  isplitl [H_v]
  · iexists f_v; isplitr; · ipureintro; exact h_v
    iexact H_v
  isplitl [H_g]
  · iexists f_g; isplitr; · ipureintro; exact h_g
    iexact H_g
  isplitl [H_cos]
  · iexact H_cos
  isplitl [H_sin]
  · iexact H_sin
  isplitl [H_gn]
  · iexact H_gn
  isplitl [H_wsrc]
  · iexact H_wsrc
  isplitl [H_o]
  · iexists _; isplitr [H_o]; swap; iexact H_o
    ipureintro; exact writeBlk M.o hh n _ _ _ _ h_o (by rw [readBlk _ _ _ _ _ h_v, readRow _ _ _ _ h_qb, readRow _ _ _ _ h_kb, readSq _ _ _ h_mask, readRow _ _ _ _ h_qd, readSlab _ _ _ _ h_sb, readBlk _ _ _ _ _ h_g])
  isplitl [H_wdst]
  · iexact H_wdst
  isplitl [H_mask]
  · iexists f_mask; isplitr; · ipureintro; exact h_mask
    iexact H_mask
  isplitl [H_qdec]
  · iexact H_qdec
  isplitl [H_kdec]
  · iexact H_kdec
  isplitl [H_qb]
  · iexists f_qb; isplitr; · ipureintro; exact h_qb
    iexact H_qb
  isplitl [H_kb]
  · iexists f_kb; isplitr; · ipureintro; exact h_kb
    iexact H_kb
  isplitl [H_qd]
  · iexists f_qd; isplitr; · ipureintro; exact h_qd
    iexact H_qd
  isplitl [H_kv]
  · iexact H_kv
  iexists f_sb; isplitr; · ipureintro; exact h_sb
  iexact H_sb

theorem headStart_run (c : Dev nD) (M : Mems) (i : grid0.Coords) (hh : Fin 4) (x : Vals F) (E : Set ℕ) (K : Elt F .f32 → FVec F S1x128 .f32 → P F) (Q : PUnit → sProp 𝕄) :
    iprop(St c M x ∗ (St c M (stepH i hh x) -∗ wp frame (wpE (defs₀ (F := F)) Variants.none c none) E (K (lgOf i hh x.lg) (gnOf hh x.gn)) Q))
      ⊢ wp frame (wpE (defs₀ (F := F)) Variants.none c none) E (headStart i M hh K) Q := by
  unfold St owns headStart smemLoadElt
  iintro ⟨⟨⟨%f_lg, %h_lg, H_lg⟩, H_q, H_k, H_v, H_g, H_cos, H_sin, ⟨%f_gn, %h_gn, H_gn⟩, H_wsrc, H_o, H_wdst, ⟨%f_mask, %h_mask, H_mask⟩, ⟨%f_qdec, %h_qdec, H_qdec⟩, ⟨%f_kdec, %h_kdec, H_kdec⟩, H_qb, H_kb, H_qd, H_kv, H_sb⟩, HK⟩
  sl_exec
  have e_lg : M.lg.view.readAt (Elt F) (Rect.unit (s := S8) (k0_off1 i (BitVec.ofNat 32 hh.val)) S1.size (k0_off1_inb i hh)).toLoadRect f_lg
      = VecWindow.window x.lg (k0_off1 i (BitVec.ofNat 32 hh.val)) S1.size (k0_off1_inb i hh) := by
    rw [← h_lg]; exact View.readAt_unit _ _ _ rfl _
  have e_gn : M.gn.view.readAt (Elt F) (gnR hh).toLoadRect f_gn = VecWindow.window x.gn (gnOff hh) S1x128.size (gnInb hh) := by
    rw [← h_gn]; exact View.readAt_unit _ _ _ rfl _
  rw [e_gn]
  rw [e_lg]
  iapply HK
  isplitl [H_lg]
  · iexists f_lg; isplitr; · ipureintro; exact h_lg
    iexact H_lg
  isplitl [H_q]
  · iexact H_q
  isplitl [H_k]
  · iexact H_k
  isplitl [H_v]
  · iexact H_v
  isplitl [H_g]
  · iexact H_g
  isplitl [H_cos]
  · iexact H_cos
  isplitl [H_sin]
  · iexact H_sin
  isplitl [H_gn]
  · iexists f_gn; isplitr; · ipureintro; exact h_gn
    iexact H_gn
  isplitl [H_wsrc]
  · iexact H_wsrc
  isplitl [H_o]
  · iexact H_o
  isplitl [H_wdst]
  · iexact H_wdst
  isplitl [H_mask]
  · iexists _; isplitr [H_mask]; swap; iexact H_mask
    ipureintro; exact writeSq M.mask _ _ _ rfl
  isplitl [H_qdec]
  · iexists _; isplitr [H_qdec]; swap; iexact H_qdec
    ipureintro; exact writeSq M.qdec _ _ _ rfl
  isplitl [H_kdec]
  · iexists _; isplitr [H_kdec]; swap; iexact H_kdec
    ipureintro; exact writeSq M.kdec _ _ _ rfl
  isplitl [H_qb]
  · iexact H_qb
  isplitl [H_kb]
  · iexact H_kb
  isplitl [H_qd]
  · iexact H_qd
  isplitl [H_kv]
  · iexact H_kv
  iexact H_sb

theorem castW_run (c : Dev nD) (M : Mems)  (x : Vals F) (E : Set ℕ) (K : P F) (Q : PUnit → sProp 𝕄) :
    iprop(St c M x ∗ (St c M (stepW x) -∗ wp frame (wpE (defs₀ (F := F)) Variants.none c none) E K Q))
      ⊢ wp frame (wpE (defs₀ (F := F)) Variants.none c none) E (castW M K) Q := by
  unfold St owns castW
  iintro ⟨⟨H_lg, H_q, H_k, H_v, H_g, H_cos, H_sin, H_gn, ⟨%f_wsrc, %h_wsrc, H_wsrc⟩, H_o, ⟨%f_wdst, %h_wdst, H_wdst⟩, H_mask, H_qdec, H_kdec, H_qb, H_kb, H_qd, H_kv, H_sb⟩, HK⟩
  sl_exec
  iapply HK
  isplitl [H_lg]
  · iexact H_lg
  isplitl [H_q]
  · iexact H_q
  isplitl [H_k]
  · iexact H_k
  isplitl [H_v]
  · iexact H_v
  isplitl [H_g]
  · iexact H_g
  isplitl [H_cos]
  · iexact H_cos
  isplitl [H_sin]
  · iexact H_sin
  isplitl [H_gn]
  · iexact H_gn
  isplitl [H_wsrc]
  · iexists f_wsrc; isplitr; · ipureintro; exact h_wsrc
    iexact H_wsrc
  isplitl [H_o]
  · iexact H_o
  isplitl [H_wdst]
  · iexists _; isplitr [H_wdst]; swap; iexact H_wdst
    ipureintro; exact (View.read_writes_full _ _ _ _ []).trans (congrArg _ ((View.readAt_full _ _ _).trans h_wsrc))
  isplitl [H_mask]
  · iexact H_mask
  isplitl [H_qdec]
  · iexact H_qdec
  isplitl [H_kdec]
  · iexact H_kdec
  isplitl [H_qb]
  · iexact H_qb
  isplitl [H_kb]
  · iexact H_kb
  isplitl [H_qd]
  · iexact H_qd
  isplitl [H_kv]
  · iexact H_kv
  iexact H_sb

end Cert.KernelIdeal.Ret

end
-- ==== Proof.Ret.Same.lean ====
/- The printed body is the body as loops. -/
module

public import proofs.«01_k».proof.Proof.Ret.Loop

@[expose] public section

set_option maxRecDepth 1000000

noncomputable section

namespace Cert.KernelIdeal.Ret

open Idealize.ShloMosaic Idealize.SL.Sem
open Cert.KernelIdeal Cert.KernelIdeal.Gen

variable {F : FTy → Type} [FloatOps F] [Named F]

set_option maxHeartbeats 10000000 in
/-- The loops, unfolded, are the printed operations. -/
theorem printed_eq (i : grid0.Coords) (M : Mems) : printed (F := F) i M = body i M := rfl

end Cert.KernelIdeal.Ret

end
-- ==== Proof.Ret.Body.lean ====
/- The body as a function on the contents of the buffers, and what it leaves in the two outputs. -/
module

public import proofs.«01_k».proof.Proof.Ret.Steps
public import proofs.«01_k».proof.Proof.Ret.Same

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- Contents after the last `r` chunks of the first loop. -/
def stepsA (hh : Fin 4) : ℕ → Vals F → Vals F
  | 0, x => x
  | r + 1, x => stepsA hh r (stepA hh ⟨15 - r, by omega⟩ x)

/-- Contents after the last `r` chunks of the second loop. -/
def stepsB (cdec : FVec F S1x128 .f32) : ℕ → FVec F S128x128 .f32 → Vals F → Vals F
  | 0, _, x => x
  | r + 1, st, x => stepsB cdec r (stOf cdec st ⟨14 - r, by omega⟩ x) (stepB cdec st ⟨14 - r, by omega⟩ ⟨15 - r, by omega⟩ x)

/-- Contents after the last `r` chunks of the third loop. -/
def stepsC (gn : FVec F S1x128 .f32) (hh : Fin 4) : ℕ → Vals F → Vals F
  | 0, x => x
  | r + 1, x => stepsC gn hh r (stepC gn hh ⟨15 - r, by omega⟩ x)

/-- Contents after one head. -/
def headF (i : grid0.Coords) (hh : Fin 4) (x : Vals F) : Vals F :=
  stepsC (gnOf hh x.gn) hh 16 (stepsB (k0_pay9 (lgOf i hh x.lg)) 15 st0 (stepB0 (stepsA hh 16 (stepH i hh x))))

/-- Contents after the body. -/
def runF (i : grid0.Coords) (x : Vals F) : Vals F := headF i 3 (headF i 2 (headF i 1 (headF i 0 (stepW x))))

section Run

variable (c : Dev nD) (M : Mems) (E : Set ℕ)

theorem loopA_run (hh : Fin 4) (K : P F) (Q : PUnit → sProp 𝕄) : ∀ (r : ℕ) (x : Vals F),
    iprop(St c M x ∗ (St c M (stepsA hh r x) -∗ wp frame (wpE (defs₀ (F := F)) Variants.none c none) E K Q))
      ⊢ wp frame (wpE (defs₀ (F := F)) Variants.none c none) E (loopA M hh r K) Q
  | 0, x => by
    iintro ⟨H, HK⟩
    iapply HK; iexact H
  | r + 1, x => by
    iintro ⟨H, HK⟩
    unfold loopA
    iapply chunkA_run c M hh _ x E _ Q
    isplitl [H]; · iexact H
    iintro H
    iapply loopA_run hh K Q r _
    isplitl [H]; · iexact H
    iexact HK

theorem loopB_run (cdec : FVec F S1x128 .f32) (K : P F) (Q : PUnit → sProp 𝕄) : ∀ (r : ℕ) (st : FVec F S128x128 .f32) (x : Vals F),
    iprop(St c M x ∗ (St c M (stepsB cdec r st x) -∗ wp frame (wpE (defs₀ (F := F)) Variants.none c none) E K Q))
      ⊢ wp frame (wpE (defs₀ (F := F)) Variants.none c none) E (loopB M cdec r st K) Q
  | 0, st, x => by
    iintro ⟨H, HK⟩
    iapply HK; iexact H
  | r + 1, st, x => by
    iintro ⟨H, HK⟩
    unfold loopB
    iapply chunkB_run c M cdec st _ _ x E (fun st' => loopB M cdec r st' K) Q
    isplitl [H]; · iexact H
    iintro H
    iapply loopB_run cdec K Q r _ _
    isplitl [H]; · iexact H
    iexact HK

theorem loopC_run (gn : FVec F S1x128 .f32) (hh : Fin 4) (K : P F) (Q : PUnit → sProp 𝕄) : ∀ (r : ℕ) (x : Vals F),
    iprop(St c M x ∗ (St c M (stepsC gn hh r x) -∗ wp frame (wpE (defs₀ (F := F)) Variants.none c none) E K Q))
      ⊢ wp frame (wpE (defs₀ (F := F)) Variants.none c none) E (loopC M gn hh r K) Q
  | 0, x => by
    iintro ⟨H, HK⟩
    iapply HK; iexact H
  | r + 1, x => by
    iintro ⟨H, HK⟩
    unfold loopC
    iapply chunkC_run c M gn hh _ x E _ Q
    isplitl [H]; · iexact H
    iintro H
    iapply loopC_run gn hh K Q r _
    isplitl [H]; · iexact H
    iexact HK

theorem head_run (i : grid0.Coords) (hh : Fin 4) (x : Vals F) (K : P F) (Q : PUnit → sProp 𝕄) :
    iprop(St c M x ∗ (St c M (headF i hh x) -∗ wp frame (wpE (defs₀ (F := F)) Variants.none c none) E K Q))
      ⊢ wp frame (wpE (defs₀ (F := F)) Variants.none c none) E (head i M hh K) Q := by
  iintro ⟨H, HK⟩
  unfold head
  iapply headStart_run c M i hh x E _ Q
  isplitl [H]; · iexact H
  iintro H
  iapply loopA_run c M E hh _ Q 16 (stepH i hh x)
  isplitl [H]; · iexact H
  iintro H
  iapply chunkB0_run c M (stepsA hh 16 (stepH i hh x)) E _ Q
  isplitl [H]; · iexact H
  iintro H
  iapply loopB_run c M E (k0_pay9 (lgOf i hh x.lg)) _ Q 15 st0 (stepB0 (stepsA hh 16 (stepH i hh x)))
  isplitl [H]; · iexact H
  iintro H
  iapply loopC_run c M E (gnOf hh x.gn) hh K Q 16 (stepsB (k0_pay9 (lgOf i hh x.lg)) 15 st0 (stepB0 (stepsA hh 16 (stepH i hh x))))
  isplitl [H]; · iexact H
  iexact HK

/-- The body, from the contents `x`, ends with the contents `runF i x`. -/
theorem body_run (i : grid0.Coords) (x : Vals F) (K : PUnit → sProp 𝕄) :
    iprop(St c M x ∗ (St c M (runF i x) -∗ K ⟨⟩)) ⊢ wp frame (wpE (defs₀ (F := F)) Variants.none c none) E (printed i M) K := by
  rw [printed_eq]
  iintro ⟨H, HK⟩
  unfold body
  iapply castW_run c M x E _ K
  isplitl [H]; · iexact H
  iintro H
  iapply head_run c M E i 0 (stepW x) _ K
  isplitl [H]; · iexact H
  iintro H
  iapply head_run c M E i 1 (headF i 0 (stepW x)) _ K
  isplitl [H]; · iexact H
  iintro H
  iapply head_run c M E i 2 (headF i 1 (headF i 0 (stepW x))) _ K
  isplitl [H]; · iexact H
  iintro H
  iapply head_run c M E i 3 (headF i 2 (headF i 1 (headF i 0 (stepW x)))) _ K
  isplitl [H]; · iexact H
  iintro H
  sl_step
  iapply HK
  iexact H

end Run

/-! ## The contents, window by window -/

theorem rowW_put_same {α : Type} (x : S2048x128.Idx → α) (n : Fin 16) (w : S128x128.Idx → α) : rowW (rowP x n w) n = w := VecWindow.window_put_same _ _ _ _ _
theorem rowW_put_ne {α : Type} (x : S2048x128.Idx → α) (n n' : Fin 16) (w : S128x128.Idx → α) (h : n.val ≠ n'.val) : rowW (rowP x n w) n' = rowW x n' :=
  VecWindow.window_put_of_disjoint _ _ _ _ _ _ _ 0 (by show 128 * n'.val + 128 ≤ 128 * n.val ∨ 128 * n.val + 128 ≤ 128 * n'.val; omega)
theorem slabW_put_same {α : Type} (x : S16x128x128.Idx → α) (n : Fin 16) (w : S1x128x128.Idx → α) : slabW (slabP x n w) n = w := VecWindow.window_put_same _ _ _ _ _
theorem slabW_put_ne {α : Type} (x : S16x128x128.Idx → α) (n n' : Fin 16) (w : S1x128x128.Idx → α) (h : n.val ≠ n'.val) : slabW (slabP x n w) n' = slabW x n' :=
  VecWindow.window_put_of_disjoint _ _ _ _ _ _ _ 0 (by show n'.val + 1 ≤ n.val ∨ n.val + 1 ≤ n'.val; omega)
theorem blkW_put_same {α : Type} (x : S1x2048x512.Idx → α) (hh : Fin 4) (n : Fin 16) (w : S1x128x128.Idx → α) : blkW (blkP x hh n w) hh n = w := VecWindow.window_put_same _ _ _ _ _
theorem blkW_put_ne {α : Type} (x : S1x2048x512.Idx → α) (hh hh' : Fin 4) (n n' : Fin 16) (w : S1x128x128.Idx → α) (h : n.val ≠ n'.val ∨ hh.val ≠ hh'.val) :
    blkW (blkP x hh n w) hh' n' = blkW x hh' n' := by
  rcases h with h | h
  · exact VecWindow.window_put_of_disjoint _ _ _ _ _ _ _ 1 (by show 128 * n'.val + 128 ≤ 128 * n.val ∨ 128 * n.val + 128 ≤ 128 * n'.val; omega)
  · exact VecWindow.window_put_of_disjoint _ _ _ _ _ _ _ 2 (by show 128 * hh'.val + 128 ≤ 128 * hh.val ∨ 128 * hh.val + 128 ≤ 128 * hh'.val; omega)

/-- The buffers that only the first loop and the heads' starts leave alone agree. -/
structure SameIn (x y : Vals F) : Prop where
  lg : y.lg = x.lg
  q : y.q = x.q
  k : y.k = x.k
  v : y.v = x.v
  g : y.g = x.g
  cos : y.cos = x.cos
  sin : y.sin = x.sin
  gn : y.gn = x.gn
  wsrc : y.wsrc = x.wsrc
  wdst : y.wdst = x.wdst

theorem SameIn.trans {x y z : Vals F} (h : SameIn x y) (h' : SameIn y z) : SameIn x z :=
  ⟨h'.lg.trans h.lg, h'.q.trans h.q, h'.k.trans h.k, h'.v.trans h.v, h'.g.trans h.g, h'.cos.trans h.cos, h'.sin.trans h.sin, h'.gn.trans h.gn, h'.wsrc.trans h.wsrc, h'.wdst.trans h.wdst⟩
theorem SameIn.rfl {x : Vals F} : SameIn x x := ⟨.refl _, .refl _, .refl _, .refl _, .refl _, .refl _, .refl _, .refl _, .refl _, .refl _⟩

theorem keepA (hh : Fin 4) (n : Fin 16) (x : Vals F) : SameIn x (stepA hh n x) := ⟨.refl _, .refl _, .refl _, .refl _, .refl _, .refl _, .refl _, .refl _, .refl _, .refl _⟩
theorem keepB0 (x : Vals F) : SameIn x (stepB0 x) := ⟨.refl _, .refl _, .refl _, .refl _, .refl _, .refl _, .refl _, .refl _, .refl _, .refl _⟩
theorem keepB (cdec : FVec F S1x128 .f32) (st : FVec F S128x128 .f32) (n n' : Fin 16) (x : Vals F) : SameIn x (stepB cdec st n n' x) := ⟨.refl _, .refl _, .refl _, .refl _, .refl _, .refl _, .refl _, .refl _, .refl _, .refl _⟩
theorem keepC (gn : FVec F S1x128 .f32) (hh : Fin 4) (n : Fin 16) (x : Vals F) : SameIn x (stepC gn hh n x) := ⟨.refl _, .refl _, .refl _, .refl _, .refl _, .refl _, .refl _, .refl _, .refl _, .refl _⟩
theorem keepH (i : grid0.Coords) (hh : Fin 4) (x : Vals F) : SameIn x (stepH i hh x) := ⟨.refl _, .refl _, .refl _, .refl _, .refl _, .refl _, .refl _, .refl _, .refl _, .refl _⟩

/-- What the first loop leaves: it keeps what it does not write, and each chunk from the `16 - r`th on is its value. -/
theorem stepsA_spec (hh : Fin 4) : ∀ (r : ℕ), r ≤ 16 → ∀ x : Vals F,
    SameIn x (stepsA hh r x) ∧ (stepsA hh r x).o = x.o ∧ (stepsA hh r x).mask = x.mask
    ∧ (∀ n : Fin 16, rowW (stepsA hh r x).qb n = if 16 - r ≤ n.val then qbOf (F := F) (rowW x.cos n) (rowW x.sin n) (blkW x.q hh n) else rowW x.qb n)
    ∧ (∀ n : Fin 16, rowW (stepsA hh r x).kb n = if 16 - r ≤ n.val then kbOf (F := F) (rowW x.cos n) (rowW x.sin n) (blkW x.k hh n) else rowW x.kb n)
    ∧ (∀ n : Fin 16, rowW (stepsA hh r x).qd n = if 16 - r ≤ n.val then qdOf (F := F) (rowW x.cos n) (rowW x.sin n) (blkW x.q hh n) x.qdec else rowW x.qd n)
    ∧ (∀ n : Fin 16, slabW (stepsA hh r x).kv n = if 16 - r ≤ n.val then kvOf (F := F) (rowW x.cos n) (rowW x.sin n) (blkW x.k hh n) x.kdec (blkW x.v hh n) else slabW x.kv n)
  | 0, _, x => ⟨.rfl, .refl _, .refl _,
      fun n => (if_neg (by have := n.isLt; omega)).symm, fun n => (if_neg (by have := n.isLt; omega)).symm,
      fun n => (if_neg (by have := n.isLt; omega)).symm, fun n => (if_neg (by have := n.isLt; omega)).symm⟩
  | r + 1, hr, x => by
    obtain ⟨h0, ho, hm, h1, h2, h3, h4⟩ := stepsA_spec hh r (by omega) (stepA hh ⟨15 - r, by omega⟩ x)
    refine ⟨(keepA _ _ _).trans h0, ho, hm, fun n => ?_, fun n => ?_, fun n => ?_, fun n => ?_⟩
    · refine (h1 n).trans ?_
      by_cases hn : n = ⟨15 - r, by omega⟩
      · subst hn
        rw [if_neg (by show ¬ 16 - r ≤ 15 - r; omega), if_pos (by show 16 - (r + 1) ≤ 15 - r; omega)]
        exact rowW_put_same _ _ _
      · have hv : n.val ≠ 15 - r := fun e => hn (Fin.ext e)
        by_cases hle : 16 - r ≤ n.val
        · rw [if_pos hle, if_pos (by omega)]; rfl
        · rw [if_neg hle, if_neg (by omega)]; exact rowW_put_ne _ _ _ _ (Ne.symm hv)
    · refine (h2 n).trans ?_
      by_cases hn : n = ⟨15 - r, by omega⟩
      · subst hn
        rw [if_neg (by show ¬ 16 - r ≤ 15 - r; omega), if_pos (by show 16 - (r + 1) ≤ 15 - r; omega)]
        exact rowW_put_same _ _ _
      · have hv : n.val ≠ 15 - r := fun e => hn (Fin.ext e)
        by_cases hle : 16 - r ≤ n.val
        · rw [if_pos hle, if_pos (by omega)]; rfl
        · rw [if_neg hle, if_neg (by omega)]; exact rowW_put_ne _ _ _ _ (Ne.symm hv)
    · refine (h3 n).trans ?_
      by_cases hn : n = ⟨15 - r, by omega⟩
      · subst hn
        rw [if_neg (by show ¬ 16 - r ≤ 15 - r; omega), if_pos (by show 16 - (r + 1) ≤ 15 - r; omega)]
        exact rowW_put_same _ _ _
      · have hv : n.val ≠ 15 - r := fun e => hn (Fin.ext e)
        by_cases hle : 16 - r ≤ n.val
        · rw [if_pos hle, if_pos (by omega)]; rfl
        · rw [if_neg hle, if_neg (by omega)]; exact rowW_put_ne _ _ _ _ (Ne.symm hv)
    · refine (h4 n).trans ?_
      by_cases hn : n = ⟨15 - r, by omega⟩
      · subst hn
        rw [if_neg (by show ¬ 16 - r ≤ 15 - r; omega), if_pos (by show 16 - (r + 1) ≤ 15 - r; omega)]
        exact slabW_put_same _ _ _
      · have hv : n.val ≠ 15 - r := fun e => hn (Fin.ext e)
        by_cases hle : 16 - r ≤ n.val
        · rw [if_pos hle, if_pos (by omega)]; rfl
        · rw [if_neg hle, if_neg (by omega)]; exact slabW_put_ne _ _ _ _ (Ne.symm hv)

/-- The state before chunk `n`, of the chunks' own contributions. -/
def stSeq (cdec : FVec F S1x128 .f32) (kv : Fin 16 → Vec F S1x128x128 .f32) : ℕ → FVec F S128x128 .f32
  | 0 => st0
  | n + 1 => stNext cdec (stSeq cdec kv n) (kv ⟨n % 16, Nat.mod_lt _ (by norm_num)⟩)

theorem stepsB_spec (cdec : FVec F S1x128 .f32) : ∀ (r : ℕ), r ≤ 15 → ∀ (x : Vals F),
    (∀ n : Fin 16, n.val ≤ 15 - r → slabW x.sb n = sbOf (F := F) (stSeq cdec (slabW x.kv) n.val)) →
    ∀ y, y = stepsB cdec r (stSeq cdec (slabW x.kv) (15 - r)) x →
    SameIn x y ∧ y.o = x.o ∧ y.mask = x.mask ∧ y.qb = x.qb ∧ y.kb = x.kb ∧ y.qd = x.qd
    ∧ ∀ n : Fin 16, slabW y.sb n = sbOf (F := F) (stSeq cdec (slabW x.kv) n.val)
  | 0, _, x, h, y, e => by
    subst e
    exact ⟨.rfl, .refl _, .refl _, .refl _, .refl _, .refl _, fun n => h n (by have := n.isLt; omega)⟩
  | r + 1, hr, x, h, y, e => by
    have hst : stSeq cdec (slabW x.kv) (15 - r) = stOf cdec (stSeq cdec (slabW x.kv) (15 - (r + 1))) ⟨14 - r, by omega⟩ x := by
      have e1 : 15 - r = (14 - r) + 1 := by omega
      have e2 : 15 - (r + 1) = 14 - r := by omega
      rw [e1, e2]
      show stNext cdec _ _ = stNext cdec _ _
      congr 1
      exact congrArg _ (Fin.ext (Nat.mod_eq_of_lt (by omega)))
    have key := stepsB_spec cdec r (by omega) (stepB cdec (stSeq cdec (slabW x.kv) (15 - (r + 1))) ⟨14 - r, by omega⟩ ⟨15 - r, by omega⟩ x) ?_ y ?_
    · exact ⟨(keepB _ _ _ _ _).trans key.1, key.2⟩
    · intro n hn
      by_cases hn' : n = ⟨15 - r, by omega⟩
      · rw [hn']
        exact (slabW_put_same _ _ _).trans (congrArg _ hst.symm)
      · have hv : n.val ≠ 15 - r := fun e => hn' (Fin.ext e)
        exact (slabW_put_ne _ _ _ _ (Ne.symm hv)).trans (h n (by omega))
    · rw [e]
      show stepsB cdec r _ _ = stepsB cdec r _ _
      congr 1
      exact hst.symm

theorem stepsC_spec (gn : FVec F S1x128 .f32) (hh : Fin 4) : ∀ (r : ℕ), r ≤ 16 → ∀ x : Vals F,
    SameIn x (stepsC gn hh r x)
    ∧ (∀ n : Fin 16, blkW (stepsC gn hh r x).o hh n = if 16 - r ≤ n.val then oAt gn hh n x else blkW x.o hh n)
    ∧ ∀ (hh' : Fin 4) (n : Fin 16), hh ≠ hh' → blkW (stepsC gn hh r x).o hh' n = blkW x.o hh' n
  | 0, _, x => ⟨.rfl, fun n => (if_neg (by have := n.isLt; omega)).symm, fun _ _ _ => .refl _⟩
  | r + 1, hr, x => by
    obtain ⟨h0, h1, h2⟩ := stepsC_spec gn hh r (by omega) (stepC gn hh ⟨15 - r, by omega⟩ x)
    refine ⟨(keepC _ _ _ _).trans h0, fun n => (h1 n).trans ?_, fun hh' n hne => (h2 hh' n hne).trans (blkW_put_ne _ _ _ _ _ _ (.inr fun e => hne (Fin.ext e)))⟩
    by_cases hn : n = ⟨15 - r, by omega⟩
    · subst hn
      rw [if_neg (by show ¬ 16 - r ≤ 15 - r; omega), if_pos (by show 16 - (r + 1) ≤ 15 - r; omega)]
      exact blkW_put_same _ _ _ _
    · have hv : n.val ≠ 15 - r := fun e => hn (Fin.ext e)
      by_cases hle : 16 - r ≤ n.val
      · rw [if_pos hle, if_pos (by omega)]; rfl
      · rw [if_neg hle, if_neg (by omega)]; exact blkW_put_ne _ _ _ _ _ _ (.inl (Ne.symm hv))

/-- The own contribution of chunk `n` of head `hh`, from the step's inputs. -/
def kvVal (i : grid0.Coords) (x : Vals F) (hh : Fin 4) (n : Fin 16) : Vec F S1x128x128 .f32 :=
  kvOf (F := F) (rowW x.cos n) (rowW x.sin n) (blkW x.k hh n) (k0_pay8 (F := F) k0_pay3 (lgOf i hh x.lg)) (blkW x.v hh n)

/-- The result of chunk `n` of head `hh`, from the step's inputs. -/
def oVal (i : grid0.Coords) (x : Vals F) (hh : Fin 4) (n : Fin 16) : Vec F S1x128x128 .bf16 :=
  oOf (F := F) (gnOf hh x.gn) (blkW x.v hh n) (qbOf (F := F) (rowW x.cos n) (rowW x.sin n) (blkW x.q hh n)) (kbOf (F := F) (rowW x.cos n) (rowW x.sin n) (blkW x.k hh n))
    (k0_pay5 (F := F) (lgOf i hh x.lg)) (qdOf (F := F) (rowW x.cos n) (rowW x.sin n) (blkW x.q hh n) (k0_pay7 (F := F) (k0_pay6 (lgOf i hh x.lg))))
    (sbOf (F := F) (stSeq (k0_pay9 (lgOf i hh x.lg)) (kvVal i x hh) n.val)) (blkW x.g hh n)

theorem oVal_congr (i : grid0.Coords) {x y : Vals F} (h : SameIn x y) (hh : Fin 4) (n : Fin 16) : oVal i y hh n = oVal i x hh n := by
  unfold oVal kvVal
  rw [h.lg, h.q, h.k, h.v, h.g, h.cos, h.sin, h.gn]

theorem headF_spec (i : grid0.Coords) (hh : Fin 4) (x : Vals F) :
    SameIn x (headF i hh x) ∧ (∀ n, blkW (headF i hh x).o hh n = oVal i x hh n)
    ∧ ∀ (hh' : Fin 4) (n : Fin 16), hh ≠ hh' → blkW (headF i hh x).o hh' n = blkW x.o hh' n := by
  unfold headF
  obtain ⟨a0, ao, am, a1, a2, a3, a4⟩ := stepsA_spec hh 16 le_rfl (stepH i hh x)
  have a0' : SameIn x (stepsA hh 16 (stepH i hh x)) := (keepH _ _ _).trans a0
  have ao' : (stepsA hh 16 (stepH i hh x)).o = x.o := ao
  generalize hxa : stepsA hh 16 (stepH i hh x) = xa at a0 ao am a1 a2 a3 a4 a0' ao' ⊢
  have kvs : slabW xa.kv = kvVal i x hh := funext fun n => (a4 n).trans (if_pos (by omega))
  obtain ⟨b0, bo, bm, b1, b2, b3, b4⟩ := stepsB_spec (k0_pay9 (lgOf i hh x.lg)) 15 le_rfl (stepB0 xa)
    (fun n hn => by
      have e : n = 0 := Fin.ext (by show n.val = 0; omega)
      subst e
      exact slabW_put_same _ _ _) _ rfl
  have b0' : SameIn xa (stepsB (k0_pay9 (lgOf i hh x.lg)) 15 st0 (stepB0 xa)) := (keepB0 _).trans b0
  have bo' : (stepsB (k0_pay9 (lgOf i hh x.lg)) 15 st0 (stepB0 xa)).o = xa.o := bo
  have bm' : (stepsB (k0_pay9 (lgOf i hh x.lg)) 15 st0 (stepB0 xa)).mask = xa.mask := bm
  have b1' : (stepsB (k0_pay9 (lgOf i hh x.lg)) 15 st0 (stepB0 xa)).qb = xa.qb := b1
  have b2' : (stepsB (k0_pay9 (lgOf i hh x.lg)) 15 st0 (stepB0 xa)).kb = xa.kb := b2
  have b3' : (stepsB (k0_pay9 (lgOf i hh x.lg)) 15 st0 (stepB0 xa)).qd = xa.qd := b3
  have b4' : ∀ n : Fin 16, slabW (stepsB (k0_pay9 (lgOf i hh x.lg)) 15 st0 (stepB0 xa)).sb n = sbOf (F := F) (stSeq (k0_pay9 (lgOf i hh x.lg)) (slabW xa.kv) n.val) := b4
  generalize stepsB (k0_pay9 (lgOf i hh x.lg)) 15 st0 (stepB0 xa) = xb at b0' bo' bm' b1' b2' b3' b4' ⊢
  obtain ⟨c0, c1, c2⟩ := stepsC_spec (gnOf hh x.gn) hh 16 le_rfl xb
  have hab := a0'.trans b0'
  refine ⟨hab.trans c0, fun n => (c1 n).trans ?_, fun hh' n hne => (c2 hh' n hne).trans (by rw [bo', ao'])⟩
  rw [if_pos (by omega)]
  show oOf _ _ _ _ _ _ _ _ = _
  rw [hab.v, hab.g, b1', b2', b3', bm', am, b4', a1, a2, a3, kvs, if_pos (by omega), if_pos (by omega), if_pos (by omega)]
  rfl

/-- What the body leaves: the inputs, the cast of the weights, and the chunks' results. -/
theorem runF_spec (i : grid0.Coords) (x : Vals F) :
    SameIn (stepW x) (runF i x) ∧ ∀ (hh : Fin 4) (n : Fin 16), blkW (runF i x).o hh n = oVal i x hh n := by
  unfold runF
  obtain ⟨s0, o0, k0⟩ := headF_spec i 0 (stepW x)
  obtain ⟨s1, o1, k1⟩ := headF_spec i 1 (headF i 0 (stepW x))
  obtain ⟨s2, o2, k2⟩ := headF_spec i 2 (headF i 1 (headF i 0 (stepW x)))
  obtain ⟨s3, o3, k3⟩ := headF_spec i 3 (headF i 2 (headF i 1 (headF i 0 (stepW x))))
  refine ⟨((s0.trans s1).trans s2).trans s3, fun hh n => ?_⟩
  have hW : ∀ hh n, oVal i (stepW x) hh n = oVal i x hh n := fun _ _ => rfl
  match hh with
  | 0 => rw [k3 0 n (by decide), k2 0 n (by decide), k1 0 n (by decide), o0, hW]
  | 1 => rw [k3 1 n (by decide), k2 1 n (by decide), o1, oVal_congr i s0, hW]
  | 2 => rw [k3 2 n (by decide), o2, oVal_congr i (s0.trans s1), hW]
  | 3 => rw [o3, oVal_congr i ((s0.trans s1).trans s2), hW]

/-- The block of results of a grid step. -/
def oBlk (i : grid0.Coords) (x : Vals F) : Vec F S1x2048x512 .bf16 := fun y =>
  oVal i x ⟨(y 2).val / 128, by have : (y 2).val < 512 := (y 2).isLt; omega⟩ ⟨(y 1).val / 128, by have : (y 1).val < 2048 := (y 1).isLt; omega⟩
    (fun a => match a with
      | 0 => (⟨0, Nat.one_pos⟩ : Fin 1)
      | 1 => (⟨(y 1).val % 128, Nat.mod_lt _ (by norm_num)⟩ : Fin 128)
      | 2 => (⟨(y 2).val % 128, Nat.mod_lt _ (by norm_num)⟩ : Fin 128))

theorem runF_o (i : grid0.Coords) (x : Vals F) : (runF i x).o = oBlk i x := by
  funext y
  unfold oBlk
  rw [← (runF_spec i x).2]
  refine congrArg (runF i x).o (funext fun a => Fin.ext ?_)
  match a with
  | 0 => show (y 0).val = 0 + 1 * 0; have : (y 0).val < 1 := (y 0).isLt; omega
  | 1 => show (y 1).val = 128 * ((y 1).val / 128) + 1 * ((y 1).val % 128); omega
  | 2 => show (y 2).val = 128 * ((y 2).val / 128) + 1 * ((y 2).val % 128); omega

end Cert.KernelIdeal.Ret

end
-- ==== Proof.Ret.Run.lean ====
/- The pipeline's data at each grid step, the run of the program with what it leaves in the result arrays, and the frame. -/
module

public import proofs.«01_k».proof.Proof.Ret.Body
public import proofs.«01_k».proof.Proof.Gen.KernelIdeal.Frame.Runs
public import Idealize.ShloMosaic.Lib.Claim

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers of grid step `t`. -/
def memsAt (t : Fin cfg0.N) : Mems where
  lg := ms0_0 t
  hlg := hs0_0 t
  q := ms0_1 t
  hq := hs0_1 t
  k := ms0_2 t
  hk := hs0_2 t
  v := ms0_3 t
  hv := hs0_3 t
  g := ms0_4 t
  hg := hs0_4 t
  cos := ms0_5 t
  hcos := hs0_5 t
  sin := ms0_6 t
  hsin := hs0_6 t
  gn := ms0_7 t
  hgn := hs0_7 t
  wsrc := ms0_8 t
  hwsrc := hs0_8 t
  o := ms0_9 t
  ho := hs0_9 t
  wdst := ms0_10 t
  hwdst := hs0_10 t
  mask := scM0_0
  hmask := Memref.isWhole_whole _
  qdec := scM0_1
  hqdec := Memref.isWhole_whole _
  kdec := scM0_2
  hkdec := Memref.isWhole_whole _
  qb := scM0_3
  hqb := Memref.isWhole_whole _
  kb := scM0_4
  hkb := Memref.isWhole_whole _
  qd := scM0_5
  hqd := Memref.isWhole_whole _
  kv := scM0_6
  hkv := Memref.isWhole_whole _
  sb := scM0_7
  hsb := Memref.isWhole_whole _

/-- The blocks of grid step `t` put into the input buffers. -/
def withIn (c : Dev nD) (t : Fin cfg0.N) (x : Vals F) : Vals F :=
  { x with
    lg := iblk m c 0 t,
    q := iblk m c 1 t,
    k := iblk m c 2 t,
    v := iblk m c 3 t,
    g := iblk m c 4 t,
    cos := iblk m c 5 t,
    sin := iblk m c 6 t,
    gn := iblk m c 7 t,
    wsrc := iblk m c 8 t }

/-- Some contents of the buffers. -/
def someVals (c : Dev nD) (t : Fin cfg0.N) : Vals F where
  lg := iblk m c 0 t
  q := iblk m c 1 t
  k := iblk m c 2 t
  v := iblk m c 3 t
  g := iblk m c 4 t
  cos := iblk m c 5 t
  sin := iblk m c 6 t
  gn := iblk m c 7 t
  wsrc := iblk m c 8 t
  o := fun _ => iblk m c 1 t (Shape.Idx.first (s := S1x2048x512) (by decide))
  wdst := fun _ => iblk m c 1 t (Shape.Idx.first (s := S1x2048x512) (by decide))
  mask := st0
  qdec := st0
  kdec := st0
  qb := fun _ => iblk m c 1 t (Shape.Idx.first (s := S1x2048x512) (by decide))
  kb := fun _ => iblk m c 1 t (Shape.Idx.first (s := S1x2048x512) (by decide))
  qd := fun _ => iblk m c 1 t (Shape.Idx.first (s := S1x2048x512) (by decide))
  kv := fun _ => st0 (Shape.Idx.first (s := S128x128) (by decide))
  sb := fun _ => iblk m c 1 t (Shape.Idx.first (s := S1x2048x512) (by decide))

/-- The contents of the input buffers at grid step `t`. -/
abbrev inVals (c : Dev nD) (t : Fin cfg0.N) : Vals F := withIn m c t (someVals m c t)

/-- What a step leaves in the block of the result depends on the input buffers alone. -/
theorem oBlk_withIn (c : Dev nD) (t : Fin cfg0.N) (i : grid0.Coords) (x y : Vals F) : oBlk i (withIn m c t x) = oBlk i (withIn m c t y) := rfl

/-- The pipeline's data: each input block unchanged, and the two output blocks as the body leaves them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => oBlk (grid0.coords t) (inVals m c t)
    | ⟨10, _⟩ => k0_pay2 (iblk m c 8 t)
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = oBlk (grid0.coords t) (inVals m c t) := by dsimp only [dats]
theorem after_10 (c : Dev nD) (t : Fin cfg0.N) : (dats m 0 c).after 10 t = k0_pay2 (iblk m c 8 t) := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d
theorem before_8 (c : Dev nD) (t : Fin cfg0.N) (d) : (dats m 0 c).before 8 t d = iblk m c 8 t := before0_8_of m (dats m 0 c) (A_eq m c 8) (after_8 m c) t d

/-- What the body of grid step `t` finds. -/
def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)))
/-- What it leaves. -/
def bodyPost (c : Dev nD) (t : Fin cfg0.N) : sProp 𝕄 :=
  iprop((dats m 0 c).Φ t.succ ∗ (dats m 0 c).owesAt () t.succ ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t) ∗ owns (c : Thread nD τ) (ms0_8 t) fullShare ((dats m 0 c).after 8 t) ∗ owns (c : Thread nD τ) (ms0_9 t) fullShare ((dats m 0 c).after 9 t) ∗ owns (c : Thread nD τ) (ms0_10 t) fullShare ((dats m 0 c).after 10 t))

theorem bodyAt_eq (t : Fin cfg0.N) : (bodyAt0 t : Prog (TpuEff nD τ sig (Elt F) Λ₀ .tc) PUnit) = printed (grid0.coords t) (memsAt t) := rfl

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  rw [bodyAt_eq]
  unfold bodyPre bodyPost
  simp only [before_0, before_1, before_2, before_3, before_4, before_5, before_6, before_7, before_8]
  rw [show (dats m 0 c).Φ t.succ = (dats m 0 c).Φ t.castSucc from rfl, show (dats m 0 c).owesAt () t.succ = (dats m 0 c).owesAt () t.castSucc from rfl,
    after_0, after_1, after_2, after_3, after_4, after_5, after_6, after_7, after_8, after_9, after_10]
  rw [show (dats m 0 c).Φ t.castSucc = Pipeline.ΦA spec0 c from rfl, PhiA0_eq]
  iintro ⟨⟨⟨⟨%s0, HS0⟩, ⟨%s1, HS1⟩, ⟨%s2, HS2⟩, ⟨%s3, HS3⟩, ⟨%s4, HS4⟩, ⟨%s5, HS5⟩, ⟨%s6, HS6⟩, ⟨%s7, HS7⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply body_run c (memsAt t) Set.univ (grid0.coords t) { lg := iblk m c 0 t, q := iblk m c 1 t, k := iblk m c 2 t, v := iblk m c 3 t, g := iblk m c 4 t, cos := iblk m c 5 t, sin := iblk m c 6 t, gn := iblk m c 7 t, wsrc := iblk m c 8 t, o := (dats m 0 c).before 9 t d9, wdst := (dats m 0 c).before 10 t d10, mask := s0, qdec := s1, kdec := s2, qb := s3, kb := s4, qd := s5, kv := s6, sb := s7 } _
  isplitl [H0 H1 H2 H3 H4 H5 H6 H7 H8 H9 H10 HS0 HS1 HS2 HS3 HS4 HS5 HS6 HS7]
  · unfold St
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexact HS7
  iintro HP
  generalize hx : ({ lg := iblk m c 0 t, q := iblk m c 1 t, k := iblk m c 2 t, v := iblk m c 3 t, g := iblk m c 4 t, cos := iblk m c 5 t, sin := iblk m c 6 t, gn := iblk m c 7 t, wsrc := iblk m c 8 t, o := (dats m 0 c).before 9 t d9, wdst := (dats m 0 c).before 10 t d10, mask := s0, qdec := s1, kdec := s2, qb := s3, kb := s4, qd := s5, kv := s6, sb := s7 } : Vals F) = x
  have hs := (runF_spec (grid0.coords t) x).1
  have ho := runF_o (grid0.coords t) x
  have hin : oBlk (grid0.coords t) x = oBlk (grid0.coords t) (inVals m c t) := by rw [← hx]; rfl
  have e_lg : (runF (grid0.coords t) x).lg = iblk m c 0 t := by rw [hs.lg, ← hx]; rfl
  have e_q : (runF (grid0.coords t) x).q = iblk m c 1 t := by rw [hs.q, ← hx]; rfl
  have e_k : (runF (grid0.coords t) x).k = iblk m c 2 t := by rw [hs.k, ← hx]; rfl
  have e_v : (runF (grid0.coords t) x).v = iblk m c 3 t := by rw [hs.v, ← hx]; rfl
  have e_g : (runF (grid0.coords t) x).g = iblk m c 4 t := by rw [hs.g, ← hx]; rfl
  have e_cos : (runF (grid0.coords t) x).cos = iblk m c 5 t := by rw [hs.cos, ← hx]; rfl
  have e_sin : (runF (grid0.coords t) x).sin = iblk m c 6 t := by rw [hs.sin, ← hx]; rfl
  have e_gn : (runF (grid0.coords t) x).gn = iblk m c 7 t := by rw [hs.gn, ← hx]; rfl
  have e_wsrc : (runF (grid0.coords t) x).wsrc = iblk m c 8 t := by rw [hs.wsrc, ← hx]; rfl
  have e_wdst : (runF (grid0.coords t) x).wdst = k0_pay2 (iblk m c 8 t) := by rw [hs.wdst, ← hx]; rfl
  unfold St
  rw [e_lg, e_q, e_k, e_v, e_g, e_cos, e_sin, e_gn, e_wsrc, e_wdst, ho, hin]
  icases HP with ⟨H0, H1, H2, H3, H4, H5, H6, H7, H8, H9, H10, HS0, HS1, HS2, HS3, HS4, HS5, HS6, HS7⟩
  isplitl [Hg HS0 HS1 HS2 HS3 HS4 HS5 HS6 HS7]
  · isplitl [HS0 HS1 HS2 HS3 HS4 HS5 HS6 HS7]
    · isplitl [HS0]; · iexists _; iexact HS0
      isplitl [HS1]; · iexists _; iexact HS1
      isplitl [HS2]; · iexists _; iexact HS2
      isplitl [HS3]; · iexists _; iexact HS3
      isplitl [HS4]; · iexists _; iexact HS4
      isplitl [HS5]; · iexists _; iexact HS5
      isplitl [HS6]; · iexists _; iexact HS6
      iexists _; iexact HS7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The program ends in every fair execution, its arrays as the pipeline's data says and every counter zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the program ends, its arguments unchanged and every counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Ret

end
-- ==== Proof.Ret.RefFrame.lean ====
/- The reference runs, leaves its arguments as they were, and its buffers end at the fold of its operations. -/
module

public import proofs.«01_k».proof.Proof.Gen.ReferenceIdeal.Run
public import Idealize.ShloMosaic.Lib.Quiescent
public import Idealize.ShloMosaic.Lib.Claim

@[expose] public section

set_option maxRecDepth 16384

noncomputable section

namespace Cert.ReferenceIdeal.Ret

open Idealize.ShloMosaic Idealize.ShloMosaic.TcCoe Idealize.ShloMosaic.StableHlo
open Idealize.SL Idealize.SL.Sem
open Cert.ReferenceIdeal Cert.ReferenceIdeal.Gen Cert.ReferenceIdeal.Value

variable {F : FTy → Type} [FloatOps F]
variable (m : (ℓ : Loc nD τ sig) → Buf (Elt F) ℓ) (ρ : Dev nD → PrngReg)

/-- What the buffers hold at the end. -/
abbrev fin (c : Dev nD) : Valuation τ sig (Elt F) := finalContents condOps preI bodyI postI 16 m c

/-- A buffer no operation writes keeps its contents through any number of trips. -/
theorem atTrip_keep (r : Ref sig .tc) (hc : r ∉ condOps_W) (h0 : r ∉ while0Ops0_W) (h1 : r ∉ while0Ops0_1_W) (h2 : r ∉ while0Ops0_2_W) (h3 : r ∉ while0Ops0_3_W) (c : Dev nD) :
    ∀ k, atK m k c (Proc.devRef .tc r) = entryContents preI m c (Proc.devRef .tc r)
  | 0 => rfl
  | k + 1 => by
    show afterL bodyI (after condOps (atK m k c)) (Proc.devRef .tc r) = _
    rw [afterL_cons, afterL_cons, afterL_cons, afterL_cons, afterL_nil,
      after_of_writes_sub _ _ (while0Ops0_3_writes (F := F)) h3, after_of_writes_sub _ _ (while0Ops0_2_writes (F := F)) h2,
      after_of_writes_sub _ _ (while0Ops0_1_writes (F := F)) h1, after_of_writes_sub _ _ (while0Ops0_writes (F := F)) h0,
      after_of_writes_sub _ _ (condOps_writes (F := F)) hc, atTrip_keep r hc h0 h1 h2 h3 c k]

/-- The references the operations after the loop write, in order. -/
abbrev post3_W : List (Ref sig .tc) := [main_v130, main_v131, main_v132, main_v133, main_v134, main_v135, main_v136, main_v137, main_cst_14, main_v138, main_v139, main_cst_15, main_v140, main_v141, main_v142, main_v143, main_v144, main_cst_16, main_v145, main_v146, main_cst_17, main_v147, main_v148, main_v149, main_v150, main_cst_18, main_v151, main_v152, main_v153, main_v154, main_v155, main_v156, main_v157, main_v158, main_v159, main_v160]
abbrev post4_W : List (Ref sig .tc) := [main_call3_v0, main_call3_v1, main_call3_cst, main_call3_v2, main_call3_v3, main_call3_cst_0, main_call3_v4, main_call3_v5, main_v161]
abbrev post5_W : List (Ref sig .tc) := [main_v162, main_v163, main_v164, main_v165]
theorem post3_writes : (hostOps0_3 : List (HloOp τ sig (Elt F))).Forall fun op => op.writes ⊆ (post3_W.map (Proc.devRef (τ := τ) .tc)).toFinset :=
  StableHlo.forall_writes_sub_of_map rfl
theorem post4_writes : (hostOps0_4 : List (HloOp τ sig (Elt F))).Forall fun op => op.writes ⊆ (post4_W.map (Proc.devRef (τ := τ) .tc)).toFinset :=
  StableHlo.forall_writes_sub_of_map rfl
theorem post5_writes : (hostOps0_5 : List (HloOp τ sig (Elt F))).Forall fun op => op.writes ⊆ (post5_W.map (Proc.devRef (τ := τ) .tc)).toFinset :=
  StableHlo.forall_writes_sub_of_map rfl

/-- A buffer the loop does not write holds after it what it held before. -/
theorem loop_keep (r : Ref sig .tc) (hc : r ∉ condOps_W) (h0 : r ∉ while0Ops0_W) (h1 : r ∉ while0Ops0_1_W) (h2 : r ∉ while0Ops0_2_W) (h3 : r ∉ while0Ops0_3_W) (c : Dev nD) (k : ℕ) :
    after condOps (atTrip condOps bodyI (entryContents preI m) k c) (Proc.devRef .tc r) = entryContents preI m c (Proc.devRef .tc r) := by
  rw [after_of_writes_sub _ _ (condOps_writes (F := F)) hc]; exact atTrip_keep m r hc h0 h1 h2 h3 c k

/-- A buffer nothing writes keeps its launch contents. -/
theorem fin_keep (r : Ref sig .tc) (hc : r ∉ condOps_W) (h0 : r ∉ while0Ops0_W) (h1 : r ∉ while0Ops0_1_W) (h2 : r ∉ while0Ops0_2_W) (h3 : r ∉ while0Ops0_3_W)
    (p0 : r ∉ hostOps0_W) (p1 : r ∉ hostOps0_1_W) (p2 : r ∉ hostOps0_2_W) (q3 : r ∉ post3_W) (q4 : r ∉ post4_W) (q5 : r ∉ post5_W) (c : Dev nD) :
    fin m c (Proc.devRef .tc r) = m ((c.tc : Thread nD τ).loc r) := by
  show afterL postI _ (Proc.devRef .tc r) = _
  rw [afterL_cons, afterL_cons, afterL_cons, afterL_nil, after_of_writes_sub _ _ (post5_writes (F := F)) q5, after_of_writes_sub _ _ (post4_writes (F := F)) q4,
    after_of_writes_sub _ _ (post3_writes (F := F)) q3, loop_keep m r hc h0 h1 h2 h3]
  show afterL preI _ (Proc.devRef .tc r) = _
  rw [afterL_cons, afterL_cons, afterL_cons, afterL_nil, after_of_writes_sub _ _ (hostOps0_2_writes (F := F)) p2, after_of_writes_sub _ _ (hostOps0_1_writes (F := F)) p1,
    after_of_writes_sub _ _ (hostOps0_writes (F := F)) p0]

theorem fin_arg0 (c : Dev nD) : fin m c (Proc.devRef .tc main_arg0) = m ((c.tc : Thread nD τ).loc main_arg0) :=
  fin_keep m main_arg0 (by decide) (by decide) (by decide) (by decide) (by decide) (by decide) (by decide) (by decide) (by decide) (by decide) (by decide) c
theorem fin_arg1 (c : Dev nD) : fin m c (Proc.devRef .tc main_arg1) = m ((c.tc : Thread nD τ).loc main_arg1) :=
  fin_keep m main_arg1 (by decide) (by decide) (by decide) (by decide) (by decide) (by decide) (by decide) (by decide) (by decide) (by decide) (by decide) c
theorem fin_arg2 (c : Dev nD) : fin m c (Proc.devRef .tc main_arg2) = m ((c.tc : Thread nD τ).loc main_arg2) :=
  fin_keep m main_arg2 (by decide) (by decide) (by decide) (by decide) (by decide) (by decide) (by decide) (by decide) (by decide) (by decide) (by decide) c

/-- The frame of the reference: it ends, its arguments unchanged and every counter zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨(h c main_arg0 rfl).trans (fin_arg0 m c), (h c main_arg1 rfl).trans (fin_arg1 m c), (h c main_arg2 rfl).trans (fin_arg2 m c)⟩,
    sem_eq_zero_of_no_sems (by decide) r.2⟩) (run_fold m ρ)

/-- The run with the two results and the arguments named. -/
theorem run : θ_run (defs (F := F)) (onTc (τ := τ) (main (F := F))) ⟨m, fun _ => 0, ρ⟩ (fun r => ∀ c : Dev nD,
      r.2.mem ((c.tc : Thread nD τ).loc main_v163) = fin m c (Proc.devRef .tc main_v163)
      ∧ r.2.mem ((c.tc : Thread nD τ).loc main_v165) = fin m c (Proc.devRef .tc main_v165)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨h c main_v163 rfl, h c main_v165 rfl, (h c main_arg0 rfl).trans (fin_arg0 m c), (h c main_arg1 rfl).trans (fin_arg1 m c), (h c main_arg2 rfl).trans (fin_arg2 m c)⟩)
    (run_fold m ρ)

end Cert.ReferenceIdeal.Ret

end
-- ==== Proof.Ret.Spec.lean ====
/- The retention of one head over the extended reals, in the kernel's arithmetic and in the reference's. -/
module

public import Idealize.ShloMosaic.Lib.Pointwise
public import Idealize.ShloMosaic.Lib.IdealHost

@[expose] public section

noncomputable section

namespace Cert.Ret

open Idealize.ShloMosaic

/-- The number a natural is. -/
abbrev num (n : ℕ) : EReal := FloatOps.sitofp (F := Ideal) .f32 (BitVec.ofNat 32 n)
/-- The logarithm of a head's decay, `log1p (-(2 ^ (-5 - h)))`. -/
def lgH (h : ℕ) : EReal := Ideal.log1p (-Ideal.pow (Ideal.ofBits .f32 0x40000000#32) (Ideal.ofBits .f32 0xC0A00000#32 - num h))
/-- The rotary angle of a position and a frequency. -/
def ang (s t : ℕ) : EReal := num s * Ideal.pow (Ideal.ofBits .f32 0x461C4000#32) (Ideal.div (-num t) (Ideal.ofBits .f32 0x42800000#32))
/-- The scale of the queries. -/
abbrev sc : EReal := Ideal.ofBits .f32 0x3DB504F3#32
/-- The decay between two positions of a chunk, zero above the diagonal. -/
def mk (lg : EReal) (i j : ℕ) : EReal := if 0 ≤ num i - num j then Ideal.exp (max (num i - num j) 0 * lg) else 0
/-- The decay of a query against the state, of a key into the state, and of the state over a chunk. -/
def qdec (lg : EReal) (i : ℕ) : EReal := Ideal.exp ((num i + 1) * lg)
def kdec (lg : EReal) (j : ℕ) : EReal := Ideal.exp ((Ideal.ofBits .f32 0x42FE0000#32 - num j) * lg)
def cdec (lg : EReal) : EReal := Ideal.exp (Ideal.ofBits .f32 0x43000000#32 * lg)

/-- A head's rows: a sequence of vectors. -/
abbrev Rows := Fin 2048 → Fin 128 → EReal

/-- The rotary embedding as the reference has it: the two halves of a row turned by the angle. -/
def ropeR (q : Rows) : Rows := fun s d =>
  if h : d.val < 64 then
    q s ⟨d.val, by omega⟩ * Ideal.cos (ang s.val d.val) - q s ⟨64 + d.val, by omega⟩ * Ideal.sin (ang s.val d.val)
  else
    q s ⟨d.val - 64, by omega⟩ * Ideal.sin (ang s.val (d.val - 64)) + q s ⟨64 + (d.val - 64), by omega⟩ * Ideal.cos (ang s.val (d.val - 64))

/-- The two tables of the kernel. -/
def cosT (s d : ℕ) : EReal := if d < 64 then Ideal.cos (ang s d) else Ideal.cos (ang s (d - 64))
def sinT (s d : ℕ) : EReal := if d < 64 then -Ideal.sin (ang s d) else Ideal.sin (ang s (d - 64))
/-- The rotary embedding as the kernel has it: the row against one table, the row turned by half its width against the other. -/
def ropeK (q : Rows) : Rows := fun s d =>
  q s d * cosT s.val d.val + q s ⟨(d.val + 128 - 64) % 128, Nat.mod_lt _ (by omega)⟩ * sinT s.val d.val

theorem ropeK_eq (q : Rows) : ropeK q = ropeR q := by
  funext s d
  unfold ropeK ropeR cosT sinT
  by_cases h : d.val < 64
  · have e : (⟨(d.val + 128 - 64) % 128, Nat.mod_lt _ (by omega)⟩ : Fin 128) = ⟨64 + d.val, by omega⟩ := Fin.ext (show (d.val + 128 - 64) % 128 = 64 + d.val by omega)
    simp only [h, if_true, dif_pos, e, mul_neg]
    rfl
  · have e : (⟨(d.val + 128 - 64) % 128, Nat.mod_lt _ (by omega)⟩ : Fin 128) = ⟨d.val - 64, by omega⟩ := Fin.ext (show (d.val + 128 - 64) % 128 = d.val - 64 by omega)
    have e' : (⟨64 + (d.val - 64), by omega⟩ : Fin 128) = d := Fin.ext (show 64 + (d.val - 64) = d.val by omega)
    simp only [h, if_false, dif_neg, not_false_iff, e, e']
    exact add_comm _ _

/-- The row of a chunk. -/
abbrev row (n : Fin 16) (i : Fin 128) : Fin 2048 := ⟨n.val * 128 + i.val, by omega⟩

/-- What a chunk adds to the state. -/
def kvS (lg : EReal) (K V : Rows) (n : Fin 16) (d e : Fin 128) : EReal := ∑ j, K (row n j) d * kdec lg j.val * V (row n j) e
/-- The state before a chunk. -/
def stS (lg : EReal) (K V : Rows) : ℕ → Fin 128 → Fin 128 → EReal
  | 0 => fun _ _ => 0
  | n + 1 => fun d e => cdec lg * stS lg K V n d e + kvS lg K V ⟨n % 16, Nat.mod_lt _ (by omega)⟩ d e

/-- The retention before its norm, in the reference's order: the scale on the queries. -/
def attR (lg : EReal) (Q K V : Rows) (n : Fin 16) (i e : Fin 128) : EReal :=
  (∑ j, V (row n j) e * ((∑ d, Q (row n i) d * sc * K (row n j) d) * mk lg i.val j.val))
    + ∑ d, stS lg K V n.val d e * (Q (row n i) d * sc * qdec lg i.val)

/-- The same in the kernel's order: the scale in the two decays. -/
def attK (lg : EReal) (Q K V : Rows) (n : Fin 16) (i e : Fin 128) : EReal :=
  (∑ j, (∑ d, Q (row n i) d * K (row n j) d) * (mk lg i.val j.val * sc) * V (row n j) e)
    + ∑ d, Q (row n i) d * (qdec lg i.val * sc) * stS lg K V n.val d e

/-- Mean of a row. -/
def mean (o : Fin 128 → EReal) : EReal := Ideal.div (∑ e, o e) (Ideal.ofBits .f32 0x43000000#32)

/-- The norm of a row, by the deviations. -/
def normR (o : Fin 128 → EReal) (e : Fin 128) : EReal :=
  (o e - mean o) * Ideal.rsqrt (mean (fun e => (o e - mean o) * (o e - mean o)) + Ideal.ofBits .f32 0x358637BD#32)
/-- The norm of a row, by the mean of the squares. -/
def normK (o : Fin 128 → EReal) (e : Fin 128) : EReal :=
  (o e - mean o) * Ideal.rsqrt (max (mean (fun e => o e * o e) - mean o * mean o) 0 + Ideal.ofBits .f32 0x358637BD#32)

/-- The gate, as the reference has it and as the kernel has it. -/
def siluR (g : EReal) : EReal := g * Ideal.div 1 (1 + Ideal.exp (-g))
def siluK (c g : EReal) : EReal := Ideal.div g (1 + Ideal.exp2 (g * c))

/-- The head's result, the reference's. -/
def outR (lg : EReal) (q k v g : Rows) (gn : Fin 128 → EReal) (n : Fin 16) (i e : Fin 128) : EReal :=
  siluR (g (row n i) e) * (normR (attR lg (ropeR q) (ropeR k) v n i) e * gn e)
/-- The head's result, the kernel's. -/
def outK (c lg : EReal) (q k v g : Rows) (gn : Fin 128 → EReal) (n : Fin 16) (i e : Fin 128) : EReal :=
  siluK c (g (row n i) e) * (normK (attK lg (ropeK q) (ropeK k) v n i) e * gn e)

/-- A head's rows of the projections: the queries, keys, values and gates stand one after the other, 1024 wide each. -/
def rows (A : (⟨3, ![16, 2048, 6144]⟩ : Shape).Idx → EReal) (off : ℕ) (ho : off ≤ 3072) (b : Fin 16) (h : Fin 8) : Rows :=
  fun s d => A (ix3 b s ⟨off + (h.val * 128 + d.val), by omega⟩)

/-- A head's arithmetic at an entry of the whole result: the head is the feature over 128, the chunk the position over 128. -/
def atEntry (f : EReal → Rows → Rows → Rows → Rows → (Fin 128 → EReal) → Fin 16 → Fin 128 → Fin 128 → EReal)
    (A : (⟨3, ![16, 2048, 6144]⟩ : Shape).Idx → EReal) (G : (⟨2, ![1, 1024]⟩ : Shape).Idx → EReal) (b : Fin 16) (s : Fin 2048) (x : Fin 1024) : EReal :=
  f (lgH (x.val / 128)) (rows A 0 (by omega) b ⟨x.val / 128, by omega⟩) (rows A 1024 (by omega) b ⟨x.val / 128, by omega⟩)
    (rows A 2048 (by omega) b ⟨x.val / 128, by omega⟩) (rows A 3072 (by omega) b ⟨x.val / 128, by omega⟩)
    (fun e => G (ix2 0 ⟨x.val / 128 * 128 + e.val, by omega⟩)) ⟨s.val / 128, by omega⟩ ⟨s.val % 128, by omega⟩ ⟨x.val % 128, by omega⟩

end Cert.Ret

end
-- ==== Proof.Ret.KerHead.lean ====
/- What the kernel's body computes for a head is, over the extended reals, the head's retention. -/
module

public import proofs.«01_k».proof.Proof.Ret.Body
public import proofs.«01_k».proof.Proof.Ret.Spec
public import Idealize.ShloMosaic.Lib.Pointwise
public import Idealize.ShloMosaic.Lib.Pipeline.ValueKit

@[expose] public section

set_option maxRecDepth 16384

noncomputable section

namespace Cert.KernelIdeal.Ret

open Idealize.ShloMosaic
open Cert.KernelIdeal Cert.KernelIdeal.Gen
open Cert.Ret

variable (n : Fin 16) (hh : Fin 4) (i j a b d e : Fin 128)

/-- An array of extended reals at an index. -/
abbrev rd {s : Shape} (f : s.Idx → EReal) (i : s.Idx) : EReal := f i

/-- The rows of a head in a block of four heads. -/
abbrev blkRows (x : S1x2048x512.Idx → EReal) (hh : Fin 4) : Rows := fun s d => x (ix3 0 s ⟨hh.val * 128 + d.val, by omega⟩)

theorem rowW_apply (x : S2048x128.Idx → EReal) : rowW x n (ix2 i d) = x (ix2 (row n i) d) := by
  refine congrArg x (funext fun a => ?_)
  match a with
  | 0 => exact Fin.ext ((ValueKit.rect_emb_unit_val _ _ _ _ _).trans (show 128 * n.val + i.val = n.val * 128 + i.val by omega))
  | 1 => exact Fin.ext ((ValueKit.rect_emb_unit_val _ _ _ _ _).trans (show 0 + d.val = d.val by omega))
theorem blkW_apply (x : S1x2048x512.Idx → EReal) : blkW x hh n (ix3 0 i d) = blkRows x hh (row n i) d := by
  refine congrArg x (funext fun a => ?_)
  match a with
  | 0 => exact Fin.ext ((ValueKit.rect_emb_unit_val _ _ _ _ _).trans (show 0 + 0 = 0 by omega))
  | 1 => exact Fin.ext ((ValueKit.rect_emb_unit_val _ _ _ _ _).trans (show 128 * n.val + i.val = n.val * 128 + i.val by omega))
  | 2 => exact Fin.ext ((ValueKit.rect_emb_unit_val _ _ _ _ _).trans (show 128 * hh.val + d.val = hh.val * 128 + d.val by omega))

theorem pay5_apply (lg : Elt Ideal .f32) : rd (s := S128x128) (k0_pay5 (F := Ideal) lg) (ix2 i j) = mk lg i.val j.val * sc := by
  pointwise [k0_pay5, k0_pay4, k0_pay3]
  rfl
theorem pay7_apply (lg : Elt Ideal .f32) : rd (s := S128x128) (k0_pay7 (F := Ideal) (k0_pay6 lg)) (ix2 i j) = qdec lg i.val * sc := by
  pointwise [k0_pay7, k0_pay6, k0_pay3]
  rfl
theorem pay8_apply (lg : Elt Ideal .f32) : rd (s := S128x128) (k0_pay8 (F := Ideal) k0_pay3 lg) (ix2 i j) = kdec lg i.val := by
  pointwise [k0_pay8, k0_pay3]
  rfl
theorem pay9_apply (lg : Elt Ideal .f32) : rd (s := S1x128) (k0_pay9 (F := Ideal) lg) (ix2 0 j) = cdec lg := by
  pointwise [k0_pay9]
  rfl
theorem rope_apply (cos sin : Vec Ideal S128x128 .f32) (q : Vec Ideal S1x128x128 .bf16) : rd (s := S128x128) (k0_pay13 cos sin q) (ix2 i d)
    = rd (s := S1x128x128) q (ix3 0 i d) * rd (s := S128x128) cos (ix2 i d) + rd (s := S1x128x128) q (ix3 0 i ⟨(d.val + 128 - 64) % 128, Nat.mod_lt _ (by omega)⟩) * rd (s := S128x128) sin (ix2 i d) := by
  pointwise [k0_pay13, k0_pay11, k0_pay12]
theorem pay15_apply (cos sin : Vec Ideal S128x128 .f32) (q : Vec Ideal S1x128x128 .bf16) : rd (s := S128x128) (k0_pay15 cos sin q) (ix2 i d) = rd (s := S128x128) (k0_pay13 cos sin q) (ix2 i d) := by
  pointwise [k0_pay15]
theorem pay16_apply (k : FVec Ideal S128x128 .f32) : rd (s := S128x128) (k0_pay16 k) (ix2 i d) = rd (s := S128x128) k (ix2 i d) := by
  pointwise [k0_pay16]
theorem pay17_apply (q : FVec Ideal S128x128 .f32) (qd : Vec Ideal S128x128 .f32) : rd (s := S128x128) (k0_pay17 q qd) (ix2 i d) = rd (s := S128x128) q (ix2 i d) * rd (s := S128x128) qd (ix2 i d) := by
  pointwise [k0_pay17]
theorem pay18_apply (k : FVec Ideal S128x128 .f32) (kd : Vec Ideal S128x128 .f32) (v : Vec Ideal S1x128x128 .bf16) : rd (s := S1x128x128) (k0_pay18 k kd v) (ix3 0 d e)
    = ∑ x : Fin 128, rd (s := S128x128) k (ix2 x d) * rd (s := S128x128) kd (ix2 x d) * rd (s := S1x128x128) v (ix3 0 x e) := by
  pointwise [k0_pay18]
theorem pay209_apply (v : Vec Ideal S1x128x128 .bf16) (q k : Vec Ideal S128x128 .bf16) (mask : Vec Ideal S128x128 .f32) : rd (s := S128x128) (k0_pay209 v q k mask) (ix2 i e)
    = ∑ x : Fin 128, (∑ d : Fin 128, rd (s := S128x128) q (ix2 i d) * rd (s := S128x128) k (ix2 x d)) * rd (s := S128x128) mask (ix2 i x) * rd (s := S1x128x128) v (ix3 0 x e) := by
  unfold rd
  pointwise [k0_pay209]
/-- The factor of the gate's exponent. -/
abbrev gateC : EReal := Named.named (F := Ideal) κ "neg_log2_e" (φ := .f32) 3216550459#32
theorem pay210_apply (gn : FVec Ideal S1x128 .f32) (o : FVec Ideal S128x128 .f32) (qd : Vec Ideal S128x128 .bf16) (s g : Vec Ideal S1x128x128 .bf16) : rd (s := S1x128x128) (k0_pay210 gn o qd s g) (ix3 0 i e)
    = siluK gateC (rd (s := S1x128x128) g (ix3 0 i e)) * (normK (fun e => rd (s := S128x128) o (ix2 i e) + ∑ d : Fin 128, rd (s := S128x128) qd (ix2 i d) * rd (s := S1x128x128) s (ix3 0 d e)) e * rd (s := S1x128) gn (ix2 0 e)) := by
  pointwise [k0_pay210]
  rfl
theorem sb_apply (st : FVec Ideal S128x128 .f32) : rd (s := S1x128x128) (sbOf st) (ix3 0 d e) = rd (s := S128x128) st (ix2 d e) := by
  pointwise [sbOf]
theorem st0_apply : rd (s := S128x128) (st0 (F := Ideal)) (ix2 d e) = 0 := by
  pointwise [st0, k0_pay163]
theorem stNext_apply (cd : FVec Ideal S1x128 .f32) (st : FVec Ideal S128x128 .f32) (kv : Vec Ideal S1x128x128 .f32) : rd (s := S128x128) (stNext cd st kv) (ix2 d e)
    = rd (s := S1x128) cd (ix2 0 e) * rd (s := S128x128) st (ix2 d e) + rd (s := S1x128x128) kv (ix3 0 d e) := by
  pointwise [stNext]
theorem gn_apply (x : Vec Ideal S1x512 .f32) : rd (s := S1x128) (gnOf hh x) (ix2 0 e) = rd (s := S1x512) x (ix2 0 ⟨hh.val * 128 + e.val, by omega⟩) := by
  unfold gnOf
  pointwise [k0_pay10]
  refine congrArg x (funext fun a => ?_)
  match a with
  | 0 => exact Fin.ext ((ValueKit.rect_emb_unit_val _ _ _ _ _).trans (show 0 + 0 = 0 by omega))
  | 1 => exact Fin.ext ((ValueKit.rect_emb_unit_val _ _ _ _ _).trans (show 128 * hh.val + e.val = hh.val * 128 + e.val by omega))

variable (x : Vals Ideal) (hcos : ∀ s d, rd (s := S2048x128) x.cos (ix2 s d) = cosT s.val d.val) (hsin : ∀ s d, rd (s := S2048x128) x.sin (ix2 s d) = sinT s.val d.val)
include hcos hsin

theorem head_rope (y : Vec Ideal S1x2048x512 .bf16) : rd (s := S128x128) (k0_pay13 (rowW x.cos n) (rowW x.sin n) (blkW y hh n)) (ix2 i d) = ropeK (blkRows y hh) (row n i) d := by
  refine (rope_apply i d _ _ _).trans ?_
  unfold rd
  rw [blkW_apply, blkW_apply, rowW_apply, rowW_apply]
  exact congrArg₂ (· + ·) (congrArg (_ * ·) (hcos _ _)) (congrArg (_ * ·) (hsin _ _))

variable (p : grid0.Coords)

theorem head_kv : rd (s := S1x128x128) (kvVal p x hh n) (ix3 0 d e) = kvS (lgOf p hh x.lg) (ropeK (blkRows x.k hh)) (blkRows x.v hh) n d e := by
  refine (pay18_apply d e _ _ _).trans (Finset.sum_congr rfl fun y _ => congrArg₂ (· * ·) (congrArg₂ (· * ·) (head_rope n hh y d x hcos hsin x.k) (pay8_apply y d _)) ?_)
  exact blkW_apply n hh y e x.v

theorem head_st : ∀ n : ℕ, rd (s := S128x128) (stSeq (k0_pay9 (lgOf p hh x.lg)) (kvVal p x hh) n) (ix2 d e) = stS (lgOf p hh x.lg) (ropeK (blkRows x.k hh)) (blkRows x.v hh) n d e
  | 0 => st0_apply d e
  | n + 1 => (stNext_apply d e _ _ _).trans (congrArg₂ (· + ·) (congrArg₂ (· * ·) (pay9_apply e _) (head_st n)) (head_kv _ hh d e x hcos hsin p))

/-- The kernel's result for a chunk of a head. -/
theorem head_out : rd (s := S1x128x128) (oVal p x hh n) (ix3 0 i e)
    = outK gateC (lgOf p hh x.lg) (blkRows x.q hh) (blkRows x.k hh) (blkRows x.v hh) (blkRows x.g hh) (fun e => rd (s := S1x512) x.gn (ix2 0 ⟨hh.val * 128 + e.val, by omega⟩)) n i e := by
  refine (pay210_apply i e _ _ _ _ _).trans ?_
  unfold outK
  refine congrArg₂ (· * ·) (congrArg (siluK gateC) (blkW_apply n hh i e x.g)) (congrArg₂ (· * ·) (congrArg (fun o => normK o e) (funext fun e => ?_)) (gn_apply hh e x.gn))
  unfold attK
  refine congrArg₂ (· + ·) ((pay209_apply i e _ _ _ _).trans (Finset.sum_congr rfl fun y _ => congrArg₂ (· * ·) (congrArg₂ (· * ·) (Finset.sum_congr rfl fun d _ => congrArg₂ (· * ·) ?_ ?_) (pay5_apply i y _)) (blkW_apply n hh y e x.v)))
    (Finset.sum_congr rfl fun d _ => congrArg₂ (· * ·) ?_ ((sb_apply d e _).trans (head_st hh d e x hcos hsin p n.val)))
  · exact (pay15_apply i d _ _ _).trans (head_rope n hh i d x hcos hsin x.q)
  · exact (pay16_apply y d _).trans (head_rope n hh y d x hcos hsin x.k)
  · exact (pay17_apply i d _ _).trans (congrArg₂ (· * ·) (head_rope n hh i d x hcos hsin x.q) (pay7_apply i d _))

end Cert.KernelIdeal.Ret

end
-- ==== Proof.Ret.KerValue.lean ====
/- What the kernel's results hold at the end, entry by entry. -/
module

public import proofs.«01_k».proof.Proof.Ret.Run
public import proofs.«01_k».proof.Proof.Ret.KerHead
public import Idealize.ShloMosaic.Lib.StableHlo.ReadAt
public import Idealize.ShloMosaic.Lib.Pipeline.Value

@[expose] public section

set_option maxRecDepth 16384

noncomputable section

namespace Cert.KernelIdeal.Ret

open Idealize.ShloMosaic Idealize.ShloMosaic.TcCoe Idealize.ShloMosaic.StableHlo Idealize.SL.Sem
open Cert.KernelIdeal Cert.KernelIdeal.Gen
open Cert.Ret

/-! ## What the operations before the kernel compute -/

section Host

variable (U : Valuation τ sig (Elt Ideal)) (s : Fin 2048) (d : Fin 128) (h : Fin 8) (x : Fin 1024) (y : Fin 32)

theorem cos_apply : rd (s := S2048x128) (after hostOps0 U (Proc.devRef .tc main_v14)) (ix2 s d) = cosT s.val d.val := by
  after_reads_at
  after_reads_at
  unfold cosT ang
  rfl
theorem sin_apply : rd (s := S2048x128) (after hostOps0 U (Proc.devRef .tc main_v18)) (ix2 s d) = sinT s.val d.val := by
  after_reads_at
  after_reads_at
  unfold sinT ang
  rfl
theorem lg_apply : rd (s := S8) (after hostOps0 U (Proc.devRef .tc main_v25)) (ix1 h) = lgH h.val := by
  after_reads_at
  rfl
theorem gnw_apply : rd (s := S1x1024) (after hostOps0 U (Proc.devRef .tc main_v27)) (ix2 0 x) = rd (s := S1x1024) (U (Proc.devRef .tc main_arg1)) (ix2 0 x) := by
  after_reads_at
theorem w_apply : rd (s := S32x2048x1024) (after hostOps0 U (Proc.devRef .tc main_v28)) (ix3 y s x) = rd (s := S1x32x2048x1024) (U (Proc.devRef .tc main_arg2)) (ix4 0 y s x) := by
  after_reads_at
  rfl

end Host

variable (m : (ℓ : Loc nD τ sig) → Buf (Elt Ideal) ℓ) (c : Dev nD) (t : Fin cfg0.N)

/-! ## The blocks of a grid step -/

/-- The batch and the half of the heads a grid step works on. -/
abbrev bT : Fin 16 := ⟨t.val / 2, by have : t.val < 32 := t.isLt; omega⟩
abbrev pT : Fin 2 := ⟨t.val % 2, by omega⟩

theorem idx0 : ∀ t : Fin cfg0.N, win0_0.index t = ![0] := (by decide +kernel : ∀ t : Fin grid0.N, _)
theorem idx1 : ∀ t : Fin cfg0.N, win0_1.index t = ![t.val / 2, 0, t.val % 2] := (by decide +kernel : ∀ t : Fin grid0.N, _)
theorem idx2 : ∀ t : Fin cfg0.N, win0_2.index t = ![t.val / 2, 0, 2 + t.val % 2] := (by decide +kernel : ∀ t : Fin grid0.N, _)
theorem idx3 : ∀ t : Fin cfg0.N, win0_3.index t = ![t.val / 2, 0, 4 + t.val % 2] := (by decide +kernel : ∀ t : Fin grid0.N, _)
theorem idx4 : ∀ t : Fin cfg0.N, win0_4.index t = ![t.val / 2, 0, 6 + t.val % 2] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, t.val % 2] := (by decide +kernel : ∀ t : Fin grid0.N, _)
theorem idx8 : ∀ t : Fin cfg0.N, win0_8.index t = ![t.val, 0, 0] := (by decide +kernel : ∀ t : Fin grid0.N, _)
theorem idx9 : ∀ t : Fin cfg0.N, win0_9.index t = ![t.val / 2, 0, t.val % 2] := (by decide +kernel : ∀ t : Fin grid0.N, _)
theorem idx10 : ∀ t : Fin cfg0.N, win0_10.index t = ![t.val, 0, 0] := (by decide +kernel : ∀ t : Fin grid0.N, _)
theorem off1_eq : ∀ (t : Fin cfg0.N) (hh : Fin 4), k0_off1 (grid0.coords t) (BitVec.ofNat 32 hh.val) = ![t.val % 2 * 4 + hh.val] :=
  (by decide +kernel : ∀ (t : Fin grid0.N) (hh : Fin 4), _)

/-- The first argument at the launch. -/
abbrev A0 : S16x2048x6144.Idx → EReal := m ((c : Thread nD τ).loc main_arg0)
abbrev A1 : S1x1024.Idx → EReal := m ((c : Thread nD τ).loc main_arg1)
abbrev A2 : S1x32x2048x1024.Idx → EReal := m ((c : Thread nD τ).loc main_arg2)

variable (s : Fin 2048) (d : Fin 128) (j : Fin 512) (h : Fin 8) (x : Fin 1024)

theorem read1 (X : S16x2048x6144.Idx → EReal) : rd (s := S1x2048x512) (((cfg0.win 1).blk t).view.read (Elt Ideal) X) (ix3 0 s j) = X (ix3 (bT t) s ⟨t.val % 2 * 512 + j.val, by omega⟩) := by
  have e : (win0_1.blk t).view.emb (ix3 0 s j : S1x2048x512.Idx) = (ix3 (bT t) s ⟨t.val % 2 * 512 + j.val, by omega⟩ : S16x2048x6144.Idx) := by blk_ext [idx1 t]
  exact congrArg X e
theorem read2 (X : S16x2048x6144.Idx → EReal) : rd (s := S1x2048x512) (((cfg0.win 2).blk t).view.read (Elt Ideal) X) (ix3 0 s j) = X (ix3 (bT t) s ⟨1024 + (t.val % 2 * 512 + j.val), by omega⟩) := by
  have e : (win0_2.blk t).view.emb (ix3 0 s j : S1x2048x512.Idx) = (ix3 (bT t) s ⟨1024 + (t.val % 2 * 512 + j.val), by omega⟩ : S16x2048x6144.Idx) := by blk_ext [idx2 t]
  exact congrArg X e
theorem read3 (X : S16x2048x6144.Idx → EReal) : rd (s := S1x2048x512) (((cfg0.win 3).blk t).view.read (Elt Ideal) X) (ix3 0 s j) = X (ix3 (bT t) s ⟨2048 + (t.val % 2 * 512 + j.val), by omega⟩) := by
  have e : (win0_3.blk t).view.emb (ix3 0 s j : S1x2048x512.Idx) = (ix3 (bT t) s ⟨2048 + (t.val % 2 * 512 + j.val), by omega⟩ : S16x2048x6144.Idx) := by blk_ext [idx3 t]
  exact congrArg X e
theorem read4 (X : S16x2048x6144.Idx → EReal) : rd (s := S1x2048x512) (((cfg0.win 4).blk t).view.read (Elt Ideal) X) (ix3 0 s j) = X (ix3 (bT t) s ⟨3072 + (t.val % 2 * 512 + j.val), by omega⟩) := by
  have e : (win0_4.blk t).view.emb (ix3 0 s j : S1x2048x512.Idx) = (ix3 (bT t) s ⟨3072 + (t.val % 2 * 512 + j.val), by omega⟩ : S16x2048x6144.Idx) := by blk_ext [idx4 t]
  exact congrArg X e
theorem read5 (X : S2048x128.Idx → EReal) : rd (s := S2048x128) (((cfg0.win 5).blk t).view.read (Elt Ideal) X) (ix2 s d) = X (ix2 s d) := by
  have e : (win0_5.blk t).view.emb (ix2 s d : S2048x128.Idx) = (ix2 s d : S2048x128.Idx) := by blk_ext [idx5 t]
  exact congrArg X e
theorem read6 (X : S2048x128.Idx → EReal) : rd (s := S2048x128) (((cfg0.win 6).blk t).view.read (Elt Ideal) X) (ix2 s d) = X (ix2 s d) := by
  have e : (win0_6.blk t).view.emb (ix2 s d : S2048x128.Idx) = (ix2 s d : S2048x128.Idx) := by blk_ext [idx6 t]
  exact congrArg X e
theorem read7 (X : S1x1024.Idx → EReal) : rd (s := S1x512) (((cfg0.win 7).blk t).view.read (Elt Ideal) X) (ix2 0 j) = X (ix2 0 ⟨t.val % 2 * 512 + j.val, by omega⟩) := by
  have e : (win0_7.blk t).view.emb (ix2 0 j : S1x512.Idx) = (ix2 0 ⟨t.val % 2 * 512 + j.val, by omega⟩ : S1x1024.Idx) := by blk_ext [idx7 t]
  exact congrArg X e
theorem read8 (X : S32x2048x1024.Idx → EReal) : rd (s := S1x2048x1024) (((cfg0.win 8).blk t).view.read (Elt Ideal) X) (ix3 0 s x) = X (ix3 ⟨t.val, t.isLt⟩ s x) := by
  have e : (win0_8.blk t).view.emb (ix3 0 s x : S1x2048x1024.Idx) = (ix3 ⟨t.val, t.isLt⟩ s x : S32x2048x1024.Idx) := by blk_ext [idx8 t]
  exact congrArg X e
theorem read0 (X : S8.Idx → EReal) : rd (s := S8) (((cfg0.win 0).blk t).view.read (Elt Ideal) X) (ix1 h) = X (ix1 h) := by
  have e : (win0_0.blk t).view.emb (ix1 h : S8.Idx) = (ix1 h : S8.Idx) := by blk_ext [idx0 t]
  exact congrArg X e
theorem blk1 : rd (s := S1x2048x512) (iblk m c 1 t) (ix3 0 s j) = A0 m c (ix3 (bT t) s ⟨t.val % 2 * 512 + j.val, by omega⟩) :=
  (read1 t s j (V m c main_arg0)).trans (congrFun (V_main_arg0 m c) _)
theorem blk2 : rd (s := S1x2048x512) (iblk m c 2 t) (ix3 0 s j) = A0 m c (ix3 (bT t) s ⟨1024 + (t.val % 2 * 512 + j.val), by omega⟩) :=
  (read2 t s j (V m c main_arg0)).trans (congrFun (V_main_arg0 m c) _)
theorem blk3 : rd (s := S1x2048x512) (iblk m c 3 t) (ix3 0 s j) = A0 m c (ix3 (bT t) s ⟨2048 + (t.val % 2 * 512 + j.val), by omega⟩) :=
  (read3 t s j (V m c main_arg0)).trans (congrFun (V_main_arg0 m c) _)
theorem blk4 : rd (s := S1x2048x512) (iblk m c 4 t) (ix3 0 s j) = A0 m c (ix3 (bT t) s ⟨3072 + (t.val % 2 * 512 + j.val), by omega⟩) :=
  (read4 t s j (V m c main_arg0)).trans (congrFun (V_main_arg0 m c) _)
theorem blk5 : rd (s := S2048x128) (iblk m c 5 t) (ix2 s d) = cosT s.val d.val :=
  (read5 t s d (V m c main_v14)).trans (cos_apply (fun b => m (c, b)) s d)
theorem blk6 : rd (s := S2048x128) (iblk m c 6 t) (ix2 s d) = sinT s.val d.val :=
  (read6 t s d (V m c main_v18)).trans (sin_apply (fun b => m (c, b)) s d)
theorem blk7 : rd (s := S1x512) (iblk m c 7 t) (ix2 0 j) = A1 m c (ix2 0 ⟨t.val % 2 * 512 + j.val, by omega⟩) :=
  (read7 t j (V m c main_v27)).trans (gnw_apply (fun b => m (c, b)) _)
theorem blk8 : rd (s := S1x2048x1024) (iblk m c 8 t) (ix3 0 s x) = A2 m c (ix4 0 ⟨t.val, t.isLt⟩ s x) :=
  (read8 t s x (V m c main_v28)).trans (w_apply (fun b => m (c, b)) s x _)
theorem blk0 : rd (s := S8) (iblk m c 0 t) (ix1 h) = lgH h.val :=
  (read0 t h (V m c main_v25)).trans (lg_apply (fun b => m (c, b)) h)

end Cert.KernelIdeal.Ret

end
-- ==== Proof.Ret.KerRes.lean ====
/- The kernel's results as whole arrays, at the end of a run. -/
module

public import proofs.«01_k».proof.Proof.Ret.KerValue
public import Idealize.ShloMosaic.Lib.Pipeline.Value

@[expose] public section

set_option maxRecDepth 16384

noncomputable section

namespace Cert.KernelIdeal.Ret

open Idealize.ShloMosaic Idealize.ShloMosaic.TcCoe Idealize.ShloMosaic.StableHlo Idealize.SL.Sem
open Cert.KernelIdeal Cert.KernelIdeal.Gen
open Cert.Ret

variable (m : (ℓ : Loc nD τ sig) → Buf (Elt Ideal) ℓ) (c : Dev nD) (t : Fin cfg0.N)
variable (s : Fin 2048) (j : Fin 512) (x : Fin 1024)

/-! ## The result's block of a grid step -/

theorem lgOf_eq (hh : Fin 4) : lgOf (grid0.coords t) hh (inVals m c t).lg = lgH (t.val % 2 * 4 + hh.val) := by
  refine Eq.trans ?_ (blk0 m c t ⟨t.val % 2 * 4 + hh.val, by omega⟩)
  refine congrArg (iblk m c 0 t) (funext fun a => ?_)
  match a with
  | 0 => exact Fin.ext ((ValueKit.rect_emb_unit_val _ _ _ _ _).trans (congrFun (off1_eq t hh) 0))

/-- A head's rows of a block of four heads are the head's rows of the projections. -/
theorem rows_eq (X : S1x2048x512.Idx → EReal) (off : ℕ) (ho : off ≤ 3072) (hX : ∀ s j, X (ix3 0 s j) = A0 m c (ix3 (bT t) s ⟨off + (t.val % 2 * 512 + j.val), by omega⟩)) (hh : Fin 4) (h : Fin 8)
    (e : h.val = t.val % 2 * 4 + hh.val) : blkRows X hh = rows (A0 m c) off ho (bT t) h := by
  funext s d
  refine (hX s _).trans (congrArg (A0 m c) (congrArg (ix3 (bT t) s) (Fin.ext ?_)))
  show off + (t.val % 2 * 512 + (hh.val * 128 + d.val)) = off + (h.val * 128 + d.val)
  omega

theorem blk1' : rd (s := S1x2048x512) (iblk m c 1 t) (ix3 0 s j) = A0 m c (ix3 (bT t) s ⟨0 + (t.val % 2 * 512 + j.val), by omega⟩) :=
  (blk1 m c t s j).trans (congrArg (A0 m c) (congrArg (ix3 (bT t) s) (Fin.ext (Nat.zero_add _).symm)))

/-- The kernel's result of a head depends on what it reads only. -/
theorem out_congr {l l' : EReal} {q q' k k' v v' g g' : Rows} {w w' : Fin 128 → EReal} {n : Fin 16} {i e e' : Fin 128} (hl : l = l') (hq : q = q')
    (hk : k = k') (hv : v = v') (hg : g = g') (hw : w = w') (he : e = e') : outK gateC l q k v g w n i e = outK gateC l' q' k' v' g' w' n i e' := by
  subst hl hq hk hv hg hw he; rfl

/-- An entry of a step's result is the entry of its head's chunk. -/
theorem oBlk_oVal (p : grid0.Coords) (X : Vals Ideal) : rd (s := S1x2048x512) (oBlk p X) (ix3 0 s j)
    = rd (oVal p X ⟨j.val / 128, by omega⟩ ⟨s.val / 128, by omega⟩) (ix3 0 ⟨s.val % 128, by omega⟩ ⟨j.val % 128, by omega⟩) := by
  refine congrArg (oVal p X ⟨j.val / 128, by omega⟩ ⟨s.val / 128, by omega⟩) ?_
  funext a; match a with | 0 => rfl | 1 => rfl | 2 => rfl

theorem lg_field : (inVals m c t).lg = iblk m c 0 t := rfl
theorem q_field : (inVals m c t).q = iblk m c 1 t := rfl
theorem k_field : (inVals m c t).k = iblk m c 2 t := rfl
theorem v_field : (inVals m c t).v = iblk m c 3 t := rfl
theorem g_field : (inVals m c t).g = iblk m c 4 t := rfl
theorem cos_field : (inVals m c t).cos = iblk m c 5 t := rfl
theorem sin_field : (inVals m c t).sin = iblk m c 6 t := rfl
theorem gn_field : (inVals m c t).gn = iblk m c 7 t := rfl

theorem gn_eq (hx : (t.val % 2 * 512 + j.val) / 128 = t.val % 2 * 4 + j.val / 128) : (fun e : Fin 128 => rd (s := S1x512) (inVals m c t).gn (ix2 0 ⟨j.val / 128 * 128 + e.val, by omega⟩))
    = fun e : Fin 128 => A1 m c (ix2 0 ⟨(t.val % 2 * 512 + j.val) / 128 * 128 + e.val, by omega⟩) := by
  funext e
  rw [gn_field]
  refine (blk7 m c t _).trans (congrArg (A1 m c) (congrArg (ix2 0) (Fin.ext ?_)))
  show t.val % 2 * 512 + (j.val / 128 * 128 + e.val) = (t.val % 2 * 512 + j.val) / 128 * 128 + e.val
  omega

theorem cos_in (d : Fin 128) : rd (s := S2048x128) (inVals m c t).cos (ix2 s d) = cosT s.val d.val := by rw [cos_field]; exact blk5 m c t s d
theorem sin_in (d : Fin 128) : rd (s := S2048x128) (inVals m c t).sin (ix2 s d) = sinT s.val d.val := by rw [sin_field]; exact blk6 m c t s d

section Rows

variable (hh : Fin 4) (h : Fin 8) (e : h.val = t.val % 2 * 4 + hh.val)

include e

theorem q_in : blkRows (inVals m c t).q hh = rows (A0 m c) 0 (by decide) (bT t) h := by
  rw [q_field]; exact rows_eq m c t (iblk m c 1 t) 0 _ (blk1' m c t) hh h e
theorem k_in : blkRows (inVals m c t).k hh = rows (A0 m c) 1024 (by decide) (bT t) h := by
  rw [k_field]; exact rows_eq m c t (iblk m c 2 t) 1024 _ (blk2 m c t) hh h e
theorem v_in : blkRows (inVals m c t).v hh = rows (A0 m c) 2048 (by decide) (bT t) h := by
  rw [v_field]; exact rows_eq m c t (iblk m c 3 t) 2048 _ (blk3 m c t) hh h e
theorem g_in : blkRows (inVals m c t).g hh = rows (A0 m c) 3072 (by decide) (bT t) h := by
  rw [g_field]; exact rows_eq m c t (iblk m c 4 t) 3072 _ (blk4 m c t) hh h e

end Rows

theorem oBlk_apply : rd (s := S1x2048x512) (oBlk (grid0.coords t) (inVals m c t)) (ix3 0 s j)
    = atEntry (outK gateC) (A0 m c) (A1 m c) (bT t) s ⟨t.val % 2 * 512 + j.val, by omega⟩ := by
  have hx : (t.val % 2 * 512 + j.val) / 128 = t.val % 2 * 4 + j.val / 128 := by omega
  have hy : j.val % 128 = (t.val % 2 * 512 + j.val) % 128 := by omega
  have hh : j.val / 128 < 4 := by omega
  have hH : (t.val % 2 * 512 + j.val) / 128 < 8 := by omega
  refine (oBlk_oVal s j _ _).trans ?_
  refine (head_out _ ⟨j.val / 128, hh⟩ _ _ (inVals m c t) (cos_in m c t) (sin_in m c t) (grid0.coords t)).trans ?_
  unfold atEntry
  exact out_congr ((lgOf_eq m c t ⟨j.val / 128, hh⟩).trans (congrArg lgH hx.symm))
    (q_in m c t ⟨j.val / 128, hh⟩ ⟨(t.val % 2 * 512 + j.val) / 128, hH⟩ hx) (k_in m c t ⟨j.val / 128, hh⟩ ⟨(t.val % 2 * 512 + j.val) / 128, hH⟩ hx)
    (v_in m c t ⟨j.val / 128, hh⟩ ⟨(t.val % 2 * 512 + j.val) / 128, hH⟩ hx) (g_in m c t ⟨j.val / 128, hh⟩ ⟨(t.val % 2 * 512 + j.val) / 128, hH⟩ hx)
    (gn_eq m c t j hx) (Fin.ext hy)

theorem wBlk_apply : rd (s := S1x2048x1024) (k0_pay2 (F := Ideal) (iblk m c 8 t)) (ix3 0 s x) = A2 m c (ix4 0 ⟨t.val, t.isLt⟩ s x) := by
  refine Eq.trans ?_ (blk8 m c t s x)
  unfold rd
  pointwise [k0_pay2]

/-! ## The whole results -/

/-- The retention as the kernel computes it. -/
def resO : S16x2048x1024.Idx → EReal := fun i => atEntry (outK gateC) (A0 m c) (A1 m c) (i 0) (i 1) (i 2)
/-- The weights as the kernel hands them on. -/
def resW : S32x2048x1024.Idx → EReal := fun i => A2 m c (ix4 0 (i 0) (i 1) (i 2))

theorem final9 : (dats m 0 c).arrAt 9 cfg0.N = resO m c := by
  refine (dats m 0 c).arrAt_eq_of_covers 9 _ (by decide +kernel) fun t hf y => ?_
  have hy : y = (ix3 0 (y 1) (y 2) : S1x2048x512.Idx) := (eq_ix3 (y : S1x2048x512.Idx)).trans (congrArg (fun a : Fin 1 => ix3 a (y 1) (y 2)) (Subsingleton.elim _ _))
  have e : (win0_9.blk t).view.emb y = (ix3 (bT t) (y 1) ⟨t.val % 2 * 512 + (y 2).val, by have : (y 2).val < 512 := (y 2).isLt; omega⟩ : S16x2048x1024.Idx) := by blk_ext [idx9 t]
  refine Eq.trans ?_ ((oBlk_apply m c t (y 1) (y 2)).trans (congrArg (resO m c) e).symm)
  blk_simp
  rw [after_9]
  exact congrArg (oBlk (grid0.coords t) (inVals m c t)) hy

theorem final10 : (dats m 0 c).arrAt 10 cfg0.N = resW m c := by
  refine (dats m 0 c).arrAt_eq_of_covers 10 _ (by decide +kernel) fun t hf y => ?_
  have hy : y = (ix3 0 (y 1) (y 2) : S1x2048x1024.Idx) := (eq_ix3 (y : S1x2048x1024.Idx)).trans (congrArg (fun a : Fin 1 => ix3 a (y 1) (y 2)) (Subsingleton.elim _ _))
  have e : (win0_10.blk t).view.emb y = (ix3 ⟨t.val, t.isLt⟩ (y 1) (y 2) : S32x2048x1024.Idx) := by blk_ext [idx10 t]
  refine Eq.trans ?_ ((wBlk_apply m c t (y 1) (y 2)).trans (congrArg (resW m c) e).symm)
  blk_simp
  rw [after_10]
  exact congrArg (k0_pay2 (iblk m c 8 t)) hy

end Cert.KernelIdeal.Ret

end
-- ==== Proof.Ret.RefLoop.lean ====
/- A trip of the reference's loop over the chunks, and the states it stacks. -/
module

public import proofs.«01_k».proof.Proof.Ret.RefFrame
public import Idealize.ShloMosaic.Lib.StableHlo.ReadAt
public import Idealize.ShloMosaic.Lib.Pointwise

@[expose] public section

set_option maxRecDepth 16384

noncomputable section

namespace Cert.ReferenceIdeal.Ret

open Idealize.ShloMosaic Idealize.ShloMosaic.TcCoe Idealize.ShloMosaic.StableHlo
open Cert.ReferenceIdeal Cert.ReferenceIdeal.Gen Cert.ReferenceIdeal.Value

variable (V : Valuation τ sig (Elt Ideal))
variable (b n : Fin 16) (i j : Fin 128) (h : Fin 8) (d e : Fin 128)

/-- An array of extended reals at an index. -/
abbrev rd {s : Shape} (f : s.Idx → EReal) (i : s.Idx) : EReal := f i

/-- Where a trip reads and writes: its own number on the first axis, nothing elsewhere. -/
abbrev startOf (k : Fin 16) : Fin 5 → Int := ![(k.val : Int), 0, 0, 0, 0]

theorem start_eq (k : Fin 16) (hk : V (Proc.devRef .tc main_v129_2) = fun _ => BitVec.ofNat 32 k.val) :
    (fun a => (((![V (Proc.devRef .tc main_v129_2), constantI S_ 32 0#32, constantI S_ 32 0#32, constantI S_ 32 0#32, constantI S_ 32 0#32] : Fin 5 → (⟨S_, .i32⟩ : BufTy).Contents (Elt Ideal))) a (Shape.Idx.first h_S_)).toInt) = startOf k := by
  rw [hk]
  funext a
  match a with
  | 0 =>
    show (BitVec.ofNat 32 k.val).toInt = (k.val : Int)
    rw [BitVec.toInt_eq_toNat_of_lt (by rw [BitVec.toNat_ofNat]; omega), BitVec.toNat_ofNat]; omega
  | 1 | 2 | 3 | 4 => rfl

theorem clamp0 (k : Fin 16) (hr) : Host.clampedStart S16x16x8x128x128 S1x16x8x128x128 hr (startOf k) 0 = k.val :=
  Host.clampedStart_of_le hr _ 0 k.val rfl (show k.val + 1 ≤ 16 by omega)
theorem clamp1 (k : Fin 16) (hr) : Host.clampedStart S16x16x8x128x128 S1x16x8x128x128 hr (startOf k) 1 = 0 :=
  Host.clampedStart_of_le hr _ 1 0 rfl (by show 0 + 16 ≤ 16; decide)
theorem clamp2 (k : Fin 16) (hr) : Host.clampedStart S16x16x8x128x128 S1x16x8x128x128 hr (startOf k) 2 = 0 :=
  Host.clampedStart_of_le hr _ 2 0 rfl (by show 0 + 8 ≤ 8; decide)
theorem clamp3 (k : Fin 16) (hr) : Host.clampedStart S16x16x8x128x128 S1x16x8x128x128 hr (startOf k) 3 = 0 :=
  Host.clampedStart_of_le hr _ 3 0 rfl (by show 0 + 128 ≤ 128; decide)
theorem clamp4 (k : Fin 16) (hr) : Host.clampedStart S16x16x8x128x128 S1x16x8x128x128 hr (startOf k) 4 = 0 :=
  Host.clampedStart_of_le hr _ 4 0 rfl (by show 0 + 128 ≤ 128; decide)

/-- One trip on the state: decayed, and the chunk's product added. -/
theorem trip3 (k : Fin 16) (hk : V (Proc.devRef .tc main_v129_2) = fun _ => BitVec.ofNat 32 k.val) : rd (s := S16x8x128x128) (afterL bodyI V (Proc.devRef .tc main_v129_3)) (ix4 b h d e)
    = (rd (s := S8) (V (Proc.devRef .tc main_v129_1)) (ix1 h) * rd (s := S16x8x128x128) (V (Proc.devRef .tc main_v129_3)) (ix4 b h d e) + rd (s := S16x16x8x128x128) (V (Proc.devRef .tc main_v129_0)) (ix5 k b h d e) ) := by
  rw [trip_main_v129_3]
  refine (congrArg (fun st : Fin 5 → Int => (addf (F := Ideal) (φ := .f32) (mulf (broadcastInDim S16x8x128x128 ![0, 1, 2, 3] bcast_S1x8x1x1_S16x8x128x128_0_1_2_3 (broadcastInDim S1x8x1x1 ![1] bcast_S8_S1x8x1x1_1 (V (Proc.devRef .tc main_v129_1)))) (V (Proc.devRef .tc main_v129_3)))
    (shapeCast S16x8x128x128 (Host.dynamicSlice (s := S16x16x8x128x128) S1x16x8x128x128 (V (Proc.devRef .tc main_v129_0)) st sliceFits_S16x16x8x128x128_S1x16x8x128x128) shapeCasts_S1x16x8x128x128_S16x8x128x128)) (ix4 b h d e)) (start_eq V k hk)).trans ?_
  pointwise
  simp only [clamp0, clamp1, clamp2, clamp3, clamp4, Nat.zero_add, Nat.add_zero]

/-- One trip on the stack of states: the state before the trip at the trip's place. -/
theorem trip4 (k : Fin 16) (hk : V (Proc.devRef .tc main_v129_2) = fun _ => BitVec.ofNat 32 k.val) : rd (s := S16x16x8x128x128) (afterL bodyI V (Proc.devRef .tc main_v129_4)) (ix5 n b h d e)
    = if n = k then rd (s := S16x8x128x128) (V (Proc.devRef .tc main_v129_3)) (ix4 b h d e) else rd (s := S16x16x8x128x128) (V (Proc.devRef .tc main_v129_4)) (ix5 n b h d e) := by
  rw [trip_main_v129_4]
  refine (congrArg (fun st : Fin 5 → Int => (Host.dynamicUpdateSlice (s := S16x16x8x128x128) (u := S1x16x8x128x128) (V (Proc.devRef .tc main_v129_4))
    (broadcastInDim S1x16x8x128x128 ![1, 2, 3, 4] bcast_S16x8x128x128_S1x16x8x128x128_1_2_3_4 (V (Proc.devRef .tc main_v129_3))) st updateFits_S16x16x8x128x128_S1x16x8x128x128) (ix5 n b h d e)) (start_eq V k hk)).trans ?_
  pointwise
  simp only [clamp0, clamp1, clamp2, clamp3, clamp4, Nat.zero_add, Nat.add_zero]
  by_cases hn : n = k
  · subst hn
    rw [dif_pos (by omega), if_pos rfl]
    simp only [Nat.sub_zero]
  · rw [dif_neg (by have := fun h => hn (Fin.ext h); omega), if_neg hn]

variable (m : (ℓ : Loc nD τ sig) → Buf (Elt Ideal) ℓ)

/-- A buffer the loop's test does not write. -/
theorem cond_keep (r : Ref sig .tc) (hc : r ∉ condOps_W) : after condOps V (Proc.devRef .tc r) = V (Proc.devRef .tc r) :=
  after_of_writes_sub _ _ (condOps_writes (F := Ideal)) hc

/-- The state a batch and head hold before a trip, and the stack. -/
theorem states (c : Dev nD) (kv : ℕ → EReal) (hkv : ∀ k : Fin 16, rd (s := S16x16x8x128x128) (entryContents preI m c (Proc.devRef .tc main_v129_0)) (ix5 k b h d e) = kv k.val)
    (cd : EReal) (hcd : rd (s := S8) (entryContents preI m c (Proc.devRef .tc main_v129_1)) (ix1 h) = cd)
    (st : ℕ → EReal) (h0 : rd (s := S16x8x128x128) (entryContents preI m c (Proc.devRef .tc main_v129_3)) (ix4 b h d e) = st 0)
    (hs : ∀ k : Fin 16, st (k.val + 1) = cd * st k.val + kv k.val) :
    ∀ k : ℕ, k ≤ 16 → rd (s := S16x8x128x128) (atK m k c (Proc.devRef .tc main_v129_3)) (ix4 b h d e) = st k
      ∧ ∀ n : Fin 16, n.val < k → rd (s := S16x16x8x128x128) (atK m k c (Proc.devRef .tc main_v129_4)) (ix5 n b h d e) = st n.val
  | 0, _ => ⟨h0, fun n hn => absurd hn (Nat.not_lt_zero _)⟩
  | k + 1, hk => by
    have ih := states c kv hkv cd hcd st h0 hs k (by omega)
    have hc : after condOps (atK m k c) (Proc.devRef .tc main_v129_2) = fun _ => BitVec.ofNat 32 (⟨k, by omega⟩ : Fin 16).val := by
      rw [cond_keep _ main_v129_2 (by decide), atK_ctr]
      funext _
      show 0#32 + BitVec.ofNat 32 k * 1#32 = BitVec.ofNat 32 k
      rw [BitVec.mul_one, BitVec.zero_add]
    have e3 : after condOps (atK m k c) (Proc.devRef .tc main_v129_3) = atK m k c (Proc.devRef .tc main_v129_3) := cond_keep _ _ (by decide)
    have e4 : after condOps (atK m k c) (Proc.devRef .tc main_v129_4) = atK m k c (Proc.devRef .tc main_v129_4) := cond_keep _ _ (by decide)
    have e0 : after condOps (atK m k c) (Proc.devRef .tc main_v129_0) = entryContents preI m c (Proc.devRef .tc main_v129_0) :=
      loop_keep m main_v129_0 (by decide) (by decide) (by decide) (by decide) (by decide) c k
    have e1 : after condOps (atK m k c) (Proc.devRef .tc main_v129_1) = entryContents preI m c (Proc.devRef .tc main_v129_1) :=
      loop_keep m main_v129_1 (by decide) (by decide) (by decide) (by decide) (by decide) c k
    refine ⟨(trip3 (after condOps (atK m k c)) b h d e ⟨k, by omega⟩ hc).trans ?_, fun n hn => (trip4 (after condOps (atK m k c)) b n h d e ⟨k, by omega⟩ hc).trans ?_⟩
    · rw [e3, e0, e1, hcd, ih.1, hkv]
      exact (hs ⟨k, by omega⟩).symm
    · rw [e3, e4, ih.1]
      split
      · rename_i he; rw [he]
      · rename_i he
        exact ih.2 n (by have : n.val ≠ k := fun h => he (Fin.ext h); omega)

end Cert.ReferenceIdeal.Ret

end
-- ==== Proof.Ret.RefRead.lean ====
/- What the reference computes before and after its loop, entry by entry. -/
module

public import proofs.«01_k».proof.Proof.Ret.RefLoop
public import proofs.«01_k».proof.Proof.Ret.Spec

@[expose] public section

set_option maxRecDepth 16384

noncomputable section

namespace Cert.ReferenceIdeal.Ret

open Idealize.ShloMosaic Idealize.ShloMosaic.TcCoe Idealize.ShloMosaic.StableHlo
open Cert.ReferenceIdeal Cert.ReferenceIdeal.Gen Cert.ReferenceIdeal.Value
open Cert.Ret

variable (V : Valuation τ sig (Elt Ideal))
variable (b n : Fin 16) (i j : Fin 128) (h : Fin 8) (d e : Fin 128) (s : Fin 2048) (x : Fin 1024)

/-- A head's rows of the launch's first argument. -/
abbrev argRows (off : ℕ) (ho : off ≤ 3072) : Rows := rows (V (Proc.devRef .tc main_arg0)) off ho b h

theorem v37_apply : rd (s := S16x2048x8x128) (after hostOps0 V (Proc.devRef .tc main_v37)) (ix4 b s h d) = ropeR (argRows V b h 0 (by omega)) s d * sc := by
  after_reads_at
  after_reads_at
  unfold ropeR ang argRows rows
  simp only [Nat.zero_add]
theorem v67_apply : rd (s := S16x2048x8x128) (after hostOps0 V (Proc.devRef .tc main_v67)) (ix4 b s h d) = ropeR (argRows V b h 1024 (by omega)) s d := by
  after_reads_at
  after_reads_at
  unfold ropeR ang argRows rows
  rfl
theorem v68_apply : rd (s := S16x2048x8x128) (after hostOps0 V (Proc.devRef .tc main_v68)) (ix4 b s h d) = argRows V b h 2048 (by omega) s d := by
  after_reads_at
  rfl
theorem v5_apply : rd (s := S16x2048x1024) (after hostOps0 V (Proc.devRef .tc main_v5)) (ix3 b s x) = rd (s := S16x2048x6144) (V (Proc.devRef .tc main_arg0)) (ix3 b s ⟨3072 + x.val, by omega⟩) := by
  after_reads_at
theorem v75_apply : rd (s := S8) (after hostOps0 V (Proc.devRef .tc main_v75)) (ix1 h) = lgH h.val := by
  after_reads_at
  rfl
theorem v76_apply : rd (s := S128) (after hostOps0 V (Proc.devRef .tc main_v76)) (ix1 i) = num i.val := by
  after_reads_at
theorem v92_apply : rd (s := S8x128x128) (after hostOps0 V (Proc.devRef .tc main_v92)) (ix3 h i j) = Ideal.exp (max (num i.val - num j.val) 0 * lgH h.val) := by
  after_reads_at
  rfl
theorem v84_apply : (after hostOps0 V (Proc.devRef .tc main_v84) : S1x128x128.Idx → BitVec 1) (ix3 0 i j) = BitVec.ofBool (decide ((0 : EReal) ≤ num i.val - num j.val)) := by
  after_reads_at
theorem cst_8_apply : rd (s := S_) (after hostOps0 V (Proc.devRef .tc main_cst_8)) ix0 = 0 := by
  after_reads_at
theorem v93_apply : rd (s := S8x128x128) (after hostOps0_1 (after hostOps0 V) (Proc.devRef .tc main_v93)) (ix3 h i j) = mk (lgH h.val) i.val j.val := by
  have h1 := v84_apply V i j
  have h2 := v92_apply V i j h
  have h3 := cst_8_apply V
  generalize after hostOps0 V = W at h1 h2 h3 ⊢
  simp only [rd] at h2 h3
  after_reads_at
  rw [h1, h2]
  simp only [id]
  rw [h3]
  unfold mk
  by_cases hc : (0 : EReal) ≤ num i.val - num j.val
  · rw [decide_eq_true hc, if_pos hc]; rfl
  · rw [decide_eq_false hc, if_neg hc]; rfl
theorem v101_apply : rd (s := S8x128) (after hostOps0_2 V (Proc.devRef .tc main_v101)) (ix2 h i)
    = Ideal.exp ((rd (s := S128) (V (Proc.devRef .tc main_v76)) (ix1 i) + 1) * rd (s := S8) (V (Proc.devRef .tc main_v75)) (ix1 h)) := by
  after_reads_at
theorem v113_apply : rd (s := S16x16x128x8x128) (after hostOps0_2 V (Proc.devRef .tc main_v113)) (ix5 b n i h e) = rd (s := S16x2048x8x128) (V (Proc.devRef .tc main_v37)) (ix4 b (row n i) h e) := by
  after_reads_at
  rfl
theorem v121_apply : rd (s := S16x16x128x8x128) (after hostOps0_2 V (Proc.devRef .tc main_v121)) (ix5 b n i h e)
    = ∑ x : Fin 128, rd (s := S16x2048x8x128) (V (Proc.devRef .tc main_v68)) (ix4 b (row n x) h e)
      * ((∑ d, rd (s := S16x2048x8x128) (V (Proc.devRef .tc main_v37)) (ix4 b (row n i) h d) * rd (s := S16x2048x8x128) (V (Proc.devRef .tc main_v67)) (ix4 b (row n x) h d))
        * rd (s := S8x128x128) (V (Proc.devRef .tc main_v93)) (ix3 h i x)) := by
  after_reads_at
theorem kv_apply : rd (s := S16x16x8x128x128) (after hostOps0_2 V (Proc.devRef .tc main_v129_0)) (ix5 n b h d e)
    = ∑ x : Fin 128, rd (s := S16x2048x8x128) (V (Proc.devRef .tc main_v67)) (ix4 b (row n x) h d)
      * Ideal.exp ((Ideal.ofBits .f32 0x42FE0000#32 - rd (s := S128) (V (Proc.devRef .tc main_v76)) (ix1 x)) * rd (s := S8) (V (Proc.devRef .tc main_v75)) (ix1 h))
      * rd (s := S16x2048x8x128) (V (Proc.devRef .tc main_v68)) (ix4 b (row n x) h e) := by
  after_reads_at
  simp only [id, rd]
  pointwise
theorem cd_apply : rd (s := S8) (after hostOps0_2 V (Proc.devRef .tc main_v129_1)) (ix1 h) = Ideal.exp (Ideal.ofBits .f32 0x43000000#32 * rd (s := S8) (V (Proc.devRef .tc main_v75)) (ix1 h)) := by
  after_reads_at
  simp only [id, rd]
  pointwise
theorem st_apply : rd (s := S16x8x128x128) (after hostOps0_2 V (Proc.devRef .tc main_v129_3)) (ix4 b h d e) = 0 := by
  after_reads_at
  simp only [id, rd]
  pointwise
/-- A head's retention before its norm, from the parts the loop leaves. -/
abbrev oRef (e : Fin 128) : EReal :=
  rd (s := S16x16x128x8x128) (V (Proc.devRef .tc main_v121)) (ix5 b n i h e)
    + ∑ d : Fin 128, rd (s := S16x16x8x128x128) (V (Proc.devRef .tc main_v129_4)) (ix5 n b h d e)
      * (rd (s := S16x16x128x8x128) (V (Proc.devRef .tc main_v113)) (ix5 b n i h d) * rd (s := S8x128) (V (Proc.devRef .tc main_v101)) (ix2 h i))
theorem v160_apply : rd (s := S16x2048x1024) (after hostOps0_3 V (Proc.devRef .tc main_v160)) (ix3 b s x)
    = normR (oRef V b ⟨s.val / 128, by omega⟩ ⟨s.val % 128, by omega⟩ ⟨x.val / 128, by omega⟩) ⟨x.val % 128, by omega⟩ * rd (s := S1x1024) (V (Proc.devRef .tc main_arg1)) (ix2 0 x) := by
  after_reads_at
  unfold normR mean
  rfl
theorem v161_apply : rd (s := S16x2048x1024) (after hostOps0_4 V (Proc.devRef .tc main_v161)) (ix3 b s x) = siluR (rd (s := S16x2048x1024) (V (Proc.devRef .tc main_v5)) (ix3 b s x)) := by
  after_reads_at
  rfl
theorem v163_apply : rd (s := S16x2048x1024) (after hostOps0_5 V (Proc.devRef .tc main_v163)) (ix3 b s x) = rd (s := S16x2048x1024) (V (Proc.devRef .tc main_v161)) (ix3 b s x) * rd (s := S16x2048x1024) (V (Proc.devRef .tc main_v160)) (ix3 b s x) := by
  after_reads_at
theorem v165_apply (y : Fin 32) : rd (s := S32x2048x1024) (after hostOps0_5 V (Proc.devRef .tc main_v165)) (ix3 y s x) = rd (s := S1x32x2048x1024) (V (Proc.devRef .tc main_arg2)) (ix4 0 y s x) := by
  after_reads_at

end Cert.ReferenceIdeal.Ret

end
-- ==== Proof.Ret.RefValue.lean ====
/- What the reference's results hold at the end, entry by entry. -/
module

public import proofs.«01_k».proof.Proof.Ret.RefRead

@[expose] public section

set_option maxRecDepth 16384

noncomputable section

namespace Cert.ReferenceIdeal.Ret

open Idealize.ShloMosaic Idealize.ShloMosaic.TcCoe Idealize.ShloMosaic.StableHlo
open Cert.ReferenceIdeal Cert.ReferenceIdeal.Gen Cert.ReferenceIdeal.Value
open Cert.Ret

variable (m : (ℓ : Loc nD τ sig) → Buf (Elt Ideal) ℓ) (c : Dev nD)
variable (b n : Fin 16) (i j : Fin 128) (h : Fin 8) (d e : Fin 128) (s : Fin 2048) (x : Fin 1024)

/-- The buffers at the launch, after the first and the second stretch before the loop, and at the loop's end. -/
abbrev V0 : Valuation τ sig (Elt Ideal) := fun r => m (c, r)
abbrev V1 : Valuation τ sig (Elt Ideal) := after hostOps0 (V0 m c)
abbrev V2 : Valuation τ sig (Elt Ideal) := after hostOps0_1 (V1 m c)
abbrev V3 : Valuation τ sig (Elt Ideal) := after hostOps0_2 (V2 m c)
abbrev V4 : Valuation τ sig (Elt Ideal) := after condOps (atK m 16 c)

theorem V2_keep (r : Ref sig .tc) (p1 : r ∉ hostOps0_1_W) : V2 m c (Proc.devRef .tc r) = V1 m c (Proc.devRef .tc r) :=
  after_of_writes_sub _ _ (hostOps0_1_writes (F := Ideal)) p1
theorem V1_keep (r : Ref sig .tc) (p0 : r ∉ hostOps0_W) : V1 m c (Proc.devRef .tc r) = m ((c.tc : Thread nD τ).loc r) :=
  after_of_writes_sub _ _ (hostOps0_writes (F := Ideal)) p0
theorem V3_keep (r : Ref sig .tc) (p1 : r ∉ hostOps0_1_W) (p2 : r ∉ hostOps0_2_W) : V3 m c (Proc.devRef .tc r) = V1 m c (Proc.devRef .tc r) :=
  (after_of_writes_sub _ _ (hostOps0_2_writes (F := Ideal)) p2).trans (V2_keep m c r p1)
theorem entry_eq : entryContents preI m c = V3 m c := by
  show afterL preI _ = _
  rw [afterL_cons, afterL_cons, afterL_cons, afterL_nil]
theorem V4_keep (r : Ref sig .tc) (hc : r ∉ condOps_W) (h0 : r ∉ while0Ops0_W) (h1 : r ∉ while0Ops0_1_W) (h2 : r ∉ while0Ops0_2_W) (h3 : r ∉ while0Ops0_3_W) :
    V4 m c (Proc.devRef .tc r) = V3 m c (Proc.devRef .tc r) :=
  (loop_keep m r hc h0 h1 h2 h3 c 16).trans (congrFun (entry_eq m c) _)

/-- The head's rows of the argument. -/
abbrev R (off : ℕ) (ho : off ≤ 3072) : Rows := rows (m ((c.tc : Thread nD τ).loc main_arg0)) off ho b h
abbrev Q := ropeR (R m c b h 0 (by omega))
abbrev K := ropeR (R m c b h 1024 (by omega))
abbrev Vv := R m c b h 2048 (by omega)

theorem V3_v37 : rd (s := S16x2048x8x128) (V2 m c (Proc.devRef .tc main_v37)) (ix4 b s h d) = Q m c b h s d * sc := by
  rw [V2_keep m c main_v37 (by decide)]; exact v37_apply (V0 m c) b h d s
theorem V3_v67 : rd (s := S16x2048x8x128) (V2 m c (Proc.devRef .tc main_v67)) (ix4 b s h d) = K m c b h s d := by
  rw [V2_keep m c main_v67 (by decide)]; exact v67_apply (V0 m c) b h d s
theorem V3_v68 : rd (s := S16x2048x8x128) (V2 m c (Proc.devRef .tc main_v68)) (ix4 b s h d) = Vv m c b h s d := by
  rw [V2_keep m c main_v68 (by decide)]; exact v68_apply (V0 m c) b h d s
theorem V3_v75 : rd (s := S8) (V2 m c (Proc.devRef .tc main_v75)) (ix1 h) = lgH h.val := by
  rw [V2_keep m c main_v75 (by decide)]; exact v75_apply (V0 m c) h
theorem V3_v76 : rd (s := S128) (V2 m c (Proc.devRef .tc main_v76)) (ix1 i) = num i.val := by
  rw [V2_keep m c main_v76 (by decide)]; exact v76_apply (V0 m c) i

theorem V3_kv : rd (s := S16x16x8x128x128) (V3 m c (Proc.devRef .tc main_v129_0)) (ix5 n b h d e) = kvS (lgH h.val) (K m c b h) (Vv m c b h) n d e := by
  refine (kv_apply (V2 m c) b n h d e).trans (Finset.sum_congr rfl fun x _ => ?_)
  rw [V3_v67, V3_v68, V3_v75, V3_v76]; rfl
theorem V3_cd : rd (s := S8) (V3 m c (Proc.devRef .tc main_v129_1)) (ix1 h) = cdec (lgH h.val) := by
  refine (cd_apply (V2 m c) h).trans ?_
  rw [V3_v75]; rfl
/-- The stack of states the loop leaves. -/
theorem V4_st : rd (s := S16x16x8x128x128) (V4 m c (Proc.devRef .tc main_v129_4)) (ix5 n b h d e) = stS (lgH h.val) (K m c b h) (Vv m c b h) n.val d e := by
  rw [show V4 m c (Proc.devRef .tc main_v129_4) = atK m 16 c (Proc.devRef .tc main_v129_4) from cond_keep _ main_v129_4 (by decide)]
  refine (states b h d e m c (fun k => kvS (lgH h.val) (K m c b h) (Vv m c b h) ⟨k % 16, Nat.mod_lt _ (by omega)⟩ d e) (fun k => ?_) (cdec (lgH h.val)) ?_
    (fun k => stS (lgH h.val) (K m c b h) (Vv m c b h) k d e) ?_ (fun k => rfl) 16 (le_refl _)).2 n n.isLt
  · rw [entry_eq, V3_kv]
    exact congrArg (fun k => kvS _ _ _ k d e) (Fin.ext (Nat.mod_eq_of_lt k.isLt).symm)
  · rw [entry_eq]; exact V3_cd m c h
  · rw [entry_eq]; exact st_apply (V2 m c) b h d e

theorem V4_o : oRef (V4 m c) b n i h e = attR (lgH h.val) (Q m c b h) (K m c b h) (Vv m c b h) n i e := by
  unfold oRef attR
  refine congrArg₂ (· + ·) ?_ (Finset.sum_congr rfl fun d _ => congrArg₂ (· * ·) (V4_st m c b n h d e) (congrArg₂ (· * ·) ?_ ?_))
  · rw [V4_keep m c main_v121 (by decide) (by decide) (by decide) (by decide) (by decide)]
    refine (v121_apply (V2 m c) b n i h e).trans (Finset.sum_congr rfl fun x _ => ?_)
    rw [V3_v68]
    refine congrArg (Vv m c b h (row n x) e * ·) (congrArg₂ (· * ·) (Finset.sum_congr rfl fun d _ => ?_) (v93_apply (V0 m c) i x h))
    rw [V3_v37, V3_v67]
  · rw [V4_keep m c main_v113 (by decide) (by decide) (by decide) (by decide) (by decide)]
    exact (v113_apply (V2 m c) b n i h d).trans (V3_v37 m c b h d (row n i))
  · rw [V4_keep m c main_v101 (by decide) (by decide) (by decide) (by decide) (by decide)]
    refine (v101_apply (V2 m c) i h).trans ?_
    rw [V3_v75, V3_v76]; rfl

/-- The retention of a head at an entry. -/
theorem fin_out : rd (s := S16x2048x1024) (fin m c (Proc.devRef .tc main_v163)) (ix3 b s x)
    = atEntry outR (m ((c.tc : Thread nD τ).loc main_arg0)) (m ((c.tc : Thread nD τ).loc main_arg1)) b s x := by
  show rd (s := S16x2048x1024) (afterL postI (V4 m c) (Proc.devRef .tc main_v163)) (ix3 b s x) = _
  rw [afterL_cons, afterL_cons, afterL_cons, afterL_nil]
  refine (v163_apply _ b s x).trans ?_
  unfold atEntry outR
  refine congrArg₂ (· * ·) ((v161_apply _ b s x).trans (congrArg siluR ?_)) ?_
  · rw [after_of_writes_sub _ _ (post3_writes (F := Ideal)) (by decide : main_v5 ∉ post3_W), V4_keep m c main_v5 (by decide) (by decide) (by decide) (by decide) (by decide),
      V3_keep m c main_v5 (by decide) (by decide)]
    refine (v5_apply (V0 m c) b s x).trans ?_
    show rd (s := S16x2048x6144) (m ((c.tc : Thread nD τ).loc main_arg0)) _ = rd (s := S16x2048x6144) (m ((c.tc : Thread nD τ).loc main_arg0)) _
    congr 1
    refine congrArg₂ (ix3 b) (Fin.ext ?_) (Fin.ext ?_)
    · show s.val = s.val / 128 * 128 + s.val % 128; omega
    · show 3072 + x.val = 3072 + (x.val / 128 * 128 + x.val % 128); omega
  · rw [after_of_writes_sub _ _ (post4_writes (F := Ideal)) (by decide : main_v160 ∉ post4_W)]
    refine (v160_apply _ b s x).trans (congrArg₂ (· * ·) ?_ ?_)
    · exact congrArg (fun o => normR o ⟨x.val % 128, by omega⟩) (funext fun e => V4_o m c b _ _ _ e)
    · rw [V4_keep m c main_arg1 (by decide) (by decide) (by decide) (by decide) (by decide), V3_keep m c main_arg1 (by decide) (by decide),
        V1_keep m c main_arg1 (by decide)]
      show rd (s := S1x1024) (m ((c.tc : Thread nD τ).loc main_arg1)) _ = rd (s := S1x1024) (m ((c.tc : Thread nD τ).loc main_arg1)) _
      congr 1
      refine congrArg (ix2 0) (Fin.ext ?_)
      show x.val = x.val / 128 * 128 + x.val % 128; omega

/-- The gate's weights as the reference hands them on. -/
theorem fin_w (y : Fin 32) : rd (s := S32x2048x1024) (fin m c (Proc.devRef .tc main_v165)) (ix3 y s x) = rd (s := S1x32x2048x1024) (m ((c.tc : Thread nD τ).loc main_arg2)) (ix4 0 y s x) := by
  show rd (s := S32x2048x1024) (afterL postI (V4 m c) (Proc.devRef .tc main_v165)) (ix3 y s x) = _
  rw [afterL_cons, afterL_cons, afterL_cons, afterL_nil]
  refine (v165_apply _ s x y).trans ?_
  rw [after_of_writes_sub _ _ (post4_writes (F := Ideal)) (by decide : main_arg2 ∉ post4_W), after_of_writes_sub _ _ (post3_writes (F := Ideal)) (by decide : main_arg2 ∉ post3_W),
    V4_keep m c main_arg2 (by decide) (by decide) (by decide) (by decide) (by decide), V3_keep m c main_arg2 (by decide) (by decide),
    V1_keep m c main_arg2 (by decide)]

end Cert.ReferenceIdeal.Ret

end
-- ==== Proof.Ret.Eq.lean ====
/- The two arithmetics of the retention agree where the projections are finite. -/
module

public import proofs.«01_k».proof.Proof.Ret.Spec

@[expose] public section

noncomputable section

namespace Cert.Ret

open Idealize.ShloMosaic

/-- A value that is a real number. -/
def IsR (x : EReal) : Prop := ∃ r : ℝ, x = (r : EReal)

/-- A number whose absolute value is less than infinity is real. -/
theorem isR_of_abs {x : EReal} (h : max x (-x) < ⊤) : IsR x := by
  induction x using EReal.rec with
  | bot => simp at h
  | top => simp at h
  | coe r => exact ⟨r, rfl⟩

theorem isR_coe (r : ℝ) : IsR (r : EReal) := ⟨r, rfl⟩
theorem isR_zero : IsR 0 := ⟨0, rfl⟩
theorem isR_one : IsR 1 := ⟨1, rfl⟩
theorem IsR.add {x y : EReal} : IsR x → IsR y → IsR (x + y) := by
  rintro ⟨a, rfl⟩ ⟨b, rfl⟩; exact ⟨a + b, (EReal.coe_add a b).symm⟩
theorem IsR.neg {x : EReal} : IsR x → IsR (-x) := by
  rintro ⟨a, rfl⟩; exact ⟨-a, (EReal.coe_neg a).symm⟩
theorem IsR.sub {x y : EReal} : IsR x → IsR y → IsR (x - y) := by
  rintro ⟨a, rfl⟩ ⟨b, rfl⟩; exact ⟨a - b, (EReal.coe_sub a b).symm⟩
theorem IsR.mul {x y : EReal} : IsR x → IsR y → IsR (x * y) := by
  rintro ⟨a, rfl⟩ ⟨b, rfl⟩; exact ⟨a * b, (EReal.coe_mul a b).symm⟩
theorem IsR.sum {ι : Type} (s : Finset ι) (f : ι → EReal) (h : ∀ i, IsR (f i)) : IsR (∑ i ∈ s, f i) :=
  Finset.sum_induction f IsR (fun _ _ => IsR.add) isR_zero fun i _ => h i
theorem IsR.cos {x : EReal} : IsR x → IsR (Ideal.cos x) := by rintro ⟨a, rfl⟩; exact ⟨Real.cos a, rfl⟩
theorem IsR.sin {x : EReal} : IsR x → IsR (Ideal.sin x) := by rintro ⟨a, rfl⟩; exact ⟨Real.sin a, rfl⟩
theorem IsR.pow {x y : EReal} : IsR x → IsR y → IsR (Ideal.pow x y) := by rintro ⟨a, rfl⟩ ⟨b, rfl⟩; exact ⟨Real.rpow a b, rfl⟩
theorem isR_exp {x : EReal} (h : x ≠ ⊤) : IsR (Ideal.exp x) := by
  induction x with
  | bot => exact isR_zero
  | top => exact absurd rfl h
  | coe r => exact ⟨Real.exp r, rfl⟩

theorem two_eq : Ideal.ofBits .f32 0x40000000#32 = ((2 : ℝ) : EReal) := by
  simp [Ideal.ofBits, Ideal.ieee, -EReal.coe_mul]; norm_num
theorem neg_five_eq : Ideal.ofBits .f32 0xC0A00000#32 = ((-5 : ℝ) : EReal) := by
  simp [Ideal.ofBits, Ideal.ieee, -EReal.coe_mul]; norm_num
theorem base_eq : Ideal.ofBits .f32 0x461C4000#32 = ((10000 : ℝ) : EReal) := by
  simp [Ideal.ofBits, Ideal.ieee, -EReal.coe_mul]; norm_num
theorem half_eq : Ideal.ofBits .f32 0x42800000#32 = ((64 : ℝ) : EReal) := by
  simp [Ideal.ofBits, Ideal.ieee, -EReal.coe_mul]; norm_num
theorem last_eq : Ideal.ofBits .f32 0x42FE0000#32 = ((127 : ℝ) : EReal) := by
  simp [Ideal.ofBits, Ideal.ieee, -EReal.coe_mul]; norm_num
theorem width_eq : Ideal.ofBits .f32 0x43000000#32 = ((128 : ℝ) : EReal) := by
  simp [Ideal.ofBits, Ideal.ieee, -EReal.coe_mul]; norm_num
theorem sc_eq : ∃ r : ℝ, 0 ≤ r ∧ sc = (r : EReal) := by
  refine ⟨11863283 * 2 ^ (-27 : ℤ), by positivity, ?_⟩
  simp [sc, Ideal.ofBits, Ideal.ieee, -EReal.coe_mul]

theorem num_eq (n : ℕ) (h : n < 2 ^ 31) : num n = ((n : ℝ) : EReal) := by
  show (((BitVec.ofNat 32 n).toInt : ℝ) : EReal) = _
  have : (BitVec.ofNat 32 n).toInt = (n : ℤ) := by
    rw [BitVec.toInt_eq_toNat_of_lt (by rw [BitVec.toNat_ofNat]; omega), BitVec.toNat_ofNat]; omega
  rw [this]; norm_cast
theorem isR_num (n : ℕ) : IsR (num n) := ⟨_, rfl⟩

theorem div_eq (x : EReal) (r : ℝ) (h : r ≠ 0) : Ideal.div x (r : EReal) = x * ((r⁻¹ : ℝ) : EReal) := by
  unfold Ideal.div
  rw [if_neg (by exact_mod_cast h), ← EReal.coe_inv]
theorem IsR.div {x : EReal} (r : ℝ) (h : r ≠ 0) (hx : IsR x) : IsR (Ideal.div x (r : EReal)) := by
  rw [div_eq x r h]; exact hx.mul (isR_coe _)

theorem isR_ang (s t : ℕ) : IsR (ang s t) := by
  unfold ang; rw [base_eq, half_eq]
  exact (isR_num s).mul ((isR_coe _).pow ((isR_num t).neg.div 64 (by norm_num)))

theorem lgH_ne_top (h : ℕ) : lgH h ≠ ⊤ := by
  unfold lgH Ideal.log1p
  rw [two_eq, neg_five_eq]
  obtain ⟨r, hr⟩ := isR_one.add (((isR_coe 2).pow ((isR_coe (-5)).sub (isR_num h))).neg)
  rw [hr]
  show (if r ≤ 0 then (⊥ : EReal) else (Real.log r : EReal)) ≠ ⊤
  split
  · exact bot_ne_top
  · exact EReal.coe_ne_top _

/-- A nonnegative real times a value below infinity is below infinity. -/
theorem mul_ne_top {x lg : EReal} (hx : ∃ r : ℝ, 0 ≤ r ∧ x = r) (h : lg ≠ ⊤) : x * lg ≠ ⊤ := by
  obtain ⟨r, hr, rfl⟩ := hx
  induction lg with
  | top => exact absurd rfl h
  | coe l => rw [← EReal.coe_mul]; exact EReal.coe_ne_top _
  | bot =>
    rcases hr.eq_or_lt with h0 | h0
    · rw [← h0]; simp
    · rw [EReal.coe_mul_bot_of_pos h0]; exact bot_ne_top

theorem isR_qdec {lg : EReal} (h : lg ≠ ⊤) (i : Fin 128) : IsR (qdec lg i.val) :=
  isR_exp (mul_ne_top ⟨i.val + 1, by positivity, by rw [num_eq _ (by omega)]; norm_cast⟩ h)
theorem isR_kdec {lg : EReal} (h : lg ≠ ⊤) (j : Fin 128) : IsR (kdec lg j.val) :=
  isR_exp (mul_ne_top ⟨127 - j.val, by
    have : (j.val : ℝ) ≤ 127 := by exact_mod_cast (by omega : j.val ≤ 127)
    linarith, by rw [num_eq _ (by omega), last_eq]; norm_cast⟩ h)
theorem isR_cdec {lg : EReal} (h : lg ≠ ⊤) : IsR (cdec lg) :=
  isR_exp (mul_ne_top ⟨128, by norm_num, width_eq⟩ h)
theorem isR_mk {lg : EReal} (h : lg ≠ ⊤) (i j : Fin 128) : IsR (mk lg i.val j.val) := by
  unfold mk
  split
  · rename_i hp
    refine isR_exp (mul_ne_top ?_ h)
    obtain ⟨r, hr⟩ := (isR_num i.val).sub (isR_num j.val)
    rw [max_eq_left hp]
    exact ⟨r, by rw [hr] at hp; exact_mod_cast hp, hr⟩
  · exact isR_zero
theorem isR_sc : IsR sc := by obtain ⟨r, _, h⟩ := sc_eq; exact ⟨r, h⟩

/-- Rows of real numbers. -/
abbrev Fin' (q : Rows) : Prop := ∀ s d, IsR (q s d)

theorem isR_rope {q : Rows} (h : Fin' q) : Fin' (ropeR q) := fun s d => by
  unfold ropeR
  split
  · exact ((h _ _).mul (isR_ang _ _).cos).sub ((h _ _).mul (isR_ang _ _).sin)
  · exact ((h _ _).mul (isR_ang _ _).sin).add ((h _ _).mul (isR_ang _ _).cos)

theorem isR_kv {lg : EReal} (hl : lg ≠ ⊤) {K V : Rows} (hK : Fin' K) (hV : Fin' V) (n : Fin 16) (d e : Fin 128) : IsR (kvS lg K V n d e) :=
  IsR.sum _ _ fun j => ((hK _ _).mul (isR_kdec hl j)).mul (hV _ _)
theorem isR_st {lg : EReal} (hl : lg ≠ ⊤) {K V : Rows} (hK : Fin' K) (hV : Fin' V) (d e : Fin 128) : ∀ n : ℕ, IsR (stS lg K V n d e)
  | 0 => isR_zero
  | n + 1 => ((isR_cdec hl).mul (isR_st hl hK hV d e n)).add (isR_kv hl hK hV _ d e)
theorem isR_att {lg : EReal} (hl : lg ≠ ⊤) {Q K V : Rows} (hQ : Fin' Q) (hK : Fin' K) (hV : Fin' V) (n : Fin 16) (i e : Fin 128) : IsR (attR lg Q K V n i e) :=
  (IsR.sum _ _ fun j => (hV _ _).mul ((IsR.sum _ _ fun d => ((hQ _ _).mul isR_sc).mul (hK _ _)).mul (isR_mk hl i j))).add
    (IsR.sum _ _ fun d => (isR_st hl hK hV d e n.val).mul (((hQ _ _).mul isR_sc).mul (isR_qdec hl i)))

/-- A nonnegative real factor goes into a sum. -/
theorem sum_mul_real {ι : Type} (s : Finset ι) (f : ι → EReal) (r : ℝ) (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, ← ih, mul_comm, EReal.left_distrib_of_nonneg_of_ne_top (by exact_mod_cast hr) (EReal.coe_ne_top r), mul_comm _ (f a), mul_comm _ (∑ i ∈ s, f i)]

/-- The scale may stand on the queries or in the decays. -/
theorem attK_eq (lg : EReal) (Q K V : Rows) (n : Fin 16) (i e : Fin 128) : attK lg Q K V n i e = attR lg Q K V n i e := by
  obtain ⟨r, hr, hs⟩ := sc_eq
  unfold attK attR
  congr 1
  · refine Finset.sum_congr rfl fun j _ => ?_
    have : (∑ d, Q (row n i) d * sc * K (row n j) d) = (∑ d, Q (row n i) d * K (row n j) d) * sc := by
      rw [hs, sum_mul_real _ _ r hr]
      exact Finset.sum_congr rfl fun d _ => mul_right_comm _ _ _
    rw [this]
    ac_rfl
  · exact Finset.sum_congr rfl fun d _ => by ac_rfl

/-- The mean of the squared deviations is the mean of the squares less the square of the mean. -/
theorem var_eq (r : Fin 128 → ℝ) : (∑ e, (r e - (∑ e, r e) * 128⁻¹) * (r e - (∑ e, r e) * 128⁻¹)) * 128⁻¹
    = (∑ e, r e * r e) * 128⁻¹ - (∑ e, r e) * 128⁻¹ * ((∑ e, r e) * 128⁻¹) := by
  generalize hm : (∑ e, r e) * (128 : ℝ)⁻¹ = mu
  have h1 : ∑ e, (r e - mu) * (r e - mu) = (∑ e, r e * r e) - 2 * mu * (∑ e, r e) + 128 * (mu * mu) := by
    simp only [show ∀ e, (r e - mu) * (r e - mu) = r e * r e - 2 * mu * r e + mu * mu from fun e => by ring,
      Finset.sum_add_distrib, Finset.sum_sub_distrib, Finset.mul_sum]
    simp
  have h2 : ∑ e, r e = 128 * mu := by rw [← hm]; ring
  rw [h1, h2]; ring

theorem coe_sum {ι : Type} (s : Finset ι) (r : ι → ℝ) : ∑ i ∈ s, (r i : EReal) = ((∑ i ∈ s, r i : ℝ) : EReal) := by
  classical
  induction s using Finset.induction_on with
  | empty => simp
  | insert a s ha ih => rw [Finset.sum_insert ha, Finset.sum_insert ha, ih, EReal.coe_add]

theorem mean_coe (r : Fin 128 → ℝ) : mean (fun e => (r e : EReal)) = (((∑ e, r e) * 128⁻¹ : ℝ) : EReal) := by
  unfold mean
  rw [width_eq, div_eq _ _ (by norm_num), coe_sum, ← EReal.coe_mul]

theorem normK_eq {o : Fin 128 → EReal} (h : ∀ e, IsR (o e)) : normK o = normR o := by
  choose r hr using h
  obtain rfl : o = fun e => (r e : EReal) := funext hr
  funext e
  unfold normK normR
  congr 3
  rw [mean_coe]
  simp only [← EReal.coe_sub, ← EReal.coe_mul]
  rw [mean_coe, mean_coe, var_eq, ← EReal.coe_sub]
  refine max_eq_left ?_
  rw [← var_eq]
  have : 0 ≤ (∑ e, (r e - (∑ e, r e) * 128⁻¹) * (r e - (∑ e, r e) * 128⁻¹)) * (128 : ℝ)⁻¹ :=
    mul_nonneg (Finset.sum_nonneg fun e _ => mul_self_nonneg _) (by norm_num)
  exact_mod_cast this

theorem siluK_eq {g : EReal} (h : IsR g) : siluK ((-((Real.log 2)⁻¹) : ℝ) : EReal) g = siluR g := by
  obtain ⟨r, rfl⟩ := h
  have hl : Real.log 2 ≠ 0 := (Real.log_pos (by norm_num)).ne'
  unfold siluK siluR
  rw [← EReal.coe_mul, ← EReal.coe_neg]
  have e1 : Ideal.exp2 ((r * -(Real.log 2)⁻¹ : ℝ) : EReal) = ((Real.exp (-r) : ℝ) : EReal) := by
    show ((Real.rpow 2 (r * -(Real.log 2)⁻¹) : ℝ) : EReal) = _
    congr 1
    show (2 : ℝ) ^ (r * -(Real.log 2)⁻¹) = _
    rw [Real.rpow_def_of_pos (by norm_num)]
    congr 1
    field_simp
  have e2 : Ideal.exp ((-r : ℝ) : EReal) = ((Real.exp (-r) : ℝ) : EReal) := rfl
  rw [e1, e2]
  have e3 : (1 : EReal) + ((Real.exp (-r) : ℝ) : EReal) = ((1 + Real.exp (-r) : ℝ) : EReal) := by norm_cast
  have hp : (1 + Real.exp (-r)) ≠ 0 := by positivity
  rw [e3, div_eq _ _ hp, div_eq _ _ hp, one_mul]

/-- The kernel's result of a head is the reference's, where the projections are finite. -/
theorem outK_eq (lg : EReal) (hl : lg ≠ ⊤) {q k v g : Rows} (hq : Fin' q) (hk : Fin' k) (hv : Fin' v) (hg : Fin' g) (gn : Fin 128 → EReal) (n : Fin 16) (i e : Fin 128) :
    outK ((-((Real.log 2)⁻¹) : ℝ) : EReal) lg q k v g gn n i e = outR lg q k v g gn n i e := by
  unfold outK outR
  rw [siluK_eq (hg _ _), ropeK_eq, ropeK_eq, show attK lg (ropeR q) (ropeR k) v n i = attR lg (ropeR q) (ropeR k) v n i from funext fun e => attK_eq _ _ _ _ _ _ _,
    normK_eq fun e => isR_att hl (isR_rope hq) (isR_rope hk) hv n i e]

end Cert.Ret

end
-- ==== Proof.Ret.Final.lean ====
/- The kernel's two results and the reference's are equal for finite arguments. -/
module

public import proofs.«01_k».proof.Defs
public import proofs.«01_k».proof.Proof.Ret.KerRes
public import proofs.«01_k».proof.Proof.Ret.RefValue
public import proofs.«01_k».proof.Proof.Ret.Eq

@[expose] public section

set_option maxRecDepth 16384

noncomputable section

namespace Cert.KernelIdeal.Ret

open Idealize.ShloMosaic Idealize.ShloMosaic.TcCoe Idealize.ShloMosaic.StableHlo Idealize.SL.Sem
open Cert.KernelIdeal Cert.KernelIdeal.Gen
open Cert.Ret

/-- The named constant is minus the inverse of the logarithm of two. -/
theorem gateC_eq : gateC = ((-((Real.log 2)⁻¹) : ℝ) : EReal) := IdealRules.named_const.ideal_named_scalar _ _ _ _ rfl

section Values

variable (m : (ℓ : Loc nD τ sig) → Buf (Elt Ideal) ℓ) (ρ : Dev nD → PrngReg)

/-- Every run of the idealized kernel ends with the two results and the arguments as they were. -/
theorem run : θ_run defs (onTc (τ := τ) (main (F := Ideal))) ⟨m, fun _ => 0, ρ⟩ (fun r => ∀ c : Dev nD,
      r.2.mem ((c.tc : Thread nD τ).loc main_v29_0) = resO m c
      ∧ r.2.mem ((c.tc : Thread nD τ).loc main_v29_1) = resW m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.1 c |>.1 9).trans (final9 m c), (h.1 c |>.1 10).trans (final10 m c), h.2.1 c⟩)
    (θ_run_and (run_main m ρ) (frame m ρ))

end Values

end Cert.KernelIdeal.Ret

namespace Cert.Ret

open Idealize.ShloMosaic Idealize.ShloMosaic.TcCoe Idealize.SL.Sem

/-- Under the precondition every entry of the projections is a real number. -/
theorem isR_of_pre [Cert.Pre_finite.Facts] (a0 : Cert.Pre_finite.S16x2048x6144.Idx → EReal) (a1 : Cert.Pre_finite.S1x1024.Idx → EReal) (a2 : Cert.Pre_finite.S1x32x2048x1024.Idx → EReal)
    (h : ∀ i, Cert.Pre_finite.fn (F := Ideal) a0 a1 a2 i = 1#1) (b : Fin 16) (s : Fin 2048) (x : Fin 6144) : IsR (a0 (ix3 b s x)) := by
  have h0 := h (ix3 b s x)
  revert h0
  pointwise [Cert.Pre_finite.fn]
  rw [show Ideal.ofBits .f32 2139095040#32 = ⊤ by simp [Ideal.ofBits, Ideal.ieee]]
  intro h1
  refine isR_of_abs ?_
  by_contra hn
  rw [show decide (FloatOps.absf (F := Ideal) (φ := .f32) (a0 (ix3 b s x)) < ⊤) = false from decide_eq_false hn] at h1
  exact absurd h1 (by decide)

theorem atEntry_eq {A : (⟨3, ![16, 2048, 6144]⟩ : Shape).Idx → EReal} (hA : ∀ b s x, IsR (A (ix3 b s x))) (G) (b s x) :
    atEntry (outK ((-((Real.log 2)⁻¹) : ℝ) : EReal)) A G b s x = atEntry outR A G b s x :=
  outK_eq _ (lgH_ne_top _) (fun _ _ => hA _ _ _) (fun _ _ => hA _ _ _) (fun _ _ => hA _ _ _) (fun _ _ => hA _ _ _) _ _ _ _

instance : Cert.Pre_finite.Facts := ⟨by decide, by decide⟩

theorem algebraic : Cert.algebraic_KernelIdeal_ReferenceIdeal_pre_finite (hKernelIdeal := Cert.KernelIdeal.Gen.facts) (hReferenceIdeal := Cert.ReferenceIdeal.Gen.facts) := by
  intro m g m' g' hpre hag
  refine ⟨fun c => Cert.KernelIdeal.Ret.resO m c, fun c => Cert.KernelIdeal.Ret.resW m c, Cert.KernelIdeal.Ret.run m g, ?_⟩
  refine (θ_run _ _ _).mono (fun r h c => ⟨(h c).1.trans ?_, (h c).2.1.trans ?_, (h c).2.2⟩) (Cert.ReferenceIdeal.Ret.run m' g')
  · obtain ⟨e0, e1, -⟩ := hag c
    refine funext fun i : (⟨3, ![16, 2048, 1024]⟩ : Shape).Idx => ?_
    rw [eq_ix3 i]
    refine (Cert.ReferenceIdeal.Ret.fin_out m' c (i 0) (i 1) (i 2)).trans ?_
    rw [e0, e1]
    refine (atEntry_eq ?_ _ _ _ _).symm.trans ?_
    · exact isR_of_pre _ _ _ fun i => congrFun (hpre c) i
    · rw [← Cert.KernelIdeal.Ret.gateC_eq]; rfl
  · obtain ⟨-, -, e2⟩ := hag c
    refine funext fun i : (⟨3, ![32, 2048, 1024]⟩ : Shape).Idx => ?_
    rw [eq_ix3 i]
    refine (Cert.ReferenceIdeal.Ret.fin_w m' c (i 1) (i 2) (i 0)).trans ?_
    rw [e2]
    rfl

end Cert.Ret

end
-- ==== Proof.Inp.Spec.lean ====
/- The input projection in plain mathematics: the rows normed by their root mean square, times the weights. -/
module

public import Idealize.ShloMosaic.Lib.Pointwise

@[expose] public section

noncomputable section

namespace Cert.Inp

open Idealize.ShloMosaic

/-- A row divided by its root mean square and scaled by the norm's weights. -/
def normRow (x g : Fin 2048 → EReal) (k : Fin 2048) : EReal :=
  x k * Ideal.rsqrt (Ideal.div (∑ j, x j * x j) (Ideal.ofBits .f32 1157627904#32) + Ideal.ofBits .f32 897988541#32) * g k

/-- An entry of the projection: the tokens of all batches are the rows. -/
def proj (X : (⟨3, ![16, 2048, 2048]⟩ : Shape).Idx → EReal) (G : (⟨2, ![1, 2048]⟩ : Shape).Idx → EReal) (W : (⟨3, ![1, 2048, 6144]⟩ : Shape).Idx → EReal)
    (r : Fin 32768) (j : Fin 6144) : EReal :=
  ∑ k, normRow (fun k => X (ix3 ⟨r.val / 2048, by omega⟩ ⟨r.val % 2048, by omega⟩ k)) (fun k => G (ix2 0 k)) k * W (ix3 0 k j)

end Cert.Inp

end
-- ==== Proof.Inp.KerStep.lean ====
/- What a grid step of the projection leaves in its block and in its scratch. -/
module

public import proofs.«01_k».proof.Proof.Gen.KernelInprojIdeal.Value
public import proofs.«01_k».proof.Proof.Inp.Spec
public import Idealize.ShloMosaic.Lib.StableHlo.ReadAt
public import Idealize.ShloMosaic.Lib.Pointwise
public import Idealize.ShloMosaic.Lib.Pipeline.ValueKit

@[expose] public section

set_option maxRecDepth 16384

noncomputable section

namespace Cert.KernelInprojIdeal.Inp

open Idealize.ShloMosaic Idealize.ShloMosaic.TcCoe Idealize.ShloMosaic.StableHlo Idealize.SL.Sem
open Cert.KernelInprojIdeal Cert.KernelInprojIdeal.Gen
open Cert.Inp

variable (m : (ℓ : Loc nD τ sig) → Buf (Elt Ideal) ℓ) (c : Dev nD) (t : Fin cfg0.N)

theorem scr_A (h0 : t.val % 3 = 0) : (outsAt0 m c t.val t.isLt).2 = k0_pay1 (iblk m c 0 t) (iblk m c 1 t) := by
  rw [outsAt0_A m c t h0]
  frame_out

theorem out_A (h0 : t.val % 3 = 0) : (outsAt0 m c t.val t.isLt).1 = k0_pay2 (k0_pay1 (iblk m c 0 t) (iblk m c 1 t)) (iblk m c 2 t) := by
  rw [outsAt0_A m c t h0]
  frame_out

theorem scr_B (h0 : ¬ t.val % 3 = 0) : (outsAt0 m c t.val t.isLt).2 = (outsAt0 m c (t.val - 1) (Nat.lt_of_le_of_lt (Nat.sub_le _ _) t.isLt)).2 := by
  rw [outsAt0_B m c t h0]
  rfl

theorem out_B (h0 : ¬ t.val % 3 = 0) : (outsAt0 m c t.val t.isLt).1 = k0_pay2 (outsAt0 m c (t.val - 1) (Nat.lt_of_le_of_lt (Nat.sub_le _ _) t.isLt)).2 (iblk m c 2 t) := by
  rw [outsAt0_B m c t h0]
  frame_out
  exact congrArg (k0_pay2 (F := Ideal) · (iblk m c 2 t)) (Memref.IsWhole.read_unread _ _)

theorem pay1_apply (x : S1024x2048.Idx → EReal) (g : S1x2048.Idx → EReal) (r : Fin 1024) (k : Fin 2048) :
    (k0_pay1 (F := Ideal) x g : S1024x2048.Idx → EReal) (ix2 r k) = normRow (fun k => x (ix2 r k)) (fun k => g (ix2 0 k)) k := by
  pointwise [k0_pay1]
  rfl

theorem pay2_apply (h : S1024x2048.Idx → EReal) (w : S2048x2048.Idx → EReal) (r : Fin 1024) (j : Fin 2048) :
    (k0_pay2 (F := Ideal) h w : S1024x2048.Idx → EReal) (ix2 r j) = ∑ k : Fin 2048, h (ix2 r k) * w (ix2 k j) := by
  pointwise [k0_pay2]

/-! ## What the operations before the kernel compute -/

abbrev rd {s : Shape} (f : s.Idx → EReal) (i : s.Idx) : EReal := f i

section Host

variable (U : Valuation τ sig (Elt Ideal)) (r : Fin 32768) (k : Fin 2048) (j : Fin 6144)

theorem x_apply : rd (s := S32768x2048) (after hostOps0 U (Proc.devRef .tc main_v0)) (ix2 r k)
    = rd (s := S16x2048x2048) (U (Proc.devRef .tc main_arg0)) (ix3 ⟨r.val / 2048, by omega⟩ ⟨r.val % 2048, by omega⟩ k) := by
  after_reads_at
  rfl
theorem g_apply : rd (s := S1x2048) (after hostOps0 U (Proc.devRef .tc main_v2)) (ix2 0 k) = rd (s := S1x2048) (U (Proc.devRef .tc main_arg1)) (ix2 0 k) := by
  after_reads_at
theorem w_apply : rd (s := S2048x6144) (after hostOps0 U (Proc.devRef .tc main_v4)) (ix2 k j) = rd (s := S1x2048x6144) (U (Proc.devRef .tc main_arg2)) (ix3 0 k j) := by
  after_reads_at

end Host

/-! ## The blocks of a grid step -/

theorem idx0 : win0_0.index t = ![t.val / 3, 0] := (by decide +kernel : ∀ t : Fin grid0.N, win0_0.index t = ![t.val / 3, 0]) t
theorem idx1 : win0_1.index t = ![0, 0] := (by decide +kernel : ∀ t : Fin grid0.N, win0_1.index t = ![0, 0]) t
theorem idx2 : win0_2.index t = ![0, t.val % 3] := (by decide +kernel : ∀ t : Fin grid0.N, win0_2.index t = ![0, t.val % 3]) t
theorem idx3 : win0_3.index t = ![t.val / 3, t.val % 3] := (by decide +kernel : ∀ t : Fin grid0.N, win0_3.index t = ![t.val / 3, t.val % 3]) t

theorem t_lt : t.val < 96 := t.isLt

/-- The row of the tokens that is row `r` of a step's block, and the column of the result that is column `j`. -/
abbrev rowT (r : Fin 1024) : Fin 32768 := ⟨t.val / 3 * 1024 + r.val, by have := t_lt t; omega⟩
abbrev colT (j : Fin 2048) : Fin 6144 := ⟨t.val % 3 * 2048 + j.val, by omega⟩

/-- The arguments at the launch. -/
abbrev A0 : S16x2048x2048.Idx → EReal := m ((c : Thread nD τ).loc main_arg0)
abbrev A1 : S1x2048.Idx → EReal := m ((c : Thread nD τ).loc main_arg1)
abbrev A2 : S1x2048x6144.Idx → EReal := m ((c : Thread nD τ).loc main_arg2)

variable (r : Fin 1024) (k j : Fin 2048)

theorem read0 (X : S32768x2048.Idx → EReal) : rd (s := S1024x2048) (((cfg0.win 0).blk t).view.read (Elt Ideal) X) (ix2 r k) = X (ix2 (rowT t r) k) := by
  have e : (win0_0.blk t).view.emb (ix2 r k : S1024x2048.Idx) = (ix2 (rowT t r) k : S32768x2048.Idx) := by blk_ext [idx0 t]
  exact congrArg X e
theorem read1 (X : S1x2048.Idx → EReal) : rd (s := S1x2048) (((cfg0.win 1).blk t).view.read (Elt Ideal) X) (ix2 0 k) = X (ix2 0 k) := by
  have e : (win0_1.blk t).view.emb (ix2 0 k : S1x2048.Idx) = (ix2 0 k : S1x2048.Idx) := by blk_ext [idx1 t]
  exact congrArg X e
theorem read2 (X : S2048x6144.Idx → EReal) : rd (s := S2048x2048) (((cfg0.win 2).blk t).view.read (Elt Ideal) X) (ix2 k j) = X (ix2 k (colT t j)) := by
  have e : (win0_2.blk t).view.emb (ix2 k j : S2048x2048.Idx) = (ix2 k (colT t j) : S2048x6144.Idx) := by blk_ext [idx2 t]
  exact congrArg X e

theorem blk0 : rd (s := S1024x2048) (iblk m c 0 t) (ix2 r k) = A0 m c (ix3 ⟨(rowT t r).val / 2048, by omega⟩ ⟨(rowT t r).val % 2048, by omega⟩ k) :=
  (read0 t r k (V m c main_v0)).trans (x_apply (fun b => m (c, b)) _ k)
theorem blk1 : rd (s := S1x2048) (iblk m c 1 t) (ix2 0 k) = A1 m c (ix2 0 k) :=
  (read1 t k (V m c main_v2)).trans (g_apply (fun b => m (c, b)) k)
theorem blk2 : rd (s := S2048x2048) (iblk m c 2 t) (ix2 k j) = A2 m c (ix3 0 k (colT t j)) :=
  (read2 t k j (V m c main_v4)).trans (w_apply (fun b => m (c, b)) k _)

/-! ## The scratch and the block -/

/-- A normed row of the tokens. -/
def hRow (R : Fin 32768) (k : Fin 2048) : EReal :=
  normRow (fun k => A0 m c (ix3 ⟨R.val / 2048, by omega⟩ ⟨R.val % 2048, by omega⟩ k)) (fun k => A1 m c (ix2 0 k)) k

theorem pay1_row : rd (s := S1024x2048) (k0_pay1 (F := Ideal) (iblk m c 0 t) (iblk m c 1 t)) (ix2 r k) = hRow m c (rowT t r) k := by
  refine (pay1_apply _ _ r k).trans ?_
  unfold hRow
  rw [show (fun k => (iblk m c 0 t : S1024x2048.Idx → EReal) (ix2 r k)) = _ from funext fun k => blk0 m c t r k,
    show (fun k => (iblk m c 1 t : S1x2048.Idx → EReal) (ix2 0 k)) = _ from funext fun k => blk1 m c t k]

/-- After every step the scratch holds the normed rows of the step's block of tokens. -/
theorem scr (n : ℕ) (hn : n < cfg0.N) (r : Fin 1024) (k : Fin 2048) : rd (s := S1024x2048) (outsAt0 m c n hn).2 (ix2 r k) = hRow m c (rowT ⟨n, hn⟩ r) k := by
  induction n with
  | zero => rw [scr_A m c ⟨0, hn⟩ rfl]; exact pay1_row m c _ r k
  | succ n ih =>
    by_cases h0 : (n + 1) % 3 = 0
    · rw [scr_A m c ⟨n + 1, hn⟩ h0]; exact pay1_row m c _ r k
    · rw [scr_B m c ⟨n + 1, hn⟩ h0]
      refine (ih (Nat.lt_of_succ_lt hn)).trans (congrArg (hRow m c · k) (Fin.ext ?_))
      show n / 3 * 1024 + r.val = (n + 1) / 3 * 1024 + r.val
      omega

/-- Every step's block holds the projection's entries. -/
theorem blkO : rd (s := S1024x2048) (outsAt0 m c t.val t.isLt).1 (ix2 r j) = proj (A0 m c) (A1 m c) (A2 m c) (rowT t r) (colT t j) := by
  have key : ∀ H : S1024x2048.Idx → EReal, (∀ k, H (ix2 r k) = hRow m c (rowT t r) k) →
      rd (s := S1024x2048) (k0_pay2 (F := Ideal) H (iblk m c 2 t)) (ix2 r j) = proj (A0 m c) (A1 m c) (A2 m c) (rowT t r) (colT t j) := fun H hH =>
    (pay2_apply H _ r j).trans (Finset.sum_congr rfl fun k _ => congrArg₂ (· * ·) (hH k) (blk2 m c t k j))
  by_cases h0 : t.val % 3 = 0
  · rw [out_A m c t h0]
    exact key _ fun k => pay1_row m c t r k
  · rw [out_B m c t h0]
    refine key _ fun k => (scr m c _ _ r k).trans (congrArg (hRow m c · k) (Fin.ext ?_))
    show (t.val - 1) / 3 * 1024 + r.val = t.val / 3 * 1024 + r.val
    omega

/-- The result as a whole array. -/
def res : S32768x6144.Idx → EReal := fun i => proj (A0 m c) (A1 m c) (A2 m c) (i 0) (i 1)

theorem final : (dats m 0 c).arrAt 3 cfg0.N = res m c := by
  refine (dats m 0 c).arrAt_eq_of_covers 3 _ (by decide +kernel) fun t hf y => ?_
  have e : (win0_3.blk t).view.emb y = (ix2 (rowT t (y 0)) (colT t (y 1)) : S32768x6144.Idx) := by blk_ext [idx3 t]
  refine Eq.trans ?_ ((blkO m c t (y 0) (y 1)).trans (congrArg (res m c) e).symm)
  blk_simp
  rw [after0_3]
  exact congrArg (outsAt0 m c t.val t.isLt).1 (eq_ix2 (y : S1024x2048.Idx))

variable (ρ : Dev nD → PrngReg)

/-- Every run of the idealized kernel ends with the projection and the arguments as they were. -/
theorem run : θ_run defs (onTc (τ := τ) (main (F := Ideal))) ⟨m, fun _ => 0, ρ⟩ (fun r => ∀ c : Dev nD,
      r.2.mem ((c.tc : Thread nD τ).loc main_v5) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (final m c), (h c).2⟩) (Value.run_blocks m ρ)

end Cert.KernelInprojIdeal.Inp

end
-- ==== Proof.Inp.RefValue.lean ====
/- The reference's projection, entry by entry. -/
module

public import proofs.«01_k».proof.Proof.Gen.ReferenceInprojIdeal.Run
public import proofs.«01_k».proof.Proof.Inp.Spec
public import Idealize.ShloMosaic.Lib.StableHlo.ReadAt
public import Idealize.ShloMosaic.Lib.Pointwise
public import Idealize.ShloMosaic.Lib.IdealHost

@[expose] public section

set_option maxRecDepth 16384

noncomputable section

namespace Cert.ReferenceInprojIdeal.Inp

open Idealize.ShloMosaic Idealize.ShloMosaic.TcCoe Idealize.ShloMosaic.StableHlo Idealize.SL.Sem
open Cert.ReferenceInprojIdeal Cert.ReferenceInprojIdeal.Gen

open Cert.Inp

/-- The reference's operations on its three arguments. -/
def refT (a0 : FVec Ideal S16x2048x2048 .f32) (a1 : FVec Ideal S1x2048 .f32) (a2 : FVec Ideal S1x2048x6144 .f32) : FVec Ideal S32768x6144 .bf16 :=
  truncf .bf16 (shapeCast _ (Host.dotGeneral dot_S16x2048x2048_S2048x6144_S16x2048x6144_2_0_01_1_n_n none (mulf (mulf a0 (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf a0 a0) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 (shapeCast _ a1 shapeCasts_S1x2048_S2048)))) (shapeCast _ a2 shapeCasts_S1x2048x6144_S2048x6144)) shapeCasts_S16x2048x6144_S32768x6144) bitsLt_bf16_f32

theorem refT_apply (a0 : S16x2048x2048.Idx → EReal) (a1 : S1x2048.Idx → EReal) (a2 : S1x2048x6144.Idx → EReal) (r : Fin 32768) (j : Fin 6144) :
    (refT a0 a1 a2 : S32768x6144.Idx → EReal) (ix2 r j) = proj a0 a1 a2 r j := by
  unfold proj
  pointwise [refT]
  rfl

variable (m : (ℓ : Loc nD τ sig) → Buf (Elt Ideal) ℓ) (ρ : Dev nD → PrngReg)

/-- The reference's result is the projection. -/
theorem run : θ_run defs (onTc (τ := τ) (main (F := Ideal))) ⟨m, fun _ => 0, ρ⟩ (fun r => ∀ c : Dev nD,
      r.2.mem ((c.tc : Thread nD τ).loc main_v17)
        = (fun i : S32768x6144.Idx => proj (m ((c.tc : Thread nD τ).loc main_arg0)) (m ((c.tc : Thread nD τ).loc main_arg1)) (m ((c.tc : Thread nD τ).loc main_arg2)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨(h c).1.trans ?_, (h c).2⟩) (Value.run m ρ)
  refine funext fun i : S32768x6144.Idx => ?_
  rw [eq_ix2 i]
  exact refT_apply _ _ _ (i 0) (i 1)

/-- The frame of the reference: it ends, its arguments unchanged and every counter zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩) (Value.run m ρ)

end Cert.ReferenceInprojIdeal.Inp

end
-- ==== Proof.Inp.Final.lean ====
/- The projection call's result and the reference's are equal. -/
module

public import proofs.«01_k».proof.Defs
public import proofs.«01_k».proof.Proof.Inp.KerStep
public import proofs.«01_k».proof.Proof.Inp.RefValue

@[expose] public section

set_option maxRecDepth 16384

noncomputable section

namespace Cert.Inp

open Idealize.ShloMosaic Idealize.ShloMosaic.TcCoe Idealize.SL.Sem

theorem algebraic : Cert.algebraic_KernelInprojIdeal_ReferenceInprojIdeal (hKernelInprojIdeal := Cert.KernelInprojIdeal.Gen.facts) (hReferenceInprojIdeal := Cert.ReferenceInprojIdeal.Gen.facts) := by
  intro m g m' g' _ hag
  refine ⟨fun c => Cert.KernelInprojIdeal.Inp.res m c, Cert.KernelInprojIdeal.Inp.run m g, ?_⟩
  refine (θ_run _ _ _).mono (fun r h c => ⟨(h c).1.trans ?_, (h c).2⟩) (Cert.ReferenceInprojIdeal.Inp.run m' g')
  obtain ⟨e0, e1, e2⟩ := hag c
  rw [e0, e1, e2]
  rfl

end Cert.Inp

end
-- ==== Proof.Out.Spec.lean ====
/- The output projection in plain mathematics: the mixed heads times the weights on top of the tokens, the norm of the result, and the router's logits. -/
module

public import proofs.«01_k».proof.Proof.Inp.Spec
public import Idealize.ShloMosaic.Lib.Pointwise

@[expose] public section

noncomputable section

namespace Cert.Out

open Idealize.ShloMosaic

/-- The batch and the position of a row of tokens. -/
abbrev bat (r : Fin 32768) : Fin 16 := ⟨r.val / 2048, by omega⟩
abbrev pos (r : Fin 32768) : Fin 2048 := ⟨r.val % 2048, by omega⟩

/-- The tokens with the mixing added: the retention's half of the weights, then the recurrence's half. -/
def mixed (A B : (⟨3, ![16, 2048, 1024]⟩ : Shape).Idx → EReal) (X : (⟨3, ![16, 2048, 2048]⟩ : Shape).Idx → EReal) (W : (⟨3, ![1, 2048, 2048]⟩ : Shape).Idx → EReal)
    (r : Fin 32768) (k : Fin 2048) : EReal :=
  X (ix3 (bat r) (pos r) k) + (∑ i : Fin 1024, A (ix3 (bat r) (pos r) i) * W (ix3 0 ⟨i.val, by omega⟩ k)
    + ∑ i : Fin 1024, B (ix3 (bat r) (pos r) i) * W (ix3 0 ⟨1024 + i.val, by omega⟩ k))

/-- The router's columns: the groups, the experts, and columns of zeros. -/
def col (Wg : (⟨3, ![1, 2048, 4]⟩ : Shape).Idx → EReal) (We : (⟨3, ![1, 2048, 32]⟩ : Shape).Idx → EReal) (k : Fin 2048) (j : Fin 128) : EReal :=
  if h : j.val < 4 then Wg (ix3 0 k ⟨j.val, h⟩) else if h' : j.val - 4 < 32 then We (ix3 0 k ⟨j.val - 4, h'⟩) else 0

/-- The router's biases: the groups', the experts', and zeros. -/
def bias (bg : (⟨2, ![1, 4]⟩ : Shape).Idx → EReal) (be : (⟨2, ![1, 32]⟩ : Shape).Idx → EReal) (j : Fin 128) : EReal :=
  if h : j.val < 4 then bg (ix2 0 ⟨j.val, h⟩) else if h' : j.val - 4 < 32 then be (ix2 0 ⟨j.val - 4, h'⟩) else 0

/-- A logit: a normed row against a column, plus the bias. -/
def logit (h w : Fin 2048 → EReal) (b : EReal) : EReal := ∑ k, h k * w k + b

/-- The same logit with the row and the column each split in a leading part and a rest. -/
def logitSplit (h w : Fin 2048 → EReal) (b : EReal) : EReal :=
  ∑ k, h k * w k + ∑ k, (h k - h k) * w k + ∑ k, h k * (w k - w k) + b

end Cert.Out

end
-- ==== Proof.Out.KerStep.lean ====
/- What a grid step of the output projection leaves in its three blocks. -/
module

public import proofs.«01_k».proof.Proof.Gen.KernelOutprojIdeal.Frame
public import proofs.«01_k».proof.Proof.Out.Spec
public import Idealize.ShloMosaic.Lib.StableHlo.ReadAt
public import Idealize.ShloMosaic.Lib.Pointwise
public import Idealize.ShloMosaic.Lib.Pipeline.ValueKit

@[expose] public section

set_option maxRecDepth 16384

noncomputable section

namespace Cert.KernelOutprojIdeal.Out

open Idealize.ShloMosaic Idealize.ShloMosaic.TcCoe Idealize.ShloMosaic.StableHlo Idealize.SL.Sem
open Cert.KernelOutprojIdeal Cert.KernelOutprojIdeal.Gen
open Cert.Out

abbrev rd {s : Shape} (f : s.Idx → EReal) (i : s.Idx) : EReal := f i

theorem dite_of {P : Prop} [Decidable P] {a : P → EReal} {b : ¬P → EReal} {v : EReal} (ha : ∀ h, a h = v) (hb : ∀ h, b h = v) : dite P a b = v := by
  by_cases h : P
  · rw [dif_pos h, ha h]
  · rw [dif_neg h, hb h]

section Payload

variable (a b : S512x1024.Idx → EReal) (w w' : S1024x2048.Idx → EReal) (x : S512x2048.Idx → EReal) (g : S1x2048.Idx → EReal)
  (r : Fin 512) (k : Fin 2048)

theorem pay1_apply : rd (s := S512x2048) (k0_pay1 (F := Ideal) a w b w' x) (ix2 r k)
    = x (ix2 r k) + (∑ i : Fin 1024, a (ix2 r i) * w (ix2 i k) + ∑ i : Fin 1024, b (ix2 r i) * w' (ix2 i k)) := by
  pointwise [k0_pay1]

theorem pay2_apply : rd (s := S512x2048) (k0_pay2 (F := Ideal) a w b w' x g) (ix2 r k)
    = Inp.normRow (fun k => rd (s := S512x2048) (k0_pay1 (F := Ideal) a w b w' x) (ix2 r k)) (fun k => g (ix2 0 k)) k := by
  pointwise [k0_pay2]
  rfl

/-- The rows' columns re-laid as tokens of sixteen times 128. -/
theorem pay13_apply (s : Fin 16) (l : Fin 128) :
    rd (s := S512x16x128) (k0_pay13 (F := Ideal) (k0_pay2 a w b w' x g) (k0_pay3 a w b w' x g) (k0_pay4 a w b w' x g) (k0_pay5 a w b w' x g) (k0_pay6 a w b w' x g)
      (k0_pay7 a w b w' x g) (k0_pay8 a w b w' x g) (k0_pay9 a w b w' x g) (k0_pay10 a w b w' x g) (k0_pay11 a w b w' x g) (k0_pay12 a w b w' x g)) (ix3 r s l)
    = rd (s := S512x2048) (k0_pay2 (F := Ideal) a w b w' x g) (ix2 r ⟨s.val * 128 + l.val, by omega⟩) := by
  unfold k0_pay3 k0_pay4 k0_pay5 k0_pay6 k0_pay7 k0_pay8 k0_pay9 k0_pay10 k0_pay11 k0_pay12
  generalize k0_pay2 (F := Ideal) a w b w' x g = H
  pointwise [k0_pay13]
  have key : ∀ q : Fin 2048, q.val = s.val * 128 + l.val → H (ix2 r q) = rd (s := S512x2048) H (ix2 r ⟨s.val * 128 + l.val, by omega⟩) :=
    fun q hq => congrArg (fun q => H (ix2 r q)) (Fin.ext hq)
  iterate 15 refine dite_of (fun h => key _ (by dsimp only; omega)) fun h => ?_
  exact key _ (by dsimp only; omega)

theorem pay14_apply (H : S512x2048.Idx → EReal) (u : S2048x256.Idx → EReal) (v : S2048x128.Idx → EReal) (c : S1x128.Idx → EReal) (j : Fin 128) :
    rd (s := S128x512) (k0_pay14 (F := Ideal) H u v c) (ix2 j r)
    = ∑ k : Fin 2048, H (ix2 r k) * u (ix2 k ⟨j.val, by omega⟩) + ∑ k : Fin 2048, (H (ix2 r k) - H (ix2 r k)) * v (ix2 k j)
      + ∑ k : Fin 2048, H (ix2 r k) * u (ix2 k ⟨128 + j.val, by omega⟩) + c (ix2 0 j) := by
  pointwise [k0_pay14]

end Payload

section Pieces

variable (x0 x1 : Vec Ideal S512x1024 .bf16) (x2 : Vec Ideal S512x2048 .f32) (x3 : Vec Ideal S2048x2048 .bf16) (x4 : Vec Ideal S1x2048 .f32)
  (x5 : Vec Ideal S2048x256 .bf16) (x6 : Vec Ideal S1x128 .f32)

abbrev W1 : Vec Ideal S1024x2048 .bf16 := View.ld x3 r0_1
abbrev W2 : Vec Ideal S1024x2048 .bf16 := View.ld x3 r0_2

theorem out7 : out0_7 x0 x1 x2 x3 x4 x5 x6 = k0_pay1 x0 (W1 x3) x1 (W2 x3) x2 := by
  unfold_out out0_7
  frame_out

theorem out8 : out0_8 x0 x1 x2 x3 x4 x5 x6 = k0_pay13 (k0_pay2 x0 (W1 x3) x1 (W2 x3) x2 x4) (k0_pay3 x0 (W1 x3) x1 (W2 x3) x2 x4) (k0_pay4 x0 (W1 x3) x1 (W2 x3) x2 x4)
    (k0_pay5 x0 (W1 x3) x1 (W2 x3) x2 x4) (k0_pay6 x0 (W1 x3) x1 (W2 x3) x2 x4) (k0_pay7 x0 (W1 x3) x1 (W2 x3) x2 x4) (k0_pay8 x0 (W1 x3) x1 (W2 x3) x2 x4)
    (k0_pay9 x0 (W1 x3) x1 (W2 x3) x2 x4) (k0_pay10 x0 (W1 x3) x1 (W2 x3) x2 x4) (k0_pay11 x0 (W1 x3) x1 (W2 x3) x2 x4) (k0_pay12 x0 (W1 x3) x1 (W2 x3) x2 x4) := by
  unfold_out out0_8
  frame_out

theorem out9 : out0_9 x0 x1 x2 x3 x4 x5 x6 = k0_pay14 (k0_pay2 x0 (W1 x3) x1 (W2 x3) x2 x4) x5 (View.ld x5 r0_7) x6 := by
  unfold_out out0_9
  frame_out

theorem W1_apply (i : Fin 1024) (k : Fin 2048) : rd (s := S1024x2048) (W1 x3) (ix2 i k) = x3 (ix2 ⟨i.val, by omega⟩ k : S2048x2048.Idx) := by
  have e : (r0_1.idx (ix2 i k : S1024x2048.Idx)) = (ix2 ⟨i.val, by omega⟩ k : S2048x2048.Idx) :=
    funext fun a => Fin.ext (match a with | ⟨0, _⟩ => by show 0 + 1 * i.val = i.val; omega | ⟨1, _⟩ => by show 0 + 1 * k.val = k.val; omega)
  exact congrArg x3 e
theorem W2_apply (i : Fin 1024) (k : Fin 2048) : rd (s := S1024x2048) (W2 x3) (ix2 i k) = x3 (ix2 ⟨1024 + i.val, by omega⟩ k : S2048x2048.Idx) := by
  have e : (r0_2.idx (ix2 i k : S1024x2048.Idx)) = (ix2 ⟨1024 + i.val, by omega⟩ k : S2048x2048.Idx) :=
    funext fun a => Fin.ext (match a with | ⟨0, _⟩ => by show 1024 + 1 * i.val = 1024 + i.val; omega | ⟨1, _⟩ => by show 0 + 1 * k.val = k.val; omega)
  exact congrArg x3 e
theorem wHi_apply (k : Fin 2048) (j : Fin 128) : rd (s := S2048x128) (View.ld x5 r0_7) (ix2 k j) = x5 (ix2 k ⟨j.val, by omega⟩ : S2048x256.Idx) := by
  have e : (r0_7.idx (ix2 k j : S2048x128.Idx)) = (ix2 k ⟨j.val, by omega⟩ : S2048x256.Idx) :=
    funext fun a => Fin.ext (match a with | ⟨0, _⟩ => by show 0 + 1 * k.val = k.val; omega | ⟨1, _⟩ => by show 0 + 1 * j.val = j.val; omega)
  exact congrArg x5 e

end Pieces

/-! ## What the operations before the kernel compute -/

section Host

variable (U : Valuation τ sig (Elt Ideal)) (r : Fin 32768) (i : Fin 1024) (k n : Fin 2048) (j : Fin 128)

theorem ret_apply : rd (s := S32768x1024) (after hostOps0 U (Proc.devRef .tc main_v13)) (ix2 r i)
    = rd (s := S16x2048x1024) (U (Proc.devRef .tc main_arg0)) (ix3 (bat r) (pos r) i) := by
  after_reads_at
  rfl
theorem lru_apply : rd (s := S32768x1024) (after hostOps0 U (Proc.devRef .tc main_v14)) (ix2 r i)
    = rd (s := S16x2048x1024) (U (Proc.devRef .tc main_arg1)) (ix3 (bat r) (pos r) i) := by
  after_reads_at
  rfl
theorem x_apply : rd (s := S32768x2048) (after hostOps0 U (Proc.devRef .tc main_v15)) (ix2 r k)
    = rd (s := S16x2048x2048) (U (Proc.devRef .tc main_arg2)) (ix3 (bat r) (pos r) k) := by
  after_reads_at
  rfl
theorem w_apply : rd (s := S2048x2048) (after hostOps0 U (Proc.devRef .tc main_v17)) (ix2 k n) = rd (s := S1x2048x2048) (U (Proc.devRef .tc main_arg3)) (ix3 0 k n) := by
  after_reads_at
theorem g_apply : rd (s := S1x2048) (after hostOps0 U (Proc.devRef .tc main_v19)) (ix2 0 k) = rd (s := S1x2048) (U (Proc.devRef .tc main_arg4)) (ix2 0 k) := by
  after_reads_at
theorem wr_apply : rd (s := S2048x128) (after hostOps0 U (Proc.devRef .tc main_v3)) (ix2 k j) = col (U (Proc.devRef .tc main_arg5)) (U (Proc.devRef .tc main_arg7)) k j := by
  unfold col
  after_reads_at
  after_reads_at
theorem hi_apply : rd (s := S2048x256) (after hostOps0 U (Proc.devRef .tc main_v20)) (ix2 k ⟨j.val, by omega⟩) = col (U (Proc.devRef .tc main_arg5)) (U (Proc.devRef .tc main_arg7)) k j := by
  rw [← wr_apply]
  after_reads_at
  after_reads_at
  after_reads_at
theorem lo_apply : rd (s := S2048x256) (after hostOps0 U (Proc.devRef .tc main_v20)) (ix2 k ⟨128 + j.val, by omega⟩)
    = col (U (Proc.devRef .tc main_arg5)) (U (Proc.devRef .tc main_arg7)) k j - col (U (Proc.devRef .tc main_arg5)) (U (Proc.devRef .tc main_arg7)) k j := by
  rw [← wr_apply]
  after_reads_at
  after_reads_at
  after_reads_at
theorem b_apply : rd (s := S1x128) (after hostOps0 U (Proc.devRef .tc main_v8)) (ix2 0 j) = bias (U (Proc.devRef .tc main_arg6)) (U (Proc.devRef .tc main_arg8)) j := by
  unfold bias
  after_reads_at
  after_reads_at

end Host

/-! ## The blocks of a grid step -/

variable (m : (ℓ : Loc nD τ sig) → Buf (Elt Ideal) ℓ) (c : Dev nD) (t : Fin cfg0.N)

theorem idx0 : win0_0.index t = ![t.val, 0] := (by decide +kernel : ∀ t : Fin grid0.N, win0_0.index t = ![t.val, 0]) t
theorem idx1 : win0_1.index t = ![t.val, 0] := (by decide +kernel : ∀ t : Fin grid0.N, win0_1.index t = ![t.val, 0]) t
theorem idx2 : win0_2.index t = ![t.val, 0] := (by decide +kernel : ∀ t : Fin grid0.N, win0_2.index t = ![t.val, 0]) t
theorem idx3 : win0_3.index t = ![0, 0] := (by decide +kernel : ∀ t : Fin grid0.N, win0_3.index t = ![0, 0]) t
theorem idx4 : win0_4.index t = ![0, 0] := (by decide +kernel : ∀ t : Fin grid0.N, win0_4.index t = ![0, 0]) t
theorem idx5 : win0_5.index t = ![0, 0] := (by decide +kernel : ∀ t : Fin grid0.N, win0_5.index t = ![0, 0]) t
theorem idx6 : win0_6.index t = ![0, 0] := (by decide +kernel : ∀ t : Fin grid0.N, win0_6.index t = ![0, 0]) t
theorem idx7 : win0_7.index t = ![t.val, 0] := (by decide +kernel : ∀ t : Fin grid0.N, win0_7.index t = ![t.val, 0]) t
theorem idx8 : win0_8.index t = ![t.val, 0, 0] := (by decide +kernel : ∀ t : Fin grid0.N, win0_8.index t = ![t.val, 0, 0]) t
theorem idx9 : win0_9.index t = ![0, t.val] := (by decide +kernel : ∀ t : Fin grid0.N, win0_9.index t = ![0, t.val]) t

theorem t_lt : t.val < 64 := t.isLt

/-- The row of the tokens that is row `r` of a step's block. -/
abbrev rowT (r : Fin 512) : Fin 32768 := ⟨t.val * 512 + r.val, by have := t_lt t; omega⟩

/-- The arguments at the launch. -/
abbrev A0 : S16x2048x1024.Idx → EReal := m ((c : Thread nD τ).loc main_arg0)
abbrev A1 : S16x2048x1024.Idx → EReal := m ((c : Thread nD τ).loc main_arg1)
abbrev A2 : S16x2048x2048.Idx → EReal := m ((c : Thread nD τ).loc main_arg2)
abbrev A3 : S1x2048x2048.Idx → EReal := m ((c : Thread nD τ).loc main_arg3)
abbrev A4 : S1x2048.Idx → EReal := m ((c : Thread nD τ).loc main_arg4)
abbrev A5 : S1x2048x4.Idx → EReal := m ((c : Thread nD τ).loc main_arg5)
abbrev A6 : S1x4.Idx → EReal := m ((c : Thread nD τ).loc main_arg6)
abbrev A7 : S1x2048x32.Idx → EReal := m ((c : Thread nD τ).loc main_arg7)
abbrev A8 : S1x32.Idx → EReal := m ((c : Thread nD τ).loc main_arg8)

variable (r : Fin 512) (i : Fin 1024) (k n : Fin 2048) (j : Fin 128) (q : Fin 256)

theorem read0 (X : S32768x1024.Idx → EReal) : rd (s := S512x1024) (((cfg0.win 0).blk t).view.read (Elt Ideal) X) (ix2 r i) = X (ix2 (rowT t r) i) := by
  have e : (win0_0.blk t).view.emb (ix2 r i : S512x1024.Idx) = (ix2 (rowT t r) i : S32768x1024.Idx) := by blk_ext [idx0 t]
  exact congrArg X e
theorem read1 (X : S32768x1024.Idx → EReal) : rd (s := S512x1024) (((cfg0.win 1).blk t).view.read (Elt Ideal) X) (ix2 r i) = X (ix2 (rowT t r) i) := by
  have e : (win0_1.blk t).view.emb (ix2 r i : S512x1024.Idx) = (ix2 (rowT t r) i : S32768x1024.Idx) := by blk_ext [idx1 t]
  exact congrArg X e
theorem read2 (X : S32768x2048.Idx → EReal) : rd (s := S512x2048) (((cfg0.win 2).blk t).view.read (Elt Ideal) X) (ix2 r k) = X (ix2 (rowT t r) k) := by
  have e : (win0_2.blk t).view.emb (ix2 r k : S512x2048.Idx) = (ix2 (rowT t r) k : S32768x2048.Idx) := by blk_ext [idx2 t]
  exact congrArg X e
theorem read3 (X : S2048x2048.Idx → EReal) : rd (s := S2048x2048) (((cfg0.win 3).blk t).view.read (Elt Ideal) X) (ix2 k n) = X (ix2 k n) := by
  have e : (win0_3.blk t).view.emb (ix2 k n : S2048x2048.Idx) = (ix2 k n : S2048x2048.Idx) := by blk_ext [idx3 t]
  exact congrArg X e
theorem read4 (X : S1x2048.Idx → EReal) : rd (s := S1x2048) (((cfg0.win 4).blk t).view.read (Elt Ideal) X) (ix2 0 k) = X (ix2 0 k) := by
  have e : (win0_4.blk t).view.emb (ix2 0 k : S1x2048.Idx) = (ix2 0 k : S1x2048.Idx) := by blk_ext [idx4 t]
  exact congrArg X e
theorem read5 (X : S2048x256.Idx → EReal) : rd (s := S2048x256) (((cfg0.win 5).blk t).view.read (Elt Ideal) X) (ix2 k q) = X (ix2 k q) := by
  have e : (win0_5.blk t).view.emb (ix2 k q : S2048x256.Idx) = (ix2 k q : S2048x256.Idx) := by blk_ext [idx5 t]
  exact congrArg X e
theorem read6 (X : S1x128.Idx → EReal) : rd (s := S1x128) (((cfg0.win 6).blk t).view.read (Elt Ideal) X) (ix2 0 j) = X (ix2 0 j) := by
  have e : (win0_6.blk t).view.emb (ix2 0 j : S1x128.Idx) = (ix2 0 j : S1x128.Idx) := by blk_ext [idx6 t]
  exact congrArg X e

theorem blk0 : rd (s := S512x1024) (iblk m c 0 t) (ix2 r i) = A0 m c (ix3 (bat (rowT t r)) (pos (rowT t r)) i) :=
  (read0 t r i (V m c main_v13)).trans (ret_apply (fun b => m (c, b)) _ i)
theorem blk1 : rd (s := S512x1024) (iblk m c 1 t) (ix2 r i) = A1 m c (ix3 (bat (rowT t r)) (pos (rowT t r)) i) :=
  (read1 t r i (V m c main_v14)).trans (lru_apply (fun b => m (c, b)) _ i)
theorem blk2 : rd (s := S512x2048) (iblk m c 2 t) (ix2 r k) = A2 m c (ix3 (bat (rowT t r)) (pos (rowT t r)) k) :=
  (read2 t r k (V m c main_v15)).trans (x_apply (fun b => m (c, b)) _ k)
theorem blk3 : rd (s := S2048x2048) (iblk m c 3 t) (ix2 k n) = A3 m c (ix3 0 k n) :=
  (read3 t k n (V m c main_v17)).trans (w_apply (fun b => m (c, b)) k n)
theorem blk4 : rd (s := S1x2048) (iblk m c 4 t) (ix2 0 k) = A4 m c (ix2 0 k) :=
  (read4 t k (V m c main_v19)).trans (g_apply (fun b => m (c, b)) k)
theorem blk5hi : rd (s := S2048x256) (iblk m c 5 t) (ix2 k ⟨j.val, by omega⟩) = col (A5 m c) (A7 m c) k j :=
  (read5 t k _ (V m c main_v20)).trans (hi_apply (fun b => m (c, b)) k j)
theorem blk5lo : rd (s := S2048x256) (iblk m c 5 t) (ix2 k ⟨128 + j.val, by omega⟩) = col (A5 m c) (A7 m c) k j - col (A5 m c) (A7 m c) k j :=
  (read5 t k _ (V m c main_v20)).trans (lo_apply (fun b => m (c, b)) k j)
theorem blk6 : rd (s := S1x128) (iblk m c 6 t) (ix2 0 j) = bias (A6 m c) (A8 m c) j :=
  (read6 t j (V m c main_v8)).trans (b_apply (fun b => m (c, b)) j)

/-! ## The three blocks a step leaves -/

/-- The row with the mixing added, and its norm. -/
abbrev mRow (R : Fin 32768) (k : Fin 2048) : EReal := mixed (A0 m c) (A1 m c) (A2 m c) (A3 m c) R k
abbrev hRow (R : Fin 32768) (k : Fin 2048) : EReal := Inp.normRow (mRow m c R) (fun k => A4 m c (ix2 0 k)) k

theorem step1 : rd (s := S512x2048) (k0_pay1 (F := Ideal) (iblk m c 0 t) (W1 (iblk m c 3 t)) (iblk m c 1 t) (W2 (iblk m c 3 t)) (iblk m c 2 t)) (ix2 r k)
    = mRow m c (rowT t r) k := by
  refine (pay1_apply _ _ _ _ _ r k).trans ?_
  refine congrArg₂ (· + ·) (blk2 m c t r k) (congrArg₂ (· + ·) (Finset.sum_congr rfl fun i _ => congrArg₂ (· * ·) (blk0 m c t r i) ?_)
    (Finset.sum_congr rfl fun i _ => congrArg₂ (· * ·) (blk1 m c t r i) ?_))
  · exact (W1_apply _ i k).trans (blk3 m c t _ k)
  · exact (W2_apply _ i k).trans (blk3 m c t _ k)

theorem step2 : rd (s := S512x2048) (k0_pay2 (F := Ideal) (iblk m c 0 t) (W1 (iblk m c 3 t)) (iblk m c 1 t) (W2 (iblk m c 3 t)) (iblk m c 2 t) (iblk m c 4 t)) (ix2 r k)
    = hRow m c (rowT t r) k := by
  refine (pay2_apply _ _ _ _ _ _ r k).trans ?_
  exact congrArg₂ (Inp.normRow · · k) (funext fun k => step1 m c t r k) (funext fun k => blk4 m c t k)

theorem blkX : rd (s := S512x2048) (out0_7 (F := Ideal) (iblk m c 0 t) (iblk m c 1 t) (iblk m c 2 t) (iblk m c 3 t) (iblk m c 4 t) (iblk m c 5 t) (iblk m c 6 t)) (ix2 r k)
    = mRow m c (rowT t r) k := by
  rw [out7]
  exact step1 m c t r k

theorem blkH (s : Fin 16) (l : Fin 128) :
    rd (s := S512x16x128) (out0_8 (F := Ideal) (iblk m c 0 t) (iblk m c 1 t) (iblk m c 2 t) (iblk m c 3 t) (iblk m c 4 t) (iblk m c 5 t) (iblk m c 6 t)) (ix3 r s l)
    = hRow m c (rowT t r) ⟨s.val * 128 + l.val, by omega⟩ := by
  rw [out8]
  exact (pay13_apply _ _ _ _ _ _ r s l).trans (step2 m c t r _)

theorem blkL : rd (s := S128x512) (out0_9 (F := Ideal) (iblk m c 0 t) (iblk m c 1 t) (iblk m c 2 t) (iblk m c 3 t) (iblk m c 4 t) (iblk m c 5 t) (iblk m c 6 t)) (ix2 j r)
    = logitSplit (hRow m c (rowT t r)) (fun k => col (A5 m c) (A7 m c) k j) (bias (A6 m c) (A8 m c) j) := by
  rw [out9]
  refine (pay14_apply r _ _ _ _ j).trans ?_
  have hs : ∀ k, rd (s := S512x2048) _ (ix2 r k) = _ := fun k => step2 m c t r k
  refine congrArg₂ (· + ·) (congrArg₂ (· + ·) (congrArg₂ (· + ·) (Finset.sum_congr rfl fun k _ => congrArg₂ (· * ·) (hs k) (blk5hi m c t k j))
    (Finset.sum_congr rfl fun k _ => congrArg₂ (· * ·) (congrArg₂ (· - ·) (hs k) (hs k)) ((wHi_apply _ k j).trans (blk5hi m c t k j))))
    (Finset.sum_congr rfl fun k _ => congrArg₂ (· * ·) (hs k) (blk5lo m c t k j))) (blk6 m c t j)

/-! ## The three results -/

def resX : S32768x2048.Idx → EReal := fun i => mRow m c (i 0) (i 1)
def resH : S32768x16x128.Idx → EReal := fun i => hRow m c (i 0) ⟨(i 1).val * 128 + (i 2).val, by have h1 : (i 1).val < 16 := (i 1).isLt; have h2 : (i 2).val < 128 := (i 2).isLt; omega⟩
def resL : S128x32768.Idx → EReal := fun i => logitSplit (hRow m c (i 1)) (fun k => col (A5 m c) (A7 m c) k (i 0)) (bias (A6 m c) (A8 m c) (i 0))

theorem final7 : (dats m 0 c).arrAt 7 cfg0.N = resX m c := by
  refine (dats m 0 c).arrAt_eq_of_covers 7 _ (by decide +kernel) fun t hf y => ?_
  have e : (win0_7.blk t).view.emb y = (ix2 (rowT t (y 0)) (y 1) : S32768x2048.Idx) := by blk_ext [idx7 t]
  refine Eq.trans ?_ ((blkX m c t (y 0) (y 1)).trans (congrArg (resX m c) e).symm)
  blk_simp
  rw [after0_7]
  exact congrArg (out0_7 (F := Ideal) (iblk m c 0 t) (iblk m c 1 t) (iblk m c 2 t) (iblk m c 3 t) (iblk m c 4 t) (iblk m c 5 t) (iblk m c 6 t)) (eq_ix2 (y : S512x2048.Idx))

theorem final8 : (dats m 0 c).arrAt 8 cfg0.N = resH m c := by
  refine (dats m 0 c).arrAt_eq_of_covers 8 _ (by decide +kernel) fun t hf y => ?_
  have e : (win0_8.blk t).view.emb y = (ix3 (rowT t (y 0)) (y 1) (y 2) : S32768x16x128.Idx) := by blk_ext [idx8 t]
  refine Eq.trans ?_ ((blkH m c t (y 0) (y 1) (y 2)).trans (congrArg (resH m c) e).symm)
  blk_simp
  rw [after0_8]
  exact congrArg (out0_8 (F := Ideal) (iblk m c 0 t) (iblk m c 1 t) (iblk m c 2 t) (iblk m c 3 t) (iblk m c 4 t) (iblk m c 5 t) (iblk m c 6 t)) (eq_ix3 (y : S512x16x128.Idx))

theorem final9 : (dats m 0 c).arrAt 9 cfg0.N = resL m c := by
  refine (dats m 0 c).arrAt_eq_of_covers 9 _ (by decide +kernel) fun t hf y => ?_
  have e : (win0_9.blk t).view.emb y = (ix2 (y 0) (rowT t (y 1)) : S128x32768.Idx) := by blk_ext [idx9 t]
  refine Eq.trans ?_ ((blkL m c t (y 1) (y 0)).trans (congrArg (resL m c) e).symm)
  blk_simp
  rw [after0_9]
  exact congrArg (out0_9 (F := Ideal) (iblk m c 0 t) (iblk m c 1 t) (iblk m c 2 t) (iblk m c 3 t) (iblk m c 4 t) (iblk m c 5 t) (iblk m c 6 t)) (eq_ix2 (y : S128x512.Idx))

variable (ρ : Dev nD → PrngReg)

/-- Every run of the idealized kernel ends with the three results and the arguments as they were. -/
theorem run : θ_run defs (onTc (τ := τ) (main (F := Ideal))) ⟨m, fun _ => 0, ρ⟩ (fun r => ∀ c : Dev nD,
      r.2.mem ((c.tc : Thread nD τ).loc main_v21_0) = resX m c
      ∧ r.2.mem ((c.tc : Thread nD τ).loc main_v21_1) = resH m c
      ∧ r.2.mem ((c.tc : Thread nD τ).loc main_v21_2) = resL m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h.1 c |>.1 7).trans (final7 m c), (h.1 c |>.1 8).trans (final8 m c), (h.1 c |>.1 9).trans (final9 m c), h.2.1 c⟩)
    (θ_run_and (run_main m ρ) (frame m ρ))

end Cert.KernelOutprojIdeal.Out

end
-- ==== Proof.Out.RefValue.lean ====
/- The reference's three results, entry by entry. -/
module

public import proofs.«01_k».proof.Proof.Gen.ReferenceOutprojIdeal.Run
public import proofs.«01_k».proof.Proof.Out.Spec
public import Idealize.ShloMosaic.Lib.StableHlo.ReadAt
public import Idealize.ShloMosaic.Lib.Pointwise
public import Idealize.ShloMosaic.Lib.IdealHost

@[expose] public section

set_option maxRecDepth 16384

noncomputable section

namespace Cert.ReferenceOutprojIdeal.Out

open Idealize.ShloMosaic Idealize.ShloMosaic.TcCoe Idealize.ShloMosaic.StableHlo Idealize.SL.Sem
open Cert.ReferenceOutprojIdeal Cert.ReferenceOutprojIdeal.Gen
open Cert.Out

section Terms

variable (a0 a1 : FVec Ideal S16x2048x1024 .bf16) (a2 : FVec Ideal S16x2048x2048 .f32) (a3 : FVec Ideal S1x2048x2048 .f32) (a4 : FVec Ideal S1x2048 .f32)
  (a5 : FVec Ideal S1x2048x4 .f32) (a6 : FVec Ideal S1x4 .f32) (a7 : FVec Ideal S1x2048x32 .f32) (a8 : FVec Ideal S1x32 .f32)

/-- The tokens with the mixing added. -/
def mixT : FVec Ideal S16x2048x2048 .f32 :=
  addf a2 (Host.dotGeneral dot_S16x2048x2048_S2048x2048_S16x2048x2048_2_0_01_1_n_n none (extf .f32 (concatenate S16x2048x2048 2 [⟨S16x2048x1024, a0⟩, ⟨S16x2048x1024, a1⟩] concatenates_S16x2048x1024_S16x2048x1024_S16x2048x2048_d2) bitsLt_bf16_f32) (shapeCast _ a3 shapeCasts_S1x2048x2048_S2048x2048))

/-- The norm of an array of tokens. -/
def normT (y : FVec Ideal S16x2048x2048 .f32) : FVec Ideal S16x2048x2048 .f32 :=
  mulf (mulf y (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf y y) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 (shapeCast _ a4 shapeCasts_S1x2048_S2048)))

/-- The router's logits of rows of normed tokens, a row of logits for each column. -/
def logitsT (h : FVec Ideal S32768x2048 .f32) : FVec Ideal S128x32768 .f32 :=
  transpose S128x32768 [1, 0] (concatenate S32768x128 1 [⟨S32768x4, addf (Host.dotGeneral dot_S32768x2048_S2048x4_S32768x4_1_0_0_1_n_n none h (shapeCast _ a5 shapeCasts_S1x2048x4_S2048x4)) (broadcastInDim S32768x4 ![0, 1] bcast_S1x4_S32768x4_0_1 (broadcastInDim S1x4 ![1] bcast_S4_S1x4_1 (shapeCast _ a6 shapeCasts_S1x4_S4)))⟩, ⟨S32768x32, addf (Host.dotGeneral dot_S32768x2048_S2048x32_S32768x32_1_0_0_1_n_n none h (shapeCast _ a7 shapeCasts_S1x2048x32_S2048x32)) (broadcastInDim S32768x32 ![0, 1] bcast_S1x32_S32768x32_0_1 (broadcastInDim S1x32 ![1] bcast_S32_S1x32_1 (shapeCast _ a8 shapeCasts_S1x32_S32)))⟩, ⟨S32768x92, broadcastInDim S32768x92 ![] bcast_S_S32768x92 (constant S_ .f32 0x00000000#32)⟩] concatenates_S32768x4_S32768x32_S32768x92_S32768x128_d1) transposes_S32768x128_S128x32768_1_0

def resX : FVec Ideal S32768x2048 .f32 := shapeCast _ (mixT a0 a1 a2 a3) shapeCasts_S16x2048x2048_S32768x2048
def resH : FVec Ideal S32768x16x128 .bf16 := truncf .bf16 (shapeCast _ (normT a4 (mixT a0 a1 a2 a3)) shapeCasts_S16x2048x2048_S32768x16x128) bitsLt_bf16_f32
def resL : FVec Ideal S128x32768 .f32 := logitsT a5 a6 a7 a8 (shapeCast _ (normT a4 (mixT a0 a1 a2 a3)) shapeCasts_S16x2048x2048_S32768x2048)

theorem mix_apply (r : Fin 32768) (k : Fin 2048) : (mixT a0 a1 a2 a3 : S16x2048x2048.Idx → EReal) (ix3 (bat r) (pos r) k) = mixed a0 a1 a2 a3 r k := by
  unfold mixed
  pointwise [mixT]

theorem norm_apply (y : S16x2048x2048.Idx → EReal) (b : Fin 16) (s k : Fin 2048) :
    (normT a4 y : S16x2048x2048.Idx → EReal) (ix3 b s k) = Inp.normRow (fun k => y (ix3 b s k)) (fun k => a4 (ix2 0 k)) k := by
  pointwise [normT]
  rfl

theorem logits_apply (h : S32768x2048.Idx → EReal) (j : Fin 128) (r : Fin 32768) :
    (logitsT a5 a6 a7 a8 h : S128x32768.Idx → EReal) (ix2 j r) = logit (fun k => h (ix2 r k)) (fun k => col a5 a7 k j) (bias a6 a8 j) := by
  unfold logit col bias
  pointwise [logitsT]
  by_cases h1 : j.val < 4
  · simp only [dif_pos h1]
  · by_cases h2 : j.val - 4 < 32
    · simp only [dif_neg h1, dif_pos h2]
    · simp [dif_neg h1, dif_neg h2]

theorem resX_apply (r : Fin 32768) (k : Fin 2048) : (resX a0 a1 a2 a3 : S32768x2048.Idx → EReal) (ix2 r k) = mixed a0 a1 a2 a3 r k := by
  refine Eq.trans ?_ (mix_apply a0 a1 a2 a3 r k)
  pointwise [resX]

theorem hrow (r : Fin 32768) (k : Fin 2048) : (normT a4 (mixT a0 a1 a2 a3) : S16x2048x2048.Idx → EReal) (ix3 (bat r) (pos r) k)
    = Inp.normRow (mixed a0 a1 a2 a3 r) (fun k => a4 (ix2 0 k)) k :=
  (norm_apply a4 _ _ _ k).trans (congrArg (Inp.normRow · _ k) (funext fun k => mix_apply a0 a1 a2 a3 r k))

theorem resH_apply (r : Fin 32768) (s : Fin 16) (l : Fin 128) : (resH a0 a1 a2 a3 a4 : S32768x16x128.Idx → EReal) (ix3 r s l)
    = Inp.normRow (mixed a0 a1 a2 a3 r) (fun k => a4 (ix2 0 k)) ⟨s.val * 128 + l.val, by omega⟩ := by
  refine Eq.trans ?_ (hrow a0 a1 a2 a3 a4 r _)
  unfold resH
  generalize normT a4 (mixT a0 a1 a2 a3) = H
  pointwise []

theorem resL_apply (j : Fin 128) (r : Fin 32768) : (resL a0 a1 a2 a3 a4 a5 a6 a7 a8 : S128x32768.Idx → EReal) (ix2 j r)
    = logit (Inp.normRow (mixed a0 a1 a2 a3 r) (fun k => a4 (ix2 0 k))) (fun k => col a5 a7 k j) (bias a6 a8 j) := by
  refine (logits_apply a5 a6 a7 a8 _ j r).trans (congrArg (logit · _ _) (funext fun k => Eq.trans ?_ (hrow a0 a1 a2 a3 a4 r k)))
  generalize normT a4 (mixT a0 a1 a2 a3) = H
  pointwise []

end Terms

variable (m : (ℓ : Loc nD τ sig) → Buf (Elt Ideal) ℓ) (ρ : Dev nD → PrngReg)

section Arguments

variable (c : Dev nD)

abbrev A0 : S16x2048x1024.Idx → EReal := m ((c.tc : Thread nD τ).loc main_arg0)
abbrev A1 : S16x2048x1024.Idx → EReal := m ((c.tc : Thread nD τ).loc main_arg1)
abbrev A2 : S16x2048x2048.Idx → EReal := m ((c.tc : Thread nD τ).loc main_arg2)
abbrev A3 : S1x2048x2048.Idx → EReal := m ((c.tc : Thread nD τ).loc main_arg3)
abbrev A4 : S1x2048.Idx → EReal := m ((c.tc : Thread nD τ).loc main_arg4)
abbrev A5 : S1x2048x4.Idx → EReal := m ((c.tc : Thread nD τ).loc main_arg5)
abbrev A6 : S1x4.Idx → EReal := m ((c.tc : Thread nD τ).loc main_arg6)
abbrev A7 : S1x2048x32.Idx → EReal := m ((c.tc : Thread nD τ).loc main_arg7)
abbrev A8 : S1x32.Idx → EReal := m ((c.tc : Thread nD τ).loc main_arg8)

end Arguments

/-- The reference's three results. -/
theorem run : θ_run defs (onTc (τ := τ) (main (F := Ideal))) ⟨m, fun _ => 0, ρ⟩ (fun r => ∀ c : Dev nD,
      r.2.mem ((c.tc : Thread nD τ).loc main_v34) = resX (A0 m c) (A1 m c) (A2 m c) (A3 m c)
      ∧ r.2.mem ((c.tc : Thread nD τ).loc main_v36) = resH (A0 m c) (A1 m c) (A2 m c) (A3 m c) (A4 m c)
      ∧ r.2.mem ((c.tc : Thread nD τ).loc main_v37) = resL (A0 m c) (A1 m c) (A2 m c) (A3 m c) (A4 m c) (A5 m c) (A6 m c) (A7 m c) (A8 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans rfl, (h c).2.1.trans rfl, (h c).2.2.1.trans rfl, (h c).2.2.2⟩) (Value.run m ρ)

/-- The frame of the reference: it ends, its arguments unchanged and every counter zero. -/
theorem frame : θ_run defs (onTc (τ := τ) (main (F := Ideal))) ⟨m, fun _ => 0, ρ⟩ (fun r => (∀ c : Dev nD,
       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => (h c).2.2.2, sem_eq_zero_of_no_sems (by decide) r.2⟩) (Value.run m ρ)

end Cert.ReferenceOutprojIdeal.Out

end
-- ==== Proof.Out.Eq.lean ====
/- A logit of the split row and the split column is the logit, where the norm's weights and the router's are finite. -/
module

public import proofs.«01_k».proof.Proof.Out.Spec
public import proofs.«01_k».proof.Proof.Ret.Eq

@[expose] public section

noncomputable section

namespace Cert.Out

open Idealize.ShloMosaic
open Cert.Ret (IsR isR_zero isR_coe)

theorem num2048 : Ideal.ofBits .f32 1157627904#32 = ((2048 : ℝ) : EReal) := by
  simp [Ideal.ofBits, Ideal.ieee, -EReal.coe_mul]; norm_num
theorem eps_pos : ∃ e : ℝ, 0 < e ∧ Ideal.ofBits .f32 897988541#32 = (e : EReal) := by
  refine ⟨8796093 * 2 ^ (-43 : ℤ), by positivity, ?_⟩
  simp [Ideal.ofBits, Ideal.ieee, -EReal.coe_mul]

theorem sq_nonneg' (x : EReal) : 0 ≤ x * x := by
  induction x with
  | bot => simp
  | top => simp
  | coe r => rw [← EReal.coe_mul]; exact_mod_cast mul_self_nonneg r

theorem sq_eq_top {x : EReal} (h : ¬ IsR x) : x * x = ⊤ := by
  induction x with
  | bot => simp
  | top => simp
  | coe r => exact absurd ⟨r, rfl⟩ h

/-- A row divided by its root mean square has real entries, infinite entries or not: the mean square of a row with an infinite entry is infinite, and its inverse root zero. -/
theorem isR_unit (x : Fin 2048 → EReal) (k : Fin 2048) :
    IsR (x k * Ideal.rsqrt (Ideal.div (∑ j, x j * x j) (Ideal.ofBits .f32 1157627904#32) + Ideal.ofBits .f32 897988541#32)) := by
  obtain ⟨e, he, hee⟩ := eps_pos
  rw [num2048, hee, Ret.div_eq _ _ (by norm_num)]
  by_cases hx : ∀ j, IsR (x j)
  · choose f hf using hx
    have hs : ∑ j, x j * x j = ((∑ j, f j * f j : ℝ) : EReal) := by
      rw [← Ret.coe_sum]
      exact Finset.sum_congr rfl fun j _ => by rw [hf j, EReal.coe_mul]
    rw [hs, ← EReal.coe_mul, ← EReal.coe_add]
    refine IsR.mul ⟨_, hf k⟩ ?_
    have hp : 0 < (∑ j, f j * f j) * (2048 : ℝ)⁻¹ + e :=
      add_pos_of_nonneg_of_pos (mul_nonneg (Finset.sum_nonneg fun j _ => mul_self_nonneg _) (by norm_num)) he
    generalize (∑ j, f j * f j) * (2048 : ℝ)⁻¹ + e = q at hp
    refine ⟨(Real.sqrt q)⁻¹, ?_⟩
    show (if q < 0 then ⊥ else if q = 0 then ⊤ else (((Real.sqrt q)⁻¹ : ℝ) : EReal)) = _
    rw [if_neg hp.not_gt, if_neg hp.ne']
  · obtain ⟨j, hj⟩ := not_forall.1 hx
    have hs : ∑ j, x j * x j = ⊤ := top_le_iff.1 ((sq_eq_top hj).symm.le.trans (Finset.single_le_sum (f := fun j => x j * x j) (fun j _ => sq_nonneg' _) (Finset.mem_univ j)))
    rw [hs, EReal.top_mul_coe_of_pos (by norm_num), EReal.top_add_coe]
    exact ⟨0, mul_zero _⟩

theorem isR_normRow (x : Fin 2048 → EReal) {g : Fin 2048 → EReal} (hg : ∀ k, IsR (g k)) (k : Fin 2048) : IsR (Inp.normRow x g k) :=
  (isR_unit x k).mul (hg k)

theorem sub_self' {x : EReal} (h : IsR x) : x - x = 0 := by
  obtain ⟨r, rfl⟩ := h
  rw [← EReal.coe_sub, sub_self, EReal.coe_zero]

theorem logitSplit_eq {h w : Fin 2048 → EReal} (hh : ∀ k, IsR (h k)) (hw : ∀ k, IsR (w k)) (b : EReal) : logitSplit h w b = logit h w b := by
  unfold logitSplit logit
  simp only [sub_self' (hh _), sub_self' (hw _), zero_mul, mul_zero, Finset.sum_const_zero, add_zero]

theorem isR_col {Wg : (⟨3, ![1, 2048, 4]⟩ : Shape).Idx → EReal} {We : (⟨3, ![1, 2048, 32]⟩ : Shape).Idx → EReal}
    (h1 : ∀ k j, IsR (Wg (ix3 0 k j))) (h2 : ∀ k j, IsR (We (ix3 0 k j))) (k : Fin 2048) (j : Fin 128) : IsR (col Wg We k j) := by
  unfold col
  split_ifs
  · exact h1 _ _
  · exact h2 _ _
  · exact isR_zero

end Cert.Out

end
-- ==== Proof.Out.Final.lean ====
/- The output projection's three results and the reference's are equal where the norm's weights and the router's are finite. -/
module

public import proofs.«01_k».proof.Defs
public import proofs.«01_k».proof.Proof.Out.KerStep
public import proofs.«01_k».proof.Proof.Out.RefValue
public import proofs.«01_k».proof.Proof.Out.Eq

@[expose] public section

set_option maxRecDepth 16384

noncomputable section

namespace Cert.Out

open Idealize.ShloMosaic Idealize.ShloMosaic.TcCoe Idealize.SL.Sem
open Cert.Ret (IsR isR_of_abs)

instance : Cert.Pre_finite_router.Facts := ⟨by decide, by decide, by decide, by decide, by decide, by decide⟩

section Pre

variable (a0 a1 : Cert.Pre_finite_router.S16x2048x1024.Idx → EReal) (a2 : Cert.Pre_finite_router.S16x2048x2048.Idx → EReal) (a3 : Cert.Pre_finite_router.S1x2048x2048.Idx → EReal)
  (a4 : Cert.Pre_finite_router.S1x2048.Idx → EReal) (a5 : Cert.Pre_finite_router.S1x2048x4.Idx → EReal) (a6 : Cert.Pre_finite_router.S1x4.Idx → EReal)
  (a7 : Cert.Pre_finite_router.S1x2048x32.Idx → EReal) (a8 : Cert.Pre_finite_router.S1x32.Idx → EReal)

theorem isR_of_bit {x : EReal} (h : BitVec.ofBool (decide (max x (-x) < ⊤)) = 1#1) : IsR x := by
  refine isR_of_abs ?_
  by_contra hn
  rw [decide_eq_false hn] at h
  exact absurd h (by decide)

/-- Under the precondition an entry of the norm's weights, of the groups' weights or of the experts' is a real number. -/
theorem isR_of_pre (h : ∀ i, Cert.Pre_finite_router.fn (F := Ideal) a0 a1 a2 a3 a4 a5 a6 a7 a8 i = 1#1) (k : Fin 2048) (j : Fin 37) :
    IsR (if h : j.val < 1 then a4 (ix2 0 k) else if h : j.val - 1 < 4 then a5 (ix3 0 k ⟨j.val - 1, h⟩) else a7 (ix3 0 k ⟨j.val - 1 - 4, by omega⟩)) := by
  have h0 := h (ix2 k j)
  revert h0
  pointwise [Cert.Pre_finite_router.fn]
  rw [show Ideal.ofBits .f32 2139095040#32 = ⊤ by simp [Ideal.ofBits, Ideal.ieee]]
  intro h1
  exact isR_of_bit h1

variable (h : ∀ i, Cert.Pre_finite_router.fn (F := Ideal) a0 a1 a2 a3 a4 a5 a6 a7 a8 i = 1#1) (k : Fin 2048)
include h

theorem isR_g : IsR (a4 (ix2 0 k)) := isR_of_pre a0 a1 a2 a3 a4 a5 a6 a7 a8 h k 0
theorem isR_group (j : Fin 4) : IsR (a5 (ix3 0 k j)) := by
  have := isR_of_pre a0 a1 a2 a3 a4 a5 a6 a7 a8 h k ⟨1 + j.val, by omega⟩
  rw [dif_neg (by simp), dif_pos (by dsimp only; omega)] at this
  rw [show j = ⟨1 + j.val - 1, by omega⟩ from Fin.ext (by dsimp only; omega)]
  exact this
theorem isR_expert (j : Fin 32) : IsR (a7 (ix3 0 k j)) := by
  have := isR_of_pre a0 a1 a2 a3 a4 a5 a6 a7 a8 h k ⟨5 + j.val, by omega⟩
  rw [dif_neg (by dsimp only; omega), dif_neg (by dsimp only; omega)] at this
  rw [show j = ⟨5 + j.val - 1 - 4, by omega⟩ from Fin.ext (by dsimp only; omega)]
  exact this

end Pre

theorem algebraic : Cert.algebraic_KernelOutprojIdeal_ReferenceOutprojIdeal_pre_finite_router (hKernelOutprojIdeal := Cert.KernelOutprojIdeal.Gen.facts) (hReferenceOutprojIdeal := Cert.ReferenceOutprojIdeal.Gen.facts) := by
  intro m g m' g' hpre hag
  refine ⟨fun c => Cert.KernelOutprojIdeal.Out.resX m c, fun c => Cert.KernelOutprojIdeal.Out.resH m c, fun c => Cert.KernelOutprojIdeal.Out.resL m c, Cert.KernelOutprojIdeal.Out.run m g, ?_⟩
  refine (θ_run _ _ _).mono (fun r h c => ⟨(h c).1.trans ?_, (h c).2.1.trans ?_, (h c).2.2.1.trans ?_, (h c).2.2.2⟩) (Cert.ReferenceOutprojIdeal.Out.run m' g')
  · obtain ⟨e0, e1, e2, e3, -⟩ := hag c
    refine funext fun i : (⟨2, ![32768, 2048]⟩ : Shape).Idx => ?_
    rw [eq_ix2 i]
    refine (Cert.ReferenceOutprojIdeal.Out.resX_apply _ _ _ _ (i 0) (i 1)).trans ?_
    unfold Cert.ReferenceOutprojIdeal.Out.A0 Cert.ReferenceOutprojIdeal.Out.A1 Cert.ReferenceOutprojIdeal.Out.A2 Cert.ReferenceOutprojIdeal.Out.A3
    rw [e0, e1, e2, e3]
    rfl
  · obtain ⟨e0, e1, e2, e3, e4, -⟩ := hag c
    refine funext fun i : (⟨3, ![32768, 16, 128]⟩ : Shape).Idx => ?_
    rw [eq_ix3 i]
    refine (Cert.ReferenceOutprojIdeal.Out.resH_apply _ _ _ _ _ (i 0) (i 1) (i 2)).trans ?_
    unfold Cert.ReferenceOutprojIdeal.Out.A0 Cert.ReferenceOutprojIdeal.Out.A1 Cert.ReferenceOutprojIdeal.Out.A2 Cert.ReferenceOutprojIdeal.Out.A3 Cert.ReferenceOutprojIdeal.Out.A4
    rw [e0, e1, e2, e3, e4]
    rfl
  · obtain ⟨e0, e1, e2, e3, e4, e5, e6, e7, e8⟩ := hag c
    refine funext fun i : (⟨2, ![128, 32768]⟩ : Shape).Idx => ?_
    rw [eq_ix2 i]
    refine (Cert.ReferenceOutprojIdeal.Out.resL_apply _ _ _ _ _ _ _ _ _ (i 0) (i 1)).trans ?_
    unfold Cert.ReferenceOutprojIdeal.Out.A0 Cert.ReferenceOutprojIdeal.Out.A1 Cert.ReferenceOutprojIdeal.Out.A2 Cert.ReferenceOutprojIdeal.Out.A3 Cert.ReferenceOutprojIdeal.Out.A4
      Cert.ReferenceOutprojIdeal.Out.A5 Cert.ReferenceOutprojIdeal.Out.A6 Cert.ReferenceOutprojIdeal.Out.A7 Cert.ReferenceOutprojIdeal.Out.A8
    rw [e0, e1, e2, e3, e4, e5, e6, e7, e8]
    have hp := fun i => congrFun (hpre c) i
    exact (logitSplit_eq (isR_normRow _ fun k => isR_g _ _ _ _ _ _ _ _ _ hp k)
      (fun k => isR_col (isR_group _ _ _ _ _ _ _ _ _ hp) (isR_expert _ _ _ _ _ _ _ _ _ hp) k (i 0)) _).symm

end Cert.Out

end
-- ==== Proof.Lru.Loop.lean ====
/- The body of the recurrent unit's kernel as loops over chunks: the same memory operations in the same
   order, with the block of lanes and the chunk as variables. -/
module

public import proofs.«01_k».proof.Proof.Gen.KernelRglruIdeal.Skeleton

@[expose] public section

set_option maxRecDepth 16384

noncomputable section

namespace Cert.KernelRglruIdeal.Lru

open Idealize.ShloMosaic Idealize.SL.Sem
open Cert.KernelRglruIdeal Cert.KernelRglruIdeal.Gen

variable {F : FTy → Type} [FloatOps F] [Named F]

/-- The buffers of one grid step, each a whole buffer. -/
structure Mems where
  u : Memref sig .tc .vmem S1x2048x256 .bf16
  hu : u.IsWhole
  z : Memref sig .tc .vmem S1x2048x256 .bf16
  hz : z.IsWhole
  cw : Memref sig .tc .vmem S4x256 .f32
  hcw : cw.IsWhole
  cb : Memref sig .tc .vmem S1x256 .f32
  hcb : cb.IsWhole
  wg : Memref sig .tc .vmem S2x128x256 .f32
  hwg : wg.IsWhole
  br : Memref sig .tc .vmem S1x256 .f32
  hbr : br.IsWhole
  bi : Memref sig .tc .vmem S1x256 .f32
  hbi : bi.IsWhole
  lam : Memref sig .tc .vmem S1x256 .f32
  hlam : lam.IsWhole
  gn : Memref sig .tc .vmem S1x256 .f32
  hgn : gn.IsWhole
  wsrc : Memref sig .tc .vmem S1x1024x1024 .f32
  hwsrc : wsrc.IsWhole
  o : Memref sig .tc .vmem S1x2048x256 .bf16
  ho : o.IsWhole
  wdst : Memref sig .tc .vmem S1x1024x1024 .bf16
  hwdst : wdst.IsWhole
  uf : Memref sig .tc .vmem S2056x128 .f32
  huf : uf.IsWhole

/-! ## The windows of one chunk -/

/-- Offsets of the rows from `d` before chunk `n` on, in the buffer of all rows with eight before them. -/
abbrev ufOff (d : Fin 4) (n : Fin 16) : Fin 2 → ℕ := ![8 + 128 * n.val - d.val, 0]
/-- Offsets of chunk `n` of the block of lanes `nb`. -/
abbrev blkOff (nb : Fin 2) (n : Fin 16) : Fin 3 → ℕ := ![0, 128 * n.val, 128 * nb.val]
/-- Offsets of the block of lanes `nb`. -/
abbrev lnOff (nb : Fin 2) : Fin 2 → ℕ := ![0, 128 * nb.val]
/-- Offsets of the gates' weights of the block of lanes `nb`. -/
abbrev wgOff (nb : Fin 2) : Fin 3 → ℕ := ![nb.val, 0, 0]

theorem ufInb : ∀ (d : Fin 4) (n : Fin 16) a, ufOff d n a + S128x128.size a ≤ S2056x128.size a := by decide
theorem blkInb : ∀ (nb : Fin 2) (n : Fin 16) a, blkOff nb n a + S1x128x128.size a ≤ S1x2048x256.size a := by decide
theorem lnInb : ∀ (nb : Fin 2) a, lnOff nb a + S1x128.size a ≤ S1x256.size a := by decide
theorem cwInb : ∀ (nb : Fin 2) a, lnOff nb a + S4x128.size a ≤ S4x256.size a := by decide
theorem wgInb : ∀ (nb : Fin 2) a, wgOff nb a + S1x128x256.size a ≤ S2x128x256.size a := by decide

/-- The rows from `d` before chunk `n` on. -/
abbrev ufR (d : Fin 4) (n : Fin 16) : Rect S2056x128 := Rect.unit (s := S2056x128) (ufOff d n) S128x128.size (ufInb d n)
/-- The eight rows before the first. -/
abbrev padR : Rect S2056x128 := Rect.unit (s := S2056x128) ![0, 0] S8x128.size inb_S2056x128_S8x128_0_0
/-- Chunk `n` of the block of lanes `nb`. -/
abbrev blkR (nb : Fin 2) (n : Fin 16) : Rect S1x2048x256 := Rect.unit (s := S1x2048x256) (blkOff nb n) S1x128x128.size (blkInb nb n)
/-- The block of lanes `nb` of a row. -/
abbrev lnR (nb : Fin 2) : Rect S1x256 := Rect.unit (s := S1x256) (lnOff nb) S1x128.size (lnInb nb)
/-- The block of lanes `nb` of the convolution's weights. -/
abbrev cwR (nb : Fin 2) : Rect S4x256 := Rect.unit (s := S4x256) (lnOff nb) S4x128.size (cwInb nb)
/-- The block of lanes `nb` of the gates' weights. -/
abbrev wgR (nb : Fin 2) : Rect S2x128x256 := Rect.unit (s := S2x128x256) (wgOff nb) S1x128x256.size (wgInb nb)
/-- The whole of a weight block. -/
abbrev wR : Rect S1x1024x1024 := Rect.unit (s := S1x1024x1024) ![0, 0, 0] S1x1024x1024.size inb_S1x1024x1024_S1x1024x1024_0_0_0

theorem blkPacked : ∀ (nb : Fin 2) (n : Fin 16), (blkR nb n).PackedRows (EltTy.packing .bf16) := by decide

/-! ## The values one chunk computes -/

/-- The parameters of a block of lanes, as they are read. -/
structure Par (F : FTy → Type) where
  lam : Vec F S1x128 .f32
  cw : Vec F S4x128 .f32
  cb : Vec F S1x128 .f32
  br : Vec F S1x128 .f32
  bi : Vec F S1x128 .f32
  gn : Vec F S1x128 .f32
  wg : Vec F S1x128x256 .f32

/-- The rows that a chunk reads: its own, and the ones that start one, two and three rows before it. -/
structure Rows (F : FTy → Type) where
  u0 : Vec F S1x128x128 .bf16
  u1 : Vec F S128x128 .f32
  u2 : Vec F S128x128 .f32
  u3 : Vec F S128x128 .f32

/-- The convolution. -/
def convOf (p : Par F) (r : Rows F) : FVec F S128x128 .f32 := k0_pay20 (k0_pay9 p.cw) (k0_pay18 (k0_pay9 p.cw) p.cb r.u0 r.u1) (k0_pay19 (k0_pay9 p.cw)) r.u2 r.u3
/-- The multipliers of the recurrence. -/
def mul0 (p : Par F) (r : Rows F) : FVec F S128x128 .f32 :=
  k0_pay22 (k0_pay8 p.lam) (k0_pay9 p.cw) (k0_pay11 p.br) (k0_pay14 p.wg) (k0_pay18 (k0_pay9 p.cw) p.cb r.u0 r.u1) (k0_pay19 (k0_pay9 p.cw)) r.u2 r.u3
/-- The summands of the recurrence. -/
def add0 (p : Par F) (r : Rows F) : FVec F S128x128 .f32 :=
  k0_pay23 (k0_pay8 p.lam) (k0_pay9 p.cw) (k0_pay11 p.br) (k0_pay12 p.bi) (k0_pay14 p.wg) (k0_pay18 (k0_pay9 p.cw) p.cb r.u0 r.u1) (k0_pay19 (k0_pay9 p.cw)) r.u2 r.u3
/-- Each row `sh` further within its tile of eight rows, around. -/
def rollOf (sh : BitVec 32) (x : FVec F S128x128 .f32) : FVec F S128x128 .f32 :=
  shapeCast S128x128 (dynamicRotate 1 sh none (shapeCast S16x8x128 x shapeCasts_S128x128_S16x8x128) rotates_S16x8x128_d1) shapeCasts_S16x8x128_S128x128
/-- The multipliers after a doubling. -/
def mulUp (sh : BitVec 32) (v : IVec S128x128 1) (a : FVec F S128x128 .f32) : FVec F S128x128 .f32 := select v (mulf a (rollOf sh a)) a
/-- The summands after a doubling. -/
def addUp (sh : BitVec 32) (v : IVec S128x128 1) (a b : FVec F S128x128 .f32) : FVec F S128x128 .f32 := select v (addf (mulf a (rollOf sh b)) b) b
/-- The multipliers within tiles of eight rows. -/
def mulT (a : FVec F S128x128 .f32) : FVec F S128x128 .f32 := mulUp 4#32 k0_pay6 (mulUp 2#32 k0_pay5 (mulUp 1#32 k0_pay4 a))
/-- The summands within tiles of eight rows. -/
def addT (a b : FVec F S128x128 .f32) : FVec F S128x128 .f32 :=
  addUp 4#32 k0_pay6 (mulUp 2#32 k0_pay5 (mulUp 1#32 k0_pay4 a)) (addUp 2#32 k0_pay5 (mulUp 1#32 k0_pay4 a) (addUp 1#32 k0_pay4 a b))

theorem tileSl : ∀ k : Fin 16, S128x128.Slices ![8 * k.val, 0] S8x128 := by decide

/-- The rows of tile `k`. -/
def tileOf (k : Fin 16) (x : FVec F S128x128 .f32) : FVec F S8x128 .f32 := extractStridedSlice S8x128 ![8 * k.val, 0] x (tileSl k)
/-- The last row of a tile. -/
def lastOf (x : FVec F S8x128 .f32) : FVec F S1x128 .f32 := extractStridedSlice S1x128 ![7, 0] x slices_S8x128_o7_0_S1x128
/-- A tile's multipliers times the row before it. -/
def prodOf (k : Fin 16) (a : FVec F S128x128 .f32) (h : FVec F S1x128 .f32) : FVec F S8x128 .f32 :=
  mulf (tileOf k a) (broadcastTo S8x128 h broadcasts_S1x128_S8x128)
/-- Tile `k` of the states, from the row before it. -/
def nextOf (k : Fin 16) (a b : FVec F S128x128 .f32) (h : FVec F S1x128 .f32) : FVec F S8x128 .f32 := addf (prodOf k a h) (tileOf k b)

/-- Tile `k` of the states, from the row before the chunk. -/
def tiles (a b : FVec F S128x128 .f32) (h : FVec F S1x128 .f32) : ℕ → FVec F S8x128 .f32
  | 0 => nextOf 0 a b h
  | k + 1 => nextOf ⟨(k + 1) % 16, Nat.mod_lt _ (by norm_num)⟩ a b (lastOf (tiles a b h k))

/-- The row before the next chunk. -/
def carryOf (p : Par F) (r : Rows F) (h : FVec F S1x128 .f32) : FVec F S1x128 .f32 := lastOf (tiles (mulT (mul0 p r)) (addT (mul0 p r) (add0 p r)) h 15)

/-- The states of a chunk, its tiles one after the other. -/
def hsOf (t : ℕ → FVec F S8x128 .f32) : FVec F S128x128 .f32 :=
  concatenate S128x128 0 [⟨S8x128, t 0⟩, ⟨S8x128, t 1⟩, ⟨S8x128, t 2⟩, ⟨S8x128, t 3⟩, ⟨S8x128, t 4⟩, ⟨S8x128, t 5⟩, ⟨S8x128, t 6⟩, ⟨S8x128, t 7⟩, ⟨S8x128, t 8⟩, ⟨S8x128, t 9⟩, ⟨S8x128, t 10⟩, ⟨S8x128, t 11⟩, ⟨S8x128, t 12⟩, ⟨S8x128, t 13⟩, ⟨S8x128, t 14⟩, ⟨S8x128, t 15⟩]
    concatenates_S8x128_S8x128_S8x128_S8x128_S8x128_S8x128_S8x128_S8x128_S8x128_S8x128_S8x128_S8x128_S8x128_S8x128_S8x128_S8x128_S128x128_d0

/-- The states normalised, weighted and gated. -/
def finOf (gn : FVec F S1x128 .f32) (h : FVec F S128x128 .f32) (z : Vec F S1x128x128 .bf16) : FVec F S1x128x128 .bf16 :=
  let ms := divf (shapeCast S128x1 (multiReduction .add [1] S128 (mulf h h) 0x00000000#32 reduces_S128x128_S128 (.inl rfl) rfl) shapeCasts_S128_S128x1) (broadcast S128x1 (Scalar.ofBits .f32 0x43000000#32))
  let hl := mulf (mulf h (broadcastTo S128x128 (rsqrt (addf ms (broadcast S128x1 (Scalar.ofBits .f32 0x358637BD#32)))) broadcasts_S128x1_S128x128)) (broadcastTo S128x128 gn broadcasts_S1x128_S128x128)
  let zf := extf .f32 (shapeCast S128x128 z shapeCasts_S1x128x128_S128x128) bitsLt_bf16_f32
  let th := tanh (mulf zf (addf (broadcast S128x128 (Scalar.ofBits .f32 0x3F4C422A#32)) (mulf (broadcast S128x128 (Named.named κ "gelu_cubic" 0x3D122279#32)) (mulf zf zf))))
  let g := mulf (mulf (broadcast S128x128 (Scalar.ofBits .f32 0x3F000000#32)) zf) (addf (broadcast S128x128 (Scalar.ofBits .f32 0x3F800000#32)) th)
  shapeCast S1x128x128 (truncf .bf16 (mulf hl g) bitsLt_bf16_f32) shapeCasts_S128x128_S1x128x128

/-- The chunk's result, normalised and gated. -/
def oOf (p : Par F) (r : Rows F) (h : FVec F S1x128 .f32) (z : Vec F S1x128x128 .bf16) : FVec F S1x128x128 .bf16 :=
  finOf (k0_pay13 p.gn) (hsOf (tiles (mulT (mul0 p r)) (addT (mul0 p r) (add0 p r)) h)) z

/-! ## The program -/

/-- A program of the kernel's core. -/
abbrev P (F : FTy → Type) := Prog (TpuEff nD τ sig (Elt F) Λ₀ .tc) PUnit

/-- A chunk's rows, put behind the rows before them. -/
def chunkPut (M : Mems) (nb : Fin 2) (n : Fin 16) (K : Vec F S1x128x128 .bf16 → P F) : P F :=
  .op (.load M.u (blkR nb n).toLoadRect (View.loadsAt_vmem h_S1x128x128)) fun u0 =>
  .op (.load M.uf (ufR 0 n).toLoadRect (View.loadsAt_vmem h_S128x128)) fun _ =>
  .op (.store M.uf (ufR 0 n) (k0_pay17 (F := F) u0) Finset.univ (View.stores_vmem_bits_univ h_S128x128 rfl) (.inl rfl)) fun _ => K u0

/-- A chunk's result, from its rows. -/
def chunkOut (M : Mems) (nb : Fin 2) (p : Par F) (n : Fin 16) (u0 : Vec F S1x128x128 .bf16) (h : FVec F S1x128 .f32) (K : FVec F S1x128 .f32 → P F) : P F :=
  .op (.load M.uf (ufR 1 n).toLoadRect (View.loadsAt_vmem h_S128x128)) fun u1 =>
  .op (.load M.uf (ufR 2 n).toLoadRect (View.loadsAt_vmem h_S128x128)) fun u2 =>
  .op (.load M.uf (ufR 3 n).toLoadRect (View.loadsAt_vmem h_S128x128)) fun u3 =>
  .op (.load M.z (blkR nb n).toLoadRect (View.loadsAt_vmem h_S1x128x128)) fun z =>
  .op (.load M.o (blkR nb n).toLoadRect (View.loadsAt_vmem h_S1x128x128)) fun _ =>
  .op (.store M.o (blkR nb n) (oOf (F := F) p ⟨u0, u1, u2, u3⟩ h z) Finset.univ (View.stores_vmem h_S1x128x128 (M.ho.storeExact_slice rfl _ (blkPacked nb n)) (fun _ => rfl)) (.inl rfl)) fun _ =>
  K (carryOf p ⟨u0, u1, u2, u3⟩ h)

/-- One chunk. -/
def chunk (M : Mems) (nb : Fin 2) (p : Par F) (n : Fin 16) (h : FVec F S1x128 .f32) (K : FVec F S1x128 .f32 → P F) : P F :=
  chunkPut M nb n fun u0 => chunkOut M nb p n u0 h K

/-- The last `r` chunks. -/
def loop (M : Mems) (nb : Fin 2) (p : Par F) : ℕ → FVec F S1x128 .f32 → P F → P F
  | 0, _, K => K
  | r + 1, h, K => chunk M nb p ⟨15 - r, by omega⟩ h fun h' => loop M nb p r h' K

/-- The start of a block of lanes: its parameters are read. -/
def blockStart (M : Mems) (nb : Fin 2) (K : Par F → P F) : P F :=
  .op (.load M.lam (lnR nb).toLoadRect (View.loadsAt_vmem h_S1x128)) fun lam =>
  .op (.load M.cw (cwR nb).toLoadRect (View.loadsAt_vmem h_S4x128)) fun cw =>
  .op (.load M.cb (lnR nb).toLoadRect (View.loadsAt_vmem h_S1x128)) fun cb =>
  .op (.load M.br (lnR nb).toLoadRect (View.loadsAt_vmem h_S1x128)) fun br =>
  .op (.load M.bi (lnR nb).toLoadRect (View.loadsAt_vmem h_S1x128)) fun bi =>
  .op (.load M.gn (lnR nb).toLoadRect (View.loadsAt_vmem h_S1x128)) fun gn =>
  .op (.load M.wg (wgR nb).toLoadRect (View.loadsAt_vmem h_S1x128x256)) fun wg => K ⟨lam, cw, cb, br, bi, gn, wg⟩

/-- One block of lanes. -/
def block (M : Mems) (nb : Fin 2) (K : P F) : P F := blockStart M nb fun p => loop M nb p 16 k0_pay15 K

/-- The cast of the weights that rides along, and the zeros before the first row. -/
def start (M : Mems) (K : P F) : P F :=
  .op (.load M.wsrc wR.toLoadRect (View.loadsAt_vmem h_S1x1024x1024)) fun w =>
  .op (.load M.wdst wR.toLoadRect (View.loadsAt_vmem h_S1x1024x1024)) fun _ =>
  .op (.store M.wdst wR (k0_pay2 (F := F) w) Finset.univ (View.stores_vmem h_S1x1024x1024 (M.hwdst.storeExact_slice rfl _ packedbf16_S1x1024x1024_S1x1024x1024_0_0_0) (fun _ => rfl)) (.inl rfl)) fun _ =>
  .op (.load M.uf padR.toLoadRect (View.loadsAt_vmem h_S8x128)) fun _ =>
  .op (.store M.uf padR (k0_pay7 (F := F)) Finset.univ (View.stores_vmem_bits_univ h_S8x128 rfl) (.inl rfl)) fun _ => K

/-- The kernel's body as loops. -/
def body (M : Mems) : P F := start M (block M 0 (block M 1 (.ret ⟨⟩)))

/-- The printed body at the buffers `M`. -/
def printed (i : grid0.Coords) (M : Mems) : P F :=
  cc0_rglru i M.u M.hu M.z M.hz M.cw M.hcw M.cb M.hcb M.wg M.hwg M.br M.hbr M.bi M.hbi M.lam M.hlam M.gn M.hgn M.wsrc M.hwsrc M.o M.ho M.wdst M.hwdst M.uf M.huf

end Cert.KernelRglruIdeal.Lru

end
-- ==== Proof.Lru.Steps.lean ====
/- What the start, a block's start and each chunk do to the contents of the buffers. -/
module

public import proofs.«01_k».proof.Proof.Lru.Loop
public import proofs.«01_k».proof.Proof.Gen.KernelRglruIdeal.Frame.Runs
public import Idealize.ShloMosaic.Lib.VecWindow

@[expose] public section

set_option maxRecDepth 16384

noncomputable section

namespace Cert.KernelRglruIdeal.Lru

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelRglruIdeal Cert.KernelRglruIdeal.Gen

variable {F : FTy → Type} [FloatOps F] [Named F]

local notation "𝕄" => MT nD τ sig Unit (Elt F) ℕ (UR sig nD τ) ℕ

/-- The contents of the buffers of one grid step. -/
structure Vals (F : FTy → Type) where
  u : Vec F S1x2048x256 .bf16
  z : Vec F S1x2048x256 .bf16
  o : Vec F S1x2048x256 .bf16
  uf : Vec F S2056x128 .f32
  wsrc : Vec F S1x1024x1024 .f32
  wdst : Vec F S1x1024x1024 .bf16
  lam : Vec F S1x256 .f32
  cw : Vec F S4x256 .f32
  cb : Vec F S1x256 .f32
  br : Vec F S1x256 .f32
  bi : Vec F S1x256 .f32
  gn : Vec F S1x256 .f32
  wg : Vec F S2x128x256 .f32

/-- The buffers `M` hold the contents `x`. -/
def St (c : Dev nD) (M : Mems) (x : Vals F) : sProp 𝕄 :=
  iprop(owns (c : Thread nD τ) M.u fullShare x.u ∗ owns (c : Thread nD τ) M.z fullShare x.z ∗ owns (c : Thread nD τ) M.o fullShare x.o ∗ owns (c : Thread nD τ) M.uf fullShare x.uf
    ∗ owns (c : Thread nD τ) M.wsrc fullShare x.wsrc ∗ owns (c : Thread nD τ) M.wdst fullShare x.wdst
    ∗ owns (c : Thread nD τ) M.lam fullShare x.lam ∗ owns (c : Thread nD τ) M.cw fullShare x.cw ∗ owns (c : Thread nD τ) M.cb fullShare x.cb ∗ owns (c : Thread nD τ) M.br fullShare x.br
    ∗ owns (c : Thread nD τ) M.bi fullShare x.bi ∗ owns (c : Thread nD τ) M.gn fullShare x.gn ∗ owns (c : Thread nD τ) M.wg fullShare x.wg)

/-- The rows from `d` before chunk `n` on, read and put. -/
abbrev ufW {α : Type} (x : S2056x128.Idx → α) (d : Fin 4) (n : Fin 16) : S128x128.Idx → α := VecWindow.window x (ufOff d n) S128x128.size (ufInb d n)
abbrev ufP {α : Type} (x : S2056x128.Idx → α) (n : Fin 16) (w : S128x128.Idx → α) : S2056x128.Idx → α := VecWindow.put x (ufOff 0 n) S128x128.size w
abbrev padP {α : Type} (x : S2056x128.Idx → α) (w : S8x128.Idx → α) : S2056x128.Idx → α := VecWindow.put x ![0, 0] S8x128.size w
/-- Chunk `n` of a block of lanes, read and put. -/
abbrev blkW {α : Type} (x : S1x2048x256.Idx → α) (nb : Fin 2) (n : Fin 16) : S1x128x128.Idx → α := VecWindow.window x (blkOff nb n) S1x128x128.size (blkInb nb n)
abbrev blkP {α : Type} (x : S1x2048x256.Idx → α) (nb : Fin 2) (n : Fin 16) (w : S1x128x128.Idx → α) : S1x2048x256.Idx → α := VecWindow.put x (blkOff nb n) S1x128x128.size w
/-- A block of lanes of a row, of the convolution's weights and of the gates' weights. -/
abbrev lnW {α : Type} (x : S1x256.Idx → α) (nb : Fin 2) : S1x128.Idx → α := VecWindow.window x (lnOff nb) S1x128.size (lnInb nb)
abbrev cwW {α : Type} (x : S4x256.Idx → α) (nb : Fin 2) : S4x128.Idx → α := VecWindow.window x (lnOff nb) S4x128.size (cwInb nb)
abbrev wgW {α : Type} (x : S2x128x256.Idx → α) (nb : Fin 2) : S1x128x256.Idx → α := VecWindow.window x (wgOff nb) S1x128x256.size (wgInb nb)

theorem readUf {b : EltTy} {sp : Space} (m : Memref sig .tc sp S2056x128 b) (d : Fin 4) (n : Fin 16) (f : m.view.ty.Contents (Elt F)) (y : S2056x128.Idx → Elt F b)
    (h : m.view.read (Elt F) f = y) : m.view.readAt (Elt F) (ufR d n).toLoadRect f = ufW y d n := by
  rw [← h]; exact View.readAt_unit _ _ _ rfl _
theorem readBlk {b : EltTy} {sp : Space} (m : Memref sig .tc sp S1x2048x256 b) (nb : Fin 2) (n : Fin 16) (f : m.view.ty.Contents (Elt F)) (y : S1x2048x256.Idx → Elt F b)
    (h : m.view.read (Elt F) f = y) : m.view.readAt (Elt F) (blkR nb n).toLoadRect f = blkW y nb n := by
  rw [← h]; exact View.readAt_unit _ _ _ rfl _
theorem readLn {b : EltTy} {sp : Space} (m : Memref sig .tc sp S1x256 b) (nb : Fin 2) (f : m.view.ty.Contents (Elt F)) (y : S1x256.Idx → Elt F b)
    (h : m.view.read (Elt F) f = y) : m.view.readAt (Elt F) (lnR nb).toLoadRect f = lnW y nb := by
  rw [← h]; exact View.readAt_unit _ _ _ rfl _
theorem readCw {b : EltTy} {sp : Space} (m : Memref sig .tc sp S4x256 b) (nb : Fin 2) (f : m.view.ty.Contents (Elt F)) (y : S4x256.Idx → Elt F b)
    (h : m.view.read (Elt F) f = y) : m.view.readAt (Elt F) (cwR nb).toLoadRect f = cwW y nb := by
  rw [← h]; exact View.readAt_unit _ _ _ rfl _
theorem readWg {b : EltTy} {sp : Space} (m : Memref sig .tc sp S2x128x256 b) (nb : Fin 2) (f : m.view.ty.Contents (Elt F)) (y : S2x128x256.Idx → Elt F b)
    (h : m.view.read (Elt F) f = y) : m.view.readAt (Elt F) (wgR nb).toLoadRect f = wgW y nb := by
  rw [← h]; exact View.readAt_unit _ _ _ rfl _
theorem writeUf {b : EltTy} {sp : Space} (m : Memref sig .tc sp S2056x128 b) (n : Fin 16) (f : m.view.ty.Contents (Elt F)) (y : S2056x128.Idx → Elt F b) (w w' : S128x128.Idx → Elt F b)
    (h : m.view.read (Elt F) f = y) (hw : w = w') : m.view.read (Elt F) (m.view.writes (Elt F) f [⟨ufR 0 n, w⟩]) = ufP y n w' := by
  subst hw; rw [← h]; exact View.read_writes_cons_put _ _ _ _ [] rfl
theorem writePad {b : EltTy} {sp : Space} (m : Memref sig .tc sp S2056x128 b) (f : m.view.ty.Contents (Elt F)) (y : S2056x128.Idx → Elt F b) (w : S8x128.Idx → Elt F b)
    (h : m.view.read (Elt F) f = y) : m.view.read (Elt F) (m.view.writes (Elt F) f [⟨padR, w⟩]) = padP y w := by
  rw [← h]; exact View.read_writes_cons_put _ _ _ _ [] rfl
theorem writeBlk {b : EltTy} {sp : Space} (m : Memref sig .tc sp S1x2048x256 b) (nb : Fin 2) (n : Fin 16) (f : m.view.ty.Contents (Elt F)) (y : S1x2048x256.Idx → Elt F b) (w w' : S1x128x128.Idx → Elt F b)
    (h : m.view.read (Elt F) f = y) (hw : w = w') : m.view.read (Elt F) (m.view.writes (Elt F) f [⟨blkR nb n, w⟩]) = blkP y nb n w' := by
  subst hw; rw [← h]; exact View.read_writes_cons_put _ _ _ _ [] rfl

/-- Contents after the start. -/
def stepS (x : Vals F) : Vals F := { x with wdst := k0_pay2 (F := F) x.wsrc, uf := padP x.uf (k0_pay7 (F := F)) }
/-- The parameters of a block of lanes. -/
def parOf (nb : Fin 2) (x : Vals F) : Par F := ⟨lnW x.lam nb, cwW x.cw nb, lnW x.cb nb, lnW x.br nb, lnW x.bi nb, lnW x.gn nb, wgW x.wg nb⟩
/-- Contents after a chunk has put its rows. -/
def stepU (nb : Fin 2) (n : Fin 16) (x : Vals F) : Vals F := { x with uf := ufP x.uf n (k0_pay17 (F := F) (blkW x.u nb n)) }
/-- The rows chunk `n` reads, its own put. -/
abbrev rowsAt (nb : Fin 2) (n : Fin 16) (x : Vals F) : Rows F := ⟨blkW x.u nb n, ufW x.uf 1 n, ufW x.uf 2 n, ufW x.uf 3 n⟩
/-- Contents after a chunk's result. -/
def stepO (nb : Fin 2) (p : Par F) (n : Fin 16) (h : FVec F S1x128 .f32) (x : Vals F) : Vals F :=
  { x with o := blkP x.o nb n (oOf (F := F) p (rowsAt nb n x) h (blkW x.z nb n)) }

theorem start_run (c : Dev nD) (M : Mems) (x : Vals F) (E : Set ℕ) (K : P F) (Q : PUnit → sProp 𝕄) :
    iprop(St c M x ∗ (St c M (stepS x) -∗ wp frame (wpE (defs₀ (F := F)) Variants.none c none) E K Q))
      ⊢ wp frame (wpE (defs₀ (F := F)) Variants.none c none) E (start M K) Q := by
  unfold St owns start
  iintro ⟨⟨H_u, H_z, H_o, ⟨%f_uf, %h_uf, H_uf⟩, ⟨%f_wsrc, %h_wsrc, H_wsrc⟩, ⟨%f_wdst, %h_wdst, H_wdst⟩, HR⟩, HK⟩
  sl_exec
  iapply HK
  isplitl [H_u]; · iexact H_u
  isplitl [H_z]; · iexact H_z
  isplitl [H_o]; · iexact H_o
  isplitl [H_uf]
  · iexists _; isplitr [H_uf]; swap; iexact H_uf
    ipureintro; exact writePad M.uf _ _ _ h_uf
  isplitl [H_wsrc]
  · iexists f_wsrc; isplitr; · ipureintro; exact h_wsrc
    iexact H_wsrc
  isplitl [H_wdst]
  · iexists _; isplitr [H_wdst]; swap; iexact H_wdst
    ipureintro; exact (View.read_writes_full _ _ _ _ []).trans (congrArg _ ((View.readAt_full _ _ _).trans h_wsrc))
  iexact HR

theorem blockStart_run (c : Dev nD) (M : Mems) (nb : Fin 2) (x : Vals F) (E : Set ℕ) (K : Par F → P F) (Q : PUnit → sProp 𝕄) :
    iprop(St c M x ∗ (St c M x -∗ wp frame (wpE (defs₀ (F := F)) Variants.none c none) E (K (parOf nb x)) Q))
      ⊢ wp frame (wpE (defs₀ (F := F)) Variants.none c none) E (blockStart M nb K) Q := by
  unfold St owns blockStart parOf
  iintro ⟨⟨H_u, H_z, H_o, H_uf, H_wsrc, H_wdst, ⟨%f_lam, %h_lam, H_lam⟩, ⟨%f_cw, %h_cw, H_cw⟩, ⟨%f_cb, %h_cb, H_cb⟩, ⟨%f_br, %h_br, H_br⟩, ⟨%f_bi, %h_bi, H_bi⟩, ⟨%f_gn, %h_gn, H_gn⟩, ⟨%f_wg, %h_wg, H_wg⟩⟩, HK⟩
  sl_exec
  rw [readLn _ _ _ _ h_lam, readCw _ _ _ _ h_cw, readLn _ _ _ _ h_cb, readLn _ _ _ _ h_br, readLn _ _ _ _ h_bi, readLn _ _ _ _ h_gn, readWg _ _ _ _ h_wg]
  iapply HK
  isplitl [H_u]; · iexact H_u
  isplitl [H_z]; · iexact H_z
  isplitl [H_o]; · iexact H_o
  isplitl [H_uf]; · iexact H_uf
  isplitl [H_wsrc]; · iexact H_wsrc
  isplitl [H_wdst]; · iexact H_wdst
  isplitl [H_lam]
  · iexists f_lam; isplitr; · ipureintro; exact h_lam
    iexact H_lam
  isplitl [H_cw]
  · iexists f_cw; isplitr; · ipureintro; exact h_cw
    iexact H_cw
  isplitl [H_cb]
  · iexists f_cb; isplitr; · ipureintro; exact h_cb
    iexact H_cb
  isplitl [H_br]
  · iexists f_br; isplitr; · ipureintro; exact h_br
    iexact H_br
  isplitl [H_bi]
  · iexists f_bi; isplitr; · ipureintro; exact h_bi
    iexact H_bi
  isplitl [H_gn]
  · iexists f_gn; isplitr; · ipureintro; exact h_gn
    iexact H_gn
  iexists f_wg; isplitr; · ipureintro; exact h_wg
  iexact H_wg

theorem chunkPut_run (c : Dev nD) (M : Mems) (nb : Fin 2) (n : Fin 16) (x : Vals F) (E : Set ℕ) (K : Vec F S1x128x128 .bf16 → P F) (Q : PUnit → sProp 𝕄) :
    iprop(St c M x ∗ (St c M (stepU nb n x) -∗ wp frame (wpE (defs₀ (F := F)) Variants.none c none) E (K (blkW x.u nb n)) Q))
      ⊢ wp frame (wpE (defs₀ (F := F)) Variants.none c none) E (chunkPut M nb n K) Q := by
  unfold St owns chunkPut
  iintro ⟨⟨⟨%f_u, %h_u, H_u⟩, H_z, H_o, ⟨%f_uf, %h_uf, H_uf⟩, HR⟩, HK⟩
  sl_exec
  rw [readBlk M.u nb n _ _ h_u]
  iapply HK
  isplitl [H_u]
  · iexists f_u; isplitr; · ipureintro; exact h_u
    iexact H_u
  isplitl [H_z]; · iexact H_z
  isplitl [H_o]; · iexact H_o
  isplitl [H_uf]
  · iexists _; isplitr [H_uf]; swap; iexact H_uf
    ipureintro; exact writeUf M.uf n _ _ _ _ h_uf rfl
  iexact HR

theorem chunkOut_run (c : Dev nD) (M : Mems) (nb : Fin 2) (p : Par F) (n : Fin 16) (h : FVec F S1x128 .f32) (x : Vals F) (E : Set ℕ) (K : FVec F S1x128 .f32 → P F) (Q : PUnit → sProp 𝕄) :
    iprop(St c M x ∗ (St c M (stepO nb p n h x) -∗ wp frame (wpE (defs₀ (F := F)) Variants.none c none) E (K (carryOf p (rowsAt nb n x) h)) Q))
      ⊢ wp frame (wpE (defs₀ (F := F)) Variants.none c none) E (chunkOut M nb p n (blkW x.u nb n) h K) Q := by
  unfold St owns chunkOut
  iintro ⟨⟨H_u, ⟨%f_z, %h_z, H_z⟩, ⟨%f_o, %h_o, H_o⟩, ⟨%f_uf, %h_uf, H_uf⟩, HR⟩, HK⟩
  sl_exec
  rw [readUf M.uf 1 n _ _ h_uf, readUf M.uf 2 n _ _ h_uf, readUf M.uf 3 n _ _ h_uf]
  iapply HK
  isplitl [H_u]; · iexact H_u
  isplitl [H_z]
  · iexists f_z; isplitr; · ipureintro; exact h_z
    iexact H_z
  isplitl [H_o]
  · iexists _; isplitr [H_o]; swap; iexact H_o
    ipureintro; exact writeBlk M.o nb n _ _ _ _ h_o (by rw [readBlk M.z nb n _ _ h_z])
  isplitl [H_uf]
  · iexists f_uf; isplitr; · ipureintro; exact h_uf
    iexact H_uf
  iexact HR

/-- Contents after a chunk. -/
abbrev stepC (nb : Fin 2) (p : Par F) (n : Fin 16) (h : FVec F S1x128 .f32) (x : Vals F) : Vals F := stepO nb p n h (stepU nb n x)
/-- The row after a chunk. -/
abbrev carryN (nb : Fin 2) (p : Par F) (n : Fin 16) (h : FVec F S1x128 .f32) (x : Vals F) : FVec F S1x128 .f32 := carryOf p (rowsAt nb n (stepU nb n x)) h

theorem chunk_run (c : Dev nD) (M : Mems) (nb : Fin 2) (p : Par F) (n : Fin 16) (h : FVec F S1x128 .f32) (x : Vals F) (E : Set ℕ) (K : FVec F S1x128 .f32 → P F) (Q : PUnit → sProp 𝕄) :
    iprop(St c M x ∗ (St c M (stepC nb p n h x) -∗ wp frame (wpE (defs₀ (F := F)) Variants.none c none) E (K (carryN nb p n h x)) Q))
      ⊢ wp frame (wpE (defs₀ (F := F)) Variants.none c none) E (chunk M nb p n h K) Q := by
  iintro ⟨H, HK⟩
  unfold chunk
  iapply chunkPut_run c M nb n x E (fun u0 => chunkOut M nb p n u0 h K) Q
  isplitl [H]; · iexact H
  iintro H
  iapply chunkOut_run c M nb p n h (stepU nb n x) E K Q
  isplitl [H]; · iexact H
  iexact HK

end Cert.KernelRglruIdeal.Lru

end
-- ==== Proof.Lru.Same.lean ====
/- The printed body is the body as loops. -/
module

public import proofs.«01_k».proof.Proof.Lru.Loop

@[expose] public section

set_option maxRecDepth 1000000

noncomputable section

namespace Cert.KernelRglruIdeal.Lru

open Idealize.ShloMosaic Idealize.SL.Sem
open Cert.KernelRglruIdeal Cert.KernelRglruIdeal.Gen

variable {F : FTy → Type} [FloatOps F] [Named F]

set_option maxHeartbeats 10000000 in
/-- The loops, unfolded, are the printed operations. -/
theorem printed_eq (i : grid0.Coords) (M : Mems) : printed (F := F) i M = body M := rfl

end Cert.KernelRglruIdeal.Lru

end
-- ==== Proof.Lru.Body.lean ====
/- The body as a function on the contents of the buffers, and what it leaves in the two outputs. -/
module

public import proofs.«01_k».proof.Proof.Lru.Steps
public import proofs.«01_k».proof.Proof.Lru.Same
public import Idealize.ShloMosaic.Lib.Pointwise

@[expose] public section

set_option maxRecDepth 16384

noncomputable section

namespace Cert.KernelRglruIdeal.Lru

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelRglruIdeal Cert.KernelRglruIdeal.Gen

variable {F : FTy → Type} [FloatOps F] [Named F]

local notation "𝕄" => MT nD τ sig Unit (Elt F) ℕ (UR sig nD τ) ℕ

/-- Contents after the last `r` chunks of a block of lanes. -/
def stepsC (nb : Fin 2) (p : Par F) : ℕ → FVec F S1x128 .f32 → Vals F → Vals F
  | 0, _, x => x
  | r + 1, h, x => stepsC nb p r (carryN nb p ⟨15 - r, by omega⟩ h x) (stepC nb p ⟨15 - r, by omega⟩ h x)

/-- Contents after a block of lanes. -/
def blockF (nb : Fin 2) (x : Vals F) : Vals F := stepsC nb (parOf nb x) 16 (k0_pay15 (F := F)) x

/-- Contents after the body. -/
def runF (x : Vals F) : Vals F := blockF 1 (blockF 0 (stepS x))

section Run

variable (c : Dev nD) (M : Mems) (E : Set ℕ)

theorem loop_run (nb : Fin 2) (p : Par F) (K : P F) (Q : PUnit → sProp 𝕄) : ∀ (r : ℕ) (h : FVec F S1x128 .f32) (x : Vals F),
    iprop(St c M x ∗ (St c M (stepsC nb p r h x) -∗ wp frame (wpE (defs₀ (F := F)) Variants.none c none) E K Q))
      ⊢ wp frame (wpE (defs₀ (F := F)) Variants.none c none) E (loop M nb p r h K) Q
  | 0, h, x => by
    iintro ⟨H, HK⟩
    iapply HK; iexact H
  | r + 1, h, x => by
    iintro ⟨H, HK⟩
    unfold loop
    iapply chunk_run c M nb p _ h x E (fun h' => loop M nb p r h' K) Q
    isplitl [H]; · iexact H
    iintro H
    iapply loop_run nb p K Q r _ _
    isplitl [H]; · iexact H
    iexact HK

theorem block_run (nb : Fin 2) (x : Vals F) (K : P F) (Q : PUnit → sProp 𝕄) :
    iprop(St c M x ∗ (St c M (blockF nb x) -∗ wp frame (wpE (defs₀ (F := F)) Variants.none c none) E K Q))
      ⊢ wp frame (wpE (defs₀ (F := F)) Variants.none c none) E (block M nb K) Q := by
  iintro ⟨H, HK⟩
  unfold block
  iapply blockStart_run c M nb x E (fun p => loop M nb p 16 (k0_pay15 (F := F)) K) Q
  isplitl [H]; · iexact H
  iintro H
  iapply loop_run c M E nb (parOf nb x) K Q 16 (k0_pay15 (F := F)) x
  isplitl [H]; · iexact H
  iexact HK

/-- The body, from the contents `x`, ends with the contents `runF x`. -/
theorem body_run (i : grid0.Coords) (x : Vals F) (K : PUnit → sProp 𝕄) :
    iprop(St c M x ∗ (St c M (runF x) -∗ K ⟨⟩)) ⊢ wp frame (wpE (defs₀ (F := F)) Variants.none c none) E (printed i M) K := by
  rw [printed_eq]
  iintro ⟨H, HK⟩
  unfold body
  iapply start_run c M x E _ K
  isplitl [H]; · iexact H
  iintro H
  iapply block_run c M E 0 (stepS x) _ K
  isplitl [H]; · iexact H
  iintro H
  iapply block_run c M E 1 (blockF 0 (stepS x)) _ K
  isplitl [H]; · iexact H
  iintro H
  sl_step
  iapply HK
  iexact H

end Run

/-! ## The contents, window by window -/

theorem blkW_put_same {α : Type} (x : S1x2048x256.Idx → α) (nb : Fin 2) (n : Fin 16) (w : S1x128x128.Idx → α) : blkW (blkP x nb n w) nb n = w := VecWindow.window_put_same _ _ _ _ _
theorem blkW_put_ne {α : Type} (x : S1x2048x256.Idx → α) (nb nb' : Fin 2) (n n' : Fin 16) (w : S1x128x128.Idx → α) (h : n.val ≠ n'.val ∨ nb.val ≠ nb'.val) :
    blkW (blkP x nb n w) nb' n' = blkW x nb' n' := by
  rcases h with h | h
  · exact VecWindow.window_put_of_disjoint _ _ _ _ _ _ _ 1 (by show 128 * n'.val + 128 ≤ 128 * n.val ∨ 128 * n.val + 128 ≤ 128 * n'.val; omega)
  · exact VecWindow.window_put_of_disjoint _ _ _ _ _ _ _ 2 (by show 128 * nb'.val + 128 ≤ 128 * nb.val ∨ 128 * nb.val + 128 ≤ 128 * nb'.val; omega)

/-- The buffers that the blocks of lanes leave alone agree. -/
structure SameIn (x y : Vals F) : Prop where
  u : y.u = x.u
  z : y.z = x.z
  wsrc : y.wsrc = x.wsrc
  wdst : y.wdst = x.wdst
  lam : y.lam = x.lam
  cw : y.cw = x.cw
  cb : y.cb = x.cb
  br : y.br = x.br
  bi : y.bi = x.bi
  gn : y.gn = x.gn
  wg : y.wg = x.wg

theorem SameIn.trans {x y z : Vals F} (h : SameIn x y) (h' : SameIn y z) : SameIn x z :=
  ⟨h'.u.trans h.u, h'.z.trans h.z, h'.wsrc.trans h.wsrc, h'.wdst.trans h.wdst, h'.lam.trans h.lam, h'.cw.trans h.cw, h'.cb.trans h.cb, h'.br.trans h.br, h'.bi.trans h.bi, h'.gn.trans h.gn, h'.wg.trans h.wg⟩
theorem SameIn.rfl {x : Vals F} : SameIn x x := ⟨.refl _, .refl _, .refl _, .refl _, .refl _, .refl _, .refl _, .refl _, .refl _, .refl _, .refl _⟩
theorem keepC (nb : Fin 2) (p : Par F) (n : Fin 16) (h : FVec F S1x128 .f32) (x : Vals F) : SameIn x (stepC nb p n h x) :=
  ⟨.refl _, .refl _, .refl _, .refl _, .refl _, .refl _, .refl _, .refl _, .refl _, .refl _, .refl _⟩

/-- All rows of a block of lanes, behind eight rows of zeros. -/
def T (nb : Fin 2) (u : Vec F S1x2048x256 .bf16) : Vec F S2056x128 .f32 := fun y =>
  if h : (y 0).val < 8 then k0_pay7 (F := F) (ix2 ⟨(y 0).val, h⟩ (y 1) : S8x128.Idx)
  else k0_pay17 (F := F) (blkW u nb ⟨((y 0).val - 8) / 128, by have : (y 0).val < 2056 := (y 0).isLt; omega⟩)
    (ix2 ⟨((y 0).val - 8) % 128, Nat.mod_lt _ (by norm_num)⟩ (y 1) : S128x128.Idx)

/-- The first rows of the buffer stand as they should. -/
def Good (nb : Fin 2) (k : ℕ) (x : Vals F) : Prop := ∀ y : S2056x128.Idx, (y 0).val < 8 + 128 * k → x.uf y = T nb x.u y

theorem good_start (nb : Fin 2) (x : Vals F) : Good nb 0 (stepS x) := fun y hy => by
  have h8 : (y 0).val < 8 := by omega
  show VecWindow.put x.uf ![0, 0] S8x128.size (k0_pay7 (F := F)) y = _
  unfold VecWindow.put T
  rw [dif_pos h8, dif_pos (show ∀ a, (![0, 0] : Fin 2 → ℕ) a ≤ (y a).val ∧ (y a).val < (![0, 0] : Fin 2 → ℕ) a + S8x128.size a from fun a => by
    match a with
    | 0 => exact ⟨Nat.zero_le _, by show (y 0).val < 0 + 8; omega⟩
    | 1 => exact ⟨Nat.zero_le _, by show (y 1).val < 0 + 128; have : (y 1).val < 128 := (y 1).isLt; omega⟩)]
  refine congrArg (k0_pay7 (F := F)) (funext fun a => Fin.ext ?_)
  match a with
  | 0 => exact Nat.sub_zero _
  | 1 => exact Nat.sub_zero _

theorem good_put (nb : Fin 2) (n : Fin 16) (x : Vals F) (h : Good nb n.val x) : Good nb (n.val + 1) (stepU nb n x) := fun y hy => by
  show VecWindow.put x.uf (ufOff 0 n) S128x128.size (k0_pay17 (F := F) (blkW x.u nb n)) y = T nb x.u y
  by_cases hlo : (y 0).val < 8 + 128 * n.val
  · rw [← h y hlo]
    unfold VecWindow.put
    exact dif_neg fun hh => by
      have h0 : 8 + 128 * n.val - 0 ≤ (y 0).val := (hh 0).1
      omega
  · have hin : ∀ a, ufOff 0 n a ≤ (y a).val ∧ (y a).val < ufOff 0 n a + S128x128.size a := fun a => by
      match a with
      | 0 => exact ⟨by show 8 + 128 * n.val - 0 ≤ (y 0).val; omega, by show (y 0).val < 8 + 128 * n.val - 0 + 128; omega⟩
      | 1 => exact ⟨Nat.zero_le _, by show (y 1).val < 0 + 128; have : (y 1).val < 128 := (y 1).isLt; omega⟩
    unfold VecWindow.put T
    rw [dif_pos hin, dif_neg (by omega)]
    refine congrArg₂ (fun (k : Fin 16) (j : S128x128.Idx) => k0_pay17 (F := F) (blkW x.u nb k) j) (Fin.ext ?_) (funext fun a => Fin.ext ?_)
    · show n.val = ((y 0).val - 8) / 128; omega
    · match a with
      | 0 => show (y 0).val - (8 + 128 * n.val - 0) = ((y 0).val - 8) % 128; omega
      | 1 => exact Nat.sub_zero _

/-- The rows that start at most three rows before a chunk, once its own are put. -/
theorem good_read (nb : Fin 2) (n : Fin 16) (x : Vals F) (h : Good nb (n.val + 1) x) (d : Fin 4) : ufW x.uf d n = ufW (T nb x.u) d n :=
  funext fun y => h _ (by
    show 8 + 128 * n.val - d.val + 1 * (y 0).val < 8 + 128 * (n.val + 1)
    have : (y 0).val < 128 := (y 0).isLt
    omega)

/-- The rows chunk `n` reads. -/
def rT (nb : Fin 2) (u : Vec F S1x2048x256 .bf16) (n : Fin 16) : Rows F := ⟨blkW u nb n, ufW (T nb u) 1 n, ufW (T nb u) 2 n, ufW (T nb u) 3 n⟩

theorem rows_good (nb : Fin 2) (n : Fin 16) (x : Vals F) (h : Good nb n.val x) : rowsAt nb n (stepU nb n x) = rT nb x.u n := by
  have g := good_put nb n x h
  unfold rT
  show Rows.mk _ _ _ _ = _
  rw [good_read nb n _ g 1, good_read nb n _ g 2, good_read nb n _ g 3]
  rfl

/-- The row before chunk `n`. -/
def carS (nb : Fin 2) (p : Par F) (u : Vec F S1x2048x256 .bf16) : ℕ → FVec F S1x128 .f32
  | 0 => k0_pay15 (F := F)
  | n + 1 => carryOf p (rT nb u ⟨n % 16, Nat.mod_lt _ (by norm_num)⟩) (carS nb p u n)

/-- The result of chunk `n` of a block of lanes, from the step's inputs. -/
def oVal (nb : Fin 2) (p : Par F) (x : Vals F) (n : Fin 16) : Vec F S1x128x128 .bf16 := oOf (F := F) p (rT nb x.u n) (carS nb p x.u n.val) (blkW x.z nb n)

theorem stepsC_spec (nb : Fin 2) (p : Par F) : ∀ (r : ℕ), r ≤ 16 → ∀ (x : Vals F), Good nb (16 - r) x →
    ∀ y, y = stepsC nb p r (carS nb p x.u (16 - r)) x →
    SameIn x y ∧ Good nb 16 y
    ∧ (∀ n : Fin 16, blkW y.o nb n = if 16 - r ≤ n.val then oVal nb p x n else blkW x.o nb n)
    ∧ ∀ (nb' : Fin 2) (n : Fin 16), nb ≠ nb' → blkW y.o nb' n = blkW x.o nb' n
  | 0, _, x, g, y, e => by
    subst e
    exact ⟨.rfl, g, fun n => (if_neg (by have := n.isLt; omega)).symm, fun _ _ _ => .refl _⟩
  | r + 1, hr, x, g, y, e => by
    have hk : 16 - (r + 1) = 15 - r := by omega
    have hk' : 16 - r = (15 - r) + 1 := by omega
    rw [hk] at g e
    have g' : Good nb (⟨15 - r, by omega⟩ : Fin 16).val x := g
    have hrow := rows_good nb ⟨15 - r, by omega⟩ x g'
    have hcar : carryN nb p ⟨15 - r, by omega⟩ (carS nb p x.u (15 - r)) x = carS nb p x.u (16 - r) := by
      rw [hk']
      show carryOf p _ _ = carryOf p _ _
      rw [hrow]
      exact congrArg (fun k => carryOf p (rT nb x.u k) (carS nb p x.u (15 - r))) (Fin.ext (Nat.mod_eq_of_lt (by omega)).symm)
    have gU : Good nb (16 - r) (stepC nb p ⟨15 - r, by omega⟩ (carS nb p x.u (15 - r)) x) := by
      rw [hk']; exact good_put nb ⟨15 - r, by omega⟩ x g'
    obtain ⟨h0, h1, h2, h3⟩ := stepsC_spec nb p r (by omega) (stepC nb p ⟨15 - r, by omega⟩ (carS nb p x.u (15 - r)) x) gU y (by
      rw [e]
      show stepsC nb p r _ _ = stepsC nb p r _ _
      congr 1)
    refine ⟨(keepC _ _ _ _ _).trans h0, h1, fun n => (h2 n).trans ?_, fun nb' n hne => (h3 nb' n hne).trans (blkW_put_ne _ _ _ _ _ _ (.inr fun e => hne (Fin.ext e)))⟩
    by_cases hn : n = ⟨15 - r, by omega⟩
    · subst hn
      rw [if_neg (by show ¬ 16 - r ≤ 15 - r; omega), if_pos (by show 16 - (r + 1) ≤ 15 - r; omega)]
      refine (blkW_put_same _ _ _ _).trans ?_
      unfold oVal
      rw [hrow]
      rfl
    · have hv : n.val ≠ 15 - r := fun e => hn (Fin.ext e)
      by_cases hle : 16 - r ≤ n.val
      · rw [if_pos hle, if_pos (by omega)]; rfl
      · rw [if_neg hle, if_neg (by omega)]; exact blkW_put_ne _ _ _ _ _ _ (.inl (Ne.symm hv))

theorem blockF_spec (nb : Fin 2) (x : Vals F) (g : Good nb 0 x) :
    SameIn x (blockF nb x) ∧ Good nb 16 (blockF nb x) ∧ (∀ n, blkW (blockF nb x).o nb n = oVal nb (parOf nb x) x n)
    ∧ ∀ (nb' : Fin 2) (n : Fin 16), nb ≠ nb' → blkW (blockF nb x).o nb' n = blkW x.o nb' n := by
  obtain ⟨h0, h1, h2, h3⟩ := stepsC_spec nb (parOf nb x) 16 le_rfl x g _ rfl
  exact ⟨h0, h1, fun n => (h2 n).trans (if_pos (by omega)), h3⟩

/-- The zeros before the first row serve both blocks of lanes. -/
theorem good_next (nb nb' : Fin 2) (x : Vals F) (g : Good nb 16 x) : Good nb' 0 x := fun y hy => by
  have h8 : (y 0).val < 8 := by omega
  rw [g y (by omega)]
  unfold T
  rw [dif_pos h8, dif_pos h8]

/-- What the body leaves: the inputs, the cast of the weights, and the chunks' results. -/
theorem runF_spec (x : Vals F) : SameIn (stepS x) (runF x) ∧ ∀ (nb : Fin 2) (n : Fin 16), blkW (runF x).o nb n = oVal nb (parOf nb x) x n := by
  unfold runF
  obtain ⟨s0, g0, o0, k0⟩ := blockF_spec 0 (stepS x) (good_start 0 x)
  obtain ⟨s1, g1, o1, k1⟩ := blockF_spec 1 (blockF 0 (stepS x)) (good_next 0 1 _ g0)
  refine ⟨s0.trans s1, fun nb n => ?_⟩
  match nb with
  | 0 => rw [k1 0 n (by decide), o0]; rfl
  | 1 =>
    rw [o1]
    unfold oVal parOf
    rw [s0.u, s0.z, s0.lam, s0.cw, s0.cb, s0.br, s0.bi, s0.gn, s0.wg]
    rfl

/-- The block of results of a grid step. -/
def oBlk (x : Vals F) : Vec F S1x2048x256 .bf16 := fun y =>
  oVal ⟨(y 2).val / 128, by have : (y 2).val < 256 := (y 2).isLt; omega⟩ (parOf ⟨(y 2).val / 128, by have : (y 2).val < 256 := (y 2).isLt; omega⟩ x) x
    ⟨(y 1).val / 128, by have : (y 1).val < 2048 := (y 1).isLt; omega⟩
    (ix3 ⟨0, Nat.one_pos⟩ ⟨(y 1).val % 128, Nat.mod_lt _ (by norm_num)⟩ ⟨(y 2).val % 128, Nat.mod_lt _ (by norm_num)⟩ : S1x128x128.Idx)

theorem runF_o (x : Vals F) : (runF x).o = oBlk x := by
  funext y
  unfold oBlk
  rw [← (runF_spec x).2]
  refine congrArg (runF x).o (funext fun a => Fin.ext ?_)
  match a with
  | 0 => show (y 0).val = 0 + 1 * 0; have : (y 0).val < 1 := (y 0).isLt; omega
  | 1 => show (y 1).val = 128 * ((y 1).val / 128) + 1 * ((y 1).val % 128); omega
  | 2 => show (y 2).val = 128 * ((y 2).val / 128) + 1 * ((y 2).val % 128); omega

end Cert.KernelRglruIdeal.Lru

end
-- ==== Proof.Lru.Run.lean ====
/- The pipeline's data at each grid step, the run of the program with what it leaves in the result arrays, and the frame. -/
module

public import proofs.«01_k».proof.Proof.Lru.Body
public import proofs.«01_k».proof.Proof.Gen.KernelRglruIdeal.Frame.Runs
public import Idealize.ShloMosaic.Lib.Claim

@[expose] public section

set_option maxRecDepth 16384

noncomputable section

namespace Cert.KernelRglruIdeal.Lru

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelRglruIdeal Cert.KernelRglruIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers of grid step `t`. -/
def memsAt (t : Fin cfg0.N) : Mems where
  u := ms0_0 t
  hu := hs0_0 t
  z := ms0_1 t
  hz := hs0_1 t
  cw := ms0_2 t
  hcw := hs0_2 t
  cb := ms0_3 t
  hcb := hs0_3 t
  wg := ms0_4 t
  hwg := hs0_4 t
  br := ms0_5 t
  hbr := hs0_5 t
  bi := ms0_6 t
  hbi := hs0_6 t
  lam := ms0_7 t
  hlam := hs0_7 t
  gn := ms0_8 t
  hgn := hs0_8 t
  wsrc := ms0_9 t
  hwsrc := hs0_9 t
  o := ms0_10 t
  ho := hs0_10 t
  wdst := ms0_11 t
  hwdst := hs0_11 t
  uf := scM0_0
  huf := Memref.isWhole_whole _

/-- The blocks of grid step `t` put into the input buffers. -/
def withIn (c : Dev nD) (t : Fin cfg0.N) (x : Vals F) : Vals F :=
  { x with
    u := iblk m c 0 t,
    z := iblk m c 1 t,
    cw := iblk m c 2 t,
    cb := iblk m c 3 t,
    wg := iblk m c 4 t,
    br := iblk m c 5 t,
    bi := iblk m c 6 t,
    lam := iblk m c 7 t,
    gn := iblk m c 8 t,
    wsrc := iblk m c 9 t }

/-- Some contents of the buffers. -/
def someVals (c : Dev nD) (t : Fin cfg0.N) : Vals F where
  u := iblk m c 0 t
  z := iblk m c 1 t
  cw := iblk m c 2 t
  cb := iblk m c 3 t
  wg := iblk m c 4 t
  br := iblk m c 5 t
  bi := iblk m c 6 t
  lam := iblk m c 7 t
  gn := iblk m c 8 t
  wsrc := iblk m c 9 t
  o := iblk m c 0 t
  wdst := k0_pay2 (F := F) (iblk m c 9 t)
  uf := fun _ => k0_pay7 (F := F) (ix2 0 0 : S8x128.Idx)

/-- The contents of the input buffers at grid step `t`. -/
abbrev inVals (c : Dev nD) (t : Fin cfg0.N) : Vals F := withIn m c t (someVals m c t)

/-- The pipeline's data: each input block unchanged, and the two output blocks as the body leaves them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => oBlk (inVals m c t)
    | ⟨11, _⟩ => k0_pay2 (F := F) (iblk m c 9 t)
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = oBlk (inVals m c t) := by dsimp only [dats]
theorem after_11 (c : Dev nD) (t : Fin cfg0.N) : (dats m 0 c).after 11 t = k0_pay2 (F := F) (iblk m c 9 t) := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d
theorem before_8 (c : Dev nD) (t : Fin cfg0.N) (d) : (dats m 0 c).before 8 t d = iblk m c 8 t := before0_8_of m (dats m 0 c) (A_eq m c 8) (after_8 m c) t d
theorem before_9 (c : Dev nD) (t : Fin cfg0.N) (d) : (dats m 0 c).before 9 t d = iblk m c 9 t := before0_9_of m (dats m 0 c) (A_eq m c 9) (after_9 m c) t d

/-- What the body of grid step `t` finds. -/
def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)))
/-- What it leaves. -/
def bodyPost (c : Dev nD) (t : Fin cfg0.N) : sProp 𝕄 :=
  iprop((dats m 0 c).Φ t.succ ∗ (dats m 0 c).owesAt () t.succ ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t) ∗ owns (c : Thread nD τ) (ms0_8 t) fullShare ((dats m 0 c).after 8 t) ∗ owns (c : Thread nD τ) (ms0_9 t) fullShare ((dats m 0 c).after 9 t) ∗ owns (c : Thread nD τ) (ms0_10 t) fullShare ((dats m 0 c).after 10 t) ∗ owns (c : Thread nD τ) (ms0_11 t) fullShare ((dats m 0 c).after 11 t))

theorem bodyAt_eq (t : Fin cfg0.N) : (bodyAt0 t : Prog (TpuEff nD τ sig (Elt F) Λ₀ .tc) PUnit) = printed (grid0.coords t) (memsAt t) := rfl

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  rw [bodyAt_eq]
  unfold bodyPre bodyPost
  simp only [before_0, before_1, before_2, before_3, before_4, before_5, before_6, before_7, before_8, before_9]
  rw [show (dats m 0 c).Φ t.succ = (dats m 0 c).Φ t.castSucc from rfl, show (dats m 0 c).owesAt () t.succ = (dats m 0 c).owesAt () t.castSucc from rfl,
    after_0, after_1, after_2, after_3, after_4, after_5, after_6, after_7, after_8, after_9, after_10, after_11]
  rw [show (dats m 0 c).Φ t.castSucc = Pipeline.ΦA spec0 c from rfl, PhiA0_eq]
  iintro ⟨⟨⟨%s0, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply body_run c (memsAt t) Set.univ (grid0.coords t) { u := iblk m c 0 t, z := iblk m c 1 t, cw := iblk m c 2 t, cb := iblk m c 3 t, wg := iblk m c 4 t, br := iblk m c 5 t, bi := iblk m c 6 t, lam := iblk m c 7 t, gn := iblk m c 8 t, wsrc := iblk m c 9 t, o := (dats m 0 c).before 10 t d10, wdst := (dats m 0 c).before 11 t d11, uf := s0 } _
  isplitl [H0 H1 H10 HS H9 H11 H7 H2 H3 H5 H6 H8 H4]
  · unfold St
    isplitl [H0]; · iexact H0
    isplitl [H1]; · iexact H1
    isplitl [H10]; · iexact H10
    isplitl [HS]; · iexact HS
    isplitl [H9]; · iexact H9
    isplitl [H11]; · iexact H11
    isplitl [H7]; · iexact H7
    isplitl [H2]; · iexact H2
    isplitl [H3]; · iexact H3
    isplitl [H5]; · iexact H5
    isplitl [H6]; · iexact H6
    isplitl [H8]; · iexact H8
    iexact H4
  iintro HP
  generalize hx : ({ u := iblk m c 0 t, z := iblk m c 1 t, cw := iblk m c 2 t, cb := iblk m c 3 t, wg := iblk m c 4 t, br := iblk m c 5 t, bi := iblk m c 6 t, lam := iblk m c 7 t, gn := iblk m c 8 t, wsrc := iblk m c 9 t, o := (dats m 0 c).before 10 t d10, wdst := (dats m 0 c).before 11 t d11, uf := s0 } : Vals F) = x
  have hs := (runF_spec x).1
  have ho := runF_o x
  have hin : oBlk x = oBlk (inVals m c t) := by rw [← hx]; rfl
  have e_u : (runF x).u = iblk m c 0 t := by rw [hs.u, ← hx]; rfl
  have e_z : (runF x).z = iblk m c 1 t := by rw [hs.z, ← hx]; rfl
  have e_cw : (runF x).cw = iblk m c 2 t := by rw [hs.cw, ← hx]; rfl
  have e_cb : (runF x).cb = iblk m c 3 t := by rw [hs.cb, ← hx]; rfl
  have e_wg : (runF x).wg = iblk m c 4 t := by rw [hs.wg, ← hx]; rfl
  have e_br : (runF x).br = iblk m c 5 t := by rw [hs.br, ← hx]; rfl
  have e_bi : (runF x).bi = iblk m c 6 t := by rw [hs.bi, ← hx]; rfl
  have e_lam : (runF x).lam = iblk m c 7 t := by rw [hs.lam, ← hx]; rfl
  have e_gn : (runF x).gn = iblk m c 8 t := by rw [hs.gn, ← hx]; rfl
  have e_wsrc : (runF x).wsrc = iblk m c 9 t := by rw [hs.wsrc, ← hx]; rfl
  have e_wdst : (runF x).wdst = k0_pay2 (F := F) (iblk m c 9 t) := by rw [hs.wdst, ← hx]; rfl
  unfold St
  rw [e_u, e_z, e_cw, e_cb, e_wg, e_br, e_bi, e_lam, e_gn, e_wsrc, e_wdst, ho, hin]
  icases HP with ⟨H0, H1, H10, HS, H9, H11, H7, H2, H3, H5, H6, H8, H4⟩
  isplitl [Hg HS]
  · isplitl [HS]
    · iexists _; iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The program ends in every fair execution, its arrays as the pipeline's data says and every counter zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the program ends, its arguments unchanged and every counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_main_quiescent m ρ))

end Cert.KernelRglruIdeal.Lru

end
-- ==== Proof.Lru.Spec.lean ====
/- The recurrent unit of one block of lanes over the extended reals, in the kernel's arithmetic and in the reference's. -/
module

public import Idealize.ShloMosaic.Lib.Pointwise
public import Idealize.ShloMosaic.Lib.IdealHost

@[expose] public section

noncomputable section

namespace Cert.Lru

open Idealize.ShloMosaic

/-- A row of lanes. -/
abbrev Row := Fin 128 → EReal

/-- What one block of lanes reads: the inputs and the gates' inputs at every position, the convolution's weights and bias, the two gates' weights
    and biases, the recurrence's parameter, the norm's weights. -/
@[ext] structure Head where
  u : Fin 2048 → Row
  z : Fin 2048 → Row
  w : Fin 4 → Row
  cb : Row
  wr : Fin 128 → Row
  br : Row
  wi : Fin 128 → Row
  bi : Row
  lam : Row
  gn : Row

variable (H : Head)

/-- The input `d` positions before, zero before the first. -/
def bk (d s : ℕ) : Row := fun j => if d ≤ s then H.u ⟨(s - d) % 2048, Nat.mod_lt _ (by norm_num)⟩ j else 0

/-- The convolution, from the earliest input on and from the latest on. -/
def convR (s : ℕ) : Row := fun j => H.cb j + bk H 3 s j * H.w 0 j + bk H 2 s j * H.w 1 j + bk H 1 s j * H.w 2 j + bk H 0 s j * H.w 3 j
def convK (s : ℕ) : Row := fun j => H.cb j + H.w 3 j * bk H 0 s j + H.w 2 j * bk H 1 s j + H.w 1 j * bk H 2 s j + H.w 0 j * bk H 3 s j

/-- A gate. -/
def gateR (W : Fin 128 → Row) (b : Row) (y : Row) : Row := fun j => Ideal.div 1 (1 + Ideal.exp (-(∑ x, W x j * y x + b j)))
def gateK (c : EReal) (W : Fin 128 → Row) (b : Row) (y : Row) : Row := fun j => Ideal.div 1 (1 + Ideal.exp2 (∑ x, y x * (c * W x j) + c * b j))

/-- The logarithm of one and an exponential. -/
def sp (x : EReal) : EReal := max x 0 + Ideal.log1p (Ideal.exp (-FloatOps.absf (F := Ideal) (φ := .f32) x))

/-- The multipliers of the recurrence. -/
def logR (s : ℕ) : Row := fun j => Ideal.ofBits .f32 0xC1000000#32 * gateR H.wr H.br (convR H s) j * sp (-H.lam j)
def mulR (s : ℕ) : Row := fun j => Ideal.exp (logR H s j)
def mulK (c c8 : EReal) (s : ℕ) : Row := fun j => Ideal.exp2 (c8 * sp (-H.lam j) * gateK c H.wr H.br (convK H s) j)

/-- The root of one less the square of a multiplier. -/
def rootR (l : EReal) : EReal := Ideal.sqrt (-(Ideal.exp (Ideal.ofBits .f32 0x40000000#32 * l) - 1))
def rootK (a : EReal) : EReal := if 0 < 1 - a * a then (1 - a * a) * Ideal.rsqrt (1 - a * a) else 0

/-- The summands of the recurrence. -/
def addR (s : ℕ) : Row := fun j => rootR (logR H s j) * (gateR H.wi H.bi (convR H s) j * convR H s j)
def addK (c c8 : EReal) (s : ℕ) : Row := fun j => rootK (mulK H c c8 s j) * (gateK c H.wi H.bi (convK H s) j * convK H s j)

/-- The states: zero before the first position. -/
def stOf (a b : ℕ → EReal) : ℕ → EReal
  | 0 => 0
  | s + 1 => a s * stOf a b s + b s

/-- The gate of the result. -/
def geluR (z : EReal) : EReal :=
  z * (Ideal.ofBits .f32 0x3F000000#32 * (1 + Ideal.tanh (Ideal.ofBits .f32 0x3F4C422A#32 * (z + Ideal.ofBits .f32 0x3D372713#32 * (z * z * z)))))
def geluK (g z : EReal) : EReal := Ideal.ofBits .f32 0x3F000000#32 * z * (1 + Ideal.tanh (z * (Ideal.ofBits .f32 0x3F4C422A#32 + g * (z * z))))

/-- A row over the root of the mean of its squares. -/
def rms (h : Row) : Row := fun j => h j * Ideal.rsqrt (Ideal.div (∑ e, h e * h e) (Ideal.ofBits .f32 0x43000000#32) + Ideal.ofBits .f32 0x358637BD#32)

/-- The result. -/
def outR (s : Fin 2048) : Row := fun j => rms (fun e => stOf (fun t => mulR H t e) (fun t => addR H t e) (s.val + 1)) j * H.gn j * geluR (H.z s j)
def outK (c c8 g : EReal) (s : Fin 2048) : Row := fun j =>
  rms (fun e => stOf (fun t => mulK H c c8 t e) (fun t => addK H c c8 t e) (s.val + 1)) j * H.gn j * geluK g (H.z s j)

/-- What a block of lanes reads of the arguments. -/
def headOf (A : (⟨3, ![16, 2048, 6144]⟩ : Shape).Idx → EReal) (cw : (⟨3, ![1, 4, 1024]⟩ : Shape).Idx → EReal) (cb : (⟨2, ![1, 1024]⟩ : Shape).Idx → EReal)
    (wr : (⟨4, ![1, 8, 128, 128]⟩ : Shape).Idx → EReal) (br : (⟨2, ![1, 1024]⟩ : Shape).Idx → EReal) (wi : (⟨4, ![1, 8, 128, 128]⟩ : Shape).Idx → EReal)
    (bi lam gn : (⟨2, ![1, 1024]⟩ : Shape).Idx → EReal) (b : Fin 16) (h : Fin 8) : Head where
  u := fun s d => A (ix3 b s ⟨4096 + (h.val * 128 + d.val), by omega⟩)
  z := fun s d => A (ix3 b s ⟨5120 + (h.val * 128 + d.val), by omega⟩)
  w := fun k d => cw (ix3 0 k ⟨h.val * 128 + d.val, by omega⟩)
  cb := fun d => cb (ix2 0 ⟨h.val * 128 + d.val, by omega⟩)
  wr := fun x d => wr (ix4 0 h x d)
  br := fun d => br (ix2 0 ⟨h.val * 128 + d.val, by omega⟩)
  wi := fun x d => wi (ix4 0 h x d)
  bi := fun d => bi (ix2 0 ⟨h.val * 128 + d.val, by omega⟩)
  lam := fun d => lam (ix2 0 ⟨h.val * 128 + d.val, by omega⟩)
  gn := fun d => gn (ix2 0 ⟨h.val * 128 + d.val, by omega⟩)

end Cert.Lru

end
-- ==== Proof.Lru.Scan.lean ====
/- A linear recurrence over eight positions by three doublings, and one position after the other. -/
module

public import proofs.«01_k».proof.Proof.Lru.Spec

@[expose] public section

noncomputable section

namespace Cert.Lru

section Up

variable {α : Type} [Mul α] [Add α]

/-- A doubling: each position that has one `sh` before it in its eight takes that one in. -/
def upM (sh : ℕ) (f : ℕ → α) : ℕ → α := fun r => if sh ≤ r % 8 then f r * f (r - sh) else f r
def upA (sh : ℕ) (f g : ℕ → α) : ℕ → α := fun r => if sh ≤ r % 8 then f r * g (r - sh) + g r else g r
/-- The three doublings. -/
def scanM (f : ℕ → α) : ℕ → α := upM 4 (upM 2 (upM 1 f))
def scanA (f g : ℕ → α) : ℕ → α := upA 4 (upM 2 (upM 1 f)) (upA 2 (upM 1 f) (upA 1 f g))

end Up

/-- One position after the other, from `c`. -/
def seqOf (f g : ℕ → ℝ) (c : ℝ) : ℕ → ℝ
  | 0 => c
  | s + 1 => f s * seqOf f g c s + g s

variable (f g : ℕ → ℝ) (c : ℝ)

theorem scan_eq (r : ℕ) (hr : r < 8) : scanM f r * c + scanA f g r = seqOf f g c (r + 1) := by
  interval_cases r <;> simp [scanM, scanA, upM, upA, seqOf] <;> ring

theorem upM_coe (sh : ℕ) : upM sh (fun r => (f r : EReal)) = fun r => ((upM sh f r : ℝ) : EReal) := by
  funext r; unfold upM; split
  · exact (EReal.coe_mul _ _).symm
  · rfl
theorem upA_coe (sh : ℕ) : upA sh (fun r => (f r : EReal)) (fun r => (g r : EReal)) = fun r => ((upA sh f g r : ℝ) : EReal) := by
  funext r; unfold upA; split
  · rw [EReal.coe_add, EReal.coe_mul]
  · rfl
theorem scanM_coe : scanM (fun r => (f r : EReal)) = fun r => ((scanM f r : ℝ) : EReal) := by
  unfold scanM; rw [upM_coe, upM_coe, upM_coe]
theorem scanA_coe : scanA (fun r => (f r : EReal)) (fun r => (g r : EReal)) = fun r => ((scanA f g r : ℝ) : EReal) := by
  unfold scanA; rw [upM_coe, upM_coe, upA_coe, upA_coe, upA_coe]

/-- The states of a recurrence of real numbers. -/
theorem stOf_coe : ∀ s, stOf (fun t => (f t : EReal)) (fun t => (g t : EReal)) s = ((seqOf f g 0 s : ℝ) : EReal)
  | 0 => rfl
  | s + 1 => by
    show (f s : EReal) * stOf _ _ s + g s = ((f s * seqOf f g 0 s + g s : ℝ) : EReal)
    rw [stOf_coe s, EReal.coe_add, EReal.coe_mul]

/-- A stretch of the recurrence starts where the one before ended. -/
theorem seqOf_add (F G : ℕ → ℝ) (b : ℕ) (hf : ∀ r, r < 8 → f r = F (b + r)) (hg : ∀ r, r < 8 → g r = G (b + r)) :
    ∀ r, r ≤ 8 → seqOf f g (seqOf F G c b) r = seqOf F G c (b + r)
  | 0, _ => rfl
  | r + 1, h => by
    show f r * seqOf f g _ r + g r = F (b + r) * seqOf F G c (b + r) + G (b + r)
    rw [seqOf_add F G b hf hg r (by omega), hf r (by omega), hg r (by omega)]

end Cert.Lru

end
-- ==== Proof.Lru.KerHead.lean ====
/- What the kernel's body computes for a block of lanes is, over the extended reals, the recurrent unit. -/
module

public import proofs.«01_k».proof.Proof.Lru.Body
public import proofs.«01_k».proof.Proof.Lru.Scan
public import Idealize.ShloMosaic.Lib.Pointwise
public import Idealize.ShloMosaic.Lib.Pipeline.ValueKit
public import Idealize.ShloMosaic.Lib.Pipeline.Value

@[expose] public section

set_option maxRecDepth 16384

noncomputable section

namespace Cert.KernelRglruIdeal.Lru

open Idealize.ShloMosaic
open Cert.KernelRglruIdeal Cert.KernelRglruIdeal.Gen
open Cert.Lru

variable (nb : Fin 2) (n : Fin 16) (i j d e : Fin 128)

/-- An array of extended reals at an index. -/
abbrev rd {s : Shape} (f : s.Idx → EReal) (i : s.Idx) : EReal := f i

/-- The factors of the exponents, and of the cube. -/
abbrev expC : EReal := Named.named (F := Ideal) κ "neg_log2_e" (φ := .f32) 0xBFB8AA3B#32
abbrev exp8C : EReal := Named.named (F := Ideal) κ "neg_8_log2_e" (φ := .f32) 0xC138AA3B#32
abbrev cubeC : EReal := Named.named (F := Ideal) κ "gelu_cubic" (φ := .f32) 0x3D122279#32

/-- What a block of lanes reads. -/
def headK (x : Vals Ideal) (nb : Fin 2) : Head where
  u := fun s d => rd (s := S1x2048x256) x.u (ix3 0 s ⟨128 * nb.val + d.val, by omega⟩)
  z := fun s d => rd (s := S1x2048x256) x.z (ix3 0 s ⟨128 * nb.val + d.val, by omega⟩)
  w := fun k d => rd (s := S4x256) x.cw (ix2 k ⟨128 * nb.val + d.val, by omega⟩)
  cb := fun d => rd (s := S1x256) x.cb (ix2 0 ⟨128 * nb.val + d.val, by omega⟩)
  wr := fun c d => rd (s := S2x128x256) x.wg (ix3 nb c ⟨d.val, by omega⟩)
  br := fun d => rd (s := S1x256) x.br (ix2 0 ⟨128 * nb.val + d.val, by omega⟩)
  wi := fun c d => rd (s := S2x128x256) x.wg (ix3 nb c ⟨128 + d.val, by omega⟩)
  bi := fun d => rd (s := S1x256) x.bi (ix2 0 ⟨128 * nb.val + d.val, by omega⟩)
  lam := fun d => rd (s := S1x256) x.lam (ix2 0 ⟨128 * nb.val + d.val, by omega⟩)
  gn := fun d => rd (s := S1x256) x.gn (ix2 0 ⟨128 * nb.val + d.val, by omega⟩)

/-! ## The windows -/

theorem blkW_apply (x : S1x2048x256.Idx → EReal) : rd (s := S1x128x128) (blkW x nb n) (ix3 0 i d) = x (ix3 0 ⟨128 * n.val + i.val, by omega⟩ ⟨128 * nb.val + d.val, by omega⟩) := by
  refine congrArg x (funext fun a => ?_)
  match a with
  | 0 => exact Fin.ext ((ValueKit.rect_emb_unit_val _ _ _ _ _).trans (show 0 + 0 = 0 by omega))
  | 1 => exact Fin.ext ((ValueKit.rect_emb_unit_val _ _ _ _ _).trans (show 128 * n.val + i.val = 128 * n.val + i.val by omega))
  | 2 => exact Fin.ext ((ValueKit.rect_emb_unit_val _ _ _ _ _).trans (show 128 * nb.val + d.val = 128 * nb.val + d.val by omega))
theorem lnW_apply (x : S1x256.Idx → EReal) : rd (s := S1x128) (lnW x nb) (ix2 0 d) = x (ix2 0 ⟨128 * nb.val + d.val, by omega⟩) := by
  refine congrArg x (funext fun a => ?_)
  match a with
  | 0 => exact Fin.ext ((ValueKit.rect_emb_unit_val _ _ _ _ _).trans (show 0 + 0 = 0 by omega))
  | 1 => exact Fin.ext ((ValueKit.rect_emb_unit_val _ _ _ _ _).trans (show 128 * nb.val + d.val = 128 * nb.val + d.val by omega))
theorem cwW_apply (x : S4x256.Idx → EReal) (k : Fin 4) : rd (s := S4x128) (cwW x nb) (ix2 k d) = x (ix2 k ⟨128 * nb.val + d.val, by omega⟩) := by
  refine congrArg x (funext fun a => ?_)
  match a with
  | 0 => exact Fin.ext ((ValueKit.rect_emb_unit_val _ _ _ _ _).trans (show 0 + k.val = k.val by omega))
  | 1 => exact Fin.ext ((ValueKit.rect_emb_unit_val _ _ _ _ _).trans (show 128 * nb.val + d.val = 128 * nb.val + d.val by omega))
theorem wgW_apply (x : S2x128x256.Idx → EReal) (c : Fin 128) (y : Fin 256) : rd (s := S1x128x256) (wgW x nb) (ix3 0 c y) = x (ix3 nb c y) := by
  refine congrArg x (funext fun a => ?_)
  match a with
  | 0 => exact Fin.ext ((ValueKit.rect_emb_unit_val _ _ _ _ _).trans (show nb.val + 0 = nb.val by omega))
  | 1 => exact Fin.ext ((ValueKit.rect_emb_unit_val _ _ _ _ _).trans (show 0 + c.val = c.val by omega))
  | 2 => exact Fin.ext ((ValueKit.rect_emb_unit_val _ _ _ _ _).trans (show 0 + y.val = y.val by omega))
theorem ufW_apply (x : S2056x128.Idx → EReal) (k : Fin 4) : rd (s := S128x128) (ufW x k n) (ix2 i d) = x (ix2 ⟨8 + 128 * n.val - k.val + i.val, by omega⟩ d) := by
  refine congrArg x (funext fun a => ?_)
  match a with
  | 0 => exact Fin.ext ((ValueKit.rect_emb_unit_val _ _ _ _ _).trans (show 8 + 128 * n.val - k.val + i.val = 8 + 128 * n.val - k.val + i.val by omega))
  | 1 => exact Fin.ext ((ValueKit.rect_emb_unit_val _ _ _ _ _).trans (show 0 + d.val = d.val by omega))

/-! ## The pieces of the arithmetic -/

theorem pay7_apply (r : Fin 8) : rd (s := S8x128) (k0_pay7 (F := Ideal)) (ix2 r d) = 0 := by
  pointwise [k0_pay7]
theorem pay17_apply (x : Vec Ideal S1x128x128 .bf16) : rd (s := S128x128) (k0_pay17 x) (ix2 i d) = rd (s := S1x128x128) x (ix3 0 i d) := by
  pointwise [k0_pay17, k0_pay16]
theorem pay15_apply : rd (s := S1x128) (k0_pay15 (F := Ideal)) (ix2 0 d) = 0 := by
  pointwise [k0_pay15]
theorem conv_apply (p : Par Ideal) (r : Rows Ideal) : rd (s := S128x128) (convOf p r) (ix2 i d)
    = rd (s := S1x128) p.cb (ix2 0 d) + rd (s := S4x128) p.cw (ix2 3 d) * rd (s := S1x128x128) r.u0 (ix3 0 i d) + rd (s := S4x128) p.cw (ix2 2 d) * rd (s := S128x128) r.u1 (ix2 i d)
      + rd (s := S4x128) p.cw (ix2 1 d) * rd (s := S128x128) r.u2 (ix2 i d) + rd (s := S4x128) p.cw (ix2 0 d) * rd (s := S128x128) r.u3 (ix2 i d) := by
  unfold convOf
  pointwise [k0_pay20, k0_pay18, k0_pay19, k0_pay9, k0_pay10, k0_pay16]
theorem mul_apply (p : Par Ideal) (r : Rows Ideal) : rd (s := S128x128) (mul0 p r) (ix2 i d)
    = Ideal.exp2 (exp8C * sp (-rd (s := S1x128) p.lam (ix2 0 d)) * gateK expC (fun c d => rd (s := S1x128x256) p.wg (ix3 0 c ⟨d.val, by omega⟩)) (fun d => rd (s := S1x128) p.br (ix2 0 d)) (fun c => rd (s := S128x128) (convOf p r) (ix2 i c)) d) := by
  unfold mul0 convOf
  pointwise [k0_pay22, k0_pay21, k0_pay8, k0_pay11, k0_pay14]
  simp only [zero_sub]
  unfold sp gateK
  rfl
theorem add_apply (p : Par Ideal) (r : Rows Ideal) : rd (s := S128x128) (add0 p r) (ix2 i d)
    = rootK (rd (s := S128x128) (mul0 p r) (ix2 i d))
      * (gateK expC (fun c d => rd (s := S1x128x256) p.wg (ix3 0 c ⟨128 + d.val, by omega⟩)) (fun d => rd (s := S1x128) p.bi (ix2 0 d)) (fun c => rd (s := S128x128) (convOf p r) (ix2 i c)) d
        * rd (s := S128x128) (convOf p r) (ix2 i d)) := by
  unfold add0 mul0 convOf
  pointwise [k0_pay23, k0_pay21, k0_pay12, k0_pay14]
  unfold rootK gateK
  rfl
theorem roll_apply (sh : BitVec 32) (x : FVec Ideal S128x128 .f32) : rd (s := S128x128) (rollOf sh x) (ix2 i d)
    = rd (s := S128x128) x (ix2 ⟨i.val / 8 * 8 + (i.val % 8 + 8 - sh.toNat % 8) % 8, by omega⟩ d) := by
  unfold rollOf
  pointwise
theorem fin_apply (gn : FVec Ideal S1x128 .f32) (h : FVec Ideal S128x128 .f32) (z : Vec Ideal S1x128x128 .bf16) : rd (s := S1x128x128) (finOf gn h z) (ix3 0 i d)
    = rms (fun e => rd (s := S128x128) h (ix2 i e)) d * rd (s := S1x128) gn (ix2 0 d) * geluK cubeC (rd (s := S1x128x128) z (ix3 0 i d)) := by
  unfold finOf
  pointwise
  unfold rms geluK
  rfl

/-! ## The recurrence -/

/-- The masks of the three doublings. -/
theorem mask1 : k0_pay4 (ix2 i d : S128x128.Idx) = if 1 ≤ i.val % 8 then 1#1 else 0#1 := by
  pointwise [k0_pay4, k0_pay3]
  revert i; decide
theorem mask2 : k0_pay5 (ix2 i d : S128x128.Idx) = if 2 ≤ i.val % 8 then 1#1 else 0#1 := by
  pointwise [k0_pay5, k0_pay3]
  revert i; decide
theorem mask4 : k0_pay6 (ix2 i d : S128x128.Idx) = if 4 ≤ i.val % 8 then 1#1 else 0#1 := by
  pointwise [k0_pay6, k0_pay3]
  revert i; decide

theorem mulUp_apply (sh : BitVec 32) (v : IVec S128x128 1) (a : FVec Ideal S128x128 .f32) : rd (s := S128x128) (mulUp sh v a) (ix2 i d)
    = if v (ix2 i d) = 1#1 then rd (s := S128x128) a (ix2 i d) * rd (s := S128x128) (rollOf sh a) (ix2 i d) else rd (s := S128x128) a (ix2 i d) := by
  pointwise [mulUp]
  rfl
theorem addUp_apply (sh : BitVec 32) (v : IVec S128x128 1) (a b : FVec Ideal S128x128 .f32) : rd (s := S128x128) (addUp sh v a b) (ix2 i d)
    = if v (ix2 i d) = 1#1 then rd (s := S128x128) a (ix2 i d) * rd (s := S128x128) (rollOf sh b) (ix2 i d) + rd (s := S128x128) b (ix2 i d) else rd (s := S128x128) b (ix2 i d) := by
  pointwise [addUp]
  rfl

/-- A lane of a tile of eight rows, over and over. -/
def tf (k : Fin 16) (d : Fin 128) (x : FVec Ideal S128x128 .f32) : ℕ → EReal := fun r => rd (s := S128x128) x (ix2 ⟨8 * k.val + r % 8, by omega⟩ d)

section Doubling

variable (k : Fin 16) (sh : ℕ) (hs : sh ≤ 4) (hp : 1 ≤ sh) (v : IVec S128x128 1) (hv : ∀ i d, v (ix2 i d : S128x128.Idx) = if sh ≤ i.val % 8 then 1#1 else 0#1)
include hs hp

theorem tf_roll (x : FVec Ideal S128x128 .f32) (r : ℕ) (h : sh ≤ r % 8) : tf k d (rollOf (BitVec.ofNat 32 sh) x) r = tf k d x (r - sh) := by
  unfold tf
  refine (roll_apply _ _ _ _).trans (congrArg (fun a => x (ix2 a d)) (Fin.ext ?_))
  have e : (BitVec.ofNat 32 sh).toNat = sh := by rw [BitVec.toNat_ofNat]; omega
  show (8 * k.val + r % 8) / 8 * 8 + ((8 * k.val + r % 8) % 8 + 8 - (BitVec.ofNat 32 sh).toNat % 8) % 8 = 8 * k.val + (r - sh) % 8
  rw [e]
  omega

include hv

theorem tf_mulUp (a : FVec Ideal S128x128 .f32) : tf k d (mulUp (BitVec.ofNat 32 sh) v a) = upM sh (tf k d a) := by
  funext r
  unfold upM
  have e : (8 * k.val + r % 8) % 8 = r % 8 := by omega
  refine (mulUp_apply _ _ _ _ _).trans ?_
  rw [hv]
  show (if (if sh ≤ (8 * k.val + r % 8) % 8 then 1#1 else 0#1) = 1#1 then _ else _) = _
  rw [e]
  by_cases h : sh ≤ r % 8
  · rw [if_pos h, if_pos rfl, if_pos h, ← tf_roll d k sh hs hp a r h]; rfl
  · rw [if_neg h, if_neg (by decide), if_neg h]; rfl
theorem tf_addUp (a b : FVec Ideal S128x128 .f32) : tf k d (addUp (BitVec.ofNat 32 sh) v a b) = upA sh (tf k d a) (tf k d b) := by
  funext r
  unfold upA
  have e : (8 * k.val + r % 8) % 8 = r % 8 := by omega
  refine (addUp_apply _ _ _ _ _ _).trans ?_
  rw [hv]
  show (if (if sh ≤ (8 * k.val + r % 8) % 8 then 1#1 else 0#1) = 1#1 then _ else _) = _
  rw [e]
  by_cases h : sh ≤ r % 8
  · rw [if_pos h, if_pos rfl, if_pos h, ← tf_roll d k sh hs hp b r h]; rfl
  · rw [if_neg h, if_neg (by decide), if_neg h]; rfl

end Doubling

theorem tf_mulT (k : Fin 16) (a : FVec Ideal S128x128 .f32) : tf k d (mulT a) = scanM (tf k d a) := by
  unfold mulT scanM
  rw [tf_mulUp d k 4 (by norm_num) (by norm_num) _ mask4, tf_mulUp d k 2 (by norm_num) (by norm_num) _ mask2, tf_mulUp d k 1 (by norm_num) (by norm_num) _ mask1]
theorem tf_addT (k : Fin 16) (a b : FVec Ideal S128x128 .f32) : tf k d (addT a b) = scanA (tf k d a) (tf k d b) := by
  unfold addT scanA
  rw [tf_addUp d k 4 (by norm_num) (by norm_num) _ mask4, tf_addUp d k 2 (by norm_num) (by norm_num) _ mask2, tf_addUp d k 1 (by norm_num) (by norm_num) _ mask1,
    tf_mulUp d k 2 (by norm_num) (by norm_num) _ mask2, tf_mulUp d k 1 (by norm_num) (by norm_num) _ mask1]

theorem tile_apply (k : Fin 16) (x : FVec Ideal S128x128 .f32) (r : Fin 8) : rd (s := S8x128) (tileOf k x) (ix2 r d) = tf k d x r.val := by
  unfold tf tileOf
  pointwise
  refine congrArg (fun a => x (ix2 a d)) (Fin.ext ?_)
  show 8 * k.val + r.val = 8 * k.val + r.val % 8
  omega
theorem next_apply (k : Fin 16) (a b : FVec Ideal S128x128 .f32) (h : FVec Ideal S1x128 .f32) (r : Fin 8) : rd (s := S8x128) (nextOf k a b h) (ix2 r d)
    = tf k d a r.val * rd (s := S1x128) h (ix2 0 d) + tf k d b r.val := by
  rw [← tile_apply, ← tile_apply]
  pointwise [nextOf, prodOf]
theorem last_apply (x : FVec Ideal S8x128 .f32) : rd (s := S1x128) (lastOf x) (ix2 0 d) = rd (s := S8x128) x (ix2 7 d) := by
  pointwise [lastOf]
theorem hs_apply (t : ℕ → FVec Ideal S8x128 .f32) : rd (s := S128x128) (hsOf t) (ix2 i d) = rd (s := S8x128) (t (i.val / 8)) (ix2 ⟨i.val % 8, by omega⟩ d) := by
  unfold hsOf
  refine concatenate_ofFn_apply (t := S128x128) (s₁ := S8x128) 0 (fun n : Fin 16 => t n.val) _ rfl 8 rfl (ix2 i d) ⟨i.val / 8, by omega⟩ rfl (ix2 ⟨i.val % 8, by omega⟩ d) rfl fun b hb => ?_
  match b with
  | 0 => exact absurd rfl hb
  | 1 => rfl

/-- A lane of a chunk, the recurrence's `A` and `B` from `b` on. -/
structure Lane (A B : ℕ → ℝ) (b : ℕ) (d : Fin 128) (a0 b0 : FVec Ideal S128x128 .f32) : Prop where
  mul : ∀ i : Fin 128, rd (s := S128x128) a0 (ix2 i d) = ((A (b + i.val) : ℝ) : EReal)
  add : ∀ i : Fin 128, rd (s := S128x128) b0 (ix2 i d) = ((B (b + i.val) : ℝ) : EReal)

section Tiles

variable {A B : ℕ → ℝ} {b : ℕ} {d} {a0 b0 : FVec Ideal S128x128 .f32} (L : Lane A B b d a0 b0)
include L

theorem next_eq (k : Fin 16) (h : FVec Ideal S1x128 .f32) (hh : rd (s := S1x128) h (ix2 0 d) = ((seqOf A B 0 (b + 8 * k.val) : ℝ) : EReal)) (r : Fin 8) :
    rd (s := S8x128) (nextOf k (mulT a0) (addT a0 b0) h) (ix2 r d) = ((seqOf A B 0 (b + 8 * k.val + (r.val + 1)) : ℝ) : EReal) := by
  rw [next_apply, tf_mulT, tf_addT, hh]
  have ha : tf k d a0 = fun r => ((A (b + (8 * k.val + r % 8)) : ℝ) : EReal) := funext fun r => L.mul ⟨8 * k.val + r % 8, by omega⟩
  have hb : tf k d b0 = fun r => ((B (b + (8 * k.val + r % 8)) : ℝ) : EReal) := funext fun r => L.add ⟨8 * k.val + r % 8, by omega⟩
  rw [ha, hb, scanM_coe, scanA_coe, ← EReal.coe_mul, ← EReal.coe_add, scan_eq _ _ _ _ r.isLt,
    seqOf_add _ _ 0 A B (b + 8 * k.val) (fun r hr => congrArg A (by rw [Nat.mod_eq_of_lt hr]; omega)) (fun r hr => congrArg B (by rw [Nat.mod_eq_of_lt hr]; omega)) _ (by omega)]

theorem tiles_eq (h : FVec Ideal S1x128 .f32) (hh : rd (s := S1x128) h (ix2 0 d) = ((seqOf A B 0 b : ℝ) : EReal)) : ∀ k : ℕ, k < 16 → ∀ r : Fin 8,
    rd (s := S8x128) (tiles (mulT a0) (addT a0 b0) h k) (ix2 r d) = ((seqOf A B 0 (b + 8 * k + (r.val + 1)) : ℝ) : EReal)
  | 0, _, r => next_eq L 0 h hh r
  | k + 1, hk, r => by
    have e : (⟨(k + 1) % 16, Nat.mod_lt _ (by norm_num)⟩ : Fin 16) = ⟨k + 1, hk⟩ := Fin.ext (Nat.mod_eq_of_lt hk)
    show rd (s := S8x128) (nextOf (F := Ideal) ⟨(k + 1) % 16, Nat.mod_lt _ (by norm_num)⟩ (mulT a0) (addT a0 b0) (lastOf (tiles (mulT a0) (addT a0 b0) h k))) _ = _
    rw [e]
    refine next_eq L ⟨k + 1, hk⟩ _ ((last_apply d _).trans ((tiles_eq h hh k (by omega) 7).trans ?_)) r
    show ((seqOf A B 0 (b + 8 * k + 8) : ℝ) : EReal) = ((seqOf A B 0 (b + 8 * (k + 1)) : ℝ) : EReal)
    rw [show b + 8 * k + 8 = b + 8 * (k + 1) by omega]

theorem states_eq (h : FVec Ideal S1x128 .f32) (hh : rd (s := S1x128) h (ix2 0 d) = ((seqOf A B 0 b : ℝ) : EReal)) (i : Fin 128) :
    rd (s := S128x128) (hsOf (tiles (mulT a0) (addT a0 b0) h)) (ix2 i d) = ((seqOf A B 0 (b + i.val + 1) : ℝ) : EReal) := by
  refine (hs_apply i d _).trans ((tiles_eq L h hh _ (by omega) _).trans ?_)
  show ((seqOf A B 0 (b + 8 * (i.val / 8) + (i.val % 8 + 1)) : ℝ) : EReal) = _
  rw [show b + 8 * (i.val / 8) + (i.val % 8 + 1) = b + i.val + 1 by omega]

end Tiles

/-! ## A block of lanes -/

variable (x : Vals Ideal)

theorem T_apply (y : Fin 2056) (s : ℕ) (k : ℕ) (hk : k ≤ 3) (hs : s < 2048) (h : y.val + k = 8 + s) : rd (s := S2056x128) (T nb x.u) (ix2 y d) = bk (headK x nb) k s d := by
  unfold bk T
  show (if h : y.val < 8 then _ else _) = _
  by_cases h8 : y.val < 8
  · rw [dif_pos h8, if_neg (by omega)]
    exact pay7_apply d ⟨y.val, h8⟩
  · rw [dif_neg h8, if_pos (by omega)]
    refine (pay17_apply _ _ _).trans ((blkW_apply nb _ _ d x.u).trans (congrArg (fun a => x.u (ix3 0 a ⟨128 * nb.val + d.val, by omega⟩)) (Fin.ext ?_)))
    show 128 * ((y.val - 8) / 128) + (y.val - 8) % 128 = (s - k) % 2048
    rw [Nat.mod_eq_of_lt (show s - k < 2048 by omega)]
    omega

theorem rows_apply (k : Fin 4) : rd (s := S128x128) (ufW (T nb x.u) k n) (ix2 i d) = bk (headK x nb) k.val (128 * n.val + i.val) d := by
  refine (ufW_apply n i d _ k).trans (T_apply nb d x _ _ _ (by omega) (by omega) ?_)
  show 8 + 128 * n.val - k.val + i.val + k.val = 8 + (128 * n.val + i.val)
  omega
theorem row0_apply : rd (s := S1x128x128) (blkW x.u nb n) (ix3 0 i d) = bk (headK x nb) 0 (128 * n.val + i.val) d := by
  refine (blkW_apply nb n i d x.u).trans ?_
  unfold bk
  rw [if_pos (Nat.zero_le _)]
  refine congrArg (fun a => x.u (ix3 0 a ⟨128 * nb.val + d.val, by omega⟩)) (Fin.ext ?_)
  show 128 * n.val + i.val = (128 * n.val + i.val - 0) % 2048
  omega

theorem head_conv : rd (s := S128x128) (convOf (parOf nb x) (rT nb x.u n)) (ix2 i d) = convK (headK x nb) (128 * n.val + i.val) d := by
  refine (conv_apply i d _ _).trans ?_
  unfold convK
  exact congrArg₂ (· + ·) (congrArg₂ (· + ·) (congrArg₂ (· + ·) (congrArg₂ (· + ·) (lnW_apply nb d x.cb)
    (congrArg₂ (· * ·) (cwW_apply nb d x.cw 3) (row0_apply nb n i d x))) (congrArg₂ (· * ·) (cwW_apply nb d x.cw 2) (rows_apply nb n i d x 1)))
    (congrArg₂ (· * ·) (cwW_apply nb d x.cw 1) (rows_apply nb n i d x 2))) (congrArg₂ (· * ·) (cwW_apply nb d x.cw 0) (rows_apply nb n i d x 3))

theorem head_mul : rd (s := S128x128) (mul0 (parOf nb x) (rT nb x.u n)) (ix2 i d) = mulK (headK x nb) expC exp8C (128 * n.val + i.val) d := by
  refine (mul_apply i d _ _).trans ?_
  unfold mulK
  rw [show (fun c => rd (s := S128x128) (convOf (parOf nb x) (rT nb x.u n)) (ix2 i c)) = convK (headK x nb) (128 * n.val + i.val) from funext fun c => head_conv nb n i c x,
    show (fun c d : Fin 128 => rd (s := S1x128x256) (parOf nb x).wg (ix3 0 c ⟨d.val, by omega⟩)) = (headK x nb).wr from funext fun c => funext fun d => wgW_apply nb x.wg c ⟨d.val, by omega⟩,
    show (fun d : Fin 128 => rd (s := S1x128) (parOf nb x).br (ix2 0 d)) = (headK x nb).br from funext fun d => lnW_apply nb d x.br,
    show rd (s := S1x128) (parOf nb x).lam (ix2 0 d) = (headK x nb).lam d from lnW_apply nb d x.lam]
theorem head_add : rd (s := S128x128) (add0 (parOf nb x) (rT nb x.u n)) (ix2 i d) = addK (headK x nb) expC exp8C (128 * n.val + i.val) d := by
  refine (add_apply i d _ _).trans ?_
  unfold addK
  rw [show (fun c => rd (s := S128x128) (convOf (parOf nb x) (rT nb x.u n)) (ix2 i c)) = convK (headK x nb) (128 * n.val + i.val) from funext fun c => head_conv nb n i c x,
    show (fun c d : Fin 128 => rd (s := S1x128x256) (parOf nb x).wg (ix3 0 c ⟨128 + d.val, by omega⟩)) = (headK x nb).wi from funext fun c => funext fun d => wgW_apply nb x.wg c ⟨128 + d.val, by omega⟩,
    show (fun d : Fin 128 => rd (s := S1x128) (parOf nb x).bi (ix2 0 d)) = (headK x nb).bi from funext fun d => lnW_apply nb d x.bi,
    head_mul, head_conv]

section Real

variable (A B : ℕ → Fin 128 → ℝ) (hA : ∀ s d, mulK (headK x nb) expC exp8C s d = ((A s d : ℝ) : EReal)) (hB : ∀ s d, addK (headK x nb) expC exp8C s d = ((B s d : ℝ) : EReal))
include hA hB

theorem head_lane : Lane (fun s => A s d) (fun s => B s d) (128 * n.val) d (mul0 (parOf nb x) (rT nb x.u n)) (add0 (parOf nb x) (rT nb x.u n)) :=
  ⟨fun i => (head_mul nb n i d x).trans (hA _ _), fun i => (head_add nb n i d x).trans (hB _ _)⟩

theorem head_car : ∀ k : ℕ, k ≤ 16 → rd (s := S1x128) (carS nb (parOf nb x) x.u k) (ix2 0 d) = ((seqOf (fun s => A s d) (fun s => B s d) 0 (128 * k) : ℝ) : EReal)
  | 0, _ => pay15_apply d
  | k + 1, hk => by
    have e : (⟨k % 16, Nat.mod_lt _ (by norm_num)⟩ : Fin 16) = ⟨k, by omega⟩ := Fin.ext (Nat.mod_eq_of_lt (by omega))
    show rd (s := S1x128) (carryOf _ (rT nb x.u ⟨k % 16, Nat.mod_lt _ (by norm_num)⟩) _) _ = _
    rw [e]
    unfold carryOf
    refine (last_apply d _).trans ((tiles_eq (head_lane nb ⟨k, by omega⟩ d x A B hA hB) _ (head_car k (by omega)) 15 (by omega) 7).trans ?_)
    show ((seqOf _ _ 0 (128 * k + 8 * 15 + 8) : ℝ) : EReal) = ((seqOf _ _ 0 (128 * (k + 1)) : ℝ) : EReal)
    rw [show 128 * k + 8 * 15 + 8 = 128 * (k + 1) by omega]

/-- The kernel's result for a chunk of a block of lanes. -/
theorem head_out : rd (s := S1x128x128) (oVal nb (parOf nb x) x n) (ix3 0 i d) = outK (headK x nb) expC exp8C cubeC ⟨128 * n.val + i.val, by omega⟩ d := by
  unfold oVal oOf
  refine (fin_apply i d _ _ _).trans ?_
  unfold outK
  refine congrArg₂ (· * ·) (congrArg₂ (· * ·) (congrArg (fun o => rms o d) (funext fun e => ?_)) ?_) (congrArg (geluK cubeC) (blkW_apply nb n i d x.z))
  · refine (states_eq (head_lane nb n e x A B hA hB) _ (head_car nb e x A B hA hB n.val (by omega)) i).trans ?_
    rw [show (fun t => mulK (headK x nb) expC exp8C t e) = fun t => ((A t e : ℝ) : EReal) from funext fun t => hA t e,
      show (fun t => addK (headK x nb) expC exp8C t e) = fun t => ((B t e : ℝ) : EReal) from funext fun t => hB t e, stOf_coe]
  · refine Eq.trans ?_ (lnW_apply nb d x.gn)
    pointwise [k0_pay13]
    rfl

end Real

end Cert.KernelRglruIdeal.Lru

end
-- ==== Proof.Lru.KerValue.lean ====
/- What the kernel's windows hold in a grid step, entry by entry. -/
module

public import proofs.«01_k».proof.Proof.Lru.Run
public import proofs.«01_k».proof.Proof.Lru.KerHead
public import Idealize.ShloMosaic.Lib.StableHlo.ReadAt
public import Idealize.ShloMosaic.Lib.Pipeline.Value

@[expose] public section

set_option maxRecDepth 16384

noncomputable section

namespace Cert.KernelRglruIdeal.Lru

open Idealize.ShloMosaic Idealize.ShloMosaic.TcCoe Idealize.ShloMosaic.StableHlo Idealize.SL.Sem
open Cert.KernelRglruIdeal Cert.KernelRglruIdeal.Gen
open Cert.Lru

/-! ## What the operations before the kernel compute -/

section Host

variable (U : Valuation τ sig (Elt Ideal)) (s : Fin 2048) (d k : Fin 128) (h : Fin 8) (x : Fin 1024) (y : Fin 32)

theorem cw_apply (k : Fin 4) : rd (s := S4x1024) (after hostOps0 U (Proc.devRef .tc main_v3)) (ix2 k x) = rd (s := S1x4x1024) (U (Proc.devRef .tc main_arg1)) (ix3 0 k x) := by
  after_reads_at
  rfl
theorem cb_apply : rd (s := S1x1024) (after hostOps0 U (Proc.devRef .tc main_v5)) (ix2 0 x) = rd (s := S1x1024) (U (Proc.devRef .tc main_arg2)) (ix2 0 x) := by
  after_reads_at
theorem wr_apply : rd (s := S8x128x256) (after hostOps0 U (Proc.devRef .tc main_v2)) (ix3 h k ⟨d.val, by omega⟩) = rd (s := S1x8x128x128) (U (Proc.devRef .tc main_arg3)) (ix4 0 h k d) := by
  after_reads_at
  after_reads_at
theorem wi_apply : rd (s := S8x128x256) (after hostOps0 U (Proc.devRef .tc main_v2)) (ix3 h k ⟨128 + d.val, by omega⟩) = rd (s := S1x8x128x128) (U (Proc.devRef .tc main_arg5)) (ix4 0 h k d) := by
  after_reads_at
  after_reads_at
theorem br_apply : rd (s := S1x1024) (after hostOps0 U (Proc.devRef .tc main_v7)) (ix2 0 x) = rd (s := S1x1024) (U (Proc.devRef .tc main_arg4)) (ix2 0 x) := by
  after_reads_at
theorem bi_apply : rd (s := S1x1024) (after hostOps0 U (Proc.devRef .tc main_v9)) (ix2 0 x) = rd (s := S1x1024) (U (Proc.devRef .tc main_arg6)) (ix2 0 x) := by
  after_reads_at
theorem lam_apply : rd (s := S1x1024) (after hostOps0 U (Proc.devRef .tc main_v11)) (ix2 0 x) = rd (s := S1x1024) (U (Proc.devRef .tc main_arg7)) (ix2 0 x) := by
  after_reads_at
theorem gn_apply : rd (s := S1x1024) (after hostOps0 U (Proc.devRef .tc main_v13)) (ix2 0 x) = rd (s := S1x1024) (U (Proc.devRef .tc main_arg8)) (ix2 0 x) := by
  after_reads_at
theorem w_apply : rd (s := S32x2048x1024) (after hostOps0 U (Proc.devRef .tc main_v14)) (ix3 y s x) = rd (s := S1x32x2048x1024) (U (Proc.devRef .tc main_arg9)) (ix4 0 y s x) := by
  after_reads_at
  rfl

end Host

variable (m : (ℓ : Loc nD τ sig) → Buf (Elt Ideal) ℓ) (c : Dev nD) (t : Fin cfg0.N)

/-! ## The blocks of a grid step -/

/-- The batch and the four blocks of lanes a grid step works on; the expert and the half of its rows it casts. -/
abbrev bT : Fin 16 := ⟨t.val / 4, by have : t.val < 64 := t.isLt; omega⟩
abbrev xT : Fin 32 := ⟨t.val / 2, by have : t.val < 64 := t.isLt; omega⟩

theorem idx0 : ∀ t : Fin cfg0.N, win0_0.index t = ![t.val / 4, 0, 16 + t.val % 4] := (by decide +kernel : ∀ t : Fin grid0.N, _)
theorem idx1 : ∀ t : Fin cfg0.N, win0_1.index t = ![t.val / 4, 0, 20 + t.val % 4] := (by decide +kernel : ∀ t : Fin grid0.N, _)
theorem idx2 : ∀ t : Fin cfg0.N, win0_2.index t = ![0, t.val % 4] := (by decide +kernel : ∀ t : Fin grid0.N, _)
theorem idx3 : ∀ t : Fin cfg0.N, win0_3.index t = ![0, t.val % 4] := (by decide +kernel : ∀ t : Fin grid0.N, _)
theorem idx4 : ∀ t : Fin cfg0.N, win0_4.index t = ![t.val % 4, 0, 0] := (by decide +kernel : ∀ t : Fin grid0.N, _)
theorem idx5 : ∀ t : Fin cfg0.N, win0_5.index t = ![0, t.val % 4] := (by decide +kernel : ∀ t : Fin grid0.N, _)
theorem idx6 : ∀ t : Fin cfg0.N, win0_6.index t = ![0, t.val % 4] := (by decide +kernel : ∀ t : Fin grid0.N, _)
theorem idx7 : ∀ t : Fin cfg0.N, win0_7.index t = ![0, t.val % 4] := (by decide +kernel : ∀ t : Fin grid0.N, _)
theorem idx8 : ∀ t : Fin cfg0.N, win0_8.index t = ![0, t.val % 4] := (by decide +kernel : ∀ t : Fin grid0.N, _)
theorem idx9 : ∀ t : Fin cfg0.N, win0_9.index t = ![t.val / 2, t.val % 2, 0] := (by decide +kernel : ∀ t : Fin grid0.N, _)
theorem idx10 : ∀ t : Fin cfg0.N, win0_10.index t = ![t.val / 4, 0, t.val % 4] := (by decide +kernel : ∀ t : Fin grid0.N, _)
theorem idx11 : ∀ t : Fin cfg0.N, win0_11.index t = ![t.val / 2, t.val % 2, 0] := (by decide +kernel : ∀ t : Fin grid0.N, _)

/-- The arguments at the launch. -/
abbrev A0 : S16x2048x6144.Idx → EReal := m ((c : Thread nD τ).loc main_arg0)
abbrev A1 : S1x4x1024.Idx → EReal := m ((c : Thread nD τ).loc main_arg1)
abbrev A2 : S1x1024.Idx → EReal := m ((c : Thread nD τ).loc main_arg2)
abbrev A3 : S1x8x128x128.Idx → EReal := m ((c : Thread nD τ).loc main_arg3)
abbrev A4 : S1x1024.Idx → EReal := m ((c : Thread nD τ).loc main_arg4)
abbrev A5 : S1x8x128x128.Idx → EReal := m ((c : Thread nD τ).loc main_arg5)
abbrev A6 : S1x1024.Idx → EReal := m ((c : Thread nD τ).loc main_arg6)
abbrev A7 : S1x1024.Idx → EReal := m ((c : Thread nD τ).loc main_arg7)
abbrev A8 : S1x1024.Idx → EReal := m ((c : Thread nD τ).loc main_arg8)
abbrev A9 : S1x32x2048x1024.Idx → EReal := m ((c : Thread nD τ).loc main_arg9)

variable (s : Fin 2048) (d : Fin 128) (j : Fin 256) (k : Fin 128) (n : Fin 2) (y x : Fin 1024)

theorem read0 (X : S16x2048x6144.Idx → EReal) : rd (s := S1x2048x256) (((cfg0.win 0).blk t).view.read (Elt Ideal) X) (ix3 0 s j) = X (ix3 (bT t) s ⟨4096 + (t.val % 4 * 256 + j.val), by omega⟩) := by
  have e : (win0_0.blk t).view.emb (ix3 0 s j : S1x2048x256.Idx) = (ix3 (bT t) s ⟨4096 + (t.val % 4 * 256 + j.val), by omega⟩ : S16x2048x6144.Idx) := by blk_ext [idx0 t]
  exact congrArg X e
theorem read1 (X : S16x2048x6144.Idx → EReal) : rd (s := S1x2048x256) (((cfg0.win 1).blk t).view.read (Elt Ideal) X) (ix3 0 s j) = X (ix3 (bT t) s ⟨5120 + (t.val % 4 * 256 + j.val), by omega⟩) := by
  have e : (win0_1.blk t).view.emb (ix3 0 s j : S1x2048x256.Idx) = (ix3 (bT t) s ⟨5120 + (t.val % 4 * 256 + j.val), by omega⟩ : S16x2048x6144.Idx) := by blk_ext [idx1 t]
  exact congrArg X e
theorem read2 (X : S4x1024.Idx → EReal) (k : Fin 4) : rd (s := S4x256) (((cfg0.win 2).blk t).view.read (Elt Ideal) X) (ix2 k j) = X (ix2 k ⟨t.val % 4 * 256 + j.val, by omega⟩) := by
  have e : (win0_2.blk t).view.emb (ix2 k j : S4x256.Idx) = (ix2 k ⟨t.val % 4 * 256 + j.val, by omega⟩ : S4x1024.Idx) := by blk_ext [idx2 t]
  exact congrArg X e
theorem read3 (X : S1x1024.Idx → EReal) : rd (s := S1x256) (((cfg0.win 3).blk t).view.read (Elt Ideal) X) (ix2 0 j) = X (ix2 0 ⟨t.val % 4 * 256 + j.val, by omega⟩) := by
  have e : (win0_3.blk t).view.emb (ix2 0 j : S1x256.Idx) = (ix2 0 ⟨t.val % 4 * 256 + j.val, by omega⟩ : S1x1024.Idx) := by blk_ext [idx3 t]
  exact congrArg X e
theorem read4 (X : S8x128x256.Idx → EReal) : rd (s := S2x128x256) (((cfg0.win 4).blk t).view.read (Elt Ideal) X) (ix3 n k j) = X (ix3 ⟨t.val % 4 * 2 + n.val, by omega⟩ k j) := by
  have e : (win0_4.blk t).view.emb (ix3 n k j : S2x128x256.Idx) = (ix3 ⟨t.val % 4 * 2 + n.val, by omega⟩ k j : S8x128x256.Idx) := by blk_ext [idx4 t]
  exact congrArg X e
theorem read5 (X : S1x1024.Idx → EReal) : rd (s := S1x256) (((cfg0.win 5).blk t).view.read (Elt Ideal) X) (ix2 0 j) = X (ix2 0 ⟨t.val % 4 * 256 + j.val, by omega⟩) := by
  have e : (win0_5.blk t).view.emb (ix2 0 j : S1x256.Idx) = (ix2 0 ⟨t.val % 4 * 256 + j.val, by omega⟩ : S1x1024.Idx) := by blk_ext [idx5 t]
  exact congrArg X e
theorem read6 (X : S1x1024.Idx → EReal) : rd (s := S1x256) (((cfg0.win 6).blk t).view.read (Elt Ideal) X) (ix2 0 j) = X (ix2 0 ⟨t.val % 4 * 256 + j.val, by omega⟩) := by
  have e : (win0_6.blk t).view.emb (ix2 0 j : S1x256.Idx) = (ix2 0 ⟨t.val % 4 * 256 + j.val, by omega⟩ : S1x1024.Idx) := by blk_ext [idx6 t]
  exact congrArg X e
theorem read7 (X : S1x1024.Idx → EReal) : rd (s := S1x256) (((cfg0.win 7).blk t).view.read (Elt Ideal) X) (ix2 0 j) = X (ix2 0 ⟨t.val % 4 * 256 + j.val, by omega⟩) := by
  have e : (win0_7.blk t).view.emb (ix2 0 j : S1x256.Idx) = (ix2 0 ⟨t.val % 4 * 256 + j.val, by omega⟩ : S1x1024.Idx) := by blk_ext [idx7 t]
  exact congrArg X e
theorem read8 (X : S1x1024.Idx → EReal) : rd (s := S1x256) (((cfg0.win 8).blk t).view.read (Elt Ideal) X) (ix2 0 j) = X (ix2 0 ⟨t.val % 4 * 256 + j.val, by omega⟩) := by
  have e : (win0_8.blk t).view.emb (ix2 0 j : S1x256.Idx) = (ix2 0 ⟨t.val % 4 * 256 + j.val, by omega⟩ : S1x1024.Idx) := by blk_ext [idx8 t]
  exact congrArg X e
theorem read9 (X : S32x2048x1024.Idx → EReal) : rd (s := S1x1024x1024) (((cfg0.win 9).blk t).view.read (Elt Ideal) X) (ix3 0 y x) = X (ix3 (xT t) ⟨t.val % 2 * 1024 + y.val, by omega⟩ x) := by
  have e : (win0_9.blk t).view.emb (ix3 0 y x : S1x1024x1024.Idx) = (ix3 (xT t) ⟨t.val % 2 * 1024 + y.val, by omega⟩ x : S32x2048x1024.Idx) := by blk_ext [idx9 t]
  exact congrArg X e
theorem blk0 : rd (s := S1x2048x256) (iblk m c 0 t) (ix3 0 s j) = A0 m c (ix3 (bT t) s ⟨4096 + (t.val % 4 * 256 + j.val), by omega⟩) :=
  (read0 t s j (V m c main_arg0)).trans (congrFun (V_main_arg0 m c) _)
theorem blk1 : rd (s := S1x2048x256) (iblk m c 1 t) (ix3 0 s j) = A0 m c (ix3 (bT t) s ⟨5120 + (t.val % 4 * 256 + j.val), by omega⟩) :=
  (read1 t s j (V m c main_arg0)).trans (congrFun (V_main_arg0 m c) _)
theorem blk2 (k : Fin 4) : rd (s := S4x256) (iblk m c 2 t) (ix2 k j) = A1 m c (ix3 0 k ⟨t.val % 4 * 256 + j.val, by omega⟩) :=
  (read2 t j (V m c main_v3) k).trans (cw_apply (fun b => m (c, b)) _ k)
theorem blk3 : rd (s := S1x256) (iblk m c 3 t) (ix2 0 j) = A2 m c (ix2 0 ⟨t.val % 4 * 256 + j.val, by omega⟩) :=
  (read3 t j (V m c main_v5)).trans (cb_apply (fun b => m (c, b)) _)
theorem blk4r : rd (s := S2x128x256) (iblk m c 4 t) (ix3 n k ⟨d.val, by omega⟩) = A3 m c (ix4 0 ⟨t.val % 4 * 2 + n.val, by omega⟩ k d) :=
  (read4 t _ k n (V m c main_v2)).trans (wr_apply (fun b => m (c, b)) d k _)
theorem blk4i : rd (s := S2x128x256) (iblk m c 4 t) (ix3 n k ⟨128 + d.val, by omega⟩) = A5 m c (ix4 0 ⟨t.val % 4 * 2 + n.val, by omega⟩ k d) :=
  (read4 t _ k n (V m c main_v2)).trans (wi_apply (fun b => m (c, b)) d k _)
theorem blk5 : rd (s := S1x256) (iblk m c 5 t) (ix2 0 j) = A4 m c (ix2 0 ⟨t.val % 4 * 256 + j.val, by omega⟩) :=
  (read5 t j (V m c main_v7)).trans (br_apply (fun b => m (c, b)) _)
theorem blk6 : rd (s := S1x256) (iblk m c 6 t) (ix2 0 j) = A6 m c (ix2 0 ⟨t.val % 4 * 256 + j.val, by omega⟩) :=
  (read6 t j (V m c main_v9)).trans (bi_apply (fun b => m (c, b)) _)
theorem blk7 : rd (s := S1x256) (iblk m c 7 t) (ix2 0 j) = A7 m c (ix2 0 ⟨t.val % 4 * 256 + j.val, by omega⟩) :=
  (read7 t j (V m c main_v11)).trans (lam_apply (fun b => m (c, b)) _)
theorem blk8 : rd (s := S1x256) (iblk m c 8 t) (ix2 0 j) = A8 m c (ix2 0 ⟨t.val % 4 * 256 + j.val, by omega⟩) :=
  (read8 t j (V m c main_v13)).trans (gn_apply (fun b => m (c, b)) _)
theorem blk9 : rd (s := S1x1024x1024) (iblk m c 9 t) (ix3 0 y x) = A9 m c (ix4 0 (xT t) ⟨t.val % 2 * 1024 + y.val, by omega⟩ x) :=
  (read9 t y x (V m c main_v14)).trans (w_apply (fun b => m (c, b)) _ x _)

theorem u_field : (inVals m c t).u = iblk m c 0 t := rfl
theorem z_field : (inVals m c t).z = iblk m c 1 t := rfl
theorem cw_field : (inVals m c t).cw = iblk m c 2 t := rfl
theorem cb_field : (inVals m c t).cb = iblk m c 3 t := rfl
theorem br_field : (inVals m c t).br = iblk m c 5 t := rfl
theorem bi_field : (inVals m c t).bi = iblk m c 6 t := rfl
theorem lam_field : (inVals m c t).lam = iblk m c 7 t := rfl
theorem gn_field : (inVals m c t).gn = iblk m c 8 t := rfl
theorem wg_field : (inVals m c t).wg = iblk m c 4 t := rfl

variable (nb : Fin 2)

theorem lane_eq : t.val % 4 * 256 + (128 * nb.val + d.val) = (t.val % 4 * 2 + nb.val) * 128 + d.val := by omega
theorem u_in (s : Fin 2048) : rd (s := S1x2048x256) (inVals m c t).u (ix3 0 s ⟨128 * nb.val + d.val, by omega⟩) = A0 m c (ix3 (bT t) s ⟨4096 + ((t.val % 4 * 2 + nb.val) * 128 + d.val), by omega⟩) := by
  rw [u_field]; exact (blk0 m c t s ⟨128 * nb.val + d.val, by omega⟩).trans (congrArg (fun a => A0 m c (ix3 (bT t) s a)) (Fin.ext (congrArg (4096 + ·) (lane_eq t d nb))))
theorem z_in (s : Fin 2048) : rd (s := S1x2048x256) (inVals m c t).z (ix3 0 s ⟨128 * nb.val + d.val, by omega⟩) = A0 m c (ix3 (bT t) s ⟨5120 + ((t.val % 4 * 2 + nb.val) * 128 + d.val), by omega⟩) := by
  rw [z_field]; exact (blk1 m c t s ⟨128 * nb.val + d.val, by omega⟩).trans (congrArg (fun a => A0 m c (ix3 (bT t) s a)) (Fin.ext (congrArg (5120 + ·) (lane_eq t d nb))))
theorem cw_in (k : Fin 4) : rd (s := S4x256) (inVals m c t).cw (ix2 k ⟨128 * nb.val + d.val, by omega⟩) = A1 m c (ix3 0 k ⟨((t.val % 4 * 2 + nb.val) * 128 + d.val), by omega⟩) := by
  rw [cw_field]; exact (blk2 m c t ⟨128 * nb.val + d.val, by omega⟩ k).trans (congrArg (fun a => A1 m c (ix3 0 k a)) (Fin.ext (lane_eq t d nb)))
theorem cb_in : rd (s := S1x256) (inVals m c t).cb (ix2 0 ⟨128 * nb.val + d.val, by omega⟩) = A2 m c (ix2 0 ⟨((t.val % 4 * 2 + nb.val) * 128 + d.val), by omega⟩) := by
  rw [cb_field]; exact (blk3 m c t ⟨128 * nb.val + d.val, by omega⟩).trans (congrArg (fun a => A2 m c (ix2 0 a)) (Fin.ext (lane_eq t d nb)))
theorem br_in : rd (s := S1x256) (inVals m c t).br (ix2 0 ⟨128 * nb.val + d.val, by omega⟩) = A4 m c (ix2 0 ⟨((t.val % 4 * 2 + nb.val) * 128 + d.val), by omega⟩) := by
  rw [br_field]; exact (blk5 m c t ⟨128 * nb.val + d.val, by omega⟩).trans (congrArg (fun a => A4 m c (ix2 0 a)) (Fin.ext (lane_eq t d nb)))
theorem bi_in : rd (s := S1x256) (inVals m c t).bi (ix2 0 ⟨128 * nb.val + d.val, by omega⟩) = A6 m c (ix2 0 ⟨((t.val % 4 * 2 + nb.val) * 128 + d.val), by omega⟩) := by
  rw [bi_field]; exact (blk6 m c t ⟨128 * nb.val + d.val, by omega⟩).trans (congrArg (fun a => A6 m c (ix2 0 a)) (Fin.ext (lane_eq t d nb)))
theorem lam_in : rd (s := S1x256) (inVals m c t).lam (ix2 0 ⟨128 * nb.val + d.val, by omega⟩) = A7 m c (ix2 0 ⟨((t.val % 4 * 2 + nb.val) * 128 + d.val), by omega⟩) := by
  rw [lam_field]; exact (blk7 m c t ⟨128 * nb.val + d.val, by omega⟩).trans (congrArg (fun a => A7 m c (ix2 0 a)) (Fin.ext (lane_eq t d nb)))
theorem gn_in : rd (s := S1x256) (inVals m c t).gn (ix2 0 ⟨128 * nb.val + d.val, by omega⟩) = A8 m c (ix2 0 ⟨((t.val % 4 * 2 + nb.val) * 128 + d.val), by omega⟩) := by
  rw [gn_field]; exact (blk8 m c t ⟨128 * nb.val + d.val, by omega⟩).trans (congrArg (fun a => A8 m c (ix2 0 a)) (Fin.ext (lane_eq t d nb)))
theorem wr_in : rd (s := S2x128x256) (inVals m c t).wg (ix3 nb k ⟨d.val, by omega⟩) = A3 m c (ix4 0 ⟨t.val % 4 * 2 + nb.val, by omega⟩ k d) := by
  rw [wg_field]; exact blk4r m c t d k nb
theorem wi_in : rd (s := S2x128x256) (inVals m c t).wg (ix3 nb k ⟨128 + d.val, by omega⟩) = A5 m c (ix4 0 ⟨t.val % 4 * 2 + nb.val, by omega⟩ k d) := by
  rw [wg_field]; exact blk4i m c t d k nb

/-- What a block of lanes reads, field by field. -/
theorem headK_eq (X : Vals Ideal) (G : Head) (hu : ∀ s d, (headK X nb).u s d = G.u s d) (hz : ∀ s d, (headK X nb).z s d = G.z s d) (hw : ∀ k d, (headK X nb).w k d = G.w k d)
    (hcb : ∀ d, (headK X nb).cb d = G.cb d) (hwr : ∀ k d, (headK X nb).wr k d = G.wr k d) (hbr : ∀ d, (headK X nb).br d = G.br d) (hwi : ∀ k d, (headK X nb).wi k d = G.wi k d)
    (hbi : ∀ d, (headK X nb).bi d = G.bi d) (hlam : ∀ d, (headK X nb).lam d = G.lam d) (hgn : ∀ d, (headK X nb).gn d = G.gn d) : headK X nb = G :=
  Head.ext (funext fun s => funext fun d => hu s d) (funext fun s => funext fun d => hz s d) (funext fun k => funext fun d => hw k d) (funext hcb)
    (funext fun k => funext fun d => hwr k d) (funext hbr) (funext fun k => funext fun d => hwi k d) (funext hbi) (funext hlam) (funext hgn)

/-- What a block of lanes reads in a grid step. -/
theorem head_eq : headK (inVals m c t) nb
    = headOf (A0 m c) (A1 m c) (A2 m c) (A3 m c) (A4 m c) (A5 m c) (A6 m c) (A7 m c) (A8 m c) (bT t) ⟨t.val % 4 * 2 + nb.val, by omega⟩ := by
  refine headK_eq nb _ _ ?_ ?_ ?_ ?_ ?_ ?_ ?_ ?_ ?_ ?_
  · intro s d; unfold headK headOf; exact u_in m c t d nb s
  · intro s d; unfold headK headOf; exact z_in m c t d nb s
  · intro k d; unfold headK headOf; exact cw_in m c t d nb k
  · intro d; unfold headK headOf; exact cb_in m c t d nb
  · intro k d; unfold headK headOf; exact wr_in m c t d k nb
  · intro d; unfold headK headOf; exact br_in m c t d nb
  · intro k d; unfold headK headOf; exact wi_in m c t d k nb
  · intro d; unfold headK headOf; exact bi_in m c t d nb
  · intro d; unfold headK headOf; exact lam_in m c t d nb
  · intro d; unfold headK headOf; exact gn_in m c t d nb

end Cert.KernelRglruIdeal.Lru

end
-- ==== Proof.Lru.Eq.lean ====
/- The two arithmetics of the recurrent unit agree where its inputs, the convolution's weights and bias and the gates' weights are finite. -/
module

public import proofs.«01_k».proof.Proof.Lru.Spec
public import proofs.«01_k».proof.Proof.Ret.Eq

@[expose] public section

noncomputable section

namespace Cert.Lru

open Idealize.ShloMosaic
open Cert.Ret (IsR isR_zero isR_one isR_coe two_eq width_eq div_eq coe_sum)

theorem eight_eq : Ideal.ofBits .f32 0xC1000000#32 = ((-8 : ℝ) : EReal) := by
  simp [Ideal.ofBits, Ideal.ieee, -EReal.coe_mul]; norm_num
theorem half_eq : Ideal.ofBits .f32 0x3F000000#32 = ((1 / 2 : ℝ) : EReal) := by
  simp [Ideal.ofBits, Ideal.ieee, -EReal.coe_mul]; norm_num
theorem k1_eq : Ideal.ofBits .f32 0x3F4C422A#32 = ((6693141 / 8388608 : ℝ) : EReal) := by
  simp [Ideal.ofBits, Ideal.ieee, -EReal.coe_mul]; norm_num
theorem k2_eq : Ideal.ofBits .f32 0x3D372713#32 = ((12003091 / 268435456 : ℝ) : EReal) := by
  simp [Ideal.ofBits, Ideal.ieee, -EReal.coe_mul]; norm_num

/-- Minus the inverse of the logarithm of two. -/
abbrev cE : ℝ := -((Real.log 2)⁻¹)
theorem cE_neg : cE < 0 := neg_lt_zero.mpr (inv_pos.mpr (Real.log_pos (by norm_num)))

theorem exp2_mul (x : EReal) : Ideal.exp2 ((cE : EReal) * x) = Ideal.exp (-x) := by
  induction x with
  | bot => rw [EReal.coe_mul_bot_of_neg cE_neg]; rfl
  | top => rw [EReal.coe_mul_top_of_neg cE_neg]; rfl
  | coe r =>
    have hl : Real.log 2 ≠ 0 := (Real.log_pos (by norm_num)).ne'
    rw [← EReal.coe_mul, ← EReal.coe_neg]
    show ((Real.rpow 2 (cE * r) : ℝ) : EReal) = ((Real.exp (-r) : ℝ) : EReal)
    congr 1
    show (2 : ℝ) ^ (cE * r) = _
    rw [Real.rpow_def_of_pos (by norm_num)]
    congr 1
    unfold cE
    field_simp

/-- A real factor goes into a sum with a real term. -/
theorem mul_add_real (c g : ℝ) (hc : c < 0) (b : EReal) : (c : EReal) * ((g : EReal) + b) = (c : EReal) * g + (c : EReal) * b := by
  induction b with
  | bot => rw [EReal.add_bot, EReal.coe_mul_bot_of_neg hc, ← EReal.coe_mul, EReal.coe_add_top]
  | top => rw [EReal.coe_add_top, EReal.coe_mul_top_of_neg hc, EReal.add_bot]
  | coe r => norm_cast; ring

theorem gate_eq {W : Fin 128 → Row} {y : Row} (b : Row) (hW : ∀ x j, IsR (W x j)) (hy : ∀ x, IsR (y x)) : gateK (cE : EReal) W b y = gateR W b y := by
  choose w hw using hW
  choose v hv using hy
  obtain rfl : W = fun x j => (w x j : EReal) := funext fun x => funext fun j => hw x j
  obtain rfl : y = fun x => (v x : EReal) := funext hv
  funext j
  unfold gateK gateR
  simp only [← EReal.coe_mul]
  rw [coe_sum, coe_sum, show ∑ x, v x * (cE * w x j) = cE * ∑ x, w x j * v x by rw [Finset.mul_sum]; exact Finset.sum_congr rfl fun x _ => by ring,
    EReal.coe_mul, ← mul_add_real _ _ cE_neg, exp2_mul]

/-- A gate is a real number that is not negative. -/
theorem gate_real (W : Fin 128 → Row) (b y : Row) (j : Fin 128) : ∃ r : ℝ, 0 ≤ r ∧ gateR W b y j = (r : EReal) := by
  unfold gateR
  generalize -(∑ x, W x j * y x + b j) = e
  induction e with
  | bot => exact ⟨1, by norm_num, by show Ideal.div 1 (1 + 0) = _; rw [add_zero]; exact (div_eq 1 1 one_ne_zero).trans (by norm_num)⟩
  | top =>
    refine ⟨0, le_refl _, ?_⟩
    show Ideal.div 1 (1 + ⊤) = _
    rw [show (1 : EReal) + ⊤ = ⊤ from rfl]
    unfold Ideal.div
    rw [if_neg (by simp)]
    simp
  | coe x =>
    refine ⟨(1 + Real.exp x)⁻¹, by positivity, ?_⟩
    show Ideal.div 1 (1 + ((Real.exp x : ℝ) : EReal)) = _
    rw [show (1 : EReal) + ((Real.exp x : ℝ) : EReal) = ((1 + Real.exp x : ℝ) : EReal) by norm_cast, div_eq _ _ (by positivity), one_mul]

theorem sp_nonneg (x : EReal) : 0 ≤ sp x := by
  unfold sp
  refine add_nonneg (le_max_right _ _) ?_
  have h : ∀ e : EReal, 0 ≤ Ideal.log1p (Ideal.exp e) := fun e => by
    induction e with
    | bot =>
      show 0 ≤ Ideal.log (1 + 0)
      rw [add_zero]
      show 0 ≤ (if (1 : ℝ) ≤ 0 then (⊥ : EReal) else (Real.log 1 : EReal))
      rw [if_neg (by norm_num), Real.log_one]; rfl
    | top => exact le_top
    | coe r =>
      show 0 ≤ Ideal.log (1 + ((Real.exp r : ℝ) : EReal))
      rw [show (1 : EReal) + ((Real.exp r : ℝ) : EReal) = ((1 + Real.exp r : ℝ) : EReal) by norm_cast]
      have hp : 0 < Real.exp r := Real.exp_pos r
      show 0 ≤ (if 1 + Real.exp r ≤ 0 then (⊥ : EReal) else (Real.log (1 + Real.exp r) : EReal))
      rw [if_neg (by linarith)]
      exact_mod_cast Real.log_nonneg (by linarith)
  exact h _

/-- The multiplier and the root, from the logarithm's opposite. -/
theorem root_eq {L : EReal} (hL : 0 ≤ L) : rootK (Ideal.exp (-L)) = rootR (-L) ∧ IsR (Ideal.exp (-L)) ∧ IsR (rootR (-L)) := by
  have key : ∀ e : ℝ, 0 ≤ 1 - e * e → ∀ l : EReal, Ideal.exp (((2 : ℝ) : EReal) * l) = ((e * e : ℝ) : EReal) → rootK (e : EReal) = rootR l ∧ IsR (rootR l) := fun e he l hl => by
    unfold rootK rootR
    rw [two_eq, hl, show -(((e * e : ℝ) : EReal) - 1) = ((1 - e * e : ℝ) : EReal) by norm_cast; congr 1; ring,
      show (1 : EReal) - (e : EReal) * (e : EReal) = ((1 - e * e : ℝ) : EReal) by norm_cast]
    generalize 1 - e * e = t at he
    have hs : Ideal.sqrt (t : EReal) = ((Real.sqrt t : ℝ) : EReal) := by
      show (if t < 0 then (⊥ : EReal) else (Real.sqrt t : EReal)) = _
      rw [if_neg (not_lt.mpr he)]
    rw [hs]
    refine ⟨?_, isR_coe _⟩
    rcases he.eq_or_lt with h0 | h0
    · rw [← h0]; simp
    · rw [if_pos (by exact_mod_cast h0)]
      show (t : EReal) * (if t < 0 then (⊥ : EReal) else if t = 0 then ⊤ else (((Real.sqrt t)⁻¹ : ℝ) : EReal)) = _
      rw [if_neg (not_lt.mpr he), if_neg h0.ne', ← EReal.coe_mul]
      congr 1
      have hq := Real.mul_self_sqrt he
      have hn : Real.sqrt t ≠ 0 := (Real.sqrt_pos.mpr h0).ne'
      field_simp
      nlinarith [hq]
  induction L with
  | bot => exact absurd hL (by simp)
  | top =>
    have e0 : Ideal.exp (-(⊤ : EReal)) = ((0 : ℝ) : EReal) := rfl
    rw [e0]
    have := key 0 (by norm_num) (-⊤) (by
      rw [EReal.neg_top, EReal.coe_mul_bot_of_pos (by norm_num)]
      show (0 : EReal) = _
      norm_num)
    exact ⟨this.1, isR_coe _, this.2⟩
  | coe x =>
    have hx : 0 ≤ x := by exact_mod_cast hL
    have e0 : Ideal.exp (-(x : EReal)) = ((Real.exp (-x) : ℝ) : EReal) := rfl
    rw [e0]
    have h1 : Real.exp (-x) ≤ 1 := Real.exp_le_one_iff.mpr (by linarith)
    have hp := Real.exp_pos (-x)
    have := key (Real.exp (-x)) (by nlinarith) (-(x : EReal)) (by
      rw [← EReal.coe_neg, ← EReal.coe_mul]
      show ((Real.exp (2 * -x) : ℝ) : EReal) = _
      congr 1
      rw [← Real.exp_add]; congr 1; ring)
    exact ⟨this.1, isR_coe _, this.2⟩

theorem gelu_eq (z : EReal) : geluK ((6693141 / 8388608 * (12003091 / 268435456) : ℝ) : EReal) z = geluR z := by
  unfold geluK geluR
  rw [half_eq, k1_eq, k2_eq]
  induction z with
  | coe r =>
    have e : (r : EReal) * (((6693141 / 8388608 : ℝ) : EReal) + ((6693141 / 8388608 * (12003091 / 268435456) : ℝ) : EReal) * ((r : EReal) * r))
        = ((6693141 / 8388608 : ℝ) : EReal) * ((r : EReal) + ((12003091 / 268435456 : ℝ) : EReal) * ((r : EReal) * r * r)) := by
      simp only [← EReal.coe_mul, ← EReal.coe_add]
      congr 1; ring
    rw [e]
    ac_rfl
  | top =>
    have p : ∀ r : ℝ, 0 < r → (r : EReal) * ⊤ = ⊤ := fun r hr => EReal.coe_mul_top_of_pos hr
    rw [EReal.top_mul_top, EReal.top_mul_top, p (1 / 2) (by norm_num), p (6693141 / 8388608 * (12003091 / 268435456)) (by norm_num), EReal.coe_add_top, EReal.top_mul_top,
      p (12003091 / 268435456) (by norm_num), show (⊤ : EReal) + ⊤ = ⊤ from rfl, p (6693141 / 8388608) (by norm_num), show Ideal.tanh ⊤ = ((1 : ℝ) : EReal) from rfl]
    have e : (1 : EReal) + ((1 : ℝ) : EReal) = ((2 : ℝ) : EReal) := by norm_cast
    rw [e, mul_comm ⊤, p 2 (by norm_num), ← EReal.coe_mul, mul_comm ⊤, p _ (by norm_num)]
  | bot =>
    have p : ∀ r : ℝ, 0 < r → (r : EReal) * ⊤ = ⊤ := fun r hr => EReal.coe_mul_top_of_pos hr
    have q : ∀ r : ℝ, 0 < r → (r : EReal) * ⊥ = ⊥ := fun r hr => EReal.coe_mul_bot_of_pos hr
    rw [EReal.bot_mul_bot, p (6693141 / 8388608 * (12003091 / 268435456)) (by norm_num), EReal.coe_add_top, EReal.bot_mul_top, EReal.top_mul_bot, q (1 / 2) (by norm_num),
      q (12003091 / 268435456) (by norm_num), show (⊥ : EReal) + ⊥ = ⊥ from rfl, q (6693141 / 8388608) (by norm_num), show Ideal.tanh ⊥ = ((-1 : ℝ) : EReal) from rfl,
      show (1 : EReal) + ((-1 : ℝ) : EReal) = 0 by norm_cast, mul_zero, mul_zero, mul_zero]

variable (H : Head)

/-- What has to be finite: the inputs, the convolution's weights and bias, the gates' weights. -/
structure Fine : Prop where
  u : ∀ s j, IsR (H.u s j)
  w : ∀ k j, IsR (H.w k j)
  cb : ∀ j, IsR (H.cb j)
  wr : ∀ x j, IsR (H.wr x j)
  wi : ∀ x j, IsR (H.wi x j)

theorem conv_eq : convK H = convR H := by
  funext s j
  unfold convK convR
  simp only [mul_comm (H.w _ _), add_assoc]
  ac_rfl

variable {H} (h : Fine H)
include h

theorem isR_conv (s : ℕ) (j : Fin 128) : IsR (convR H s j) := by
  have hb : ∀ d, IsR (bk H d s j) := fun d => by
    unfold bk
    split
    · exact h.u _ _
    · exact isR_zero
  exact ((((h.cb j).add ((hb 3).mul (h.w 0 j))).add ((hb 2).mul (h.w 1 j))).add ((hb 1).mul (h.w 2 j))).add ((hb 0).mul (h.w 3 j))

/-- The logarithm of a multiplier is the opposite of a value that is not negative. -/
theorem log_eq (s : ℕ) (j : Fin 128) : ∃ L : EReal, 0 ≤ L ∧ logR H s j = -L ∧ mulK H (cE : EReal) ((8 * cE : ℝ) : EReal) s j = Ideal.exp (-L) := by
  obtain ⟨r, hr, e⟩ := gate_real H.wr H.br (convR H s) j
  refine ⟨((8 : ℝ) : EReal) * r * sp (-H.lam j), mul_nonneg (mul_nonneg (by norm_num) (by exact_mod_cast hr)) (sp_nonneg _), ?_, ?_⟩
  · unfold logR
    rw [eight_eq, e, EReal.coe_neg, neg_mul, neg_mul]
  · unfold mulK
    rw [conv_eq, gate_eq _ h.wr (isR_conv h s), e, ← exp2_mul, EReal.coe_mul]
    congr 1
    ac_rfl

theorem mul_eq (s : ℕ) (j : Fin 128) : mulK H (cE : EReal) ((8 * cE : ℝ) : EReal) s j = mulR H s j := by
  obtain ⟨L, _, e, e'⟩ := log_eq h s j
  unfold mulR
  rw [e, e']
theorem isR_mul (s : ℕ) (j : Fin 128) : IsR (mulR H s j) := by
  obtain ⟨L, hL, e, _⟩ := log_eq h s j
  unfold mulR
  rw [e]; exact (root_eq hL).2.1
theorem add_eq (s : ℕ) (j : Fin 128) : addK H (cE : EReal) ((8 * cE : ℝ) : EReal) s j = addR H s j := by
  obtain ⟨L, hL, e, e'⟩ := log_eq h s j
  unfold addK addR
  rw [e, e', (root_eq hL).1, conv_eq, gate_eq _ h.wi (isR_conv h s)]
theorem isR_add (s : ℕ) (j : Fin 128) : IsR (addR H s j) := by
  obtain ⟨L, hL, e, _⟩ := log_eq h s j
  obtain ⟨r, _, er⟩ := gate_real H.wi H.bi (convR H s) j
  unfold addR
  rw [e, er]; exact (root_eq hL).2.2.mul ((isR_coe _).mul (isR_conv h s j))

/-- The kernel's result is the reference's. -/
theorem out_eq (s : Fin 2048) (j : Fin 128) :
    outK H (cE : EReal) ((8 * cE : ℝ) : EReal) ((6693141 / 8388608 * (12003091 / 268435456) : ℝ) : EReal) s j = outR H s j := by
  unfold outK outR
  rw [gelu_eq, show mulK H (cE : EReal) ((8 * cE : ℝ) : EReal) = mulR H from funext fun s => funext (mul_eq h s),
    show addK H (cE : EReal) ((8 * cE : ℝ) : EReal) = addR H from funext fun s => funext (add_eq h s)]

end Cert.Lru

end
-- ==== Proof.Lru.KerRes.lean ====
/- The kernel's results as whole arrays, at the end of a run. -/
module

public import proofs.«01_k».proof.Proof.Lru.KerValue
public import proofs.«01_k».proof.Proof.Lru.Eq
public import Idealize.ShloMosaic.Lib.Pipeline.Value

@[expose] public section

set_option maxRecDepth 16384

noncomputable section

namespace Cert.KernelRglruIdeal.Lru

open Idealize.ShloMosaic Idealize.ShloMosaic.TcCoe Idealize.ShloMosaic.StableHlo Idealize.SL.Sem
open Cert.KernelRglruIdeal Cert.KernelRglruIdeal.Gen
open Cert.Lru Cert.Ret

/-- The named constants are real numbers. -/
theorem expC_eq : expC = (cE : EReal) := IdealRules.named_const.ideal_named_scalar _ _ _ _ rfl
theorem exp8C_eq : exp8C = ((8 * cE : ℝ) : EReal) := IdealRules.named_const.ideal_named_scalar _ _ _ _ rfl
theorem cubeC_eq : cubeC = ((6693141 / 8388608 * (12003091 / 268435456) : ℝ) : EReal) := IdealRules.named_const.ideal_named_scalar _ _ _ _ rfl

variable (m : (ℓ : Loc nD τ sig) → Buf (Elt Ideal) ℓ) (c : Dev nD) (t : Fin cfg0.N)
variable (s : Fin 2048) (j : Fin 256) (y x : Fin 1024)

/-- What a block of lanes reads of the arguments. -/
abbrev H (b : Fin 16) (h : Fin 8) : Head := headOf (A0 m c) (A1 m c) (A2 m c) (A3 m c) (A4 m c) (A5 m c) (A6 m c) (A7 m c) (A8 m c) b h

/-- The kernel's result of a block of lanes is the recurrent unit's. -/
theorem head_fine (X : Vals Ideal) (nb : Fin 2) (n : Fin 16) (i d : Fin 128) (hf : Fine (headK X nb)) :
    rd (s := S1x128x128) (oVal nb (parOf nb X) X n) (ix3 0 i d) = outR (headK X nb) ⟨128 * n.val + i.val, by omega⟩ d := by
  have hA (s : ℕ) (d : Fin 128) : ∃ r : ℝ, mulK (headK X nb) expC exp8C s d = (r : EReal) := by
    rw [expC_eq, exp8C_eq, mul_eq hf]; exact isR_mul hf s d
  have hB (s : ℕ) (d : Fin 128) : ∃ r : ℝ, addK (headK X nb) expC exp8C s d = (r : EReal) := by
    rw [expC_eq, exp8C_eq, add_eq hf]; exact isR_add hf s d
  choose A hA using hA
  choose B hB using hB
  refine (head_out nb n i d X A B hA hB).trans ?_
  rw [expC_eq, exp8C_eq, cubeC_eq]
  exact out_eq hf _ d

/-- An entry of a step's result is the entry of its block's chunk. -/
theorem oBlk_oVal (X : Vals Ideal) : rd (s := S1x2048x256) (oBlk X) (ix3 0 s j)
    = rd (s := S1x128x128) (oVal ⟨j.val / 128, by omega⟩ (parOf ⟨j.val / 128, by omega⟩ X) X ⟨s.val / 128, by omega⟩) (ix3 0 ⟨s.val % 128, by omega⟩ ⟨j.val % 128, by omega⟩) := rfl

theorem out_congr {G G' : Head} {s s' : Fin 2048} {d d' : Fin 128} (hG : G = G') (hs : s = s') (hd : d = d') : outR G s d = outR G' s' d' := by
  subst hG hs hd; rfl

theorem oBlk_apply (hf : ∀ b h, Fine (H m c b h)) : rd (s := S1x2048x256) (oBlk (inVals m c t)) (ix3 0 s j)
    = outR (H m c (bT t) ⟨(t.val % 4 * 256 + j.val) / 128, by omega⟩) s ⟨(t.val % 4 * 256 + j.val) % 128, by omega⟩ := by
  refine (oBlk_oVal s j _).trans ((head_fine _ _ _ _ _ ?_).trans (out_congr ((head_eq m c t _).trans ?_) ?_ ?_))
  · rw [head_eq]; exact hf _ _
  · exact congrArg (H m c (bT t)) (Fin.ext (show t.val % 4 * 2 + j.val / 128 = (t.val % 4 * 256 + j.val) / 128 by omega))
  · exact Fin.ext (show 128 * (s.val / 128) + s.val % 128 = s.val by omega)
  · exact Fin.ext (show j.val % 128 = (t.val % 4 * 256 + j.val) % 128 by omega)

theorem wBlk_apply : rd (s := S1x1024x1024) (k0_pay2 (F := Ideal) (iblk m c 9 t)) (ix3 0 y x) = A9 m c (ix4 0 (xT t) ⟨t.val % 2 * 1024 + y.val, by omega⟩ x) := by
  refine Eq.trans ?_ (blk9 m c t y x)
  unfold rd
  pointwise [k0_pay2]

/-! ## The whole results -/

/-- The recurrent unit's result. -/
def resO : S16x2048x1024.Idx → EReal := fun i => outR (H m c (i 0) ⟨(i 2).val / 128, by have : (i 2).val < 1024 := (i 2).isLt; omega⟩) (i 1) ⟨(i 2).val % 128, Nat.mod_lt _ (by norm_num)⟩
/-- The weights as the kernel hands them on. -/
def resW : S32x2048x1024.Idx → EReal := fun i => A9 m c (ix4 0 (i 0) (i 1) (i 2))

theorem final10 (hf : ∀ b h, Fine (H m c b h)) : (dats m 0 c).arrAt 10 cfg0.N = resO m c := by
  refine (dats m 0 c).arrAt_eq_of_covers 10 _ (by decide +kernel) fun t _ y => ?_
  have hy : y = (ix3 0 (y 1) (y 2) : S1x2048x256.Idx) := (eq_ix3 (y : S1x2048x256.Idx)).trans (congrArg (fun a : Fin 1 => ix3 a (y 1) (y 2)) (Subsingleton.elim _ _))
  have e : (win0_10.blk t).view.emb y = (ix3 (bT t) (y 1) ⟨t.val % 4 * 256 + (y 2).val, by have : (y 2).val < 256 := (y 2).isLt; omega⟩ : S16x2048x1024.Idx) := by blk_ext [idx10 t]
  refine Eq.trans ?_ ((oBlk_apply m c t (y 1) (y 2) hf).trans (congrArg (resO m c) e).symm)
  blk_simp
  rw [after_10]
  exact congrArg (oBlk (inVals m c t)) hy

theorem final11 : (dats m 0 c).arrAt 11 cfg0.N = resW m c := by
  refine (dats m 0 c).arrAt_eq_of_covers 11 _ (by decide +kernel) fun t hf y => ?_
  have hy : y = (ix3 0 (y 1) (y 2) : S1x1024x1024.Idx) := (eq_ix3 (y : S1x1024x1024.Idx)).trans (congrArg (fun a : Fin 1 => ix3 a (y 1) (y 2)) (Subsingleton.elim _ _))
  have e : (win0_11.blk t).view.emb y = (ix3 (xT t) ⟨t.val % 2 * 1024 + (y 1).val, by have : (y 1).val < 1024 := (y 1).isLt; omega⟩ (y 2) : S32x2048x1024.Idx) := by blk_ext [idx11 t]
  refine Eq.trans ?_ ((wBlk_apply m c t (y 1) (y 2)).trans (congrArg (resW m c) e).symm)
  blk_simp
  rw [after_11]
  exact congrArg (k0_pay2 (iblk m c 9 t)) hy

end Cert.KernelRglruIdeal.Lru

end
-- ==== Proof.Lru.RefFrame.lean ====
/- The reference runs, leaves its arguments as they were, and its buffers end at the fold of its operations. -/
module

public import proofs.«01_k».proof.Proof.Gen.ReferenceRglruIdeal.Run
public import Idealize.ShloMosaic.Lib.Quiescent
public import Idealize.ShloMosaic.Lib.Claim

@[expose] public section

set_option maxRecDepth 16384

noncomputable section

namespace Cert.ReferenceRglruIdeal.Lru

open Idealize.ShloMosaic Idealize.ShloMosaic.TcCoe Idealize.ShloMosaic.StableHlo
open Idealize.SL Idealize.SL.Sem
open Cert.ReferenceRglruIdeal Cert.ReferenceRglruIdeal.Gen Cert.ReferenceRglruIdeal.Value

variable {F : FTy → Type} [FloatOps F]
variable (m : (ℓ : Loc nD τ sig) → Buf (Elt F) ℓ) (ρ : Dev nD → PrngReg)

/-- What the buffers hold at the end. -/
abbrev fin (c : Dev nD) : Valuation τ sig (Elt F) := finalContents condOps preI bodyI postI 2048 m c

/-- A buffer no operation writes keeps its contents through any number of trips. -/
theorem atTrip_keep (r : Ref sig .tc) (hc : r ∉ condOps_W) (h0 : r ∉ while0Ops0_W) (h1 : r ∉ while0Ops0_1_W) (h2 : r ∉ while0Ops0_2_W) (h3 : r ∉ while0Ops0_3_W) (h4 : r ∉ while0Ops0_4_W) (c : Dev nD) :
    ∀ k, atK m k c (Proc.devRef .tc r) = entryContents preI m c (Proc.devRef .tc r)
  | 0 => rfl
  | k + 1 => by
    show afterL bodyI (after condOps (atK m k c)) (Proc.devRef .tc r) = _
    rw [afterL_cons, afterL_cons, afterL_cons, afterL_cons, afterL_cons, afterL_nil,
      after_of_writes_sub _ _ (while0Ops0_4_writes (F := F)) h4, after_of_writes_sub _ _ (while0Ops0_3_writes (F := F)) h3, after_of_writes_sub _ _ (while0Ops0_2_writes (F := F)) h2,
      after_of_writes_sub _ _ (while0Ops0_1_writes (F := F)) h1, after_of_writes_sub _ _ (while0Ops0_writes (F := F)) h0,
      after_of_writes_sub _ _ (condOps_writes (F := F)) hc, atTrip_keep r hc h0 h1 h2 h3 h4 c k]

/-- The references the operations after the loop write, in order. -/
abbrev post5_W : List (Ref sig .tc) := [main_v86, main_v87, main_v88, main_cst_8, main_v89, main_v90, main_cst_9, main_v91, main_v92, main_cst_10, main_v93, main_v94, main_v95, main_v96, main_v97, main_v98, main_v99, main_v100, main_v101, main_v102, main_v103, main_v104, main_cst_11, main_v105, main_v106, main_v107, main_cst_12, main_v108, main_v109, main_v110, main_cst_13, main_v111, main_v112, main_cst_14, main_v113, main_v114, main_v115, main_v116, main_v117, main_v118, main_v119]
theorem post5_writes : (hostOps0_5 : List (HloOp τ sig (Elt F))).Forall fun op => op.writes ⊆ (post5_W.map (Proc.devRef (τ := τ) .tc)).toFinset :=
  StableHlo.forall_writes_sub_of_map rfl

/-- A buffer the loop does not write holds after it what it held before. -/
theorem loop_keep (r : Ref sig .tc) (hc : r ∉ condOps_W) (h0 : r ∉ while0Ops0_W) (h1 : r ∉ while0Ops0_1_W) (h2 : r ∉ while0Ops0_2_W) (h3 : r ∉ while0Ops0_3_W) (h4 : r ∉ while0Ops0_4_W) (c : Dev nD) (k : ℕ) :
    after condOps (atTrip condOps bodyI (entryContents preI m) k c) (Proc.devRef .tc r) = entryContents preI m c (Proc.devRef .tc r) := by
  rw [after_of_writes_sub _ _ (condOps_writes (F := F)) hc]; exact atTrip_keep m r hc h0 h1 h2 h3 h4 c k

/-- A buffer nothing writes keeps its launch contents. -/
theorem fin_keep (r : Ref sig .tc) (hc : r ∉ condOps_W) (h0 : r ∉ while0Ops0_W) (h1 : r ∉ while0Ops0_1_W) (h2 : r ∉ while0Ops0_2_W) (h3 : r ∉ while0Ops0_3_W) (h4 : r ∉ while0Ops0_4_W)
    (p0 : r ∉ hostOps0_W) (p1 : r ∉ hostOps0_1_W) (p2 : r ∉ hostOps0_2_W) (p3 : r ∉ hostOps0_3_W) (p4 : r ∉ hostOps0_4_W) (q5 : r ∉ post5_W) (c : Dev nD) :
    fin m c (Proc.devRef .tc r) = m ((c.tc : Thread nD τ).loc r) := by
  show afterL postI _ (Proc.devRef .tc r) = _
  rw [afterL_cons, afterL_nil, after_of_writes_sub _ _ (post5_writes (F := F)) q5, loop_keep m r hc h0 h1 h2 h3 h4]
  show afterL preI _ (Proc.devRef .tc r) = _
  rw [afterL_cons, afterL_cons, afterL_cons, afterL_cons, afterL_cons, afterL_nil, after_of_writes_sub _ _ (hostOps0_4_writes (F := F)) p4,
    after_of_writes_sub _ _ (hostOps0_3_writes (F := F)) p3, after_of_writes_sub _ _ (hostOps0_2_writes (F := F)) p2, after_of_writes_sub _ _ (hostOps0_1_writes (F := F)) p1,
    after_of_writes_sub _ _ (hostOps0_writes (F := F)) p0]

theorem fin_arg0 (c : Dev nD) : fin m c (Proc.devRef .tc main_arg0) = m ((c.tc : Thread nD τ).loc main_arg0) :=
  fin_keep m main_arg0 (by decide) (by decide) (by decide) (by decide) (by decide) (by decide) (by decide) (by decide) (by decide) (by decide) (by decide) (by decide) c
theorem fin_arg1 (c : Dev nD) : fin m c (Proc.devRef .tc main_arg1) = m ((c.tc : Thread nD τ).loc main_arg1) :=
  fin_keep m main_arg1 (by decide) (by decide) (by decide) (by decide) (by decide) (by decide) (by decide) (by decide) (by decide) (by decide) (by decide) (by decide) c
theorem fin_arg2 (c : Dev nD) : fin m c (Proc.devRef .tc main_arg2) = m ((c.tc : Thread nD τ).loc main_arg2) :=
  fin_keep m main_arg2 (by decide) (by decide) (by decide) (by decide) (by decide) (by decide) (by decide) (by decide) (by decide) (by decide) (by decide) (by decide) c
theorem fin_arg3 (c : Dev nD) : fin m c (Proc.devRef .tc main_arg3) = m ((c.tc : Thread nD τ).loc main_arg3) :=
  fin_keep m main_arg3 (by decide) (by decide) (by decide) (by decide) (by decide) (by decide) (by decide) (by decide) (by decide) (by decide) (by decide) (by decide) c
theorem fin_arg4 (c : Dev nD) : fin m c (Proc.devRef .tc main_arg4) = m ((c.tc : Thread nD τ).loc main_arg4) :=
  fin_keep m main_arg4 (by decide) (by decide) (by decide) (by decide) (by decide) (by decide) (by decide) (by decide) (by decide) (by decide) (by decide) (by decide) c
theorem fin_arg5 (c : Dev nD) : fin m c (Proc.devRef .tc main_arg5) = m ((c.tc : Thread nD τ).loc main_arg5) :=
  fin_keep m main_arg5 (by decide) (by decide) (by decide) (by decide) (by decide) (by decide) (by decide) (by decide) (by decide) (by decide) (by decide) (by decide) c
theorem fin_arg6 (c : Dev nD) : fin m c (Proc.devRef .tc main_arg6) = m ((c.tc : Thread nD τ).loc main_arg6) :=
  fin_keep m main_arg6 (by decide) (by decide) (by decide) (by decide) (by decide) (by decide) (by decide) (by decide) (by decide) (by decide) (by decide) (by decide) c
theorem fin_arg7 (c : Dev nD) : fin m c (Proc.devRef .tc main_arg7) = m ((c.tc : Thread nD τ).loc main_arg7) :=
  fin_keep m main_arg7 (by decide) (by decide) (by decide) (by decide) (by decide) (by decide) (by decide) (by decide) (by decide) (by decide) (by decide) (by decide) c
theorem fin_arg8 (c : Dev nD) : fin m c (Proc.devRef .tc main_arg8) = m ((c.tc : Thread nD τ).loc main_arg8) :=
  fin_keep m main_arg8 (by decide) (by decide) (by decide) (by decide) (by decide) (by decide) (by decide) (by decide) (by decide) (by decide) (by decide) (by decide) c
theorem fin_arg9 (c : Dev nD) : fin m c (Proc.devRef .tc main_arg9) = m ((c.tc : Thread nD τ).loc main_arg9) :=
  fin_keep m main_arg9 (by decide) (by decide) (by decide) (by decide) (by decide) (by decide) (by decide) (by decide) (by decide) (by decide) (by decide) (by decide) c

/-- The frame of the reference: it ends, its arguments unchanged and every counter zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => ⟨(h c main_arg0 rfl).trans (fin_arg0 m c), (h c main_arg1 rfl).trans (fin_arg1 m c), (h c main_arg2 rfl).trans (fin_arg2 m c), (h c main_arg3 rfl).trans (fin_arg3 m c), (h c main_arg4 rfl).trans (fin_arg4 m c), (h c main_arg5 rfl).trans (fin_arg5 m c), (h c main_arg6 rfl).trans (fin_arg6 m c), (h c main_arg7 rfl).trans (fin_arg7 m c), (h c main_arg8 rfl).trans (fin_arg8 m c), (h c main_arg9 rfl).trans (fin_arg9 m c)⟩,
    sem_eq_zero_of_no_sems (by decide) r.2⟩) (run_fold m ρ)

/-- The run with the two results and the arguments named. -/
theorem run : θ_run (defs (F := F)) (onTc (τ := τ) (main (F := F))) ⟨m, fun _ => 0, ρ⟩ (fun r => ∀ c : Dev nD,
      r.2.mem ((c.tc : Thread nD τ).loc main_v117) = fin m c (Proc.devRef .tc main_v117)
      ∧ r.2.mem ((c.tc : Thread nD τ).loc main_v119) = fin m c (Proc.devRef .tc main_v119)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨h c main_v117 rfl, h c main_v119 rfl, (h c main_arg0 rfl).trans (fin_arg0 m c), (h c main_arg1 rfl).trans (fin_arg1 m c), (h c main_arg2 rfl).trans (fin_arg2 m c), (h c main_arg3 rfl).trans (fin_arg3 m c), (h c main_arg4 rfl).trans (fin_arg4 m c), (h c main_arg5 rfl).trans (fin_arg5 m c), (h c main_arg6 rfl).trans (fin_arg6 m c), (h c main_arg7 rfl).trans (fin_arg7 m c), (h c main_arg8 rfl).trans (fin_arg8 m c), (h c main_arg9 rfl).trans (fin_arg9 m c)⟩)
    (run_fold m ρ)

end Cert.ReferenceRglruIdeal.Lru

end
-- ==== Proof.Lru.RefLoop.lean ====
/- A trip of the reference's loop over the positions, and the states it stacks. -/
module

public import proofs.«01_k».proof.Proof.Lru.RefFrame
public import Idealize.ShloMosaic.Lib.StableHlo.ReadAt
public import Idealize.ShloMosaic.Lib.Pointwise

@[expose] public section

set_option maxRecDepth 16384

noncomputable section

namespace Cert.ReferenceRglruIdeal.Lru

open Idealize.ShloMosaic Idealize.ShloMosaic.TcCoe Idealize.ShloMosaic.StableHlo
open Cert.ReferenceRglruIdeal Cert.ReferenceRglruIdeal.Gen Cert.ReferenceRglruIdeal.Value

variable (V : Valuation τ sig (Elt Ideal))
variable (b : Fin 16) (n : Fin 2048) (x : Fin 1024)

/-- An array of extended reals at an index. -/
abbrev rd {s : Shape} (f : s.Idx → EReal) (i : s.Idx) : EReal := f i

/-- Where a trip reads and writes: its own number on the first axis, nothing elsewhere. -/
abbrev startOf (k : Fin 2048) : Fin 3 → Int := ![(k.val : Int), 0, 0]

theorem start_eq (k : Fin 2048) (hk : V (Proc.devRef .tc main_v85_2) = fun _ => BitVec.ofNat 32 k.val) :
    (fun a => (((![V (Proc.devRef .tc main_v85_2), constantI S_ 32 0#32, constantI S_ 32 0#32] : Fin 3 → (⟨S_, .i32⟩ : BufTy).Contents (Elt Ideal))) a (Shape.Idx.first h_S_)).toInt) = startOf k := by
  rw [hk]
  funext a
  match a with
  | 0 =>
    show (BitVec.ofNat 32 k.val).toInt = (k.val : Int)
    rw [BitVec.toInt_eq_toNat_of_lt (by rw [BitVec.toNat_ofNat]; omega), BitVec.toNat_ofNat]; omega
  | 1 | 2 => rfl

theorem clamp0 (k : Fin 2048) (hr) : Host.clampedStart S2048x16x1024 S1x16x1024 hr (startOf k) 0 = k.val :=
  Host.clampedStart_of_le hr _ 0 k.val rfl (show k.val + 1 ≤ 2048 by omega)
theorem clamp1 (k : Fin 2048) (hr) : Host.clampedStart S2048x16x1024 S1x16x1024 hr (startOf k) 1 = 0 :=
  Host.clampedStart_of_le hr _ 1 0 rfl (by show 0 + 16 ≤ 16; decide)
theorem clamp2 (k : Fin 2048) (hr) : Host.clampedStart S2048x16x1024 S1x16x1024 hr (startOf k) 2 = 0 :=
  Host.clampedStart_of_le hr _ 2 0 rfl (by show 0 + 1024 ≤ 1024; decide)

/-- One position: the state times the multiplier, and the summand. -/
theorem step_apply (k : Fin 2048) (hk : V (Proc.devRef .tc main_v85_2) = fun _ => BitVec.ofNat 32 k.val) : rd (s := S16x1024) (res_main_while0b_v123 V) (ix2 b x)
    = rd (s := S2048x16x1024) (V (Proc.devRef .tc main_v85_0)) (ix3 k b x) * rd (s := S16x1024) (V (Proc.devRef .tc main_v85_3)) (ix2 b x) + rd (s := S2048x16x1024) (V (Proc.devRef .tc main_v85_1)) (ix3 k b x) := by
  unfold res_main_while0b_v123
  refine (congrArg (fun st : Fin 3 → Int => (addf (F := Ideal) (φ := .f32) (mulf (shapeCast S16x1024 (Host.dynamicSlice (s := S2048x16x1024) S1x16x1024 (V (Proc.devRef .tc main_v85_0)) st sliceFits_S2048x16x1024_S1x16x1024) shapeCasts_S1x16x1024_S16x1024) (V (Proc.devRef .tc main_v85_3)))
    (shapeCast S16x1024 (Host.dynamicSlice (s := S2048x16x1024) S1x16x1024 (V (Proc.devRef .tc main_v85_1)) st sliceFits_S2048x16x1024_S1x16x1024) shapeCasts_S1x16x1024_S16x1024)) (ix2 b x)) (start_eq V k hk)).trans ?_
  pointwise
  simp only [clamp0, clamp1, clamp2, Nat.zero_add, Nat.add_zero]

/-- One trip on the state. -/
theorem trip3 (k : Fin 2048) (hk : V (Proc.devRef .tc main_v85_2) = fun _ => BitVec.ofNat 32 k.val) : rd (s := S16x1024) (afterL bodyI V (Proc.devRef .tc main_v85_3)) (ix2 b x)
    = rd (s := S2048x16x1024) (V (Proc.devRef .tc main_v85_0)) (ix3 k b x) * rd (s := S16x1024) (V (Proc.devRef .tc main_v85_3)) (ix2 b x) + rd (s := S2048x16x1024) (V (Proc.devRef .tc main_v85_1)) (ix3 k b x) := by
  rw [trip_main_v85_3]
  exact step_apply V b x k hk

/-- One trip on the stack of states: the new state at the trip's place. -/
theorem trip4 (k : Fin 2048) (hk : V (Proc.devRef .tc main_v85_2) = fun _ => BitVec.ofNat 32 k.val) : rd (s := S2048x16x1024) (afterL bodyI V (Proc.devRef .tc main_v85_4)) (ix3 n b x)
    = if n = k then rd (s := S16x1024) (res_main_while0b_v123 V) (ix2 b x) else rd (s := S2048x16x1024) (V (Proc.devRef .tc main_v85_4)) (ix3 n b x) := by
  rw [trip_main_v85_4]
  generalize res_main_while0b_v123 V = R
  refine (congrArg (fun st : Fin 3 → Int => (Host.dynamicUpdateSlice (s := S2048x16x1024) (u := S1x16x1024) (V (Proc.devRef .tc main_v85_4))
    (broadcastInDim S1x16x1024 ![1, 2] bcast_S16x1024_S1x16x1024_1_2 R) st updateFits_S2048x16x1024_S1x16x1024) (ix3 n b x)) (start_eq V k hk)).trans ?_
  pointwise
  simp only [clamp0, clamp1, clamp2, Nat.zero_add, Nat.add_zero]
  by_cases hn : n = k
  · subst hn
    rw [dif_pos (by omega), if_pos rfl]
    simp only [Nat.sub_zero]
  · rw [dif_neg (by have := fun h => hn (Fin.ext h); omega), if_neg hn]

variable (m : (ℓ : Loc nD τ sig) → Buf (Elt Ideal) ℓ)

/-- A buffer the loop's test does not write. -/
theorem cond_keep (r : Ref sig .tc) (hc : r ∉ condOps_W) : after condOps V (Proc.devRef .tc r) = V (Proc.devRef .tc r) :=
  after_of_writes_sub _ _ (condOps_writes (F := Ideal)) hc

/-- The state before a trip, and the stack. -/
theorem states (c : Dev nD) (av bv : ℕ → EReal) (ha : ∀ k : Fin 2048, rd (s := S2048x16x1024) (entryContents preI m c (Proc.devRef .tc main_v85_0)) (ix3 k b x) = av k.val)
    (hb : ∀ k : Fin 2048, rd (s := S2048x16x1024) (entryContents preI m c (Proc.devRef .tc main_v85_1)) (ix3 k b x) = bv k.val)
    (st : ℕ → EReal) (h0 : rd (s := S16x1024) (entryContents preI m c (Proc.devRef .tc main_v85_3)) (ix2 b x) = st 0)
    (hs : ∀ k : ℕ, st (k + 1) = av k * st k + bv k) :
    ∀ k : ℕ, k ≤ 2048 → rd (s := S16x1024) (atK m k c (Proc.devRef .tc main_v85_3)) (ix2 b x) = st k
      ∧ ∀ n : Fin 2048, n.val < k → rd (s := S2048x16x1024) (atK m k c (Proc.devRef .tc main_v85_4)) (ix3 n b x) = st (n.val + 1)
  | 0, _ => ⟨h0, fun n hn => absurd hn (Nat.not_lt_zero _)⟩
  | k + 1, hk => by
    have ih := states c av bv ha hb st h0 hs k (by omega)
    have hc : after condOps (atK m k c) (Proc.devRef .tc main_v85_2) = fun _ => BitVec.ofNat 32 (⟨k, by omega⟩ : Fin 2048).val := by
      rw [cond_keep _ main_v85_2 (by decide), atK_ctr]
      funext _
      show 0#32 + BitVec.ofNat 32 k * 1#32 = BitVec.ofNat 32 k
      rw [BitVec.mul_one, BitVec.zero_add]
    have e3 : after condOps (atK m k c) (Proc.devRef .tc main_v85_3) = atK m k c (Proc.devRef .tc main_v85_3) := cond_keep _ _ (by decide)
    have e4 : after condOps (atK m k c) (Proc.devRef .tc main_v85_4) = atK m k c (Proc.devRef .tc main_v85_4) := cond_keep _ _ (by decide)
    have e0 : after condOps (atK m k c) (Proc.devRef .tc main_v85_0) = entryContents preI m c (Proc.devRef .tc main_v85_0) :=
      loop_keep m main_v85_0 (by decide) (by decide) (by decide) (by decide) (by decide) (by decide) c k
    have e1 : after condOps (atK m k c) (Proc.devRef .tc main_v85_1) = entryContents preI m c (Proc.devRef .tc main_v85_1) :=
      loop_keep m main_v85_1 (by decide) (by decide) (by decide) (by decide) (by decide) (by decide) c k
    have hstep : rd (s := S16x1024) (res_main_while0b_v123 (after condOps (atK m k c))) (ix2 b x) = st (k + 1) := by
      refine (step_apply _ b x ⟨k, by omega⟩ hc).trans ?_
      rw [e3, e0, e1, ih.1, ha, hb]
      exact (hs k).symm
    refine ⟨((congrFun (trip_main_v85_3 (after condOps (atK m k c))) (ix2 b x)).trans hstep), fun n hn => (trip4 (after condOps (atK m k c)) b n x ⟨k, by omega⟩ hc).trans ?_⟩
    rw [e4, hstep]
    split
    · rename_i he; rw [he]
    · rename_i he
      exact ih.2 n (by have : n.val ≠ k := fun h => he (Fin.ext h); omega)

end Cert.ReferenceRglruIdeal.Lru

end
-- ==== Proof.Lru.RefRead.lean ====
/- What the reference computes before and after its loop, entry by entry. -/
module

public import proofs.«01_k».proof.Proof.Lru.RefLoop
public import proofs.«01_k».proof.Proof.Lru.Spec

@[expose] public section

set_option maxRecDepth 16384

noncomputable section

namespace Cert.ReferenceRglruIdeal.Lru

open Idealize.ShloMosaic Idealize.ShloMosaic.TcCoe Idealize.ShloMosaic.StableHlo
open Cert.ReferenceRglruIdeal Cert.ReferenceRglruIdeal.Gen Cert.ReferenceRglruIdeal.Value
open Cert.Lru

variable (V : Valuation τ sig (Elt Ideal))
variable (b : Fin 16) (s : Fin 2048) (x : Fin 1024)

theorem v1_apply : rd (s := S16x2048x1024) (after hostOps0 V (Proc.devRef .tc main_v1)) (ix3 b s x) = rd (s := S16x2048x6144) (V (Proc.devRef .tc main_arg0)) (ix3 b s ⟨4096 + x.val, by omega⟩) := by
  after_reads_at
theorem v2_apply : rd (s := S16x2048x1024) (after hostOps0 V (Proc.devRef .tc main_v2)) (ix3 b s x) = rd (s := S16x2048x6144) (V (Proc.devRef .tc main_arg0)) (ix3 b s ⟨5120 + x.val, by omega⟩) := by
  after_reads_at
theorem v3_apply (k : Fin 4) : rd (s := S4x1024) (after hostOps0 V (Proc.devRef .tc main_v3)) (ix2 k x) = rd (s := S1x4x1024) (V (Proc.devRef .tc main_arg1)) (ix3 0 k x) := by
  after_reads_at
  rfl
theorem v4_apply : rd (s := S1024) (after hostOps0 V (Proc.devRef .tc main_v4)) (ix1 x) = rd (s := S1x1024) (V (Proc.devRef .tc main_arg2)) (ix2 0 x) := by
  after_reads_at
  rfl
theorem c_apply (i : S_.Idx) : (after hostOps0 V (Proc.devRef .tc main_c) : S_.Idx → BitVec 32) i = 0#32 := by
  after_reads_at
theorem v5_apply (y : Fin 2051) : rd (s := S16x2051x1024) (after hostOps0_1 V (Proc.devRef .tc main_v5)) (ix3 b y x)
    = if h : 3 ≤ y.val ∧ y.val - 3 < 2048 then rd (s := S16x2048x1024) (V (Proc.devRef .tc main_v1)) (ix3 b ⟨y.val - 3, h.2⟩ x)
      else FloatOps.sitofp (F := Ideal) .f32 ((V (Proc.devRef .tc main_c) : S_.Idx → BitVec 32) (Shape.Idx.first h_S_)) := by
  after_reads_at

/-- The convolution, from the padded input. -/
def convV : EReal := rd (s := S1024) (V (Proc.devRef .tc main_v4)) (ix1 x)
  + rd (s := S16x2051x1024) (V (Proc.devRef .tc main_v5)) (ix3 b ⟨s.val, by omega⟩ x) * rd (s := S4x1024) (V (Proc.devRef .tc main_v3)) (ix2 0 x)
  + rd (s := S16x2051x1024) (V (Proc.devRef .tc main_v5)) (ix3 b ⟨1 + s.val, by omega⟩ x) * rd (s := S4x1024) (V (Proc.devRef .tc main_v3)) (ix2 1 x)
  + rd (s := S16x2051x1024) (V (Proc.devRef .tc main_v5)) (ix3 b ⟨2 + s.val, by omega⟩ x) * rd (s := S4x1024) (V (Proc.devRef .tc main_v3)) (ix2 2 x)
  + rd (s := S16x2051x1024) (V (Proc.devRef .tc main_v5)) (ix3 b ⟨3 + s.val, by omega⟩ x) * rd (s := S4x1024) (V (Proc.devRef .tc main_v3)) (ix2 3 x)

/-- A gate, from the convolution. -/
def gateV (W : S1x8x128x128.Idx → EReal) (B : S1x1024.Idx → EReal) : EReal :=
  Ideal.div 1 (1 + Ideal.exp (-(∑ c : Fin 128, W (ix4 0 ⟨x.val / 128, by omega⟩ c ⟨x.val % 128, by omega⟩) * convV V b s ⟨x.val / 128 * 128 + c.val, by omega⟩ + B (ix2 0 x))))

theorem v35_apply : rd (s := S16x2048x1024) (after hostOps0_2 V (Proc.devRef .tc main_v35)) (ix3 b s x) = convV V b s x := by
  after_reads_at
  rfl
theorem v67_apply : rd (s := S16x2048x1024) (after hostOps0_2 V (Proc.devRef .tc main_v67)) (ix3 b s x)
    = Ideal.ofBits .f32 0xC1000000#32 * gateV V b s x (V (Proc.devRef .tc main_arg3)) (V (Proc.devRef .tc main_arg4)) := by
  after_reads_at
  rfl
theorem v65_apply : rd (s := S16x2048x1024) (after hostOps0_2 V (Proc.devRef .tc main_v65)) (ix3 b s x)
    = gateV V b s x (V (Proc.devRef .tc main_arg5)) (V (Proc.devRef .tc main_arg6)) := by
  after_reads_at
  rfl
theorem v68_apply : rd (s := S1024) (after hostOps0_2 V (Proc.devRef .tc main_v68)) (ix1 x) = -rd (s := S1x1024) (V (Proc.devRef .tc main_arg7)) (ix2 0 x) := by
  after_reads_at
theorem v69_apply : rd (s := S1024) (after hostOps0_3 V (Proc.devRef .tc main_v69)) (ix1 x) = sp (rd (s := S1024) (V (Proc.devRef .tc main_v68)) (ix1 x)) := by
  after_reads_at
  exact if_neg (by simp)
theorem mul_apply : rd (s := S2048x16x1024) (after hostOps0_4 V (Proc.devRef .tc main_v85_0)) (ix3 s b x)
    = Ideal.exp (rd (s := S16x2048x1024) (V (Proc.devRef .tc main_v67)) (ix3 b s x) * rd (s := S1024) (V (Proc.devRef .tc main_v69)) (ix1 x)) := by
  after_reads_at
  simp only [id, rd]
  pointwise
theorem add_apply : rd (s := S2048x16x1024) (after hostOps0_4 V (Proc.devRef .tc main_v85_1)) (ix3 s b x)
    = rootR (rd (s := S16x2048x1024) (V (Proc.devRef .tc main_v67)) (ix3 b s x) * rd (s := S1024) (V (Proc.devRef .tc main_v69)) (ix1 x))
      * (rd (s := S16x2048x1024) (V (Proc.devRef .tc main_v65)) (ix3 b s x) * rd (s := S16x2048x1024) (V (Proc.devRef .tc main_v35)) (ix3 b s x)) := by
  after_reads_at
  simp only [id, rd]
  pointwise
  rfl
theorem st_apply : rd (s := S16x1024) (after hostOps0_4 V (Proc.devRef .tc main_v85_3)) (ix2 b x) = 0 := by
  after_reads_at
  simp only [id, rd]
  pointwise
theorem v117_apply : rd (s := S16x2048x1024) (after hostOps0_5 V (Proc.devRef .tc main_v117)) (ix3 b s x)
    = rms (fun e => rd (s := S2048x16x1024) (V (Proc.devRef .tc main_v85_4)) (ix3 s b ⟨x.val / 128 * 128 + e.val, by omega⟩)) ⟨x.val % 128, by omega⟩
      * rd (s := S1x1024) (V (Proc.devRef .tc main_arg8)) (ix2 0 x) * geluR (rd (s := S16x2048x1024) (V (Proc.devRef .tc main_v2)) (ix3 b s x)) := by
  after_reads_at
  rfl
theorem v119_apply (y : Fin 32) : rd (s := S32x2048x1024) (after hostOps0_5 V (Proc.devRef .tc main_v119)) (ix3 y s x) = rd (s := S1x32x2048x1024) (V (Proc.devRef .tc main_arg9)) (ix4 0 y s x) := by
  after_reads_at

end Cert.ReferenceRglruIdeal.Lru

end
-- ==== Proof.Lru.RefValue.lean ====
/- What the reference's results hold at the end, entry by entry. -/
module

public import proofs.«01_k».proof.Proof.Lru.RefRead

@[expose] public section

set_option maxRecDepth 16384

noncomputable section

namespace Cert.ReferenceRglruIdeal.Lru

open Idealize.ShloMosaic Idealize.ShloMosaic.TcCoe Idealize.ShloMosaic.StableHlo
open Cert.ReferenceRglruIdeal Cert.ReferenceRglruIdeal.Gen Cert.ReferenceRglruIdeal.Value
open Cert.Lru

variable (m : (ℓ : Loc nD τ sig) → Buf (Elt Ideal) ℓ) (c : Dev nD)
variable (b : Fin 16) (h : Fin 8) (d e : Fin 128) (s : Fin 2048) (x : Fin 1024)

/-- The buffers at the launch, after each stretch before the loop, and at the loop's end. -/
abbrev V0 : Valuation τ sig (Elt Ideal) := fun r => m (c, r)
abbrev V1 : Valuation τ sig (Elt Ideal) := after hostOps0 (V0 m c)
abbrev V2 : Valuation τ sig (Elt Ideal) := after hostOps0_1 (V1 m c)
abbrev V3 : Valuation τ sig (Elt Ideal) := after hostOps0_2 (V2 m c)
abbrev V4 : Valuation τ sig (Elt Ideal) := after hostOps0_3 (V3 m c)
abbrev V5 : Valuation τ sig (Elt Ideal) := after hostOps0_4 (V4 m c)
abbrev V6 : Valuation τ sig (Elt Ideal) := after condOps (atK m 2048 c)

theorem V1_keep (r : Ref sig .tc) (p0 : r ∉ hostOps0_W) : V1 m c (Proc.devRef .tc r) = m ((c.tc : Thread nD τ).loc r) :=
  after_of_writes_sub _ _ (hostOps0_writes (F := Ideal)) p0
theorem V2_keep (r : Ref sig .tc) (p1 : r ∉ hostOps0_1_W) : V2 m c (Proc.devRef .tc r) = V1 m c (Proc.devRef .tc r) :=
  after_of_writes_sub _ _ (hostOps0_1_writes (F := Ideal)) p1
theorem V4_keep (r : Ref sig .tc) (p3 : r ∉ hostOps0_3_W) : V4 m c (Proc.devRef .tc r) = V3 m c (Proc.devRef .tc r) :=
  after_of_writes_sub _ _ (hostOps0_3_writes (F := Ideal)) p3
theorem V5_keep (r : Ref sig .tc) (p2 : r ∉ hostOps0_2_W) (p3 : r ∉ hostOps0_3_W) (p4 : r ∉ hostOps0_4_W) : V5 m c (Proc.devRef .tc r) = V2 m c (Proc.devRef .tc r) :=
  (after_of_writes_sub _ _ (hostOps0_4_writes (F := Ideal)) p4).trans ((V4_keep m c r p3).trans (after_of_writes_sub _ _ (hostOps0_2_writes (F := Ideal)) p2))
theorem entry_eq : entryContents preI m c = V5 m c := by
  show afterL preI _ = _
  rw [afterL_cons, afterL_cons, afterL_cons, afterL_cons, afterL_cons, afterL_nil]
theorem V6_keep (r : Ref sig .tc) (hc : r ∉ condOps_W) (h0 : r ∉ while0Ops0_W) (h1 : r ∉ while0Ops0_1_W) (h2 : r ∉ while0Ops0_2_W) (h3 : r ∉ while0Ops0_3_W) (h4 : r ∉ while0Ops0_4_W) :
    V6 m c (Proc.devRef .tc r) = V5 m c (Proc.devRef .tc r) :=
  (loop_keep m r hc h0 h1 h2 h3 h4 c 2048).trans (congrFun (entry_eq m c) _)

/-- What a block of lanes reads of the arguments. -/
abbrev H : Head := headOf (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5)) (m ((c.tc : Thread nD τ).loc main_arg6))
  (m ((c.tc : Thread nD τ).loc main_arg7)) (m ((c.tc : Thread nD τ).loc main_arg8)) b h
/-- A lane of the block. -/
abbrev ln (h : Fin 8) (d : Fin 128) : Fin 1024 := ⟨h.val * 128 + d.val, by omega⟩

theorem V2_v5 (y : Fin 2051) (k : ℕ) (hk : k ≤ 3) (hy : y.val + k = 3 + s.val) : rd (s := S16x2051x1024) (V2 m c (Proc.devRef .tc main_v5)) (ix3 b y (ln h d)) = bk (H m c b h) k s.val d := by
  refine (v5_apply (V1 m c) b (ln h d) y).trans ?_
  unfold bk
  by_cases hs : k ≤ s.val
  · rw [dif_pos (show 3 ≤ y.val ∧ y.val - 3 < 2048 by omega), if_pos hs]
    refine (v1_apply (V0 m c) b _ _).trans (congrArg (fun a => rd (s := S16x2048x6144) (m ((c.tc : Thread nD τ).loc main_arg0)) (ix3 b a ⟨4096 + (h.val * 128 + d.val), by omega⟩)) (Fin.ext ?_))
    show y.val - 3 = (s.val - k) % 2048
    rw [Nat.mod_eq_of_lt (show s.val - k < 2048 by omega)]
    omega
  · rw [dif_neg (by omega), if_neg hs]
    exact (congrArg (FloatOps.sitofp (F := Ideal) .f32) (c_apply (V0 m c) _)).trans (by simp [FloatOps.sitofp])

theorem V2_conv : convV (V2 m c) b s (ln h d) = convR (H m c b h) s.val d := by
  have hw (k : Fin 4) : rd (s := S4x1024) (V2 m c (Proc.devRef .tc main_v3)) (ix2 k (ln h d)) = (H m c b h).w k d := by
    rw [V2_keep m c main_v3 (by decide)]; exact v3_apply (V0 m c) (ln h d) k
  have hb : rd (s := S1024) (V2 m c (Proc.devRef .tc main_v4)) (ix1 (ln h d)) = (H m c b h).cb d := by
    rw [V2_keep m c main_v4 (by decide)]; exact v4_apply (V0 m c) (ln h d)
  unfold convV convR
  rw [hb, hw, hw, hw, hw, V2_v5 m c b h d s _ 3 (by norm_num) (by dsimp only; omega), V2_v5 m c b h d s _ 2 (by norm_num) (by dsimp only; omega),
    V2_v5 m c b h d s _ 1 (by norm_num) (by dsimp only; omega), V2_v5 m c b h d s _ 0 (by norm_num) (by dsimp only; omega)]

theorem V2_gate (W : S1x8x128x128.Idx → EReal) (B : S1x1024.Idx → EReal) : gateV (V2 m c) b s (ln h d) W B
    = gateR (fun x d => W (ix4 0 h x d)) (fun d => B (ix2 0 (ln h d))) (convR (H m c b h) s.val) d := by
  have e1 : (⟨(ln h d).val / 128, by omega⟩ : Fin 8) = h := Fin.ext (show (h.val * 128 + d.val) / 128 = h.val by omega)
  have e2 : (⟨(ln h d).val % 128, by omega⟩ : Fin 128) = d := Fin.ext (show (h.val * 128 + d.val) % 128 = d.val by omega)
  have e3 (x : Fin 128) : (⟨(ln h d).val / 128 * 128 + x.val, by omega⟩ : Fin 1024) = ln h x := Fin.ext (show (h.val * 128 + d.val) / 128 * 128 + x.val = h.val * 128 + x.val by omega)
  unfold gateV gateR
  refine congrArg (fun t => Ideal.div 1 (1 + Ideal.exp (-(t + B (ix2 0 (ln h d)))))) (Finset.sum_congr rfl fun x _ => ?_)
  rw [e1, e2, e3, V2_conv]

theorem V4_v67 : rd (s := S16x2048x1024) (V4 m c (Proc.devRef .tc main_v67)) (ix3 b s (ln h d)) * rd (s := S1024) (V4 m c (Proc.devRef .tc main_v69)) (ix1 (ln h d)) = logR (H m c b h) s.val d := by
  unfold logR
  refine congrArg₂ (· * ·) ?_ ?_
  · rw [V4_keep m c main_v67 (by decide)]
    refine (v67_apply (V2 m c) b s (ln h d)).trans (congrArg (Ideal.ofBits .f32 0xC1000000#32 * ·) ?_)
    rw [V2_keep m c main_arg3 (by decide), V1_keep m c main_arg3 (by decide), V2_keep m c main_arg4 (by decide), V1_keep m c main_arg4 (by decide)]
    exact V2_gate m c b h d s _ _
  · refine (v69_apply (V3 m c) (ln h d)).trans (congrArg sp ((v68_apply (V2 m c) (ln h d)).trans ?_))
    rw [V2_keep m c main_arg7 (by decide), V1_keep m c main_arg7 (by decide)]
    rfl

theorem V5_mul : rd (s := S2048x16x1024) (V5 m c (Proc.devRef .tc main_v85_0)) (ix3 s b (ln h d)) = mulR (H m c b h) s.val d :=
  (mul_apply (V4 m c) b s (ln h d)).trans (congrArg Ideal.exp (V4_v67 m c b h d s))
theorem V5_add : rd (s := S2048x16x1024) (V5 m c (Proc.devRef .tc main_v85_1)) (ix3 s b (ln h d)) = addR (H m c b h) s.val d := by
  refine (add_apply (V4 m c) b s (ln h d)).trans (congrArg₂ (· * ·) (congrArg rootR (V4_v67 m c b h d s)) (congrArg₂ (· * ·) ?_ ?_))
  · rw [V4_keep m c main_v65 (by decide)]
    refine (v65_apply (V2 m c) b s (ln h d)).trans ?_
    rw [V2_keep m c main_arg5 (by decide), V1_keep m c main_arg5 (by decide), V2_keep m c main_arg6 (by decide), V1_keep m c main_arg6 (by decide)]
    exact V2_gate m c b h d s _ _
  · rw [V4_keep m c main_v35 (by decide)]
    exact (v35_apply (V2 m c) b s (ln h d)).trans (V2_conv m c b h d s)

/-- The stack of states the loop leaves. -/
theorem V6_st : rd (s := S2048x16x1024) (V6 m c (Proc.devRef .tc main_v85_4)) (ix3 s b (ln h d))
    = stOf (fun t => mulR (H m c b h) t d) (fun t => addR (H m c b h) t d) (s.val + 1) := by
  rw [show V6 m c (Proc.devRef .tc main_v85_4) = atK m 2048 c (Proc.devRef .tc main_v85_4) from cond_keep _ main_v85_4 (by decide)]
  refine (states b (ln h d) m c (fun t => mulR (H m c b h) t d) (fun t => addR (H m c b h) t d) (fun k => ?_) (fun k => ?_)
    (stOf (fun t => mulR (H m c b h) t d) (fun t => addR (H m c b h) t d)) ?_ (fun k => rfl) 2048 (le_refl _)).2 s s.isLt
  · rw [entry_eq]; exact V5_mul m c b h d k
  · rw [entry_eq]; exact V5_add m c b h d k
  · rw [entry_eq]; exact st_apply (V4 m c) b (ln h d)

theorem arg_keep (r : Ref sig .tc) (hc : r ∉ condOps_W) (h0 : r ∉ while0Ops0_W) (h1 : r ∉ while0Ops0_1_W) (h2 : r ∉ while0Ops0_2_W) (h3 : r ∉ while0Ops0_3_W) (h4 : r ∉ while0Ops0_4_W)
    (p1 : r ∉ hostOps0_1_W) (p2 : r ∉ hostOps0_2_W) (p3 : r ∉ hostOps0_3_W) (p4 : r ∉ hostOps0_4_W) : V6 m c (Proc.devRef .tc r) = V1 m c (Proc.devRef .tc r) :=
  (V6_keep m c r hc h0 h1 h2 h3 h4).trans ((V5_keep m c r p2 p3 p4).trans (V2_keep m c r p1))

theorem fin_lane : rd (s := S16x2048x1024) (fin m c (Proc.devRef .tc main_v117)) (ix3 b s (ln h d)) = outR (H m c b h) s d := by
  show rd (s := S16x2048x1024) (afterL postI (V6 m c) (Proc.devRef .tc main_v117)) (ix3 b s (ln h d)) = _
  rw [afterL_cons, afterL_nil]
  refine (v117_apply _ b s (ln h d)).trans ?_
  unfold outR
  refine congrArg₂ (· * ·) (congrArg₂ (· * ·) ?_ ?_) (congrArg geluR ?_)
  · have e2 : (⟨(ln h d).val % 128, by omega⟩ : Fin 128) = d := Fin.ext (show (h.val * 128 + d.val) % 128 = d.val by omega)
    rw [e2]
    refine congrArg (fun o => rms o d) (funext fun e => ?_)
    rw [← V6_st]
    exact congrArg (fun a => rd (s := S2048x16x1024) (V6 m c (Proc.devRef .tc main_v85_4)) (ix3 s b a)) (Fin.ext (show (h.val * 128 + d.val) / 128 * 128 + e.val = h.val * 128 + e.val by omega))
  · rw [arg_keep m c main_arg8 (by decide) (by decide) (by decide) (by decide) (by decide) (by decide) (by decide) (by decide) (by decide) (by decide), V1_keep m c main_arg8 (by decide)]
    rfl
  · rw [arg_keep m c main_v2 (by decide) (by decide) (by decide) (by decide) (by decide) (by decide) (by decide) (by decide) (by decide) (by decide)]
    exact v2_apply (V0 m c) b s (ln h d)

/-- The recurrent unit of a block of lanes at an entry. -/
theorem fin_out : rd (s := S16x2048x1024) (fin m c (Proc.devRef .tc main_v117)) (ix3 b s x) = outR (H m c b ⟨x.val / 128, by omega⟩) s ⟨x.val % 128, by omega⟩ := by
  rw [← fin_lane]
  exact congrArg (fun a => rd (s := S16x2048x1024) (fin m c (Proc.devRef .tc main_v117)) (ix3 b s a)) (Fin.ext (show x.val = x.val / 128 * 128 + x.val % 128 by omega))

/-- The experts' first weights as the reference hands them on. -/
theorem fin_w (y : Fin 32) : rd (s := S32x2048x1024) (fin m c (Proc.devRef .tc main_v119)) (ix3 y s x) = rd (s := S1x32x2048x1024) (m ((c.tc : Thread nD τ).loc main_arg9)) (ix4 0 y s x) := by
  show rd (s := S32x2048x1024) (afterL postI (V6 m c) (Proc.devRef .tc main_v119)) (ix3 y s x) = _
  rw [afterL_cons, afterL_nil]
  refine (v119_apply _ s x y).trans ?_
  rw [arg_keep m c main_arg9 (by decide) (by decide) (by decide) (by decide) (by decide) (by decide) (by decide) (by decide) (by decide) (by decide), V1_keep m c main_arg9 (by decide)]

end Cert.ReferenceRglruIdeal.Lru

end
-- ==== Proof.Lru.Final.lean ====
/- The kernel's two results and the reference's are equal for finite inputs of the recurrence. -/
module

public import proofs.«01_k».proof.Defs
public import proofs.«01_k».proof.Proof.Lru.KerRes
public import proofs.«01_k».proof.Proof.Lru.RefValue
public import proofs.«01_k».proof.Proof.Lru.Eq

@[expose] public section

set_option maxRecDepth 16384

noncomputable section

namespace Cert.KernelRglruIdeal.Lru

open Idealize.ShloMosaic Idealize.ShloMosaic.TcCoe Idealize.ShloMosaic.StableHlo Idealize.SL.Sem
open Cert.KernelRglruIdeal Cert.KernelRglruIdeal.Gen
open Cert.Lru

variable (m : (ℓ : Loc nD τ sig) → Buf (Elt Ideal) ℓ) (ρ : Dev nD → PrngReg)

/-- Every run of the idealized kernel ends with the two results and the arguments as they were. -/
theorem run (hf : ∀ c b h, Fine (H m c b h)) : θ_run defs (onTc (τ := τ) (main (F := Ideal))) ⟨m, fun _ => 0, ρ⟩ (fun r => ∀ c : Dev nD,
      r.2.mem ((c.tc : Thread nD τ).loc main_v15_0) = resO m c
      ∧ r.2.mem ((c.tc : Thread nD τ).loc main_v15_1) = resW m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h.1 c |>.1 10).trans (final10 m c (hf c)), (h.1 c |>.1 11).trans (final11 m c), h.2.1 c⟩)
    (θ_run_and (run_main m ρ) (frame m ρ))

end Cert.KernelRglruIdeal.Lru

namespace Cert.Lru

open Idealize.ShloMosaic Idealize.ShloMosaic.TcCoe Idealize.SL.Sem
open Cert.Ret

section Pre

variable [Cert.Pre_finite_lru.Facts] (a0 : Cert.Pre_finite_lru.S16x2048x6144.Idx → EReal) (a1 : Cert.Pre_finite_lru.S1x4x1024.Idx → EReal) (a2 : Cert.Pre_finite_lru.S1x1024.Idx → EReal)
  (a3 : Cert.Pre_finite_lru.S1x8x128x128.Idx → EReal) (a4 : Cert.Pre_finite_lru.S1x1024.Idx → EReal) (a5 : Cert.Pre_finite_lru.S1x8x128x128.Idx → EReal) (a6 a7 a8 : Cert.Pre_finite_lru.S1x1024.Idx → EReal)
  (a9 : Cert.Pre_finite_lru.S1x32x2048x1024.Idx → EReal)

theorem isR_of_bit {x : EReal} (h : BitVec.ofBool (decide (max x (-x) < ⊤)) = 1#1) : IsR x := by
  refine isR_of_abs ?_
  by_contra hn
  rw [decide_eq_false hn] at h
  exact absurd h (by decide)

/-- Under the precondition an entry of what the recurrence reads is a real number. -/
theorem isR_of_pre (h : ∀ i, Cert.Pre_finite_lru.fn (F := Ideal) a0 a1 a2 a3 a4 a5 a6 a7 a8 a9 i = 1#1) (r : Fin 264232) (d : Fin 128) :
    IsR (if h : r.val < 1024 then a3 (ix4 0 ⟨r.val / 128, by omega⟩ ⟨r.val % 128, by omega⟩ d)
      else if h : r.val - 1024 < 1024 then a5 (ix4 0 ⟨(r.val - 1024) / 128, by omega⟩ ⟨(r.val - 1024) % 128, by omega⟩ d)
      else if h : r.val - 1024 - 1024 < 8 then a2 (ix2 0 ⟨(r.val - 1024 - 1024) * 128 + d.val, by omega⟩)
      else if h : r.val - 1024 - 1024 - 8 < 32 then a1 (ix3 0 ⟨(r.val - 1024 - 1024 - 8) / 8, by omega⟩ ⟨(r.val - 1024 - 1024 - 8) % 8 * 128 + d.val, by omega⟩)
      else a0 (ix3 ⟨(r.val - 1024 - 1024 - 8 - 32) / 16384, by omega⟩ ⟨(r.val - 1024 - 1024 - 8 - 32) / 8 % 2048, by omega⟩
        ⟨4096 + ((r.val - 1024 - 1024 - 8 - 32) % 8 * 128 + d.val), by omega⟩)) := by
  have h0 := h (ix2 r d)
  revert h0
  pointwise [Cert.Pre_finite_lru.fn]
  rw [show Ideal.ofBits .f32 2139095040#32 = ⊤ by simp [Ideal.ofBits, Ideal.ieee]]
  intro h1
  exact isR_of_bit h1

theorem congr3 {α β γ δ : Type} (f : α → β → γ → δ) {a a' : α} {b b' : β} {c c' : γ} (ha : a = a') (hb : b = b') (hc : c = c') : f a b c = f a' b' c' := by
  subst ha hb hc; rfl

/-- Under the precondition a block of lanes reads real numbers where the equality needs them. -/
theorem fine_of_pre (h : ∀ i, Cert.Pre_finite_lru.fn (F := Ideal) a0 a1 a2 a3 a4 a5 a6 a7 a8 a9 i = 1#1) (b : Fin 16) (g : Fin 8) :
    Fine (headOf a0 a1 a2 a3 a4 a5 a6 a7 a8 b g) where
  u s d := by
    have := isR_of_pre a0 a1 a2 a3 a4 a5 a6 a7 a8 a9 h ⟨2088 + (b.val * 16384 + s.val * 8 + g.val), by omega⟩ d
    rw [dif_neg (by dsimp only; omega), dif_neg (by dsimp only; omega), dif_neg (by dsimp only; omega), dif_neg (by dsimp only; omega)] at this
    refine (congrArg IsR (congr3 (fun a b c => a0 (ix3 a b c)) (Fin.ext ?_) (Fin.ext ?_) (Fin.ext ?_))).mp this <;> dsimp only <;> omega
  w k d := by
    have := isR_of_pre a0 a1 a2 a3 a4 a5 a6 a7 a8 a9 h ⟨2056 + (k.val * 8 + g.val), by omega⟩ d
    rw [dif_neg (by dsimp only; omega), dif_neg (by dsimp only; omega), dif_neg (by dsimp only; omega), dif_pos (by dsimp only; omega)] at this
    refine (congrArg IsR (congrArg₂ (fun a b => a1 (ix3 0 a b)) (Fin.ext ?_) (Fin.ext ?_))).mp this <;> dsimp only <;> omega
  cb d := by
    have := isR_of_pre a0 a1 a2 a3 a4 a5 a6 a7 a8 a9 h ⟨2048 + g.val, by omega⟩ d
    rw [dif_neg (by dsimp only; omega), dif_neg (by dsimp only; omega), dif_pos (by dsimp only; omega)] at this
    refine (congrArg IsR (congrArg (fun a => a2 (ix2 0 a)) (Fin.ext ?_))).mp this
    dsimp only; omega
  wr x d := by
    have := isR_of_pre a0 a1 a2 a3 a4 a5 a6 a7 a8 a9 h ⟨g.val * 128 + x.val, by omega⟩ d
    rw [dif_pos (by dsimp only; omega)] at this
    refine (congrArg IsR (congrArg₂ (fun a b => a3 (ix4 0 a b d)) (Fin.ext ?_) (Fin.ext ?_))).mp this <;> dsimp only <;> omega
  wi x d := by
    have := isR_of_pre a0 a1 a2 a3 a4 a5 a6 a7 a8 a9 h ⟨1024 + (g.val * 128 + x.val), by omega⟩ d
    rw [dif_neg (by dsimp only; omega), dif_pos (by dsimp only; omega)] at this
    refine (congrArg IsR (congrArg₂ (fun a b => a5 (ix4 0 a b d)) (Fin.ext ?_) (Fin.ext ?_))).mp this <;> dsimp only <;> omega

end Pre

instance : Cert.Pre_finite_lru.Facts := ⟨by decide, by decide, by decide, by decide, by decide, by decide, by decide, by decide⟩

theorem algebraic : Cert.algebraic_KernelRglruIdeal_ReferenceRglruIdeal_pre_finite_lru (hKernelRglruIdeal := Cert.KernelRglruIdeal.Gen.facts) (hReferenceRglruIdeal := Cert.ReferenceRglruIdeal.Gen.facts) := by
  intro m g m' g' hpre hag
  have hf (c : Dev Cert.KernelRglruIdeal.nD) (b : Fin 16) (h : Fin 8) : Fine (Cert.KernelRglruIdeal.Lru.H m c b h) :=
    fine_of_pre _ _ _ _ _ _ _ _ _ _ (fun i => congrFun (hpre c) i) b h
  refine ⟨fun c => Cert.KernelRglruIdeal.Lru.resO m c, fun c => Cert.KernelRglruIdeal.Lru.resW m c, Cert.KernelRglruIdeal.Lru.run m g hf, ?_⟩
  refine (θ_run _ _ _).mono (fun r h c => ⟨(h c).1.trans ?_, (h c).2.1.trans ?_, (h c).2.2⟩) (Cert.ReferenceRglruIdeal.Lru.run m' g')
  · obtain ⟨e0, e1, e2, e3, e4, e5, e6, e7, e8, -⟩ := hag c
    refine funext fun i : (⟨3, ![16, 2048, 1024]⟩ : Shape).Idx => ?_
    rw [eq_ix3 i]
    refine (Cert.ReferenceRglruIdeal.Lru.fin_out m' c (i 0) (i 1) (i 2)).trans ?_
    unfold Cert.ReferenceRglruIdeal.Lru.H
    rw [e0, e1, e2, e3, e4, e5, e6, e7, e8]
    rfl
  · obtain ⟨-, -, -, -, -, -, -, -, -, e9⟩ := hag c
    refine funext fun i : (⟨3, ![32, 2048, 1024]⟩ : Shape).Idx => ?_
    rw [eq_ix3 i]
    refine (Cert.ReferenceRglruIdeal.Lru.fin_w m' c (i 1) (i 2) (i 0)).trans ?_
    rw [e9]
    rfl

end Cert.Lru

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.KernelInproj
public import proofs.«01_k».proof.Proof.Gen.KernelInproj.Skeleton
public import proofs.«01_k».proof.Proof.Gen.KernelInproj.Launch
public import proofs.«01_k».proof.Proof.Gen.KernelInproj.Points
public import proofs.«01_k».proof.Proof.Gen.KernelInproj.Frame
public import proofs.«01_k».proof.Proof.Gen.KernelInprojIdeal
public import proofs.«01_k».proof.Proof.Gen.KernelInprojIdeal.Skeleton
public import proofs.«01_k».proof.Proof.Gen.KernelInprojIdeal.Launch
public import proofs.«01_k».proof.Proof.Gen.KernelInprojIdeal.Points
public import proofs.«01_k».proof.Proof.Gen.KernelInprojIdeal.Frame
public import proofs.«01_k».proof.Proof.Gen.KernelInprojIdeal.Value
public import proofs.«01_k».proof.Proof.Gen.ReferenceInprojIdeal.Run
public import proofs.«01_k».proof.Proof.Gen.KernelOutproj
public import proofs.«01_k».proof.Proof.Gen.KernelOutproj.Skeleton
public import proofs.«01_k».proof.Proof.Gen.KernelOutproj.Launch
public import proofs.«01_k».proof.Proof.Gen.KernelOutproj.Points
public import proofs.«01_k».proof.Proof.Gen.KernelOutproj.Frame
public import proofs.«01_k».proof.Proof.Gen.KernelOutprojIdeal
public import proofs.«01_k».proof.Proof.Gen.KernelOutprojIdeal.Skeleton
public import proofs.«01_k».proof.Proof.Gen.KernelOutprojIdeal.Launch
public import proofs.«01_k».proof.Proof.Gen.KernelOutprojIdeal.Points
public import proofs.«01_k».proof.Proof.Gen.KernelOutprojIdeal.Frame
public import proofs.«01_k».proof.Proof.Gen.ReferenceOutprojIdeal.Run
public import proofs.«01_k».proof.Proof.Gen.KernelRglru
public import proofs.«01_k».proof.Proof.Gen.KernelRglru.Skeleton
public import proofs.«01_k».proof.Proof.Gen.KernelRglru.Launch
public import proofs.«01_k».proof.Proof.Gen.KernelRglru.Points
public import proofs.«01_k».proof.Proof.Gen.KernelRglru.Frame
public import proofs.«01_k».proof.Proof.Gen.KernelRglruIdeal
public import proofs.«01_k».proof.Proof.Gen.KernelRglruIdeal.Skeleton
public import proofs.«01_k».proof.Proof.Gen.KernelRglruIdeal.Launch
public import proofs.«01_k».proof.Proof.Gen.KernelRglruIdeal.Points
public import proofs.«01_k».proof.Proof.Gen.KernelRglruIdeal.Frame
public import proofs.«01_k».proof.Proof.Gen.ReferenceRglruIdeal.Run
public import proofs.«01_k».proof.Proof.Ret.Run
public import proofs.«01_k».proof.Proof.Ret.RefFrame
public import proofs.«01_k».proof.Proof.Ret.Final
public import proofs.«01_k».proof.Proof.Inp.Final
public import proofs.«01_k».proof.Proof.Out.Final
public import proofs.«01_k».proof.Proof.Lru.Final
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.KernelInproj.Gen.facts, Cert.KernelInprojIdeal.Gen.facts, Cert.ReferenceInprojIdeal.Gen.facts,
    Cert.KernelOutproj.Gen.facts, Cert.KernelOutprojIdeal.Gen.facts, Cert.ReferenceOutprojIdeal.Gen.facts,
    Cert.KernelRglru.Gen.facts, Cert.KernelRglruIdeal.Gen.facts, Cert.ReferenceRglruIdeal.Gen.facts, inferInstance, inferInstance, inferInstance,
    fun m ρ _ => Cert.Kernel.Gen.frame m ρ, fun m ρ _ => Cert.KernelIdeal.Ret.frame m ρ, fun m ρ _ => Cert.KernelIdeal.Ret.frame m ρ,
    fun m ρ _ => Cert.ReferenceIdeal.Ret.frame m ρ, fun m ρ _ => Cert.ReferenceIdeal.Ret.frame m ρ,
    fun m ρ _ => Cert.KernelInproj.Gen.frame m ρ, fun m ρ _ => Cert.KernelInprojIdeal.Gen.frame m ρ, fun m ρ _ => Cert.ReferenceInprojIdeal.Inp.frame m ρ,
    fun m ρ _ => Cert.KernelOutproj.Gen.frame m ρ, fun m ρ _ => Cert.KernelOutprojIdeal.Gen.frame m ρ, fun m ρ _ => Cert.KernelOutprojIdeal.Gen.frame m ρ,
    fun m ρ _ => Cert.ReferenceOutprojIdeal.Out.frame m ρ, fun m ρ _ => Cert.ReferenceOutprojIdeal.Out.frame m ρ,
    fun m ρ _ => Cert.KernelRglru.Gen.frame m ρ, fun m ρ _ => Cert.KernelRglruIdeal.Lru.frame m ρ, fun m ρ _ => Cert.KernelRglruIdeal.Lru.frame m ρ,
    fun m ρ _ => Cert.ReferenceRglruIdeal.Lru.frame m ρ, fun m ρ _ => Cert.ReferenceRglruIdeal.Lru.frame m ρ,
    IdealRules.named_const.statement _ _ _ _ _ rfl, Cert.Ret.algebraic, trivial, Cert.Inp.algebraic, trivial, Cert.Out.algebraic,
    ⟨IdealRules.named_const.statement _ _ _ _ _ rfl, IdealRules.named_const.statement _ _ _ _ _ rfl, IdealRules.named_const.statement _ _ _ _ _ rfl⟩, Cert.Lru.algebraic⟩

end Cert.Proof

end
